-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_as_drawn [hPre_inputs_as_drawn : Cert.Pre_inputs_as_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36)) (m ((c.tc : Thread Cert.KernelIdeal.nD Cert.KernelIdeal.τ).loc Cert.KernelIdeal.main_arg37)) (m ((c.tc : Thread Cert.KernelIdeal.nD Cert.KernelIdeal.τ).loc Cert.KernelIdeal.main_arg38)) (m ((c.tc : Thread Cert.KernelIdeal.nD Cert.KernelIdeal.τ).loc Cert.KernelIdeal.main_arg39))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_as_drawn [hPre_inputs_as_drawn : Cert.Pre_inputs_as_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35)) (m ((c.tc : Thread Cert.ReferenceIdeal.nD Cert.ReferenceIdeal.τ).loc Cert.ReferenceIdeal.main_arg36)) (m ((c.tc : Thread Cert.ReferenceIdeal.nD Cert.ReferenceIdeal.τ).loc Cert.ReferenceIdeal.main_arg37)) (m ((c.tc : Thread Cert.ReferenceIdeal.nD Cert.ReferenceIdeal.τ).loc Cert.ReferenceIdeal.main_arg38)) (m ((c.tc : Thread Cert.ReferenceIdeal.nD Cert.ReferenceIdeal.τ).loc Cert.ReferenceIdeal.main_arg39))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35)
      ∧ r.2.mem ((c.tc : Thread Cert.Kernel.nD Cert.Kernel.τ).loc Cert.Kernel.main_arg36) = m ((c.tc : Thread Cert.Kernel.nD Cert.Kernel.τ).loc Cert.Kernel.main_arg36)
      ∧ r.2.mem ((c.tc : Thread Cert.Kernel.nD Cert.Kernel.τ).loc Cert.Kernel.main_arg37) = m ((c.tc : Thread Cert.Kernel.nD Cert.Kernel.τ).loc Cert.Kernel.main_arg37)
      ∧ r.2.mem ((c.tc : Thread Cert.Kernel.nD Cert.Kernel.τ).loc Cert.Kernel.main_arg38) = m ((c.tc : Thread Cert.Kernel.nD Cert.Kernel.τ).loc Cert.Kernel.main_arg38)
      ∧ r.2.mem ((c.tc : Thread Cert.Kernel.nD Cert.Kernel.τ).loc Cert.Kernel.main_arg39) = m ((c.tc : Thread Cert.Kernel.nD Cert.Kernel.τ).loc Cert.Kernel.main_arg39))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
      ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
      ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
      ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38)
      ∧ r.2.mem ((c.tc : Thread Cert.KernelIdeal.nD Cert.KernelIdeal.τ).loc Cert.KernelIdeal.main_arg39) = m ((c.tc : Thread Cert.KernelIdeal.nD Cert.KernelIdeal.τ).loc Cert.KernelIdeal.main_arg39))
      ∧ r.2.sem = fun _ => 0)

def quiescent_KernelIdeal_pre_inputs_as_drawn [hKernelIdeal : Cert.KernelIdeal.Facts] [hPre_inputs_as_drawn : Cert.Pre_inputs_as_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_as_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
      ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
      ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
      ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38)
      ∧ r.2.mem ((c.tc : Thread Cert.KernelIdeal.nD Cert.KernelIdeal.τ).loc Cert.KernelIdeal.main_arg39) = m ((c.tc : Thread Cert.KernelIdeal.nD Cert.KernelIdeal.τ).loc Cert.KernelIdeal.main_arg39))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35)
      ∧ r.2.mem ((c.tc : Thread Cert.ReferenceIdeal.nD Cert.ReferenceIdeal.τ).loc Cert.ReferenceIdeal.main_arg36) = m ((c.tc : Thread Cert.ReferenceIdeal.nD Cert.ReferenceIdeal.τ).loc Cert.ReferenceIdeal.main_arg36)
      ∧ r.2.mem ((c.tc : Thread Cert.ReferenceIdeal.nD Cert.ReferenceIdeal.τ).loc Cert.ReferenceIdeal.main_arg37) = m ((c.tc : Thread Cert.ReferenceIdeal.nD Cert.ReferenceIdeal.τ).loc Cert.ReferenceIdeal.main_arg37)
      ∧ r.2.mem ((c.tc : Thread Cert.ReferenceIdeal.nD Cert.ReferenceIdeal.τ).loc Cert.ReferenceIdeal.main_arg38) = m ((c.tc : Thread Cert.ReferenceIdeal.nD Cert.ReferenceIdeal.τ).loc Cert.ReferenceIdeal.main_arg38)
      ∧ r.2.mem ((c.tc : Thread Cert.ReferenceIdeal.nD Cert.ReferenceIdeal.τ).loc Cert.ReferenceIdeal.main_arg39) = m ((c.tc : Thread Cert.ReferenceIdeal.nD Cert.ReferenceIdeal.τ).loc Cert.ReferenceIdeal.main_arg39))
      ∧ r.2.sem = fun _ => 0)

def quiescent_ReferenceIdeal_pre_inputs_as_drawn [hReferenceIdeal : Cert.ReferenceIdeal.Facts] [hPre_inputs_as_drawn : Cert.Pre_inputs_as_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_as_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35)
      ∧ r.2.mem ((c.tc : Thread Cert.ReferenceIdeal.nD Cert.ReferenceIdeal.τ).loc Cert.ReferenceIdeal.main_arg36) = m ((c.tc : Thread Cert.ReferenceIdeal.nD Cert.ReferenceIdeal.τ).loc Cert.ReferenceIdeal.main_arg36)
      ∧ r.2.mem ((c.tc : Thread Cert.ReferenceIdeal.nD Cert.ReferenceIdeal.τ).loc Cert.ReferenceIdeal.main_arg37) = m ((c.tc : Thread Cert.ReferenceIdeal.nD Cert.ReferenceIdeal.τ).loc Cert.ReferenceIdeal.main_arg37)
      ∧ r.2.mem ((c.tc : Thread Cert.ReferenceIdeal.nD Cert.ReferenceIdeal.τ).loc Cert.ReferenceIdeal.main_arg38) = m ((c.tc : Thread Cert.ReferenceIdeal.nD Cert.ReferenceIdeal.τ).loc Cert.ReferenceIdeal.main_arg38)
      ∧ r.2.mem ((c.tc : Thread Cert.ReferenceIdeal.nD Cert.ReferenceIdeal.τ).loc Cert.ReferenceIdeal.main_arg39) = m ((c.tc : Thread Cert.ReferenceIdeal.nD Cert.ReferenceIdeal.τ).loc Cert.ReferenceIdeal.main_arg39))
      ∧ r.2.sem = fun _ => 0)

def preserves_Kernel_KernelIdeal : Prop :=
  True

def algebraic_KernelIdeal_ReferenceIdeal_pre_inputs_as_drawn [hKernelIdeal : Cert.KernelIdeal.Facts] [hReferenceIdeal : Cert.ReferenceIdeal.Facts] [hPre_inputs_as_drawn : Cert.Pre_inputs_as_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_as_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)
      ∧ m' ((c.tc : Thread Cert.ReferenceIdeal.nD Cert.ReferenceIdeal.τ).loc Cert.ReferenceIdeal.main_arg37) = m ((c.tc : Thread Cert.KernelIdeal.nD Cert.KernelIdeal.τ).loc Cert.KernelIdeal.main_arg37)
      ∧ m' ((c.tc : Thread Cert.ReferenceIdeal.nD Cert.ReferenceIdeal.τ).loc Cert.ReferenceIdeal.main_arg38) = m ((c.tc : Thread Cert.KernelIdeal.nD Cert.KernelIdeal.τ).loc Cert.KernelIdeal.main_arg38)
      ∧ m' ((c.tc : Thread Cert.ReferenceIdeal.nD Cert.ReferenceIdeal.τ).loc Cert.ReferenceIdeal.main_arg39) = m ((c.tc : Thread Cert.KernelIdeal.nD Cert.KernelIdeal.τ).loc Cert.KernelIdeal.main_arg39)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v11_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v11_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
          ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
          ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
          ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38)
          ∧ r.2.mem ((c.tc : Thread Cert.KernelIdeal.nD Cert.KernelIdeal.τ).loc Cert.KernelIdeal.main_arg39) = m ((c.tc : Thread Cert.KernelIdeal.nD Cert.KernelIdeal.τ).loc Cert.KernelIdeal.main_arg39))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v648) = v0 c
          ∧ r.2.mem ((c.tc : Thread Cert.ReferenceIdeal.nD Cert.ReferenceIdeal.τ).loc Cert.ReferenceIdeal.main_v659) = v1 c
          ∧ r.2.mem ((c.tc : Thread Cert.ReferenceIdeal.nD Cert.ReferenceIdeal.τ).loc Cert.ReferenceIdeal.main_indices) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35)
          ∧ r.2.mem ((c.tc : Thread Cert.ReferenceIdeal.nD Cert.ReferenceIdeal.τ).loc Cert.ReferenceIdeal.main_arg36) = m' ((c.tc : Thread Cert.ReferenceIdeal.nD Cert.ReferenceIdeal.τ).loc Cert.ReferenceIdeal.main_arg36)
          ∧ r.2.mem ((c.tc : Thread Cert.ReferenceIdeal.nD Cert.ReferenceIdeal.τ).loc Cert.ReferenceIdeal.main_arg37) = m' ((c.tc : Thread Cert.ReferenceIdeal.nD Cert.ReferenceIdeal.τ).loc Cert.ReferenceIdeal.main_arg37)
          ∧ r.2.mem ((c.tc : Thread Cert.ReferenceIdeal.nD Cert.ReferenceIdeal.τ).loc Cert.ReferenceIdeal.main_arg38) = m' ((c.tc : Thread Cert.ReferenceIdeal.nD Cert.ReferenceIdeal.τ).loc Cert.ReferenceIdeal.main_arg38)
          ∧ r.2.mem ((c.tc : Thread Cert.ReferenceIdeal.nD Cert.ReferenceIdeal.τ).loc Cert.ReferenceIdeal.main_arg39) = m' ((c.tc : Thread Cert.ReferenceIdeal.nD Cert.ReferenceIdeal.τ).loc Cert.ReferenceIdeal.main_arg39))

def Claim : Prop :=
  ∃ (hKernel : Cert.Kernel.Facts) (hKernelIdeal : Cert.KernelIdeal.Facts) (hReferenceIdeal : Cert.ReferenceIdeal.Facts) (hPre_inputs_as_drawn : Cert.Pre_inputs_as_drawn.Facts),
    quiescent_Kernel (hKernel := hKernel)
    ∧ quiescent_KernelIdeal (hKernelIdeal := hKernelIdeal)
    ∧ quiescent_KernelIdeal_pre_inputs_as_drawn (hKernelIdeal := hKernelIdeal) (hPre_inputs_as_drawn := hPre_inputs_as_drawn)
    ∧ quiescent_ReferenceIdeal (hReferenceIdeal := hReferenceIdeal)
    ∧ quiescent_ReferenceIdeal_pre_inputs_as_drawn (hReferenceIdeal := hReferenceIdeal) (hPre_inputs_as_drawn := hPre_inputs_as_drawn)
    ∧ preserves_Kernel_KernelIdeal
    ∧ algebraic_KernelIdeal_ReferenceIdeal_pre_inputs_as_drawn (hKernelIdeal := hKernelIdeal) (hReferenceIdeal := hReferenceIdeal) (hPre_inputs_as_drawn := hPre_inputs_as_drawn)
-- ==== Pre_inputs_as_drawn.lean ====
abbrev S1x4096x768 : Shape := ⟨3, ![1, 4096, 768]⟩
abbrev S1x1024x2 : Shape := ⟨3, ![1, 1024, 2]⟩
abbrev S4096 : Shape := ⟨1, ![4096]⟩
abbrev S1024 : Shape := ⟨1, ![1024]⟩
abbrev S1x1152x1152 : Shape := ⟨3, ![1, 1152, 1152]⟩
abbrev S1x128x1024 : Shape := ⟨3, ![1, 128, 1024]⟩
abbrev S768x512 : Shape := ⟨2, ![768, 512]⟩
abbrev S512 : Shape := ⟨1, ![512]⟩
abbrev S512x512 : Shape := ⟨2, ![512, 512]⟩
abbrev S3x512 : Shape := ⟨2, ![3, 512]⟩
abbrev S3x512x512 : Shape := ⟨3, ![3, 512, 512]⟩
abbrev S3x512x2048 : Shape := ⟨3, ![3, 512, 2048]⟩
abbrev S3x2048 : Shape := ⟨2, ![3, 2048]⟩
abbrev S3x2048x512 : Shape := ⟨3, ![3, 2048, 512]⟩
abbrev S512x2 : Shape := ⟨2, ![512, 2]⟩
abbrev S2 : Shape := ⟨1, ![2]⟩
abbrev S_ : Shape := ⟨0, ![]⟩
abbrev S1024x4 : Shape := ⟨2, ![1024, 4]⟩
abbrev S1024x1024 : Shape := ⟨2, ![1024, 1024]⟩
abbrev S1024x1 : Shape := ⟨2, ![1024, 1]⟩
abbrev S1x1024 : Shape := ⟨2, ![1, 1024]⟩

class Facts : Prop where
  bcast_S_S1x4096x768 : S_.BroadcastsInDim S1x4096x768 (![] : Fin 0 → Fin S1x4096x768.rank)
  reducesTo_S1x4096x768_S_d0_1_2 : S1x4096x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S512x512 : S_.BroadcastsInDim S512x512 (![] : Fin 0 → Fin S512x512.rank)
  reducesTo_S512x512_S_d0_1 : S512x512.ReducesTo [0, 1] S_
  bcast_S_S3x512x512 : S_.BroadcastsInDim S3x512x512 (![] : Fin 0 → Fin S3x512x512.rank)
  reducesTo_S3x512x512_S_d0_1_2 : S3x512x512.ReducesTo [0, 1, 2] S_
  bcast_S_S3x512x2048 : S_.BroadcastsInDim S3x512x2048 (![] : Fin 0 → Fin S3x512x2048.rank)
  reducesTo_S3x512x2048_S_d0_1_2 : S3x512x2048.ReducesTo [0, 1, 2] S_
  bcast_S_S3x2048x512 : S_.BroadcastsInDim S3x2048x512 (![] : Fin 0 → Fin S3x2048x512.rank)
  reducesTo_S3x2048x512_S_d0_1_2 : S3x2048x512.ReducesTo [0, 1, 2] S_
  bcast_S_S512x2 : S_.BroadcastsInDim S512x2 (![] : Fin 0 → Fin S512x2.rank)
  reducesTo_S512x2_S_d0_1 : S512x2.ReducesTo [0, 1] S_
  bcast_S_S512 : S_.BroadcastsInDim S512 (![] : Fin 0 → Fin S512.rank)
  reducesTo_S512_S_d0 : S512.ReducesTo [0] S_
  bcast_S_S3x512 : S_.BroadcastsInDim S3x512 (![] : Fin 0 → Fin S3x512.rank)
  reducesTo_S3x512_S_d0_1 : S3x512.ReducesTo [0, 1] S_
  bcast_S_S3x2048 : S_.BroadcastsInDim S3x2048 (![] : Fin 0 → Fin S3x2048.rank)
  reducesTo_S3x2048_S_d0_1 : S3x2048.ReducesTo [0, 1] S_
  bcast_S_S2 : S_.BroadcastsInDim S2 (![] : Fin 0 → Fin S2.rank)
  reducesTo_S2_S_d0 : S2.ReducesTo [0] S_
  reducesTo_S1x1152x1152_S_d0_1_2 : S1x1152x1152.ReducesTo [0, 1, 2] S_
  reducesTo_S1x128x1024_S_d0_1_2 : S1x128x1024.ReducesTo [0, 1, 2] S_
  reducesTo_S4096_S_d0 : S4096.ReducesTo [0] S_
  shapeCasts_S4096_S1024x4 : S4096.ShapeCasts S1024x4
  reducesTo_S1024x4_S_d0_1 : S1024x4.ReducesTo [0, 1] S_
  bcast_S_S1024 : S_.BroadcastsInDim S1024 (![] : Fin 0 → Fin S1024.rank)
  reducesTo_S1024_S_d0 : S1024.ReducesTo [0] S_
  bcast_S1024_S1024x1_0 : S1024.BroadcastsInDim S1024x1 (![0] : Fin 1 → Fin S1024x1.rank)
  bcast_S1024_S1x1024_1 : S1024.BroadcastsInDim S1x1024 (![1] : Fin 1 → Fin S1x1024.rank)
  bcast_S1024x1_S1024x1024_0_1 : S1024x1.BroadcastsInDim S1024x1024 (![0, 1] : Fin 2 → Fin S1024x1024.rank)
  bcast_S1x1024_S1024x1024_0_1 : S1x1024.BroadcastsInDim S1024x1024 (![0, 1] : Fin 2 → Fin S1024x1024.rank)
  reducesTo_S1024x1024_S_d0_1 : S1024x1024.ReducesTo [0, 1] S_

variable [Facts]

def fn_part10 {F : FTy → Type} [FloatOps F] (main_v102 : IVec S_ 1) (main_v105 : IVec S_ 1) (main_v108 : IVec S_ 1) (main_v111 : IVec S_ 1) (main_v112 : IVec S_ 1) (main_v113 : IVec S_ 1) (main_v116 : IVec S_ 1) (main_v120 : IVec S_ 1) (main_v126 : IVec S_ 1) (main_v129 : IVec S_ 1) (main_v136 : IVec S_ 1) (main_v164 : IVec S_ 1) : IVec S_ 1 :=
  let main_v165 : IVec S_ 1 := andi main_v164 main_v102
  let main_v166 : IVec S_ 1 := andi main_v165 main_v105
  let main_v167 : IVec S_ 1 := andi main_v166 main_v108
  let main_v168 : IVec S_ 1 := andi main_v167 main_v111
  let main_v169 : IVec S_ 1 := andi main_v168 main_v112
  let main_v170 : IVec S_ 1 := andi main_v169 main_v113
  let main_v171 : IVec S_ 1 := andi main_v170 main_v116
  let main_v172 : IVec S_ 1 := andi main_v171 main_v120
  let main_v173 : IVec S_ 1 := andi main_v172 main_v126
  let main_v174 : IVec S_ 1 := andi main_v173 main_v129
  let main_v175 : IVec S_ 1 := andi main_v174 main_v136
  main_v175

def fn_part9 {F : FTy → Type} [FloatOps F] (main_v23 : IVec S_ 1) (main_v27 : IVec S_ 1) (main_v31 : IVec S_ 1) (main_v35 : IVec S_ 1) (main_v39 : IVec S_ 1) (main_v43 : IVec S_ 1) (main_v47 : IVec S_ 1) (main_v51 : IVec S_ 1) (main_v54 : IVec S_ 1) (main_v57 : IVec S_ 1) (main_v60 : IVec S_ 1) (main_v63 : IVec S_ 1) (main_v66 : IVec S_ 1) (main_v69 : IVec S_ 1) (main_v72 : IVec S_ 1) (main_v75 : IVec S_ 1) (main_v78 : IVec S_ 1) (main_v81 : IVec S_ 1) (main_v84 : IVec S_ 1) (main_v87 : IVec S_ 1) (main_v90 : IVec S_ 1) (main_v93 : IVec S_ 1) (main_v96 : IVec S_ 1) (main_v99 : IVec S_ 1) (main_v102 : IVec S_ 1) (main_v105 : IVec S_ 1) (main_v108 : IVec S_ 1) (main_v111 : IVec S_ 1) (main_v112 : IVec S_ 1) (main_v113 : IVec S_ 1) (main_v116 : IVec S_ 1) (main_v120 : IVec S_ 1) (main_v126 : IVec S_ 1) (main_v129 : IVec S_ 1) (main_v136 : IVec S_ 1) (main_v140 : IVec S_ 1) : IVec S_ 1 :=
  let main_v141 : IVec S_ 1 := andi main_v140 main_v23
  let main_v142 : IVec S_ 1 := andi main_v141 main_v27
  let main_v143 : IVec S_ 1 := andi main_v142 main_v31
  let main_v144 : IVec S_ 1 := andi main_v143 main_v35
  let main_v145 : IVec S_ 1 := andi main_v144 main_v39
  let main_v146 : IVec S_ 1 := andi main_v145 main_v43
  let main_v147 : IVec S_ 1 := andi main_v146 main_v47
  let main_v148 : IVec S_ 1 := andi main_v147 main_v51
  let main_v149 : IVec S_ 1 := andi main_v148 main_v54
  let main_v150 : IVec S_ 1 := andi main_v149 main_v57
  let main_v151 : IVec S_ 1 := andi main_v150 main_v60
  let main_v152 : IVec S_ 1 := andi main_v151 main_v63
  let main_v153 : IVec S_ 1 := andi main_v152 main_v66
  let main_v154 : IVec S_ 1 := andi main_v153 main_v69
  let main_v155 : IVec S_ 1 := andi main_v154 main_v72
  let main_v156 : IVec S_ 1 := andi main_v155 main_v75
  let main_v157 : IVec S_ 1 := andi main_v156 main_v78
  let main_v158 : IVec S_ 1 := andi main_v157 main_v81
  let main_v159 : IVec S_ 1 := andi main_v158 main_v84
  let main_v160 : IVec S_ 1 := andi main_v159 main_v87
  let main_v161 : IVec S_ 1 := andi main_v160 main_v90
  let main_v162 : IVec S_ 1 := andi main_v161 main_v93
  let main_v163 : IVec S_ 1 := andi main_v162 main_v96
  let main_v164 : IVec S_ 1 := andi main_v163 main_v99
  fn_part10 (F := F) main_v102 main_v105 main_v108 main_v111 main_v112 main_v113 main_v116 main_v120 main_v126 main_v129 main_v136 main_v164

def fn_part8 {F : FTy → Type} [FloatOps F] (main_arg5 : IVec S1024 32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S_ 1) (main_v51 : IVec S_ 1) (main_v54 : IVec S_ 1) (main_v57 : IVec S_ 1) (main_v60 : IVec S_ 1) (main_v63 : IVec S_ 1) (main_v66 : IVec S_ 1) (main_v69 : IVec S_ 1) (main_v72 : IVec S_ 1) (main_v75 : IVec S_ 1) (main_v78 : IVec S_ 1) (main_v81 : IVec S_ 1) (main_v84 : IVec S_ 1) (main_v87 : IVec S_ 1) (main_v90 : IVec S_ 1) (main_v93 : IVec S_ 1) (main_v96 : IVec S_ 1) (main_v99 : IVec S_ 1) (main_v102 : IVec S_ 1) (main_v105 : IVec S_ 1) (main_v108 : IVec S_ 1) (main_v111 : IVec S_ 1) (main_v112 : IVec S_ 1) (main_v113 : IVec S_ 1) (main_v116 : IVec S_ 1) (main_v120 : IVec S_ 1) (main_v121 : IVec S1024x1024 32) : IVec S_ 1 :=
  let main_v122 : IVec S1024x1024 32 := iotaInDim S1024x1024 32 1
  let main_v123 : IVec S1024x1024 1 := cmpi .eq main_v121 main_v122
  let main_c_68 : IVec S_ 32 := constantI S_ 32 0#32
  let main_v124 : IVec S1024 32 := broadcastInDim S1024 ![] bcast_S_S1024 main_c_68
  let main_v125 : IVec S1024 1 := cmpi .sge main_arg5 main_v124
  let main_c_69 : IVec S_ 1 := constantI S_ 1 1#1
  let main_v126 : IVec S_ 1 := (fun x v => Host.reduce IntOp.andi x v reducesTo_S1024_S_d0 h_S_) main_v125 main_c_69
  let main_c_70 : IVec S_ 32 := constantI S_ 32 1024#32
  let main_v127 : IVec S1024 32 := broadcastInDim S1024 ![] bcast_S_S1024 main_c_70
  let main_v128 : IVec S1024 1 := cmpi .slt main_arg5 main_v127
  let main_c_71 : IVec S_ 1 := constantI S_ 1 1#1
  let main_v129 : IVec S_ 1 := (fun x v => Host.reduce IntOp.andi x v reducesTo_S1024_S_d0 h_S_) main_v128 main_c_71
  let main_v130 : IVec S1024x1 32 := broadcastInDim S1024x1 ![0] bcast_S1024_S1024x1_0 main_arg5
  let main_v131 : IVec S1x1024 32 := broadcastInDim S1x1024 ![1] bcast_S1024_S1x1024_1 main_arg5
  let main_v132 : IVec S1024x1024 32 := broadcastInDim S1024x1024 ![0, 1] bcast_S1024x1_S1024x1024_0_1 main_v130
  let main_v133 : IVec S1024x1024 32 := broadcastInDim S1024x1024 ![0, 1] bcast_S1x1024_S1024x1024_0_1 main_v131
  let main_v134 : IVec S1024x1024 1 := cmpi .ne main_v132 main_v133
  let main_v135 : IVec S1024x1024 1 := ori main_v134 main_v123
  let main_c_72 : IVec S_ 1 := constantI S_ 1 1#1
  let main_v136 : IVec S_ 1 := (fun x v => Host.reduce IntOp.andi x v reducesTo_S1024x1024_S_d0_1 h_S_) main_v135 main_c_72
  let main_v137 : IVec S_ 1 := andi main_v3 main_v7
  let main_v138 : IVec S_ 1 := andi main_v137 main_v11
  let main_v139 : IVec S_ 1 := andi main_v138 main_v15
  let main_v140 : IVec S_ 1 := andi main_v139 main_v19
  fn_part9 (F := F) main_v23 main_v27 main_v31 main_v35 main_v39 main_v43 main_v47 main_v51 main_v54 main_v57 main_v60 main_v63 main_v66 main_v69 main_v72 main_v75 main_v78 main_v81 main_v84 main_v87 main_v90 main_v93 main_v96 main_v99 main_v102 main_v105 main_v108 main_v111 main_v112 main_v113 main_v116 main_v120 main_v126 main_v129 main_v136 main_v140

def fn_part7 {F : FTy → Type} [FloatOps F] (main_arg2 : IVec S4096 32) (main_arg3 : IVec S4096 32) (main_arg5 : IVec S1024 32) (main_arg6 : IVec S1x1152x1152 1) (main_arg7 : IVec S1x128x1024 1) (main_arg37 : FVec F S512 .f32) (main_arg39 : FVec F S2 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S_ 1) (main_v51 : IVec S_ 1) (main_v54 : IVec S_ 1) (main_v57 : IVec S_ 1) (main_v60 : IVec S_ 1) (main_v63 : IVec S_ 1) (main_v66 : IVec S_ 1) (main_v69 : IVec S_ 1) (main_v72 : IVec S_ 1) (main_v75 : IVec S_ 1) (main_v78 : IVec S_ 1) (main_v81 : IVec S_ 1) (main_v84 : IVec S_ 1) (main_v87 : IVec S_ 1) (main_v90 : IVec S_ 1) (main_v93 : IVec S_ 1) (main_v96 : IVec S_ 1) (main_v99 : IVec S_ 1) (main_v102 : IVec S_ 1) (main_v105 : IVec S_ 1) : IVec S_ 1 :=
  let main_cst_60 : FVec F S_ .f32 := constant S_ .f32 0x00000000#32
  let main_v106 : FVec F S512 .f32 := broadcastInDim S512 ![] bcast_S_S512 main_cst_60
  let main_v107 : IVec S512 1 := cmpf .oeq main_arg37 main_v106
  let main_c_61 : IVec S_ 1 := constantI S_ 1 1#1
  let main_v108 : IVec S_ 1 := (fun x v => Host.reduce IntOp.andi x v reducesTo_S512_S_d0 h_S_) main_v107 main_c_61
  let main_cst_62 : FVec F S_ .f32 := constant S_ .f32 0x00000000#32
  let main_v109 : FVec F S2 .f32 := broadcastInDim S2 ![] bcast_S_S2 main_cst_62
  let main_v110 : IVec S2 1 := cmpf .oeq main_arg39 main_v109
  let main_c_63 : IVec S_ 1 := constantI S_ 1 1#1
  let main_v111 : IVec S_ 1 := (fun x v => Host.reduce IntOp.andi x v reducesTo_S2_S_d0 h_S_) main_v110 main_c_63
  let main_c_64 : IVec S_ 1 := constantI S_ 1 1#1
  let main_v112 : IVec S_ 1 := (fun x v => Host.reduce IntOp.andi x v reducesTo_S1x1152x1152_S_d0_1_2 h_S_) main_arg6 main_c_64
  let main_c_65 : IVec S_ 1 := constantI S_ 1 1#1
  let main_v113 : IVec S_ 1 := (fun x v => Host.reduce IntOp.andi x v reducesTo_S1x128x1024_S_d0_1_2 h_S_) main_arg7 main_c_65
  let main_v114 : IVec S4096 32 := iotaInDim S4096 32 0
  let main_v115 : IVec S4096 1 := cmpi .eq main_arg3 main_v114
  let main_c_66 : IVec S_ 1 := constantI S_ 1 1#1
  let main_v116 : IVec S_ 1 := (fun x v => Host.reduce IntOp.andi x v reducesTo_S4096_S_d0 h_S_) main_v115 main_c_66
  let main_v117 : IVec S1024x4 32 := shapeCast S1024x4 main_arg2 shapeCasts_S4096_S1024x4
  let main_v118 : IVec S1024x4 32 := iotaInDim S1024x4 32 0
  let main_v119 : IVec S1024x4 1 := cmpi .eq main_v117 main_v118
  let main_c_67 : IVec S_ 1 := constantI S_ 1 1#1
  let main_v120 : IVec S_ 1 := (fun x v => Host.reduce IntOp.andi x v reducesTo_S1024x4_S_d0_1 h_S_) main_v119 main_c_67
  let main_v121 : IVec S1024x1024 32 := iotaInDim S1024x1024 32 0
  fn_part8 (F := F) main_arg5 main_v3 main_v7 main_v11 main_v15 main_v19 main_v23 main_v27 main_v31 main_v35 main_v39 main_v43 main_v47 main_v51 main_v54 main_v57 main_v60 main_v63 main_v66 main_v69 main_v72 main_v75 main_v78 main_v81 main_v84 main_v87 main_v90 main_v93 main_v96 main_v99 main_v102 main_v105 main_v108 main_v111 main_v112 main_v113 main_v116 main_v120 main_v121

def fn_part6 {F : FTy → Type} [FloatOps F] (main_arg2 : IVec S4096 32) (main_arg3 : IVec S4096 32) (main_arg5 : IVec S1024 32) (main_arg6 : IVec S1x1152x1152 1) (main_arg7 : IVec S1x128x1024 1) (main_arg27 : FVec F S3x512 .f32) (main_arg29 : FVec F S3x512 .f32) (main_arg31 : FVec F S3x512 .f32) (main_arg33 : FVec F S3x2048 .f32) (main_arg35 : FVec F S3x512 .f32) (main_arg37 : FVec F S512 .f32) (main_arg39 : FVec F S2 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S_ 1) (main_v51 : IVec S_ 1) (main_v54 : IVec S_ 1) (main_v57 : IVec S_ 1) (main_v60 : IVec S_ 1) (main_v63 : IVec S_ 1) (main_v66 : IVec S_ 1) (main_v69 : IVec S_ 1) (main_v72 : IVec S_ 1) (main_v75 : IVec S_ 1) (main_v78 : IVec S_ 1) (main_v81 : IVec S_ 1) (main_v84 : IVec S_ 1) (main_v87 : IVec S_ 1) (main_v90 : IVec S_ 1) (main_cst_50 : FVec F S_ .f32) : IVec S_ 1 :=
  let main_v91 : FVec F S3x512 .f32 := broadcastInDim S3x512 ![] bcast_S_S3x512 main_cst_50
  let main_v92 : IVec S3x512 1 := cmpf .oeq main_arg27 main_v91
  let main_c_51 : IVec S_ 1 := constantI S_ 1 1#1
  let main_v93 : IVec S_ 1 := (fun x v => Host.reduce IntOp.andi x v reducesTo_S3x512_S_d0_1 h_S_) main_v92 main_c_51
  let main_cst_52 : FVec F S_ .f32 := constant S_ .f32 0x00000000#32
  let main_v94 : FVec F S3x512 .f32 := broadcastInDim S3x512 ![] bcast_S_S3x512 main_cst_52
  let main_v95 : IVec S3x512 1 := cmpf .oeq main_arg29 main_v94
  let main_c_53 : IVec S_ 1 := constantI S_ 1 1#1
  let main_v96 : IVec S_ 1 := (fun x v => Host.reduce IntOp.andi x v reducesTo_S3x512_S_d0_1 h_S_) main_v95 main_c_53
  let main_cst_54 : FVec F S_ .f32 := constant S_ .f32 0x00000000#32
  let main_v97 : FVec F S3x512 .f32 := broadcastInDim S3x512 ![] bcast_S_S3x512 main_cst_54
  let main_v98 : IVec S3x512 1 := cmpf .oeq main_arg31 main_v97
  let main_c_55 : IVec S_ 1 := constantI S_ 1 1#1
  let main_v99 : IVec S_ 1 := (fun x v => Host.reduce IntOp.andi x v reducesTo_S3x512_S_d0_1 h_S_) main_v98 main_c_55
  let main_cst_56 : FVec F S_ .f32 := constant S_ .f32 0x00000000#32
  let main_v100 : FVec F S3x2048 .f32 := broadcastInDim S3x2048 ![] bcast_S_S3x2048 main_cst_56
  let main_v101 : IVec S3x2048 1 := cmpf .oeq main_arg33 main_v100
  let main_c_57 : IVec S_ 1 := constantI S_ 1 1#1
  let main_v102 : IVec S_ 1 := (fun x v => Host.reduce IntOp.andi x v reducesTo_S3x2048_S_d0_1 h_S_) main_v101 main_c_57
  let main_cst_58 : FVec F S_ .f32 := constant S_ .f32 0x00000000#32
  let main_v103 : FVec F S3x512 .f32 := broadcastInDim S3x512 ![] bcast_S_S3x512 main_cst_58
  let main_v104 : IVec S3x512 1 := cmpf .oeq main_arg35 main_v103
  let main_c_59 : IVec S_ 1 := constantI S_ 1 1#1
  let main_v105 : IVec S_ 1 := (fun x v => Host.reduce IntOp.andi x v reducesTo_S3x512_S_d0_1 h_S_) main_v104 main_c_59
  fn_part7 (F := F) main_arg2 main_arg3 main_arg5 main_arg6 main_arg7 main_arg37 main_arg39 main_v3 main_v7 main_v11 main_v15 main_v19 main_v23 main_v27 main_v31 main_v35 main_v39 main_v43 main_v47 main_v51 main_v54 main_v57 main_v60 main_v63 main_v66 main_v69 main_v72 main_v75 main_v78 main_v81 main_v84 main_v87 main_v90 main_v93 main_v96 main_v99 main_v102 main_v105

def fn_part5 {F : FTy → Type} [FloatOps F] (main_arg2 : IVec S4096 32) (main_arg3 : IVec S4096 32) (main_arg5 : IVec S1024 32) (main_arg6 : IVec S1x1152x1152 1) (main_arg7 : IVec S1x128x1024 1) (main_arg17 : FVec F S512 .f32) (main_arg19 : FVec F S512 .f32) (main_arg21 : FVec F S3x512 .f32) (main_arg23 : FVec F S3x512 .f32) (main_arg25 : FVec F S3x512 .f32) (main_arg27 : FVec F S3x512 .f32) (main_arg29 : FVec F S3x512 .f32) (main_arg31 : FVec F S3x512 .f32) (main_arg33 : FVec F S3x2048 .f32) (main_arg35 : FVec F S3x512 .f32) (main_arg37 : FVec F S512 .f32) (main_arg39 : FVec F S2 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S_ 1) (main_v51 : IVec S_ 1) (main_v54 : IVec S_ 1) (main_v57 : IVec S_ 1) (main_v60 : IVec S_ 1) (main_v63 : IVec S_ 1) (main_v66 : IVec S_ 1) (main_v69 : IVec S_ 1) (main_v72 : IVec S_ 1) (main_v75 : IVec S_ 1) (main_v76 : FVec F S512 .f32) : IVec S_ 1 :=
  let main_v77 : IVec S512 1 := cmpf .oeq main_arg17 main_v76
  let main_c_41 : IVec S_ 1 := constantI S_ 1 1#1
  let main_v78 : IVec S_ 1 := (fun x v => Host.reduce IntOp.andi x v reducesTo_S512_S_d0 h_S_) main_v77 main_c_41
  let main_cst_42 : FVec F S_ .f32 := constant S_ .f32 0x00000000#32
  let main_v79 : FVec F S512 .f32 := broadcastInDim S512 ![] bcast_S_S512 main_cst_42
  let main_v80 : IVec S512 1 := cmpf .oeq main_arg19 main_v79
  let main_c_43 : IVec S_ 1 := constantI S_ 1 1#1
  let main_v81 : IVec S_ 1 := (fun x v => Host.reduce IntOp.andi x v reducesTo_S512_S_d0 h_S_) main_v80 main_c_43
  let main_cst_44 : FVec F S_ .f32 := constant S_ .f32 0x00000000#32
  let main_v82 : FVec F S3x512 .f32 := broadcastInDim S3x512 ![] bcast_S_S3x512 main_cst_44
  let main_v83 : IVec S3x512 1 := cmpf .oeq main_arg21 main_v82
  let main_c_45 : IVec S_ 1 := constantI S_ 1 1#1
  let main_v84 : IVec S_ 1 := (fun x v => Host.reduce IntOp.andi x v reducesTo_S3x512_S_d0_1 h_S_) main_v83 main_c_45
  let main_cst_46 : FVec F S_ .f32 := constant S_ .f32 0x00000000#32
  let main_v85 : FVec F S3x512 .f32 := broadcastInDim S3x512 ![] bcast_S_S3x512 main_cst_46
  let main_v86 : IVec S3x512 1 := cmpf .oeq main_arg23 main_v85
  let main_c_47 : IVec S_ 1 := constantI S_ 1 1#1
  let main_v87 : IVec S_ 1 := (fun x v => Host.reduce IntOp.andi x v reducesTo_S3x512_S_d0_1 h_S_) main_v86 main_c_47
  let main_cst_48 : FVec F S_ .f32 := constant S_ .f32 0x00000000#32
  let main_v88 : FVec F S3x512 .f32 := broadcastInDim S3x512 ![] bcast_S_S3x512 main_cst_48
  let main_v89 : IVec S3x512 1 := cmpf .oeq main_arg25 main_v88
  let main_c_49 : IVec S_ 1 := constantI S_ 1 1#1
  let main_v90 : IVec S_ 1 := (fun x v => Host.reduce IntOp.andi x v reducesTo_S3x512_S_d0_1 h_S_) main_v89 main_c_49
  let main_cst_50 : FVec F S_ .f32 := constant S_ .f32 0x00000000#32
  fn_part6 (F := F) main_arg2 main_arg3 main_arg5 main_arg6 main_arg7 main_arg27 main_arg29 main_arg31 main_arg33 main_arg35 main_arg37 main_arg39 main_v3 main_v7 main_v11 main_v15 main_v19 main_v23 main_v27 main_v31 main_v35 main_v39 main_v43 main_v47 main_v51 main_v54 main_v57 main_v60 main_v63 main_v66 main_v69 main_v72 main_v75 main_v78 main_v81 main_v84 main_v87 main_v90 main_cst_50

def fn_part4 {F : FTy → Type} [FloatOps F] (main_arg2 : IVec S4096 32) (main_arg3 : IVec S4096 32) (main_arg5 : IVec S1024 32) (main_arg6 : IVec S1x1152x1152 1) (main_arg7 : IVec S1x128x1024 1) (main_arg9 : FVec F S512 .f32) (main_arg11 : FVec F S512 .f32) (main_arg13 : FVec F S512 .f32) (main_arg15 : FVec F S512 .f32) (main_arg17 : FVec F S512 .f32) (main_arg19 : FVec F S512 .f32) (main_arg21 : FVec F S3x512 .f32) (main_arg23 : FVec F S3x512 .f32) (main_arg25 : FVec F S3x512 .f32) (main_arg27 : FVec F S3x512 .f32) (main_arg29 : FVec F S3x512 .f32) (main_arg31 : FVec F S3x512 .f32) (main_arg33 : FVec F S3x2048 .f32) (main_arg35 : FVec F S3x512 .f32) (main_arg37 : FVec F S512 .f32) (main_arg39 : FVec F S2 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S_ 1) (main_v51 : IVec S_ 1) (main_v54 : IVec S_ 1) (main_v57 : IVec S_ 1) (main_v60 : IVec S_ 1) (main_v62 : IVec S512 1) : IVec S_ 1 :=
  let main_c_31 : IVec S_ 1 := constantI S_ 1 1#1
  let main_v63 : IVec S_ 1 := (fun x v => Host.reduce IntOp.andi x v reducesTo_S512_S_d0 h_S_) main_v62 main_c_31
  let main_cst_32 : FVec F S_ .f32 := constant S_ .f32 0x00000000#32
  let main_v64 : FVec F S512 .f32 := broadcastInDim S512 ![] bcast_S_S512 main_cst_32
  let main_v65 : IVec S512 1 := cmpf .oeq main_arg9 main_v64
  let main_c_33 : IVec S_ 1 := constantI S_ 1 1#1
  let main_v66 : IVec S_ 1 := (fun x v => Host.reduce IntOp.andi x v reducesTo_S512_S_d0 h_S_) main_v65 main_c_33
  let main_cst_34 : FVec F S_ .f32 := constant S_ .f32 0x00000000#32
  let main_v67 : FVec F S512 .f32 := broadcastInDim S512 ![] bcast_S_S512 main_cst_34
  let main_v68 : IVec S512 1 := cmpf .oeq main_arg11 main_v67
  let main_c_35 : IVec S_ 1 := constantI S_ 1 1#1
  let main_v69 : IVec S_ 1 := (fun x v => Host.reduce IntOp.andi x v reducesTo_S512_S_d0 h_S_) main_v68 main_c_35
  let main_cst_36 : FVec F S_ .f32 := constant S_ .f32 0x00000000#32
  let main_v70 : FVec F S512 .f32 := broadcastInDim S512 ![] bcast_S_S512 main_cst_36
  let main_v71 : IVec S512 1 := cmpf .oeq main_arg13 main_v70
  let main_c_37 : IVec S_ 1 := constantI S_ 1 1#1
  let main_v72 : IVec S_ 1 := (fun x v => Host.reduce IntOp.andi x v reducesTo_S512_S_d0 h_S_) main_v71 main_c_37
  let main_cst_38 : FVec F S_ .f32 := constant S_ .f32 0x00000000#32
  let main_v73 : FVec F S512 .f32 := broadcastInDim S512 ![] bcast_S_S512 main_cst_38
  let main_v74 : IVec S512 1 := cmpf .oeq main_arg15 main_v73
  let main_c_39 : IVec S_ 1 := constantI S_ 1 1#1
  let main_v75 : IVec S_ 1 := (fun x v => Host.reduce IntOp.andi x v reducesTo_S512_S_d0 h_S_) main_v74 main_c_39
  let main_cst_40 : FVec F S_ .f32 := constant S_ .f32 0x00000000#32
  let main_v76 : FVec F S512 .f32 := broadcastInDim S512 ![] bcast_S_S512 main_cst_40
  fn_part5 (F := F) main_arg2 main_arg3 main_arg5 main_arg6 main_arg7 main_arg17 main_arg19 main_arg21 main_arg23 main_arg25 main_arg27 main_arg29 main_arg31 main_arg33 main_arg35 main_arg37 main_arg39 main_v3 main_v7 main_v11 main_v15 main_v19 main_v23 main_v27 main_v31 main_v35 main_v39 main_v43 main_v47 main_v51 main_v54 main_v57 main_v60 main_v63 main_v66 main_v69 main_v72 main_v75 main_v76

def fn_part3 {F : FTy → Type} [FloatOps F] (main_arg2 : IVec S4096 32) (main_arg3 : IVec S4096 32) (main_arg5 : IVec S1024 32) (main_arg6 : IVec S1x1152x1152 1) (main_arg7 : IVec S1x128x1024 1) (main_arg9 : FVec F S512 .f32) (main_arg10 : FVec F S512 .f32) (main_arg11 : FVec F S512 .f32) (main_arg13 : FVec F S512 .f32) (main_arg15 : FVec F S512 .f32) (main_arg17 : FVec F S512 .f32) (main_arg19 : FVec F S512 .f32) (main_arg20 : FVec F S3x512 .f32) (main_arg21 : FVec F S3x512 .f32) (main_arg23 : FVec F S3x512 .f32) (main_arg25 : FVec F S3x512 .f32) (main_arg27 : FVec F S3x512 .f32) (main_arg29 : FVec F S3x512 .f32) (main_arg30 : FVec F S3x512 .f32) (main_arg31 : FVec F S3x512 .f32) (main_arg33 : FVec F S3x2048 .f32) (main_arg35 : FVec F S3x512 .f32) (main_arg36 : FVec F S512 .f32) (main_arg37 : FVec F S512 .f32) (main_arg38 : FVec F S512x2 .f32) (main_arg39 : FVec F S2 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S_ 1) : IVec S_ 1 :=
  let main_v48 : FVec F S512x2 .f32 := Host.absf main_arg38
  let main_cst_22 : FVec F S_ .f32 := constant S_ .f32 0x7F800000#32
  let main_v49 : FVec F S512x2 .f32 := broadcastInDim S512x2 ![] bcast_S_S512x2 main_cst_22
  let main_v50 : IVec S512x2 1 := cmpf .olt main_v48 main_v49
  let main_c_23 : IVec S_ 1 := constantI S_ 1 1#1
  let main_v51 : IVec S_ 1 := (fun x v => Host.reduce IntOp.andi x v reducesTo_S512x2_S_d0_1 h_S_) main_v50 main_c_23
  let main_cst_24 : FVec F S_ .f32 := constant S_ .f32 0x3F800000#32
  let main_v52 : FVec F S512 .f32 := broadcastInDim S512 ![] bcast_S_S512 main_cst_24
  let main_v53 : IVec S512 1 := cmpf .oeq main_arg10 main_v52
  let main_c_25 : IVec S_ 1 := constantI S_ 1 1#1
  let main_v54 : IVec S_ 1 := (fun x v => Host.reduce IntOp.andi x v reducesTo_S512_S_d0 h_S_) main_v53 main_c_25
  let main_cst_26 : FVec F S_ .f32 := constant S_ .f32 0x3F800000#32
  let main_v55 : FVec F S3x512 .f32 := broadcastInDim S3x512 ![] bcast_S_S3x512 main_cst_26
  let main_v56 : IVec S3x512 1 := cmpf .oeq main_arg20 main_v55
  let main_c_27 : IVec S_ 1 := constantI S_ 1 1#1
  let main_v57 : IVec S_ 1 := (fun x v => Host.reduce IntOp.andi x v reducesTo_S3x512_S_d0_1 h_S_) main_v56 main_c_27
  let main_cst_28 : FVec F S_ .f32 := constant S_ .f32 0x3F800000#32
  let main_v58 : FVec F S3x512 .f32 := broadcastInDim S3x512 ![] bcast_S_S3x512 main_cst_28
  let main_v59 : IVec S3x512 1 := cmpf .oeq main_arg30 main_v58
  let main_c_29 : IVec S_ 1 := constantI S_ 1 1#1
  let main_v60 : IVec S_ 1 := (fun x v => Host.reduce IntOp.andi x v reducesTo_S3x512_S_d0_1 h_S_) main_v59 main_c_29
  let main_cst_30 : FVec F S_ .f32 := constant S_ .f32 0x3F800000#32
  let main_v61 : FVec F S512 .f32 := broadcastInDim S512 ![] bcast_S_S512 main_cst_30
  let main_v62 : IVec S512 1 := cmpf .oeq main_arg36 main_v61
  fn_part4 (F := F) main_arg2 main_arg3 main_arg5 main_arg6 main_arg7 main_arg9 main_arg11 main_arg13 main_arg15 main_arg17 main_arg19 main_arg21 main_arg23 main_arg25 main_arg27 main_arg29 main_arg31 main_arg33 main_arg35 main_arg37 main_arg39 main_v3 main_v7 main_v11 main_v15 main_v19 main_v23 main_v27 main_v31 main_v35 main_v39 main_v43 main_v47 main_v51 main_v54 main_v57 main_v60 main_v62

def fn_part2 {F : FTy → Type} [FloatOps F] (main_arg2 : IVec S4096 32) (main_arg3 : IVec S4096 32) (main_arg5 : IVec S1024 32) (main_arg6 : IVec S1x1152x1152 1) (main_arg7 : IVec S1x128x1024 1) (main_arg9 : FVec F S512 .f32) (main_arg10 : FVec F S512 .f32) (main_arg11 : FVec F S512 .f32) (main_arg13 : FVec F S512 .f32) (main_arg15 : FVec F S512 .f32) (main_arg17 : FVec F S512 .f32) (main_arg19 : FVec F S512 .f32) (main_arg20 : FVec F S3x512 .f32) (main_arg21 : FVec F S3x512 .f32) (main_arg23 : FVec F S3x512 .f32) (main_arg25 : FVec F S3x512 .f32) (main_arg26 : FVec F S3x512x512 .f32) (main_arg27 : FVec F S3x512 .f32) (main_arg28 : FVec F S3x512x512 .f32) (main_arg29 : FVec F S3x512 .f32) (main_arg30 : FVec F S3x512 .f32) (main_arg31 : FVec F S3x512 .f32) (main_arg32 : FVec F S3x512x2048 .f32) (main_arg33 : FVec F S3x2048 .f32) (main_arg34 : FVec F S3x2048x512 .f32) (main_arg35 : FVec F S3x512 .f32) (main_arg36 : FVec F S512 .f32) (main_arg37 : FVec F S512 .f32) (main_arg38 : FVec F S512x2 .f32) (main_arg39 : FVec F S2 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S3x512x512 .f32 := Host.absf main_arg26
  let main_cst_14 : FVec F S_ .f32 := constant S_ .f32 0x7F800000#32
  let main_v33 : FVec F S3x512x512 .f32 := broadcastInDim S3x512x512 ![] bcast_S_S3x512x512 main_cst_14
  let main_v34 : IVec S3x512x512 1 := cmpf .olt main_v32 main_v33
  let main_c_15 : IVec S_ 1 := constantI S_ 1 1#1
  let main_v35 : IVec S_ 1 := (fun x v => Host.reduce IntOp.andi x v reducesTo_S3x512x512_S_d0_1_2 h_S_) main_v34 main_c_15
  let main_v36 : FVec F S3x512x512 .f32 := Host.absf main_arg28
  let main_cst_16 : FVec F S_ .f32 := constant S_ .f32 0x7F800000#32
  let main_v37 : FVec F S3x512x512 .f32 := broadcastInDim S3x512x512 ![] bcast_S_S3x512x512 main_cst_16
  let main_v38 : IVec S3x512x512 1 := cmpf .olt main_v36 main_v37
  let main_c_17 : IVec S_ 1 := constantI S_ 1 1#1
  let main_v39 : IVec S_ 1 := (fun x v => Host.reduce IntOp.andi x v reducesTo_S3x512x512_S_d0_1_2 h_S_) main_v38 main_c_17
  let main_v40 : FVec F S3x512x2048 .f32 := Host.absf main_arg32
  let main_cst_18 : FVec F S_ .f32 := constant S_ .f32 0x7F800000#32
  let main_v41 : FVec F S3x512x2048 .f32 := broadcastInDim S3x512x2048 ![] bcast_S_S3x512x2048 main_cst_18
  let main_v42 : IVec S3x512x2048 1 := cmpf .olt main_v40 main_v41
  let main_c_19 : IVec S_ 1 := constantI S_ 1 1#1
  let main_v43 : IVec S_ 1 := (fun x v => Host.reduce IntOp.andi x v reducesTo_S3x512x2048_S_d0_1_2 h_S_) main_v42 main_c_19
  let main_v44 : FVec F S3x2048x512 .f32 := Host.absf main_arg34
  let main_cst_20 : FVec F S_ .f32 := constant S_ .f32 0x7F800000#32
  let main_v45 : FVec F S3x2048x512 .f32 := broadcastInDim S3x2048x512 ![] bcast_S_S3x2048x512 main_cst_20
  let main_v46 : IVec S3x2048x512 1 := cmpf .olt main_v44 main_v45
  let main_c_21 : IVec S_ 1 := constantI S_ 1 1#1
  let main_v47 : IVec S_ 1 := (fun x v => Host.reduce IntOp.andi x v reducesTo_S3x2048x512_S_d0_1_2 h_S_) main_v46 main_c_21
  fn_part3 (F := F) main_arg2 main_arg3 main_arg5 main_arg6 main_arg7 main_arg9 main_arg10 main_arg11 main_arg13 main_arg15 main_arg17 main_arg19 main_arg20 main_arg21 main_arg23 main_arg25 main_arg27 main_arg29 main_arg30 main_arg31 main_arg33 main_arg35 main_arg36 main_arg37 main_arg38 main_arg39 main_v3 main_v7 main_v11 main_v15 main_v19 main_v23 main_v27 main_v31 main_v35 main_v39 main_v43 main_v47

def fn_part1 {F : FTy → Type} [FloatOps F] (main_arg2 : IVec S4096 32) (main_arg3 : IVec S4096 32) (main_arg5 : IVec S1024 32) (main_arg6 : IVec S1x1152x1152 1) (main_arg7 : IVec S1x128x1024 1) (main_arg9 : FVec F S512 .f32) (main_arg10 : FVec F S512 .f32) (main_arg11 : FVec F S512 .f32) (main_arg13 : FVec F S512 .f32) (main_arg15 : FVec F S512 .f32) (main_arg16 : FVec F S512x512 .f32) (main_arg17 : FVec F S512 .f32) (main_arg18 : FVec F S512x512 .f32) (main_arg19 : FVec F S512 .f32) (main_arg20 : FVec F S3x512 .f32) (main_arg21 : FVec F S3x512 .f32) (main_arg22 : FVec F S3x512x512 .f32) (main_arg23 : FVec F S3x512 .f32) (main_arg24 : FVec F S3x512x512 .f32) (main_arg25 : FVec F S3x512 .f32) (main_arg26 : FVec F S3x512x512 .f32) (main_arg27 : FVec F S3x512 .f32) (main_arg28 : FVec F S3x512x512 .f32) (main_arg29 : FVec F S3x512 .f32) (main_arg30 : FVec F S3x512 .f32) (main_arg31 : FVec F S3x512 .f32) (main_arg32 : FVec F S3x512x2048 .f32) (main_arg33 : FVec F S3x2048 .f32) (main_arg34 : FVec F S3x2048x512 .f32) (main_arg35 : FVec F S3x512 .f32) (main_arg36 : FVec F S512 .f32) (main_arg37 : FVec F S512 .f32) (main_arg38 : FVec F S512x2 .f32) (main_arg39 : FVec F S2 .f32) (main_v3 : IVec S_ 1) (main_v7 : IVec S_ 1) (main_v11 : IVec S_ 1) (main_v15 : IVec S_ 1) : IVec S_ 1 :=
  let main_v16 : FVec F S512x512 .f32 := Host.absf main_arg16
  let main_cst_6 : FVec F S_ .f32 := constant S_ .f32 0x7F800000#32
  let main_v17 : FVec F S512x512 .f32 := broadcastInDim S512x512 ![] bcast_S_S512x512 main_cst_6
  let main_v18 : IVec S512x512 1 := cmpf .olt main_v16 main_v17
  let main_c_7 : IVec S_ 1 := constantI S_ 1 1#1
  let main_v19 : IVec S_ 1 := (fun x v => Host.reduce IntOp.andi x v reducesTo_S512x512_S_d0_1 h_S_) main_v18 main_c_7
  let main_v20 : FVec F S512x512 .f32 := Host.absf main_arg18
  let main_cst_8 : FVec F S_ .f32 := constant S_ .f32 0x7F800000#32
  let main_v21 : FVec F S512x512 .f32 := broadcastInDim S512x512 ![] bcast_S_S512x512 main_cst_8
  let main_v22 : IVec S512x512 1 := cmpf .olt main_v20 main_v21
  let main_c_9 : IVec S_ 1 := constantI S_ 1 1#1
  let main_v23 : IVec S_ 1 := (fun x v => Host.reduce IntOp.andi x v reducesTo_S512x512_S_d0_1 h_S_) main_v22 main_c_9
  let main_v24 : FVec F S3x512x512 .f32 := Host.absf main_arg22
  let main_cst_10 : FVec F S_ .f32 := constant S_ .f32 0x7F800000#32
  let main_v25 : FVec F S3x512x512 .f32 := broadcastInDim S3x512x512 ![] bcast_S_S3x512x512 main_cst_10
  let main_v26 : IVec S3x512x512 1 := cmpf .olt main_v24 main_v25
  let main_c_11 : IVec S_ 1 := constantI S_ 1 1#1
  let main_v27 : IVec S_ 1 := (fun x v => Host.reduce IntOp.andi x v reducesTo_S3x512x512_S_d0_1_2 h_S_) main_v26 main_c_11
  let main_v28 : FVec F S3x512x512 .f32 := Host.absf main_arg24
  let main_cst_12 : FVec F S_ .f32 := constant S_ .f32 0x7F800000#32
  let main_v29 : FVec F S3x512x512 .f32 := broadcastInDim S3x512x512 ![] bcast_S_S3x512x512 main_cst_12
  let main_v30 : IVec S3x512x512 1 := cmpf .olt main_v28 main_v29
  let main_c_13 : IVec S_ 1 := constantI S_ 1 1#1
  let main_v31 : IVec S_ 1 := (fun x v => Host.reduce IntOp.andi x v reducesTo_S3x512x512_S_d0_1_2 h_S_) main_v30 main_c_13
  fn_part2 (F := F) main_arg2 main_arg3 main_arg5 main_arg6 main_arg7 main_arg9 main_arg10 main_arg11 main_arg13 main_arg15 main_arg17 main_arg19 main_arg20 main_arg21 main_arg23 main_arg25 main_arg26 main_arg27 main_arg28 main_arg29 main_arg30 main_arg31 main_arg32 main_arg33 main_arg34 main_arg35 main_arg36 main_arg37 main_arg38 main_arg39 main_v3 main_v7 main_v11 main_v15 main_v19 main_v23 main_v27 main_v31

def fn {F : FTy → Type} [FloatOps F] (main_arg0 : FVec F S1x4096x768 .f32) (main_arg1 : FVec F S1x1024x2 .f32) (main_arg2 : IVec S4096 32) (main_arg3 : IVec S4096 32) (main_arg4 : IVec S1024 32) (main_arg5 : IVec S1024 32) (main_arg6 : IVec S1x1152x1152 1) (main_arg7 : IVec S1x128x1024 1) (main_arg8 : FVec F S768x512 .f32) (main_arg9 : FVec F S512 .f32) (main_arg10 : FVec F S512 .f32) (main_arg11 : FVec F S512 .f32) (main_arg12 : FVec F S512x512 .f32) (main_arg13 : FVec F S512 .f32) (main_arg14 : FVec F S512x512 .f32) (main_arg15 : FVec F S512 .f32) (main_arg16 : FVec F S512x512 .f32) (main_arg17 : FVec F S512 .f32) (main_arg18 : FVec F S512x512 .f32) (main_arg19 : FVec F S512 .f32) (main_arg20 : FVec F S3x512 .f32) (main_arg21 : FVec F S3x512 .f32) (main_arg22 : FVec F S3x512x512 .f32) (main_arg23 : FVec F S3x512 .f32) (main_arg24 : FVec F S3x512x512 .f32) (main_arg25 : FVec F S3x512 .f32) (main_arg26 : FVec F S3x512x512 .f32) (main_arg27 : FVec F S3x512 .f32) (main_arg28 : FVec F S3x512x512 .f32) (main_arg29 : FVec F S3x512 .f32) (main_arg30 : FVec F S3x512 .f32) (main_arg31 : FVec F S3x512 .f32) (main_arg32 : FVec F S3x512x2048 .f32) (main_arg33 : FVec F S3x2048 .f32) (main_arg34 : FVec F S3x2048x512 .f32) (main_arg35 : FVec F S3x512 .f32) (main_arg36 : FVec F S512 .f32) (main_arg37 : FVec F S512 .f32) (main_arg38 : FVec F S512x2 .f32) (main_arg39 : FVec F S2 .f32) : IVec S_ 1 :=
  let main_v0 : FVec F S1x4096x768 .f32 := Host.absf main_arg0
  let main_cst : FVec F S_ .f32 := constant S_ .f32 0x7F800000#32
  let main_v1 : FVec F S1x4096x768 .f32 := broadcastInDim S1x4096x768 ![] bcast_S_S1x4096x768 main_cst
  let main_v2 : IVec S1x4096x768 1 := cmpf .olt main_v0 main_v1
  let main_c : IVec S_ 1 := constantI S_ 1 1#1
  let main_v3 : IVec S_ 1 := (fun x v => Host.reduce IntOp.andi x v reducesTo_S1x4096x768_S_d0_1_2 h_S_) main_v2 main_c
  let main_v4 : FVec F S768x512 .f32 := Host.absf main_arg8
  let main_cst_0 : FVec F S_ .f32 := constant S_ .f32 0x7F800000#32
  let main_v5 : FVec F S768x512 .f32 := broadcastInDim S768x512 ![] bcast_S_S768x512 main_cst_0
  let main_v6 : IVec S768x512 1 := cmpf .olt main_v4 main_v5
  let main_c_1 : IVec S_ 1 := constantI S_ 1 1#1
  let main_v7 : IVec S_ 1 := (fun x v => Host.reduce IntOp.andi x v reducesTo_S768x512_S_d0_1 h_S_) main_v6 main_c_1
  let main_v8 : FVec F S512x512 .f32 := Host.absf main_arg12
  let main_cst_2 : FVec F S_ .f32 := constant S_ .f32 0x7F800000#32
  let main_v9 : FVec F S512x512 .f32 := broadcastInDim S512x512 ![] bcast_S_S512x512 main_cst_2
  let main_v10 : IVec S512x512 1 := cmpf .olt main_v8 main_v9
  let main_c_3 : IVec S_ 1 := constantI S_ 1 1#1
  let main_v11 : IVec S_ 1 := (fun x v => Host.reduce IntOp.andi x v reducesTo_S512x512_S_d0_1 h_S_) main_v10 main_c_3
  let main_v12 : FVec F S512x512 .f32 := Host.absf main_arg14
  let main_cst_4 : FVec F S_ .f32 := constant S_ .f32 0x7F800000#32
  let main_v13 : FVec F S512x512 .f32 := broadcastInDim S512x512 ![] bcast_S_S512x512 main_cst_4
  let main_v14 : IVec S512x512 1 := cmpf .olt main_v12 main_v13
  let main_c_5 : IVec S_ 1 := constantI S_ 1 1#1
  let main_v15 : IVec S_ 1 := (fun x v => Host.reduce IntOp.andi x v reducesTo_S512x512_S_d0_1 h_S_) main_v14 main_c_5
  fn_part1 (F := F) main_arg2 main_arg3 main_arg5 main_arg6 main_arg7 main_arg9 main_arg10 main_arg11 main_arg13 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_v3 main_v7 main_v11 main_v15
-- ==== Kernel.lean ====
abbrev S1x4096x768 : Shape := ⟨3, ![1, 4096, 768]⟩
abbrev S1x1024x2 : Shape := ⟨3, ![1, 1024, 2]⟩
abbrev S4096 : Shape := ⟨1, ![4096]⟩
abbrev S1024 : Shape := ⟨1, ![1024]⟩
abbrev S1x1152x1152 : Shape := ⟨3, ![1, 1152, 1152]⟩
abbrev S1x128x1024 : Shape := ⟨3, ![1, 128, 1024]⟩
abbrev S768x512 : Shape := ⟨2, ![768, 512]⟩
abbrev S512 : Shape := ⟨1, ![512]⟩
abbrev S512x512 : Shape := ⟨2, ![512, 512]⟩
abbrev S3x512 : Shape := ⟨2, ![3, 512]⟩
abbrev S3x512x512 : Shape := ⟨3, ![3, 512, 512]⟩
abbrev S3x512x2048 : Shape := ⟨3, ![3, 512, 2048]⟩
abbrev S3x2048 : Shape := ⟨2, ![3, 2048]⟩
abbrev S3x2048x512 : Shape := ⟨3, ![3, 2048, 512]⟩
abbrev S512x2 : Shape := ⟨2, ![512, 2]⟩
abbrev S2 : Shape := ⟨1, ![2]⟩
abbrev S1024x3072 : Shape := ⟨2, ![1024, 3072]⟩
abbrev S1x1024 : Shape := ⟨2, ![1, 1024]⟩
abbrev S8x1024 : Shape := ⟨2, ![8, 1024]⟩
abbrev S_ : Shape := ⟨0, ![]⟩
abbrev S1152x512 : Shape := ⟨2, ![1152, 512]⟩
abbrev S1024x768 : Shape := ⟨2, ![1024, 768]⟩
abbrev S1024x512 : Shape := ⟨2, ![1024, 512]⟩
abbrev S128x1024 : Shape := ⟨2, ![128, 1024]⟩
abbrev S128 : Shape := ⟨1, ![128]⟩
abbrev S128x1 : Shape := ⟨2, ![128, 1]⟩
abbrev S128x512 : Shape := ⟨2, ![128, 512]⟩
abbrev S1024x1 : Shape := ⟨2, ![1024, 1]⟩
abbrev S128x64 : Shape := ⟨2, ![128, 64]⟩
abbrev S1024x64 : Shape := ⟨2, ![1024, 64]⟩
abbrev S2x512 : Shape := ⟨2, ![2, 512]⟩
abbrev S1x2 : Shape := ⟨2, ![1, 2]⟩
abbrev S1x1 : Shape := ⟨2, ![1, 1]⟩
abbrev S1x512x512 : Shape := ⟨3, ![1, 512, 512]⟩
abbrev S1x512x2048 : Shape := ⟨3, ![1, 512, 2048]⟩
abbrev S1x2048x512 : Shape := ⟨3, ![1, 2048, 512]⟩
abbrev S1152 : Shape := ⟨1, ![1152]⟩
abbrev S1152x1 : Shape := ⟨2, ![1152, 1]⟩
abbrev S1152x64 : Shape := ⟨2, ![1152, 64]⟩
abbrev S1152x1152 : Shape := ⟨2, ![1152, 1152]⟩
abbrev S512x2048 : Shape := ⟨2, ![512, 2048]⟩
abbrev S1152x2048 : Shape := ⟨2, ![1152, 2048]⟩
abbrev S2048x512 : Shape := ⟨2, ![2048, 512]⟩
abbrev S1x512 : Shape := ⟨2, ![1, 512]⟩
abbrev S1 : Shape := ⟨1, ![1]⟩
abbrev S2x1 : Shape := ⟨2, ![2, 1]⟩

abbrev nBuf : Space → Nat
  | .hbm => 56
  | .vmem => 26
  | .smem => 0
  | _ => 0

abbrev bufTy : (tb : Table) → Fin (tcTables nBuf tb) → BufTy
  | .hbm, ⟨0, _⟩ => ⟨S1x4096x768, .f32⟩
  | .hbm, ⟨1, _⟩ => ⟨S1x1024x2, .f32⟩
  | .hbm, ⟨2, _⟩ => ⟨S4096, .i32⟩
  | .hbm, ⟨3, _⟩ => ⟨S4096, .i32⟩
  | .hbm, ⟨4, _⟩ => ⟨S1024, .i32⟩
  | .hbm, ⟨5, _⟩ => ⟨S1024, .i32⟩
  | .hbm, ⟨6, _⟩ => ⟨S1x1152x1152, .i1⟩
  | .hbm, ⟨7, _⟩ => ⟨S1x128x1024, .i1⟩
  | .hbm, ⟨8, _⟩ => ⟨S768x512, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S512x512, .f32⟩
  | .hbm, ⟨13, _⟩ => ⟨S512, .f32⟩
  | .hbm, ⟨14, _⟩ => ⟨S512x512, .f32⟩
  | .hbm, ⟨15, _⟩ => ⟨S512, .f32⟩
  | .hbm, ⟨16, _⟩ => ⟨S512x512, .f32⟩
  | .hbm, ⟨17, _⟩ => ⟨S512, .f32⟩
  | .hbm, ⟨18, _⟩ => ⟨S512x512, .f32⟩
  | .hbm, ⟨19, _⟩ => ⟨S512, .f32⟩
  | .hbm, ⟨20, _⟩ => ⟨S3x512, .f32⟩
  | .hbm, ⟨21, _⟩ => ⟨S3x512, .f32⟩
  | .hbm, ⟨22, _⟩ => ⟨S3x512x512, .f32⟩
  | .hbm, ⟨23, _⟩ => ⟨S3x512, .f32⟩
  | .hbm, ⟨24, _⟩ => ⟨S3x512x512, .f32⟩
  | .hbm, ⟨25, _⟩ => ⟨S3x512, .f32⟩
  | .hbm, ⟨26, _⟩ => ⟨S3x512x512, .f32⟩
  | .hbm, ⟨27, _⟩ => ⟨S3x512, .f32⟩
  | .hbm, ⟨28, _⟩ => ⟨S3x512x512, .f32⟩
  | .hbm, ⟨29, _⟩ => ⟨S3x512, .f32⟩
  | .hbm, ⟨30, _⟩ => ⟨S3x512, .f32⟩
  | .hbm, ⟨31, _⟩ => ⟨S3x512, .f32⟩
  | .hbm, ⟨32, _⟩ => ⟨S3x512x2048, .f32⟩
  | .hbm, ⟨33, _⟩ => ⟨S3x2048, .f32⟩
  | .hbm, ⟨34, _⟩ => ⟨S3x2048x512, .f32⟩
  | .hbm, ⟨35, _⟩ => ⟨S3x512, .f32⟩
  | .hbm, ⟨36, _⟩ => ⟨S512, .f32⟩
  | .hbm, ⟨37, _⟩ => ⟨S512, .f32⟩
  | .hbm, ⟨38, _⟩ => ⟨S512x2, .f32⟩
  | .hbm, ⟨39, _⟩ => ⟨S2, .f32⟩
  | .hbm, ⟨40, _⟩ => ⟨S1024x3072, .f32⟩
  | .hbm, ⟨41, _⟩ => ⟨S1x1024, .i32⟩
  | .hbm, ⟨42, _⟩ => ⟨S8x1024, .i32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S512x512, .f32⟩
  | .hbm, ⟨48, _⟩ => ⟨S512x512, .f32⟩
  | .hbm, ⟨49, _⟩ => ⟨S1152x512, .f32⟩
  | .hbm, ⟨50, _⟩ => ⟨S3x512x512, .f32⟩
  | .hbm, ⟨51, _⟩ => ⟨S3x512x512, .f32⟩
  | .hbm, ⟨52, _⟩ => ⟨S2x512, .f32⟩
  | .hbm, ⟨53, _⟩ => ⟨S1x2, .f32⟩
  | .hbm, ⟨54, _⟩ => ⟨S1x2, .f32⟩
  | .hbm, ⟨55, _⟩ => ⟨S1x1, .i32⟩
  | .local _ .vmem, ⟨0, _⟩ => ⟨S1024x3072, .f32⟩
  | .local _ .vmem, ⟨1, _⟩ => ⟨S768x512, .f32⟩
  | .local _ .vmem, ⟨2, _⟩ => ⟨S8x1024, .i32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S1152x512, .f32⟩
  | .local _ .vmem, ⟨8, _⟩ => ⟨S1152x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x512x512, .f32⟩
  | .local _ .vmem, ⟨17, _⟩ => ⟨S1x512x2048, .f32⟩
  | .local _ .vmem, ⟨18, _⟩ => ⟨S1x512x2048, .f32⟩
  | .local _ .vmem, ⟨19, _⟩ => ⟨S1x2048x512, .f32⟩
  | .local _ .vmem, ⟨20, _⟩ => ⟨S1x2048x512, .f32⟩
  | .local _ .vmem, ⟨21, _⟩ => ⟨S2x512, .f32⟩
  | .local _ .vmem, ⟨22, _⟩ => ⟨S1x2, .f32⟩
  | .local _ .vmem, ⟨23, _⟩ => ⟨S1x2, .f32⟩
  | .local _ .vmem, ⟨24, _⟩ => ⟨S1x1, .i32⟩
  | .local _ .vmem, ⟨25, _⟩ => ⟨S1152x512, .f32⟩
  | _, _ => ⟨S1x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_v0 : Ref sig .tc := ⟨.hbm, 40, rfl⟩
abbrev main_v1 : Ref sig .tc := ⟨.hbm, 41, rfl⟩
abbrev main_v2 : Ref sig .tc := ⟨.hbm, 42, rfl⟩
abbrev main_cst : Ref sig .tc := ⟨.hbm, 43, rfl⟩
abbrev main_v3 : Ref sig .tc := ⟨.hbm, 44, rfl⟩
abbrev main_cst_0 : Ref sig .tc := ⟨.hbm, 45, rfl⟩
abbrev main_v4 : Ref sig .tc := ⟨.hbm, 46, rfl⟩
abbrev main_v5 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_v11_0 : Ref sig .tc := ⟨.hbm, 53, rfl⟩
abbrev main_v11_1 : Ref sig .tc := ⟨.hbm, 54, rfl⟩
abbrev main_v11_2 : Ref sig .tc := ⟨.hbm, 55, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg10_0 : Ref sig .tc := ⟨.vmem, 24, rfl⟩
abbrev cc1_scratch0 : Ref sig .tc := ⟨.vmem, 25, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18
abbrev cc1_sem6_0 : DmaSem sig := 19
abbrev cc1_sem6_1 : DmaSem sig := 20
abbrev cc1_sem7_0 : DmaSem sig := 21
abbrev cc1_sem8_0 : DmaSem sig := 22
abbrev cc1_sem9_0 : DmaSem sig := 23
abbrev cc1_sem10_0 : DmaSem sig := 24

abbrev nD : Nat := 1
abbrev τ : Topo := Topo.v7x

variable {F : FTy → Type} [FloatOps F]

abbrev grid0 : Pipeline.Grid := .none

abbrev stage0_0 : Fin 1 → Memref sig .tc .vmem S1024x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1152x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev grid1 : Pipeline.Grid := ⟨1, ![3], ![false]⟩

def k1_cond2 (i : grid1.Coords) : BitVec 1 :=
  let arg0 : BitVec 32 := BitVec.ofNat 32 (i 0).val
  let c2_i32 : BitVec 32 := 2#32
  let v169 : BitVec 1 := Scalar.cmpi .eq arg0 c2_i32
  let v170 : BitVec 32 := Scalar.extui v169
  let c0_i32_73 : BitVec 32 := 0#32
  let v171 : BitVec 1 := Scalar.cmpi .ne v170 c0_i32_73
  v171

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1152x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1x512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x512x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x2048x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S2x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x2 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x2 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x1 .i32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]
-- ==== ReferenceIdeal.lean ====
abbrev S1x4096x768 : Shape := ⟨3, ![1, 4096, 768]⟩
abbrev S1x1024x2 : Shape := ⟨3, ![1, 1024, 2]⟩
abbrev S4096 : Shape := ⟨1, ![4096]⟩
abbrev S1024 : Shape := ⟨1, ![1024]⟩
abbrev S1x1152x1152 : Shape := ⟨3, ![1, 1152, 1152]⟩
abbrev S1x128x1024 : Shape := ⟨3, ![1, 128, 1024]⟩
abbrev S768x512 : Shape := ⟨2, ![768, 512]⟩
abbrev S512 : Shape := ⟨1, ![512]⟩
abbrev S512x512 : Shape := ⟨2, ![512, 512]⟩
abbrev S3x512 : Shape := ⟨2, ![3, 512]⟩
abbrev S3x512x512 : Shape := ⟨3, ![3, 512, 512]⟩
abbrev S3x512x2048 : Shape := ⟨3, ![3, 512, 2048]⟩
abbrev S3x2048 : Shape := ⟨2, ![3, 2048]⟩
abbrev S3x2048x512 : Shape := ⟨3, ![3, 2048, 512]⟩
abbrev S512x2 : Shape := ⟨2, ![512, 2]⟩
abbrev S2 : Shape := ⟨1, ![2]⟩
abbrev S4096x768 : Shape := ⟨2, ![4096, 768]⟩
abbrev S_ : Shape := ⟨0, ![]⟩
abbrev S4096x1 : Shape := ⟨2, ![4096, 1]⟩
abbrev S1024x768 : Shape := ⟨2, ![1024, 768]⟩
abbrev S1024x1 : Shape := ⟨2, ![1024, 1]⟩
abbrev S1024x512 : Shape := ⟨2, ![1024, 512]⟩
abbrev S1x512 : Shape := ⟨2, ![1, 512]⟩
abbrev S1x1024x512 : Shape := ⟨3, ![1, 1024, 512]⟩
abbrev S128 : Shape := ⟨1, ![128]⟩
abbrev S128x512 : Shape := ⟨2, ![128, 512]⟩
abbrev S128x1 : Shape := ⟨2, ![128, 1]⟩
abbrev S1x128x512 : Shape := ⟨3, ![1, 128, 512]⟩
abbrev S1024x2 : Shape := ⟨2, ![1024, 2]⟩
abbrev S128x2 : Shape := ⟨2, ![128, 2]⟩
abbrev S1x128x2 : Shape := ⟨3, ![1, 128, 2]⟩
abbrev S1x128 : Shape := ⟨2, ![1, 128]⟩
abbrev S1x128x1 : Shape := ⟨3, ![1, 128, 1]⟩
abbrev S1x1x512 : Shape := ⟨3, ![1, 1, 512]⟩
abbrev S1x1024 : Shape := ⟨2, ![1, 1024]⟩
abbrev S1x1024x1 : Shape := ⟨3, ![1, 1024, 1]⟩
abbrev S1x128x8x64 : Shape := ⟨4, ![1, 128, 8, 64]⟩
abbrev S1x8x128x64 : Shape := ⟨4, ![1, 8, 128, 64]⟩
abbrev S1x1024x8x64 : Shape := ⟨4, ![1, 1024, 8, 64]⟩
abbrev S1x8x1024x64 : Shape := ⟨4, ![1, 8, 1024, 64]⟩
abbrev S1x8x128x1024 : Shape := ⟨4, ![1, 8, 128, 1024]⟩
abbrev S1x1x128x1024 : Shape := ⟨4, ![1, 1, 128, 1024]⟩
abbrev S1x8x128 : Shape := ⟨3, ![1, 8, 128]⟩
abbrev S1x8x128x1 : Shape := ⟨4, ![1, 8, 128, 1]⟩
abbrev S1x1152x512 : Shape := ⟨3, ![1, 1152, 512]⟩
abbrev S1x1152 : Shape := ⟨2, ![1, 1152]⟩
abbrev S1x1152x1 : Shape := ⟨3, ![1, 1152, 1]⟩
abbrev S1x512x512 : Shape := ⟨3, ![1, 512, 512]⟩
abbrev S1x1152x8x64 : Shape := ⟨4, ![1, 1152, 8, 64]⟩
abbrev S1x8x1152x64 : Shape := ⟨4, ![1, 8, 1152, 64]⟩
abbrev S1x8x1152x1152 : Shape := ⟨4, ![1, 8, 1152, 1152]⟩
abbrev S1x1x1152x1152 : Shape := ⟨4, ![1, 1, 1152, 1152]⟩
abbrev S1x8x1152 : Shape := ⟨3, ![1, 8, 1152]⟩
abbrev S1x8x1152x1 : Shape := ⟨4, ![1, 8, 1152, 1]⟩
abbrev S1x512x2048 : Shape := ⟨3, ![1, 512, 2048]⟩
abbrev S512x2048 : Shape := ⟨2, ![512, 2048]⟩
abbrev S1x1152x2048 : Shape := ⟨3, ![1, 1152, 2048]⟩
abbrev S1x2048 : Shape := ⟨2, ![1, 2048]⟩
abbrev S2048 : Shape := ⟨1, ![2048]⟩
abbrev S1x1x2048 : Shape := ⟨3, ![1, 1, 2048]⟩
abbrev S1x2048x512 : Shape := ⟨3, ![1, 2048, 512]⟩
abbrev S2048x512 : Shape := ⟨2, ![2048, 512]⟩
abbrev S1 : Shape := ⟨1, ![1]⟩
abbrev S1x1 : Shape := ⟨2, ![1, 1]⟩
abbrev S1x2 : Shape := ⟨2, ![1, 2]⟩

abbrev nBuf : Space → Nat
  | .hbm => 817
  | .vmem => 0
  | .smem => 0
  | _ => 0

abbrev hbmTy0_0 (i : Nat) : BufTy := match i % 128 with
  | 0 => ⟨S1x4096x768, .f32⟩
  | 1 => ⟨S1x1024x2, .f32⟩
  | 2 => ⟨S4096, .i32⟩
  | 3 => ⟨S4096, .i32⟩
  | 4 => ⟨S1024, .i32⟩
  | 5 => ⟨S1024, .i32⟩
  | 6 => ⟨S1x1152x1152, .i1⟩
  | 7 => ⟨S1x128x1024, .i1⟩
  | 8 => ⟨S768x512, .f32⟩
  | 9 => ⟨S512, .f32⟩
  | 10 => ⟨S512, .f32⟩
  | 11 => ⟨S512, .f32⟩
  | 12 => ⟨S512x512, .f32⟩
  | 13 => ⟨S512, .f32⟩
  | 14 => ⟨S512x512, .f32⟩
  | 15 => ⟨S512, .f32⟩
  | 16 => ⟨S512x512, .f32⟩
  | 17 => ⟨S512, .f32⟩
  | 18 => ⟨S512x512, .f32⟩
  | 19 => ⟨S512, .f32⟩
  | 20 => ⟨S3x512, .f32⟩
  | 21 => ⟨S3x512, .f32⟩
  | 22 => ⟨S3x512x512, .f32⟩
  | 23 => ⟨S3x512, .f32⟩
  | 24 => ⟨S3x512x512, .f32⟩
  | 25 => ⟨S3x512, .f32⟩
  | 26 => ⟨S3x512x512, .f32⟩
  | 27 => ⟨S3x512, .f32⟩
  | 28 => ⟨S3x512x512, .f32⟩
  | 29 => ⟨S3x512, .f32⟩
  | 30 => ⟨S3x512, .f32⟩
  | 31 => ⟨S3x512, .f32⟩
  | 32 => ⟨S3x512x2048, .f32⟩
  | 33 => ⟨S3x2048, .f32⟩
  | 34 => ⟨S3x2048x512, .f32⟩
  | 35 => ⟨S3x512, .f32⟩
  | 36 => ⟨S512, .f32⟩
  | 37 => ⟨S512, .f32⟩
  | 38 => ⟨S512x2, .f32⟩
  | 39 => ⟨S2, .f32⟩
  | 40 => ⟨S4096x768, .f32⟩
  | 41 => ⟨S_, .i32⟩
  | 42 => ⟨S4096, .i32⟩
  | 43 => ⟨S4096, .i1⟩
  | 44 => ⟨S_, .i32⟩
  | 45 => ⟨S4096, .i32⟩
  | 46 => ⟨S4096, .i32⟩
  | 47 => ⟨S4096, .i32⟩
  | 48 => ⟨S4096x1, .i32⟩
  | 49 => ⟨S4096x768, .f32⟩
  | 50 => ⟨S_, .f32⟩
  | 51 => ⟨S4096, .f32⟩
  | 52 => ⟨S_, .f32⟩
  | 53 => ⟨S1024, .f32⟩
  | 54 => ⟨S4096x1, .i32⟩
  | 55 => ⟨S1024, .f32⟩
  | 56 => ⟨S_, .f32⟩
  | 57 => ⟨S1024x768, .f32⟩
  | 58 => ⟨S4096x1, .i32⟩
  | 59 => ⟨S1024x768, .f32⟩
  | 60 => ⟨S_, .f32⟩
  | 61 => ⟨S1024, .f32⟩
  | 62 => ⟨S1024, .f32⟩
  | 63 => ⟨S1024x1, .f32⟩
  | 64 => ⟨S1024x768, .f32⟩
  | 65 => ⟨S1024x768, .f32⟩
  | 66 => ⟨S1024x512, .f32⟩
  | 67 => ⟨S1x512, .f32⟩
  | 68 => ⟨S1024x512, .f32⟩
  | 69 => ⟨S1024x512, .f32⟩
  | 70 => ⟨S1024x512, .f32⟩
  | 71 => ⟨S1024x512, .f32⟩
  | 72 => ⟨S_, .f32⟩
  | 73 => ⟨S1024x512, .f32⟩
  | 74 => ⟨S1024x512, .f32⟩
  | 75 => ⟨S1024x512, .f32⟩
  | 76 => ⟨S_, .f32⟩
  | 77 => ⟨S1024x512, .f32⟩
  | 78 => ⟨S1024x512, .f32⟩
  | 79 => ⟨S1024x512, .f32⟩
  | 80 => ⟨S_, .f32⟩
  | 81 => ⟨S1024x512, .f32⟩
  | 82 => ⟨S1024x512, .f32⟩
  | 83 => ⟨S_, .f32⟩
  | 84 => ⟨S1024x512, .f32⟩
  | 85 => ⟨S1024x512, .f32⟩
  | 86 => ⟨S1024x512, .f32⟩
  | 87 => ⟨S1x1024x512, .f32⟩
  | 88 => ⟨S_, .i32⟩
  | 89 => ⟨S1024, .i32⟩
  | 90 => ⟨S1024, .i1⟩
  | 91 => ⟨S_, .i32⟩
  | 92 => ⟨S1024, .i32⟩
  | 93 => ⟨S1024, .i32⟩
  | 94 => ⟨S1024, .i32⟩
  | 95 => ⟨S1024x1, .i32⟩
  | 96 => ⟨S1x1024x512, .f32⟩
  | 97 => ⟨S_, .i32⟩
  | 98 => ⟨S1024, .i32⟩
  | 99 => ⟨S1024, .i1⟩
  | 100 => ⟨S_, .i32⟩
  | 101 => ⟨S1024, .i32⟩
  | 102 => ⟨S1024, .i32⟩
  | 103 => ⟨S1024, .i32⟩
  | 104 => ⟨S1024x1, .i32⟩
  | 105 => ⟨S1x1024x2, .f32⟩
  | 106 => ⟨S_, .i32⟩
  | 107 => ⟨S1024, .i32⟩
  | 108 => ⟨S1024, .i1⟩
  | 109 => ⟨S_, .i32⟩
  | 110 => ⟨S1024, .i32⟩
  | 111 => ⟨S1024, .i32⟩
  | 112 => ⟨S1024, .i32⟩
  | 113 => ⟨S1024x1, .i32⟩
  | 114 => ⟨S1024, .i32⟩
  | 115 => ⟨S_, .f32⟩
  | 116 => ⟨S1024, .f32⟩
  | 117 => ⟨S_, .f32⟩
  | 118 => ⟨S128, .f32⟩
  | 119 => ⟨S1024x1, .i32⟩
  | 120 => ⟨S128, .f32⟩
  | 121 => ⟨S_, .f32⟩
  | 122 => ⟨S128, .f32⟩
  | 123 => ⟨S128, .f32⟩
  | 124 => ⟨S1024x512, .f32⟩
  | 125 => ⟨S_, .f32⟩
  | 126 => ⟨S128x512, .f32⟩
  | 127 => ⟨S1024x1, .i32⟩
  | _ => ⟨S1x4096x768, .f32⟩

abbrev hbmTy0_1 (i : Nat) : BufTy := match i % 128 with
  | 0 => ⟨S128x512, .f32⟩
  | 1 => ⟨S128x1, .f32⟩
  | 2 => ⟨S128x512, .f32⟩
  | 3 => ⟨S128x512, .f32⟩
  | 4 => ⟨S1x128x512, .f32⟩
  | 5 => ⟨S1024x2, .f32⟩
  | 6 => ⟨S_, .f32⟩
  | 7 => ⟨S128x2, .f32⟩
  | 8 => ⟨S1024x1, .i32⟩
  | 9 => ⟨S128x2, .f32⟩
  | 10 => ⟨S128x1, .f32⟩
  | 11 => ⟨S128x2, .f32⟩
  | 12 => ⟨S128x2, .f32⟩
  | 13 => ⟨S1x128x2, .f32⟩
  | 14 => ⟨S_, .f32⟩
  | 15 => ⟨S1x128, .f32⟩
  | 16 => ⟨S1x128x1, .f32⟩
  | 17 => ⟨S_, .f32⟩
  | 18 => ⟨S1x128x1, .f32⟩
  | 19 => ⟨S1x128x1, .f32⟩
  | 20 => ⟨S1x128x512, .f32⟩
  | 21 => ⟨S1x128x512, .f32⟩
  | 22 => ⟨S1x128x512, .f32⟩
  | 23 => ⟨S_, .f32⟩
  | 24 => ⟨S1x128, .f32⟩
  | 25 => ⟨S1x128x1, .f32⟩
  | 26 => ⟨S_, .f32⟩
  | 27 => ⟨S1x128x1, .f32⟩
  | 28 => ⟨S1x128x1, .f32⟩
  | 29 => ⟨S1x128x512, .f32⟩
  | 30 => ⟨S1x128x512, .f32⟩
  | 31 => ⟨S_, .f32⟩
  | 32 => ⟨S1x128x1, .f32⟩
  | 33 => ⟨S1x128x1, .f32⟩
  | 34 => ⟨S1x128x1, .f32⟩
  | 35 => ⟨S1x128x512, .f32⟩
  | 36 => ⟨S1x128x512, .f32⟩
  | 37 => ⟨S1x1x512, .f32⟩
  | 38 => ⟨S1x128x512, .f32⟩
  | 39 => ⟨S1x128x512, .f32⟩
  | 40 => ⟨S1x1x512, .f32⟩
  | 41 => ⟨S1x128x512, .f32⟩
  | 42 => ⟨S1x128x512, .f32⟩
  | 43 => ⟨S_, .f32⟩
  | 44 => ⟨S1x1024, .f32⟩
  | 45 => ⟨S1x1024x1, .f32⟩
  | 46 => ⟨S_, .f32⟩
  | 47 => ⟨S1x1024x1, .f32⟩
  | 48 => ⟨S1x1024x1, .f32⟩
  | 49 => ⟨S1x1024x512, .f32⟩
  | 50 => ⟨S1x1024x512, .f32⟩
  | 51 => ⟨S1x1024x512, .f32⟩
  | 52 => ⟨S_, .f32⟩
  | 53 => ⟨S1x1024, .f32⟩
  | 54 => ⟨S1x1024x1, .f32⟩
  | 55 => ⟨S_, .f32⟩
  | 56 => ⟨S1x1024x1, .f32⟩
  | 57 => ⟨S1x1024x1, .f32⟩
  | 58 => ⟨S1x1024x512, .f32⟩
  | 59 => ⟨S1x1024x512, .f32⟩
  | 60 => ⟨S_, .f32⟩
  | 61 => ⟨S1x1024x1, .f32⟩
  | 62 => ⟨S1x1024x1, .f32⟩
  | 63 => ⟨S1x1024x1, .f32⟩
  | 64 => ⟨S1x1024x512, .f32⟩
  | 65 => ⟨S1x1024x512, .f32⟩
  | 66 => ⟨S1x1x512, .f32⟩
  | 67 => ⟨S1x1024x512, .f32⟩
  | 68 => ⟨S1x1024x512, .f32⟩
  | 69 => ⟨S1x1x512, .f32⟩
  | 70 => ⟨S1x1024x512, .f32⟩
  | 71 => ⟨S1x1024x512, .f32⟩
  | 72 => ⟨S1x128x512, .f32⟩
  | 73 => ⟨S1x1x512, .f32⟩
  | 74 => ⟨S1x128x512, .f32⟩
  | 75 => ⟨S1x128x512, .f32⟩
  | 76 => ⟨S1x128x8x64, .f32⟩
  | 77 => ⟨S1x8x128x64, .f32⟩
  | 78 => ⟨S1x1024x512, .f32⟩
  | 79 => ⟨S1x1x512, .f32⟩
  | 80 => ⟨S1x1024x512, .f32⟩
  | 81 => ⟨S1x1024x512, .f32⟩
  | 82 => ⟨S1x1024x8x64, .f32⟩
  | 83 => ⟨S1x8x1024x64, .f32⟩
  | 84 => ⟨S1x1024x512, .f32⟩
  | 85 => ⟨S1x1x512, .f32⟩
  | 86 => ⟨S1x1024x512, .f32⟩
  | 87 => ⟨S1x1024x512, .f32⟩
  | 88 => ⟨S1x1024x8x64, .f32⟩
  | 89 => ⟨S1x8x1024x64, .f32⟩
  | 90 => ⟨S1x8x128x1024, .f32⟩
  | 91 => ⟨S_, .f32⟩
  | 92 => ⟨S_, .f32⟩
  | 93 => ⟨S_, .f32⟩
  | 94 => ⟨S1x8x128x1024, .f32⟩
  | 95 => ⟨S1x8x128x1024, .f32⟩
  | 96 => ⟨S1x1x128x1024, .i1⟩
  | 97 => ⟨S_, .f32⟩
  | 98 => ⟨S_, .f32⟩
  | 99 => ⟨S1x8x128x1024, .i1⟩
  | 100 => ⟨S1x8x128x1024, .f32⟩
  | 101 => ⟨S1x8x128x1024, .f32⟩
  | 102 => ⟨S_, .f32⟩
  | 103 => ⟨S1x8x128, .f32⟩
  | 104 => ⟨S_, .f32⟩
  | 105 => ⟨S1x8x128, .f32⟩
  | 106 => ⟨S1x8x128, .f32⟩
  | 107 => ⟨S1x8x128x1, .f32⟩
  | 108 => ⟨S1x8x128x1024, .f32⟩
  | 109 => ⟨S1x8x128x1024, .f32⟩
  | 110 => ⟨S1x8x128x1024, .f32⟩
  | 111 => ⟨S_, .f32⟩
  | 112 => ⟨S1x8x128, .f32⟩
  | 113 => ⟨S1x8x128x1, .f32⟩
  | 114 => ⟨S1x8x128x1024, .f32⟩
  | 115 => ⟨S1x8x128x1024, .f32⟩
  | 116 => ⟨S1x8x128x64, .f32⟩
  | 117 => ⟨S1x128x8x64, .f32⟩
  | 118 => ⟨S1x128x512, .f32⟩
  | 119 => ⟨S1x128x512, .f32⟩
  | 120 => ⟨S1x1x512, .f32⟩
  | 121 => ⟨S1x128x512, .f32⟩
  | 122 => ⟨S1x128x512, .f32⟩
  | 123 => ⟨S1x128x512, .f32⟩
  | 124 => ⟨S1x1152x512, .f32⟩
  | 125 => ⟨S1x512, .f32⟩
  | 126 => ⟨S512, .f32⟩
  | 127 => ⟨S1x512, .f32⟩
  | _ => ⟨S1x4096x768, .f32⟩

abbrev hbmTy0_2 (i : Nat) : BufTy := match i % 128 with
  | 0 => ⟨S512, .f32⟩
  | 1 => ⟨S_, .f32⟩
  | 2 => ⟨S1x1152, .f32⟩
  | 3 => ⟨S1x1152x1, .f32⟩
  | 4 => ⟨S_, .f32⟩
  | 5 => ⟨S1x1152x1, .f32⟩
  | 6 => ⟨S1x1152x1, .f32⟩
  | 7 => ⟨S1x1152x512, .f32⟩
  | 8 => ⟨S1x1152x512, .f32⟩
  | 9 => ⟨S1x1152x512, .f32⟩
  | 10 => ⟨S_, .f32⟩
  | 11 => ⟨S1x1152, .f32⟩
  | 12 => ⟨S1x1152x1, .f32⟩
  | 13 => ⟨S_, .f32⟩
  | 14 => ⟨S1x1152x1, .f32⟩
  | 15 => ⟨S1x1152x1, .f32⟩
  | 16 => ⟨S1x1152x512, .f32⟩
  | 17 => ⟨S1x1152x512, .f32⟩
  | 18 => ⟨S_, .f32⟩
  | 19 => ⟨S1x1152x1, .f32⟩
  | 20 => ⟨S1x1152x1, .f32⟩
  | 21 => ⟨S1x1152x1, .f32⟩
  | 22 => ⟨S1x1152x512, .f32⟩
  | 23 => ⟨S1x1152x512, .f32⟩
  | 24 => ⟨S1x1x512, .f32⟩
  | 25 => ⟨S1x1152x512, .f32⟩
  | 26 => ⟨S1x1152x512, .f32⟩
  | 27 => ⟨S1x1x512, .f32⟩
  | 28 => ⟨S1x1152x512, .f32⟩
  | 29 => ⟨S1x1152x512, .f32⟩
  | 30 => ⟨S1x512x512, .f32⟩
  | 31 => ⟨S512x512, .f32⟩
  | 32 => ⟨S1x512, .f32⟩
  | 33 => ⟨S512, .f32⟩
  | 34 => ⟨S1x512x512, .f32⟩
  | 35 => ⟨S512x512, .f32⟩
  | 36 => ⟨S1x512, .f32⟩
  | 37 => ⟨S512, .f32⟩
  | 38 => ⟨S1x512x512, .f32⟩
  | 39 => ⟨S512x512, .f32⟩
  | 40 => ⟨S1x512, .f32⟩
  | 41 => ⟨S512, .f32⟩
  | 42 => ⟨S1x512x512, .f32⟩
  | 43 => ⟨S512x512, .f32⟩
  | 44 => ⟨S1x512, .f32⟩
  | 45 => ⟨S512, .f32⟩
  | 46 => ⟨S1x1152x512, .f32⟩
  | 47 => ⟨S1x1x512, .f32⟩
  | 48 => ⟨S1x1152x512, .f32⟩
  | 49 => ⟨S1x1152x512, .f32⟩
  | 50 => ⟨S1x1152x8x64, .f32⟩
  | 51 => ⟨S1x8x1152x64, .f32⟩
  | 52 => ⟨S1x1152x512, .f32⟩
  | 53 => ⟨S1x1x512, .f32⟩
  | 54 => ⟨S1x1152x512, .f32⟩
  | 55 => ⟨S1x1152x512, .f32⟩
  | 56 => ⟨S1x1152x8x64, .f32⟩
  | 57 => ⟨S1x8x1152x64, .f32⟩
  | 58 => ⟨S1x1152x512, .f32⟩
  | 59 => ⟨S1x1x512, .f32⟩
  | 60 => ⟨S1x1152x512, .f32⟩
  | 61 => ⟨S1x1152x512, .f32⟩
  | 62 => ⟨S1x1152x8x64, .f32⟩
  | 63 => ⟨S1x8x1152x64, .f32⟩
  | 64 => ⟨S1x8x1152x1152, .f32⟩
  | 65 => ⟨S_, .f32⟩
  | 66 => ⟨S_, .f32⟩
  | 67 => ⟨S_, .f32⟩
  | 68 => ⟨S1x8x1152x1152, .f32⟩
  | 69 => ⟨S1x8x1152x1152, .f32⟩
  | 70 => ⟨S1x1x1152x1152, .i1⟩
  | 71 => ⟨S_, .f32⟩
  | 72 => ⟨S_, .f32⟩
  | 73 => ⟨S1x8x1152x1152, .i1⟩
  | 74 => ⟨S1x8x1152x1152, .f32⟩
  | 75 => ⟨S1x8x1152x1152, .f32⟩
  | 76 => ⟨S_, .f32⟩
  | 77 => ⟨S1x8x1152, .f32⟩
  | 78 => ⟨S_, .f32⟩
  | 79 => ⟨S1x8x1152, .f32⟩
  | 80 => ⟨S1x8x1152, .f32⟩
  | 81 => ⟨S1x8x1152x1, .f32⟩
  | 82 => ⟨S1x8x1152x1152, .f32⟩
  | 83 => ⟨S1x8x1152x1152, .f32⟩
  | 84 => ⟨S1x8x1152x1152, .f32⟩
  | 85 => ⟨S_, .f32⟩
  | 86 => ⟨S1x8x1152, .f32⟩
  | 87 => ⟨S1x8x1152x1, .f32⟩
  | 88 => ⟨S1x8x1152x1152, .f32⟩
  | 89 => ⟨S1x8x1152x1152, .f32⟩
  | 90 => ⟨S1x8x1152x64, .f32⟩
  | 91 => ⟨S1x1152x8x64, .f32⟩
  | 92 => ⟨S1x1152x512, .f32⟩
  | 93 => ⟨S1x1152x512, .f32⟩
  | 94 => ⟨S1x1x512, .f32⟩
  | 95 => ⟨S1x1152x512, .f32⟩
  | 96 => ⟨S1x1152x512, .f32⟩
  | 97 => ⟨S1x1152x512, .f32⟩
  | 98 => ⟨S1x512, .f32⟩
  | 99 => ⟨S512, .f32⟩
  | 100 => ⟨S1x512, .f32⟩
  | 101 => ⟨S512, .f32⟩
  | 102 => ⟨S_, .f32⟩
  | 103 => ⟨S1x1152, .f32⟩
  | 104 => ⟨S1x1152x1, .f32⟩
  | 105 => ⟨S_, .f32⟩
  | 106 => ⟨S1x1152x1, .f32⟩
  | 107 => ⟨S1x1152x1, .f32⟩
  | 108 => ⟨S1x1152x512, .f32⟩
  | 109 => ⟨S1x1152x512, .f32⟩
  | 110 => ⟨S1x1152x512, .f32⟩
  | 111 => ⟨S_, .f32⟩
  | 112 => ⟨S1x1152, .f32⟩
  | 113 => ⟨S1x1152x1, .f32⟩
  | 114 => ⟨S_, .f32⟩
  | 115 => ⟨S1x1152x1, .f32⟩
  | 116 => ⟨S1x1152x1, .f32⟩
  | 117 => ⟨S1x1152x512, .f32⟩
  | 118 => ⟨S1x1152x512, .f32⟩
  | 119 => ⟨S_, .f32⟩
  | 120 => ⟨S1x1152x1, .f32⟩
  | 121 => ⟨S1x1152x1, .f32⟩
  | 122 => ⟨S1x1152x1, .f32⟩
  | 123 => ⟨S1x1152x512, .f32⟩
  | 124 => ⟨S1x1152x512, .f32⟩
  | 125 => ⟨S1x1x512, .f32⟩
  | 126 => ⟨S1x1152x512, .f32⟩
  | 127 => ⟨S1x1152x512, .f32⟩
  | _ => ⟨S1x4096x768, .f32⟩

abbrev hbmTy0_3 (i : Nat) : BufTy := match i % 128 with
  | 0 => ⟨S1x1x512, .f32⟩
  | 1 => ⟨S1x1152x512, .f32⟩
  | 2 => ⟨S1x1152x512, .f32⟩
  | 3 => ⟨S1x512x2048, .f32⟩
  | 4 => ⟨S512x2048, .f32⟩
  | 5 => ⟨S1x1152x2048, .f32⟩
  | 6 => ⟨S1x2048, .f32⟩
  | 7 => ⟨S2048, .f32⟩
  | 8 => ⟨S1x1x2048, .f32⟩
  | 9 => ⟨S1x1152x2048, .f32⟩
  | 10 => ⟨S1x1152x2048, .f32⟩
  | 11 => ⟨S1x1152x2048, .f32⟩
  | 12 => ⟨S1x1152x2048, .f32⟩
  | 13 => ⟨S_, .f32⟩
  | 14 => ⟨S1x1152x2048, .f32⟩
  | 15 => ⟨S1x1152x2048, .f32⟩
  | 16 => ⟨S1x1152x2048, .f32⟩
  | 17 => ⟨S_, .f32⟩
  | 18 => ⟨S1x1152x2048, .f32⟩
  | 19 => ⟨S1x1152x2048, .f32⟩
  | 20 => ⟨S1x1152x2048, .f32⟩
  | 21 => ⟨S_, .f32⟩
  | 22 => ⟨S1x1152x2048, .f32⟩
  | 23 => ⟨S1x1152x2048, .f32⟩
  | 24 => ⟨S_, .f32⟩
  | 25 => ⟨S1x1152x2048, .f32⟩
  | 26 => ⟨S1x1152x2048, .f32⟩
  | 27 => ⟨S1x1152x2048, .f32⟩
  | 28 => ⟨S1x2048x512, .f32⟩
  | 29 => ⟨S2048x512, .f32⟩
  | 30 => ⟨S1x1152x512, .f32⟩
  | 31 => ⟨S1x1152x512, .f32⟩
  | 32 => ⟨S1x512, .f32⟩
  | 33 => ⟨S512, .f32⟩
  | 34 => ⟨S1x1x512, .f32⟩
  | 35 => ⟨S1x1152x512, .f32⟩
  | 36 => ⟨S1x1152x512, .f32⟩
  | 37 => ⟨S1x1024x512, .f32⟩
  | 38 => ⟨S1x128x512, .f32⟩
  | 39 => ⟨S1x1152x512, .f32⟩
  | 40 => ⟨S1x512, .f32⟩
  | 41 => ⟨S512, .f32⟩
  | 42 => ⟨S1x512, .f32⟩
  | 43 => ⟨S512, .f32⟩
  | 44 => ⟨S_, .f32⟩
  | 45 => ⟨S1x1152, .f32⟩
  | 46 => ⟨S1x1152x1, .f32⟩
  | 47 => ⟨S_, .f32⟩
  | 48 => ⟨S1x1152x1, .f32⟩
  | 49 => ⟨S1x1152x1, .f32⟩
  | 50 => ⟨S1x1152x512, .f32⟩
  | 51 => ⟨S1x1152x512, .f32⟩
  | 52 => ⟨S1x1152x512, .f32⟩
  | 53 => ⟨S_, .f32⟩
  | 54 => ⟨S1x1152, .f32⟩
  | 55 => ⟨S1x1152x1, .f32⟩
  | 56 => ⟨S_, .f32⟩
  | 57 => ⟨S1x1152x1, .f32⟩
  | 58 => ⟨S1x1152x1, .f32⟩
  | 59 => ⟨S1x1152x512, .f32⟩
  | 60 => ⟨S1x1152x512, .f32⟩
  | 61 => ⟨S_, .f32⟩
  | 62 => ⟨S1x1152x1, .f32⟩
  | 63 => ⟨S1x1152x1, .f32⟩
  | 64 => ⟨S1x1152x1, .f32⟩
  | 65 => ⟨S1x1152x512, .f32⟩
  | 66 => ⟨S1x1152x512, .f32⟩
  | 67 => ⟨S1x1x512, .f32⟩
  | 68 => ⟨S1x1152x512, .f32⟩
  | 69 => ⟨S1x1152x512, .f32⟩
  | 70 => ⟨S1x1x512, .f32⟩
  | 71 => ⟨S1x1152x512, .f32⟩
  | 72 => ⟨S1x1152x512, .f32⟩
  | 73 => ⟨S1x512x512, .f32⟩
  | 74 => ⟨S512x512, .f32⟩
  | 75 => ⟨S1x512, .f32⟩
  | 76 => ⟨S512, .f32⟩
  | 77 => ⟨S1x512x512, .f32⟩
  | 78 => ⟨S512x512, .f32⟩
  | 79 => ⟨S1x512, .f32⟩
  | 80 => ⟨S512, .f32⟩
  | 81 => ⟨S1x512x512, .f32⟩
  | 82 => ⟨S512x512, .f32⟩
  | 83 => ⟨S1x512, .f32⟩
  | 84 => ⟨S512, .f32⟩
  | 85 => ⟨S1x512x512, .f32⟩
  | 86 => ⟨S512x512, .f32⟩
  | 87 => ⟨S1x512, .f32⟩
  | 88 => ⟨S512, .f32⟩
  | 89 => ⟨S1x1152x512, .f32⟩
  | 90 => ⟨S1x1x512, .f32⟩
  | 91 => ⟨S1x1152x512, .f32⟩
  | 92 => ⟨S1x1152x512, .f32⟩
  | 93 => ⟨S1x1152x8x64, .f32⟩
  | 94 => ⟨S1x8x1152x64, .f32⟩
  | 95 => ⟨S1x1152x512, .f32⟩
  | 96 => ⟨S1x1x512, .f32⟩
  | 97 => ⟨S1x1152x512, .f32⟩
  | 98 => ⟨S1x1152x512, .f32⟩
  | 99 => ⟨S1x1152x8x64, .f32⟩
  | 100 => ⟨S1x8x1152x64, .f32⟩
  | 101 => ⟨S1x1152x512, .f32⟩
  | 102 => ⟨S1x1x512, .f32⟩
  | 103 => ⟨S1x1152x512, .f32⟩
  | 104 => ⟨S1x1152x512, .f32⟩
  | 105 => ⟨S1x1152x8x64, .f32⟩
  | 106 => ⟨S1x8x1152x64, .f32⟩
  | 107 => ⟨S1x8x1152x1152, .f32⟩
  | 108 => ⟨S_, .f32⟩
  | 109 => ⟨S_, .f32⟩
  | 110 => ⟨S_, .f32⟩
  | 111 => ⟨S1x8x1152x1152, .f32⟩
  | 112 => ⟨S1x8x1152x1152, .f32⟩
  | 113 => ⟨S1x1x1152x1152, .i1⟩
  | 114 => ⟨S_, .f32⟩
  | 115 => ⟨S_, .f32⟩
  | 116 => ⟨S1x8x1152x1152, .i1⟩
  | 117 => ⟨S1x8x1152x1152, .f32⟩
  | 118 => ⟨S1x8x1152x1152, .f32⟩
  | 119 => ⟨S_, .f32⟩
  | 120 => ⟨S1x8x1152, .f32⟩
  | 121 => ⟨S_, .f32⟩
  | 122 => ⟨S1x8x1152, .f32⟩
  | 123 => ⟨S1x8x1152, .f32⟩
  | 124 => ⟨S1x8x1152x1, .f32⟩
  | 125 => ⟨S1x8x1152x1152, .f32⟩
  | 126 => ⟨S1x8x1152x1152, .f32⟩
  | 127 => ⟨S1x8x1152x1152, .f32⟩
  | _ => ⟨S1x4096x768, .f32⟩

abbrev hbmTy0_4 (i : Nat) : BufTy := match i % 128 with
  | 0 => ⟨S_, .f32⟩
  | 1 => ⟨S1x8x1152, .f32⟩
  | 2 => ⟨S1x8x1152x1, .f32⟩
  | 3 => ⟨S1x8x1152x1152, .f32⟩
  | 4 => ⟨S1x8x1152x1152, .f32⟩
  | 5 => ⟨S1x8x1152x64, .f32⟩
  | 6 => ⟨S1x1152x8x64, .f32⟩
  | 7 => ⟨S1x1152x512, .f32⟩
  | 8 => ⟨S1x1152x512, .f32⟩
  | 9 => ⟨S1x1x512, .f32⟩
  | 10 => ⟨S1x1152x512, .f32⟩
  | 11 => ⟨S1x1152x512, .f32⟩
  | 12 => ⟨S1x1152x512, .f32⟩
  | 13 => ⟨S1x512, .f32⟩
  | 14 => ⟨S512, .f32⟩
  | 15 => ⟨S1x512, .f32⟩
  | 16 => ⟨S512, .f32⟩
  | 17 => ⟨S_, .f32⟩
  | 18 => ⟨S1x1152, .f32⟩
  | 19 => ⟨S1x1152x1, .f32⟩
  | 20 => ⟨S_, .f32⟩
  | 21 => ⟨S1x1152x1, .f32⟩
  | 22 => ⟨S1x1152x1, .f32⟩
  | 23 => ⟨S1x1152x512, .f32⟩
  | 24 => ⟨S1x1152x512, .f32⟩
  | 25 => ⟨S1x1152x512, .f32⟩
  | 26 => ⟨S_, .f32⟩
  | 27 => ⟨S1x1152, .f32⟩
  | 28 => ⟨S1x1152x1, .f32⟩
  | 29 => ⟨S_, .f32⟩
  | 30 => ⟨S1x1152x1, .f32⟩
  | 31 => ⟨S1x1152x1, .f32⟩
  | 32 => ⟨S1x1152x512, .f32⟩
  | 33 => ⟨S1x1152x512, .f32⟩
  | 34 => ⟨S_, .f32⟩
  | 35 => ⟨S1x1152x1, .f32⟩
  | 36 => ⟨S1x1152x1, .f32⟩
  | 37 => ⟨S1x1152x1, .f32⟩
  | 38 => ⟨S1x1152x512, .f32⟩
  | 39 => ⟨S1x1152x512, .f32⟩
  | 40 => ⟨S1x1x512, .f32⟩
  | 41 => ⟨S1x1152x512, .f32⟩
  | 42 => ⟨S1x1152x512, .f32⟩
  | 43 => ⟨S1x1x512, .f32⟩
  | 44 => ⟨S1x1152x512, .f32⟩
  | 45 => ⟨S1x1152x512, .f32⟩
  | 46 => ⟨S1x512x2048, .f32⟩
  | 47 => ⟨S512x2048, .f32⟩
  | 48 => ⟨S1x1152x2048, .f32⟩
  | 49 => ⟨S1x2048, .f32⟩
  | 50 => ⟨S2048, .f32⟩
  | 51 => ⟨S1x1x2048, .f32⟩
  | 52 => ⟨S1x1152x2048, .f32⟩
  | 53 => ⟨S1x1152x2048, .f32⟩
  | 54 => ⟨S1x1152x2048, .f32⟩
  | 55 => ⟨S1x1152x2048, .f32⟩
  | 56 => ⟨S_, .f32⟩
  | 57 => ⟨S1x1152x2048, .f32⟩
  | 58 => ⟨S1x1152x2048, .f32⟩
  | 59 => ⟨S1x1152x2048, .f32⟩
  | 60 => ⟨S_, .f32⟩
  | 61 => ⟨S1x1152x2048, .f32⟩
  | 62 => ⟨S1x1152x2048, .f32⟩
  | 63 => ⟨S1x1152x2048, .f32⟩
  | 64 => ⟨S_, .f32⟩
  | 65 => ⟨S1x1152x2048, .f32⟩
  | 66 => ⟨S1x1152x2048, .f32⟩
  | 67 => ⟨S_, .f32⟩
  | 68 => ⟨S1x1152x2048, .f32⟩
  | 69 => ⟨S1x1152x2048, .f32⟩
  | 70 => ⟨S1x1152x2048, .f32⟩
  | 71 => ⟨S1x2048x512, .f32⟩
  | 72 => ⟨S2048x512, .f32⟩
  | 73 => ⟨S1x1152x512, .f32⟩
  | 74 => ⟨S1x1152x512, .f32⟩
  | 75 => ⟨S1x512, .f32⟩
  | 76 => ⟨S512, .f32⟩
  | 77 => ⟨S1x1x512, .f32⟩
  | 78 => ⟨S1x1152x512, .f32⟩
  | 79 => ⟨S1x1152x512, .f32⟩
  | 80 => ⟨S1x1024x512, .f32⟩
  | 81 => ⟨S1x128x512, .f32⟩
  | 82 => ⟨S1x1152x512, .f32⟩
  | 83 => ⟨S1x512, .f32⟩
  | 84 => ⟨S512, .f32⟩
  | 85 => ⟨S1x512, .f32⟩
  | 86 => ⟨S512, .f32⟩
  | 87 => ⟨S_, .f32⟩
  | 88 => ⟨S1x1152, .f32⟩
  | 89 => ⟨S1x1152x1, .f32⟩
  | 90 => ⟨S_, .f32⟩
  | 91 => ⟨S1x1152x1, .f32⟩
  | 92 => ⟨S1x1152x1, .f32⟩
  | 93 => ⟨S1x1152x512, .f32⟩
  | 94 => ⟨S1x1152x512, .f32⟩
  | 95 => ⟨S1x1152x512, .f32⟩
  | 96 => ⟨S_, .f32⟩
  | 97 => ⟨S1x1152, .f32⟩
  | 98 => ⟨S1x1152x1, .f32⟩
  | 99 => ⟨S_, .f32⟩
  | 100 => ⟨S1x1152x1, .f32⟩
  | 101 => ⟨S1x1152x1, .f32⟩
  | 102 => ⟨S1x1152x512, .f32⟩
  | 103 => ⟨S1x1152x512, .f32⟩
  | 104 => ⟨S_, .f32⟩
  | 105 => ⟨S1x1152x1, .f32⟩
  | 106 => ⟨S1x1152x1, .f32⟩
  | 107 => ⟨S1x1152x1, .f32⟩
  | 108 => ⟨S1x1152x512, .f32⟩
  | 109 => ⟨S1x1152x512, .f32⟩
  | 110 => ⟨S1x1x512, .f32⟩
  | 111 => ⟨S1x1152x512, .f32⟩
  | 112 => ⟨S1x1152x512, .f32⟩
  | 113 => ⟨S1x1x512, .f32⟩
  | 114 => ⟨S1x1152x512, .f32⟩
  | 115 => ⟨S1x1152x512, .f32⟩
  | 116 => ⟨S1x512x512, .f32⟩
  | 117 => ⟨S512x512, .f32⟩
  | 118 => ⟨S1x512, .f32⟩
  | 119 => ⟨S512, .f32⟩
  | 120 => ⟨S1x512x512, .f32⟩
  | 121 => ⟨S512x512, .f32⟩
  | 122 => ⟨S1x512, .f32⟩
  | 123 => ⟨S512, .f32⟩
  | 124 => ⟨S1x512x512, .f32⟩
  | 125 => ⟨S512x512, .f32⟩
  | 126 => ⟨S1x512, .f32⟩
  | 127 => ⟨S512, .f32⟩
  | _ => ⟨S1x4096x768, .f32⟩

abbrev hbmTy0_5 (i : Nat) : BufTy := match i % 128 with
  | 0 => ⟨S1x512x512, .f32⟩
  | 1 => ⟨S512x512, .f32⟩
  | 2 => ⟨S1x512, .f32⟩
  | 3 => ⟨S512, .f32⟩
  | 4 => ⟨S1x1152x512, .f32⟩
  | 5 => ⟨S1x1x512, .f32⟩
  | 6 => ⟨S1x1152x512, .f32⟩
  | 7 => ⟨S1x1152x512, .f32⟩
  | 8 => ⟨S1x1152x8x64, .f32⟩
  | 9 => ⟨S1x8x1152x64, .f32⟩
  | 10 => ⟨S1x1152x512, .f32⟩
  | 11 => ⟨S1x1x512, .f32⟩
  | 12 => ⟨S1x1152x512, .f32⟩
  | 13 => ⟨S1x1152x512, .f32⟩
  | 14 => ⟨S1x1152x8x64, .f32⟩
  | 15 => ⟨S1x8x1152x64, .f32⟩
  | 16 => ⟨S1x1152x512, .f32⟩
  | 17 => ⟨S1x1x512, .f32⟩
  | 18 => ⟨S1x1152x512, .f32⟩
  | 19 => ⟨S1x1152x512, .f32⟩
  | 20 => ⟨S1x1152x8x64, .f32⟩
  | 21 => ⟨S1x8x1152x64, .f32⟩
  | 22 => ⟨S1x8x1152x1152, .f32⟩
  | 23 => ⟨S_, .f32⟩
  | 24 => ⟨S_, .f32⟩
  | 25 => ⟨S_, .f32⟩
  | 26 => ⟨S1x8x1152x1152, .f32⟩
  | 27 => ⟨S1x8x1152x1152, .f32⟩
  | 28 => ⟨S1x1x1152x1152, .i1⟩
  | 29 => ⟨S_, .f32⟩
  | 30 => ⟨S_, .f32⟩
  | 31 => ⟨S1x8x1152x1152, .i1⟩
  | 32 => ⟨S1x8x1152x1152, .f32⟩
  | 33 => ⟨S1x8x1152x1152, .f32⟩
  | 34 => ⟨S_, .f32⟩
  | 35 => ⟨S1x8x1152, .f32⟩
  | 36 => ⟨S_, .f32⟩
  | 37 => ⟨S1x8x1152, .f32⟩
  | 38 => ⟨S1x8x1152, .f32⟩
  | 39 => ⟨S1x8x1152x1, .f32⟩
  | 40 => ⟨S1x8x1152x1152, .f32⟩
  | 41 => ⟨S1x8x1152x1152, .f32⟩
  | 42 => ⟨S1x8x1152x1152, .f32⟩
  | 43 => ⟨S_, .f32⟩
  | 44 => ⟨S1x8x1152, .f32⟩
  | 45 => ⟨S1x8x1152x1, .f32⟩
  | 46 => ⟨S1x8x1152x1152, .f32⟩
  | 47 => ⟨S1x8x1152x1152, .f32⟩
  | 48 => ⟨S1x8x1152x64, .f32⟩
  | 49 => ⟨S1x1152x8x64, .f32⟩
  | 50 => ⟨S1x1152x512, .f32⟩
  | 51 => ⟨S1x1152x512, .f32⟩
  | 52 => ⟨S1x1x512, .f32⟩
  | 53 => ⟨S1x1152x512, .f32⟩
  | 54 => ⟨S1x1152x512, .f32⟩
  | 55 => ⟨S1x1152x512, .f32⟩
  | 56 => ⟨S1x512, .f32⟩
  | 57 => ⟨S512, .f32⟩
  | 58 => ⟨S1x512, .f32⟩
  | 59 => ⟨S512, .f32⟩
  | 60 => ⟨S_, .f32⟩
  | 61 => ⟨S1x1152, .f32⟩
  | 62 => ⟨S1x1152x1, .f32⟩
  | 63 => ⟨S_, .f32⟩
  | 64 => ⟨S1x1152x1, .f32⟩
  | 65 => ⟨S1x1152x1, .f32⟩
  | 66 => ⟨S1x1152x512, .f32⟩
  | 67 => ⟨S1x1152x512, .f32⟩
  | 68 => ⟨S1x1152x512, .f32⟩
  | 69 => ⟨S_, .f32⟩
  | 70 => ⟨S1x1152, .f32⟩
  | 71 => ⟨S1x1152x1, .f32⟩
  | 72 => ⟨S_, .f32⟩
  | 73 => ⟨S1x1152x1, .f32⟩
  | 74 => ⟨S1x1152x1, .f32⟩
  | 75 => ⟨S1x1152x512, .f32⟩
  | 76 => ⟨S1x1152x512, .f32⟩
  | 77 => ⟨S_, .f32⟩
  | 78 => ⟨S1x1152x1, .f32⟩
  | 79 => ⟨S1x1152x1, .f32⟩
  | 80 => ⟨S1x1152x1, .f32⟩
  | 81 => ⟨S1x1152x512, .f32⟩
  | 82 => ⟨S1x1152x512, .f32⟩
  | 83 => ⟨S1x1x512, .f32⟩
  | 84 => ⟨S1x1152x512, .f32⟩
  | 85 => ⟨S1x1152x512, .f32⟩
  | 86 => ⟨S1x1x512, .f32⟩
  | 87 => ⟨S1x1152x512, .f32⟩
  | 88 => ⟨S1x1152x512, .f32⟩
  | 89 => ⟨S1x512x2048, .f32⟩
  | 90 => ⟨S512x2048, .f32⟩
  | 91 => ⟨S1x1152x2048, .f32⟩
  | 92 => ⟨S1x2048, .f32⟩
  | 93 => ⟨S2048, .f32⟩
  | 94 => ⟨S1x1x2048, .f32⟩
  | 95 => ⟨S1x1152x2048, .f32⟩
  | 96 => ⟨S1x1152x2048, .f32⟩
  | 97 => ⟨S1x1152x2048, .f32⟩
  | 98 => ⟨S1x1152x2048, .f32⟩
  | 99 => ⟨S_, .f32⟩
  | 100 => ⟨S1x1152x2048, .f32⟩
  | 101 => ⟨S1x1152x2048, .f32⟩
  | 102 => ⟨S1x1152x2048, .f32⟩
  | 103 => ⟨S_, .f32⟩
  | 104 => ⟨S1x1152x2048, .f32⟩
  | 105 => ⟨S1x1152x2048, .f32⟩
  | 106 => ⟨S1x1152x2048, .f32⟩
  | 107 => ⟨S_, .f32⟩
  | 108 => ⟨S1x1152x2048, .f32⟩
  | 109 => ⟨S1x1152x2048, .f32⟩
  | 110 => ⟨S_, .f32⟩
  | 111 => ⟨S1x1152x2048, .f32⟩
  | 112 => ⟨S1x1152x2048, .f32⟩
  | 113 => ⟨S1x1152x2048, .f32⟩
  | 114 => ⟨S1x2048x512, .f32⟩
  | 115 => ⟨S2048x512, .f32⟩
  | 116 => ⟨S1x1152x512, .f32⟩
  | 117 => ⟨S1x1152x512, .f32⟩
  | 118 => ⟨S1x512, .f32⟩
  | 119 => ⟨S512, .f32⟩
  | 120 => ⟨S1x1x512, .f32⟩
  | 121 => ⟨S1x1152x512, .f32⟩
  | 122 => ⟨S1x1152x512, .f32⟩
  | 123 => ⟨S1x1024x512, .f32⟩
  | 124 => ⟨S1x128x512, .f32⟩
  | 125 => ⟨S1x1152x512, .f32⟩
  | 126 => ⟨S_, .f32⟩
  | 127 => ⟨S1x512, .f32⟩
  | _ => ⟨S1x4096x768, .f32⟩

abbrev hbmTy0_6 (i : Nat) : BufTy := match i % 128 with
  | 0 => ⟨S_, .f32⟩
  | 1 => ⟨S1x512, .f32⟩
  | 2 => ⟨S1x512, .f32⟩
  | 3 => ⟨S_, .f32⟩
  | 4 => ⟨S1, .f32⟩
  | 5 => ⟨S1x1, .f32⟩
  | 6 => ⟨S_, .f32⟩
  | 7 => ⟨S1x1, .f32⟩
  | 8 => ⟨S1x1, .f32⟩
  | 9 => ⟨S1x512, .f32⟩
  | 10 => ⟨S1x512, .f32⟩
  | 11 => ⟨S1x512, .f32⟩
  | 12 => ⟨S_, .f32⟩
  | 13 => ⟨S1, .f32⟩
  | 14 => ⟨S1x1, .f32⟩
  | 15 => ⟨S_, .f32⟩
  | 16 => ⟨S1x1, .f32⟩
  | 17 => ⟨S1x1, .f32⟩
  | 18 => ⟨S1x512, .f32⟩
  | 19 => ⟨S1x512, .f32⟩
  | 20 => ⟨S_, .f32⟩
  | 21 => ⟨S1x1, .f32⟩
  | 22 => ⟨S1x1, .f32⟩
  | 23 => ⟨S1x1, .f32⟩
  | 24 => ⟨S1x512, .f32⟩
  | 25 => ⟨S1x512, .f32⟩
  | 26 => ⟨S1x512, .f32⟩
  | 27 => ⟨S1x512, .f32⟩
  | 28 => ⟨S1x512, .f32⟩
  | 29 => ⟨S1x512, .f32⟩
  | 30 => ⟨S1x2, .f32⟩
  | 31 => ⟨S1x2, .f32⟩
  | 32 => ⟨S1x2, .f32⟩
  | 33 => ⟨S_, .f32⟩
  | 34 => ⟨S1, .f32⟩
  | 35 => ⟨S_, .f32⟩
  | 36 => ⟨S1, .f32⟩
  | 37 => ⟨S1, .f32⟩
  | 38 => ⟨S1x1, .f32⟩
  | 39 => ⟨S1x2, .f32⟩
  | 40 => ⟨S1x2, .f32⟩
  | 41 => ⟨S1x2, .f32⟩
  | 42 => ⟨S_, .f32⟩
  | 43 => ⟨S1, .f32⟩
  | 44 => ⟨S1x1, .f32⟩
  | 45 => ⟨S1x2, .f32⟩
  | 46 => ⟨S1x2, .f32⟩
  | 47 => ⟨S1x1, .f32⟩
  | 48 => ⟨S1x1, .i32⟩
  | _ => ⟨S1x4096x768, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S1x4096x768, .f32⟩

abbrev bufTy : (tb : Table) → Fin (tcTables nBuf tb) → BufTy
  | .hbm, ⟨i, _⟩ => hbmTy i
  | _, _ => ⟨S1x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_v0 : Ref sig .tc := ⟨.hbm, 40, rfl⟩
abbrev main_c : Ref sig .tc := ⟨.hbm, 41, rfl⟩
abbrev main_v1 : Ref sig .tc := ⟨.hbm, 42, rfl⟩
abbrev main_v2 : Ref sig .tc := ⟨.hbm, 43, rfl⟩
abbrev main_c_0 : Ref sig .tc := ⟨.hbm, 44, rfl⟩
abbrev main_v3 : Ref sig .tc := ⟨.hbm, 45, rfl⟩
abbrev main_v4 : Ref sig .tc := ⟨.hbm, 46, rfl⟩
abbrev main_v5 : Ref sig .tc := ⟨.hbm, 47, rfl⟩
abbrev main_v6 : Ref sig .tc := ⟨.hbm, 48, rfl⟩
abbrev main_v7 : Ref sig .tc := ⟨.hbm, 49, rfl⟩
abbrev main_cst : Ref sig .tc := ⟨.hbm, 50, rfl⟩
abbrev main_v8 : Ref sig .tc := ⟨.hbm, 51, rfl⟩
abbrev main_cst_1 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_cst_2 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_cst_3 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_cst_4 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_cst_5 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_cst_6 : Ref sig .tc := ⟨.hbm, 80, rfl⟩
abbrev main_v32 : Ref sig .tc := ⟨.hbm, 81, rfl⟩
abbrev main_v33 : Ref sig .tc := ⟨.hbm, 82, rfl⟩
abbrev main_cst_7 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_c_8 : Ref sig .tc := ⟨.hbm, 88, rfl⟩
abbrev main_v38 : Ref sig .tc := ⟨.hbm, 89, rfl⟩
abbrev main_v39 : Ref sig .tc := ⟨.hbm, 90, rfl⟩
abbrev main_c_9 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_c_10 : Ref sig .tc := ⟨.hbm, 97, rfl⟩
abbrev main_v45 : Ref sig .tc := ⟨.hbm, 98, rfl⟩
abbrev main_v46 : Ref sig .tc := ⟨.hbm, 99, rfl⟩
abbrev main_c_11 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_c_12 : Ref sig .tc := ⟨.hbm, 106, rfl⟩
abbrev main_v52 : Ref sig .tc := ⟨.hbm, 107, rfl⟩
abbrev main_v53 : Ref sig .tc := ⟨.hbm, 108, rfl⟩
abbrev main_c_13 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_cst_14 : Ref sig .tc := ⟨.hbm, 115, rfl⟩
abbrev main_v59 : Ref sig .tc := ⟨.hbm, 116, rfl⟩
abbrev main_cst_15 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_cst_16 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_cst_17 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_cst_18 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_cst_19 : Ref sig .tc := ⟨.hbm, 142, rfl⟩
abbrev main_v81 : Ref sig .tc := ⟨.hbm, 143, rfl⟩
abbrev main_v82 : Ref sig .tc := ⟨.hbm, 144, rfl⟩
abbrev main_cst_20 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_cst_21 : Ref sig .tc := ⟨.hbm, 151, rfl⟩
abbrev main_v88 : Ref sig .tc := ⟨.hbm, 152, rfl⟩
abbrev main_v89 : Ref sig .tc := ⟨.hbm, 153, rfl⟩
abbrev main_cst_22 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_cst_23 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_cst_24 : Ref sig .tc := ⟨.hbm, 171, rfl⟩
abbrev main_v105 : Ref sig .tc := ⟨.hbm, 172, rfl⟩
abbrev main_v106 : Ref sig .tc := ⟨.hbm, 173, rfl⟩
abbrev main_cst_25 : Ref sig .tc := ⟨.hbm, 174, rfl⟩
abbrev main_v107 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_cst_26 : Ref sig .tc := ⟨.hbm, 180, rfl⟩
abbrev main_v112 : Ref sig .tc := ⟨.hbm, 181, rfl⟩
abbrev main_v113 : Ref sig .tc := ⟨.hbm, 182, rfl⟩
abbrev main_cst_27 : Ref sig .tc := ⟨.hbm, 183, rfl⟩
abbrev main_v114 : Ref sig .tc := ⟨.hbm, 184, rfl⟩
abbrev main_v115 : Ref sig .tc := ⟨.hbm, 185, rfl⟩
abbrev main_v116 : Ref sig .tc := ⟨.hbm, 186, rfl⟩
abbrev main_v117 : Ref sig .tc := ⟨.hbm, 187, rfl⟩
abbrev main_cst_28 : Ref sig .tc := ⟨.hbm, 188, rfl⟩
abbrev main_v118 : Ref sig .tc := ⟨.hbm, 189, rfl⟩
abbrev main_v119 : Ref sig .tc := ⟨.hbm, 190, rfl⟩
abbrev main_v120 : Ref sig .tc := ⟨.hbm, 191, rfl⟩
abbrev main_v121 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_v125 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_v132 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_v139 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_v146 : Ref sig .tc := ⟨.hbm, 217, rfl⟩
abbrev main_v147 : Ref sig .tc := ⟨.hbm, 218, rfl⟩
abbrev main_cst_29 : Ref sig .tc := ⟨.hbm, 219, rfl⟩
abbrev main_v148 : Ref sig .tc := ⟨.hbm, 220, rfl⟩
abbrev main_v149 : Ref sig .tc := ⟨.hbm, 221, rfl⟩
abbrev main_v150 : Ref sig .tc := ⟨.hbm, 222, rfl⟩
abbrev main_v151 : Ref sig .tc := ⟨.hbm, 223, rfl⟩
abbrev main_v152 : Ref sig .tc := ⟨.hbm, 224, rfl⟩
abbrev main_cst_30 : Ref sig .tc := ⟨.hbm, 225, rfl⟩
abbrev main_call0_v0 : Ref sig .tc := ⟨.hbm, 226, rfl⟩
abbrev main_call0_v1 : Ref sig .tc := ⟨.hbm, 227, rfl⟩
abbrev main_call0_v2 : Ref sig .tc := ⟨.hbm, 228, rfl⟩
abbrev main_v153 : Ref sig .tc := ⟨.hbm, 229, rfl⟩
abbrev main_cst_31 : Ref sig .tc := ⟨.hbm, 230, rfl⟩
abbrev main_v154 : Ref sig .tc := ⟨.hbm, 231, rfl⟩
abbrev main_cst_32 : Ref sig .tc := ⟨.hbm, 232, rfl⟩
abbrev main_v155 : Ref sig .tc := ⟨.hbm, 233, rfl⟩
abbrev main_v156 : Ref sig .tc := ⟨.hbm, 234, rfl⟩
abbrev main_v157 : Ref sig .tc := ⟨.hbm, 235, rfl⟩
abbrev main_v158 : Ref sig .tc := ⟨.hbm, 236, rfl⟩
abbrev main_v159 : Ref sig .tc := ⟨.hbm, 237, rfl⟩
abbrev main_v160 : Ref sig .tc := ⟨.hbm, 238, rfl⟩
abbrev main_cst_33 : Ref sig .tc := ⟨.hbm, 239, rfl⟩
abbrev main_v161 : Ref sig .tc := ⟨.hbm, 240, rfl⟩
abbrev main_v162 : Ref sig .tc := ⟨.hbm, 241, rfl⟩
abbrev main_v163 : Ref sig .tc := ⟨.hbm, 242, rfl⟩
abbrev main_v164 : Ref sig .tc := ⟨.hbm, 243, rfl⟩
abbrev main_v165 : Ref sig .tc := ⟨.hbm, 244, rfl⟩
abbrev main_v166 : Ref sig .tc := ⟨.hbm, 245, rfl⟩
abbrev main_v167 : Ref sig .tc := ⟨.hbm, 246, rfl⟩
abbrev main_v168 : Ref sig .tc := ⟨.hbm, 247, rfl⟩
abbrev main_v169 : Ref sig .tc := ⟨.hbm, 248, rfl⟩
abbrev main_v170 : Ref sig .tc := ⟨.hbm, 249, rfl⟩
abbrev main_v171 : Ref sig .tc := ⟨.hbm, 250, rfl⟩
abbrev main_v172 : Ref sig .tc := ⟨.hbm, 251, rfl⟩
abbrev main_v173 : Ref sig .tc := ⟨.hbm, 252, rfl⟩
abbrev main_v174 : Ref sig .tc := ⟨.hbm, 253, rfl⟩
abbrev main_v175 : Ref sig .tc := ⟨.hbm, 254, rfl⟩
abbrev main_v176 : Ref sig .tc := ⟨.hbm, 255, rfl⟩
abbrev main_v177 : Ref sig .tc := ⟨.hbm, 256, rfl⟩
abbrev main_cst_34 : Ref sig .tc := ⟨.hbm, 257, rfl⟩
abbrev main_v178 : Ref sig .tc := ⟨.hbm, 258, rfl⟩
abbrev main_v179 : Ref sig .tc := ⟨.hbm, 259, rfl⟩
abbrev main_cst_35 : Ref sig .tc := ⟨.hbm, 260, rfl⟩
abbrev main_v180 : Ref sig .tc := ⟨.hbm, 261, rfl⟩
abbrev main_v181 : Ref sig .tc := ⟨.hbm, 262, rfl⟩
abbrev main_v182 : Ref sig .tc := ⟨.hbm, 263, rfl⟩
abbrev main_v183 : Ref sig .tc := ⟨.hbm, 264, rfl⟩
abbrev main_v184 : Ref sig .tc := ⟨.hbm, 265, rfl⟩
abbrev main_cst_36 : Ref sig .tc := ⟨.hbm, 266, rfl⟩
abbrev main_v185 : Ref sig .tc := ⟨.hbm, 267, rfl⟩
abbrev main_v186 : Ref sig .tc := ⟨.hbm, 268, rfl⟩
abbrev main_cst_37 : Ref sig .tc := ⟨.hbm, 269, rfl⟩
abbrev main_v187 : Ref sig .tc := ⟨.hbm, 270, rfl⟩
abbrev main_v188 : Ref sig .tc := ⟨.hbm, 271, rfl⟩
abbrev main_v189 : Ref sig .tc := ⟨.hbm, 272, rfl⟩
abbrev main_v190 : Ref sig .tc := ⟨.hbm, 273, rfl⟩
abbrev main_cst_38 : Ref sig .tc := ⟨.hbm, 274, rfl⟩
abbrev main_v191 : Ref sig .tc := ⟨.hbm, 275, rfl⟩
abbrev main_v192 : Ref sig .tc := ⟨.hbm, 276, rfl⟩
abbrev main_v193 : Ref sig .tc := ⟨.hbm, 277, rfl⟩
abbrev main_v194 : Ref sig .tc := ⟨.hbm, 278, rfl⟩
abbrev main_v195 : Ref sig .tc := ⟨.hbm, 279, rfl⟩
abbrev main_v196 : Ref sig .tc := ⟨.hbm, 280, rfl⟩
abbrev main_v197 : Ref sig .tc := ⟨.hbm, 281, rfl⟩
abbrev main_v198 : Ref sig .tc := ⟨.hbm, 282, rfl⟩
abbrev main_v199 : Ref sig .tc := ⟨.hbm, 283, rfl⟩
abbrev main_v200 : Ref sig .tc := ⟨.hbm, 284, rfl⟩
abbrev main_v201 : Ref sig .tc := ⟨.hbm, 285, rfl⟩
abbrev main_v202 : Ref sig .tc := ⟨.hbm, 286, rfl⟩
abbrev main_v203 : Ref sig .tc := ⟨.hbm, 287, rfl⟩
abbrev main_v204 : Ref sig .tc := ⟨.hbm, 288, rfl⟩
abbrev main_v205 : Ref sig .tc := ⟨.hbm, 289, rfl⟩
abbrev main_v206 : Ref sig .tc := ⟨.hbm, 290, rfl⟩
abbrev main_v207 : Ref sig .tc := ⟨.hbm, 291, rfl⟩
abbrev main_v208 : Ref sig .tc := ⟨.hbm, 292, rfl⟩
abbrev main_v209 : Ref sig .tc := ⟨.hbm, 293, rfl⟩
abbrev main_v210 : Ref sig .tc := ⟨.hbm, 294, rfl⟩
abbrev main_v211 : Ref sig .tc := ⟨.hbm, 295, rfl⟩
abbrev main_v212 : Ref sig .tc := ⟨.hbm, 296, rfl⟩
abbrev main_v213 : Ref sig .tc := ⟨.hbm, 297, rfl⟩
abbrev main_v214 : Ref sig .tc := ⟨.hbm, 298, rfl⟩
abbrev main_v215 : Ref sig .tc := ⟨.hbm, 299, rfl⟩
abbrev main_v216 : Ref sig .tc := ⟨.hbm, 300, rfl⟩
abbrev main_v217 : Ref sig .tc := ⟨.hbm, 301, rfl⟩
abbrev main_v218 : Ref sig .tc := ⟨.hbm, 302, rfl⟩
abbrev main_v219 : Ref sig .tc := ⟨.hbm, 303, rfl⟩
abbrev main_v220 : Ref sig .tc := ⟨.hbm, 304, rfl⟩
abbrev main_v221 : Ref sig .tc := ⟨.hbm, 305, rfl⟩
abbrev main_v222 : Ref sig .tc := ⟨.hbm, 306, rfl⟩
abbrev main_v223 : Ref sig .tc := ⟨.hbm, 307, rfl⟩
abbrev main_v224 : Ref sig .tc := ⟨.hbm, 308, rfl⟩
abbrev main_v225 : Ref sig .tc := ⟨.hbm, 309, rfl⟩
abbrev main_v226 : Ref sig .tc := ⟨.hbm, 310, rfl⟩
abbrev main_v227 : Ref sig .tc := ⟨.hbm, 311, rfl⟩
abbrev main_v228 : Ref sig .tc := ⟨.hbm, 312, rfl⟩
abbrev main_v229 : Ref sig .tc := ⟨.hbm, 313, rfl⟩
abbrev main_v230 : Ref sig .tc := ⟨.hbm, 314, rfl⟩
abbrev main_v231 : Ref sig .tc := ⟨.hbm, 315, rfl⟩
abbrev main_v232 : Ref sig .tc := ⟨.hbm, 316, rfl⟩
abbrev main_v233 : Ref sig .tc := ⟨.hbm, 317, rfl⟩
abbrev main_v234 : Ref sig .tc := ⟨.hbm, 318, rfl⟩
abbrev main_v235 : Ref sig .tc := ⟨.hbm, 319, rfl⟩
abbrev main_v236 : Ref sig .tc := ⟨.hbm, 320, rfl⟩
abbrev main_cst_39 : Ref sig .tc := ⟨.hbm, 321, rfl⟩
abbrev main_v237 : Ref sig .tc := ⟨.hbm, 322, rfl⟩
abbrev main_v238 : Ref sig .tc := ⟨.hbm, 323, rfl⟩
abbrev main_v239 : Ref sig .tc := ⟨.hbm, 324, rfl⟩
abbrev main_v240 : Ref sig .tc := ⟨.hbm, 325, rfl⟩
abbrev main_v241 : Ref sig .tc := ⟨.hbm, 326, rfl⟩
abbrev main_cst_40 : Ref sig .tc := ⟨.hbm, 327, rfl⟩
abbrev main_call1_v0 : Ref sig .tc := ⟨.hbm, 328, rfl⟩
abbrev main_call1_v1 : Ref sig .tc := ⟨.hbm, 329, rfl⟩
abbrev main_call1_v2 : Ref sig .tc := ⟨.hbm, 330, rfl⟩
abbrev main_v242 : Ref sig .tc := ⟨.hbm, 331, rfl⟩
abbrev main_cst_41 : Ref sig .tc := ⟨.hbm, 332, rfl⟩
abbrev main_v243 : Ref sig .tc := ⟨.hbm, 333, rfl⟩
abbrev main_cst_42 : Ref sig .tc := ⟨.hbm, 334, rfl⟩
abbrev main_v244 : Ref sig .tc := ⟨.hbm, 335, rfl⟩
abbrev main_v245 : Ref sig .tc := ⟨.hbm, 336, rfl⟩
abbrev main_v246 : Ref sig .tc := ⟨.hbm, 337, rfl⟩
abbrev main_v247 : Ref sig .tc := ⟨.hbm, 338, rfl⟩
abbrev main_v248 : Ref sig .tc := ⟨.hbm, 339, rfl⟩
abbrev main_v249 : Ref sig .tc := ⟨.hbm, 340, rfl⟩
abbrev main_cst_43 : Ref sig .tc := ⟨.hbm, 341, rfl⟩
abbrev main_v250 : Ref sig .tc := ⟨.hbm, 342, rfl⟩
abbrev main_v251 : Ref sig .tc := ⟨.hbm, 343, rfl⟩
abbrev main_v252 : Ref sig .tc := ⟨.hbm, 344, rfl⟩
abbrev main_v253 : Ref sig .tc := ⟨.hbm, 345, rfl⟩
abbrev main_v254 : Ref sig .tc := ⟨.hbm, 346, rfl⟩
abbrev main_v255 : Ref sig .tc := ⟨.hbm, 347, rfl⟩
abbrev main_v256 : Ref sig .tc := ⟨.hbm, 348, rfl⟩
abbrev main_v257 : Ref sig .tc := ⟨.hbm, 349, rfl⟩
abbrev main_v258 : Ref sig .tc := ⟨.hbm, 350, rfl⟩
abbrev main_v259 : Ref sig .tc := ⟨.hbm, 351, rfl⟩
abbrev main_v260 : Ref sig .tc := ⟨.hbm, 352, rfl⟩
abbrev main_v261 : Ref sig .tc := ⟨.hbm, 353, rfl⟩
abbrev main_v262 : Ref sig .tc := ⟨.hbm, 354, rfl⟩
abbrev main_v263 : Ref sig .tc := ⟨.hbm, 355, rfl⟩
abbrev main_v264 : Ref sig .tc := ⟨.hbm, 356, rfl⟩
abbrev main_v265 : Ref sig .tc := ⟨.hbm, 357, rfl⟩
abbrev main_cst_44 : Ref sig .tc := ⟨.hbm, 358, rfl⟩
abbrev main_v266 : Ref sig .tc := ⟨.hbm, 359, rfl⟩
abbrev main_v267 : Ref sig .tc := ⟨.hbm, 360, rfl⟩
abbrev main_cst_45 : Ref sig .tc := ⟨.hbm, 361, rfl⟩
abbrev main_v268 : Ref sig .tc := ⟨.hbm, 362, rfl⟩
abbrev main_v269 : Ref sig .tc := ⟨.hbm, 363, rfl⟩
abbrev main_v270 : Ref sig .tc := ⟨.hbm, 364, rfl⟩
abbrev main_v271 : Ref sig .tc := ⟨.hbm, 365, rfl⟩
abbrev main_v272 : Ref sig .tc := ⟨.hbm, 366, rfl⟩
abbrev main_cst_46 : Ref sig .tc := ⟨.hbm, 367, rfl⟩
abbrev main_v273 : Ref sig .tc := ⟨.hbm, 368, rfl⟩
abbrev main_v274 : Ref sig .tc := ⟨.hbm, 369, rfl⟩
abbrev main_cst_47 : Ref sig .tc := ⟨.hbm, 370, rfl⟩
abbrev main_v275 : Ref sig .tc := ⟨.hbm, 371, rfl⟩
abbrev main_v276 : Ref sig .tc := ⟨.hbm, 372, rfl⟩
abbrev main_v277 : Ref sig .tc := ⟨.hbm, 373, rfl⟩
abbrev main_v278 : Ref sig .tc := ⟨.hbm, 374, rfl⟩
abbrev main_cst_48 : Ref sig .tc := ⟨.hbm, 375, rfl⟩
abbrev main_v279 : Ref sig .tc := ⟨.hbm, 376, rfl⟩
abbrev main_v280 : Ref sig .tc := ⟨.hbm, 377, rfl⟩
abbrev main_v281 : Ref sig .tc := ⟨.hbm, 378, rfl⟩
abbrev main_v282 : Ref sig .tc := ⟨.hbm, 379, rfl⟩
abbrev main_v283 : Ref sig .tc := ⟨.hbm, 380, rfl⟩
abbrev main_v284 : Ref sig .tc := ⟨.hbm, 381, rfl⟩
abbrev main_v285 : Ref sig .tc := ⟨.hbm, 382, rfl⟩
abbrev main_v286 : Ref sig .tc := ⟨.hbm, 383, rfl⟩
abbrev main_v287 : Ref sig .tc := ⟨.hbm, 384, rfl⟩
abbrev main_v288 : Ref sig .tc := ⟨.hbm, 385, rfl⟩
abbrev main_v289 : Ref sig .tc := ⟨.hbm, 386, rfl⟩
abbrev main_v290 : Ref sig .tc := ⟨.hbm, 387, rfl⟩
abbrev main_v291 : Ref sig .tc := ⟨.hbm, 388, rfl⟩
abbrev main_v292 : Ref sig .tc := ⟨.hbm, 389, rfl⟩
abbrev main_v293 : Ref sig .tc := ⟨.hbm, 390, rfl⟩
abbrev main_v294 : Ref sig .tc := ⟨.hbm, 391, rfl⟩
abbrev main_v295 : Ref sig .tc := ⟨.hbm, 392, rfl⟩
abbrev main_v296 : Ref sig .tc := ⟨.hbm, 393, rfl⟩
abbrev main_v297 : Ref sig .tc := ⟨.hbm, 394, rfl⟩
abbrev main_v298 : Ref sig .tc := ⟨.hbm, 395, rfl⟩
abbrev main_v299 : Ref sig .tc := ⟨.hbm, 396, rfl⟩
abbrev main_cst_49 : Ref sig .tc := ⟨.hbm, 397, rfl⟩
abbrev main_v300 : Ref sig .tc := ⟨.hbm, 398, rfl⟩
abbrev main_v301 : Ref sig .tc := ⟨.hbm, 399, rfl⟩
abbrev main_v302 : Ref sig .tc := ⟨.hbm, 400, rfl⟩
abbrev main_cst_50 : Ref sig .tc := ⟨.hbm, 401, rfl⟩
abbrev main_v303 : Ref sig .tc := ⟨.hbm, 402, rfl⟩
abbrev main_v304 : Ref sig .tc := ⟨.hbm, 403, rfl⟩
abbrev main_v305 : Ref sig .tc := ⟨.hbm, 404, rfl⟩
abbrev main_cst_51 : Ref sig .tc := ⟨.hbm, 405, rfl⟩
abbrev main_v306 : Ref sig .tc := ⟨.hbm, 406, rfl⟩
abbrev main_v307 : Ref sig .tc := ⟨.hbm, 407, rfl⟩
abbrev main_cst_52 : Ref sig .tc := ⟨.hbm, 408, rfl⟩
abbrev main_v308 : Ref sig .tc := ⟨.hbm, 409, rfl⟩
abbrev main_v309 : Ref sig .tc := ⟨.hbm, 410, rfl⟩
abbrev main_v310 : Ref sig .tc := ⟨.hbm, 411, rfl⟩
abbrev main_v311 : Ref sig .tc := ⟨.hbm, 412, rfl⟩
abbrev main_v312 : Ref sig .tc := ⟨.hbm, 413, rfl⟩
abbrev main_v313 : Ref sig .tc := ⟨.hbm, 414, rfl⟩
abbrev main_v314 : Ref sig .tc := ⟨.hbm, 415, rfl⟩
abbrev main_v315 : Ref sig .tc := ⟨.hbm, 416, rfl⟩
abbrev main_v316 : Ref sig .tc := ⟨.hbm, 417, rfl⟩
abbrev main_v317 : Ref sig .tc := ⟨.hbm, 418, rfl⟩
abbrev main_v318 : Ref sig .tc := ⟨.hbm, 419, rfl⟩
abbrev main_v319 : Ref sig .tc := ⟨.hbm, 420, rfl⟩
abbrev main_v320 : Ref sig .tc := ⟨.hbm, 421, rfl⟩
abbrev main_v321 : Ref sig .tc := ⟨.hbm, 422, rfl⟩
abbrev main_v322 : Ref sig .tc := ⟨.hbm, 423, rfl⟩
abbrev main_v323 : Ref sig .tc := ⟨.hbm, 424, rfl⟩
abbrev main_v324 : Ref sig .tc := ⟨.hbm, 425, rfl⟩
abbrev main_v325 : Ref sig .tc := ⟨.hbm, 426, rfl⟩
abbrev main_v326 : Ref sig .tc := ⟨.hbm, 427, rfl⟩
abbrev main_cst_53 : Ref sig .tc := ⟨.hbm, 428, rfl⟩
abbrev main_v327 : Ref sig .tc := ⟨.hbm, 429, rfl⟩
abbrev main_v328 : Ref sig .tc := ⟨.hbm, 430, rfl⟩
abbrev main_cst_54 : Ref sig .tc := ⟨.hbm, 431, rfl⟩
abbrev main_v329 : Ref sig .tc := ⟨.hbm, 432, rfl⟩
abbrev main_v330 : Ref sig .tc := ⟨.hbm, 433, rfl⟩
abbrev main_v331 : Ref sig .tc := ⟨.hbm, 434, rfl⟩
abbrev main_v332 : Ref sig .tc := ⟨.hbm, 435, rfl⟩
abbrev main_v333 : Ref sig .tc := ⟨.hbm, 436, rfl⟩
abbrev main_cst_55 : Ref sig .tc := ⟨.hbm, 437, rfl⟩
abbrev main_v334 : Ref sig .tc := ⟨.hbm, 438, rfl⟩
abbrev main_v335 : Ref sig .tc := ⟨.hbm, 439, rfl⟩
abbrev main_cst_56 : Ref sig .tc := ⟨.hbm, 440, rfl⟩
abbrev main_v336 : Ref sig .tc := ⟨.hbm, 441, rfl⟩
abbrev main_v337 : Ref sig .tc := ⟨.hbm, 442, rfl⟩
abbrev main_v338 : Ref sig .tc := ⟨.hbm, 443, rfl⟩
abbrev main_v339 : Ref sig .tc := ⟨.hbm, 444, rfl⟩
abbrev main_cst_57 : Ref sig .tc := ⟨.hbm, 445, rfl⟩
abbrev main_v340 : Ref sig .tc := ⟨.hbm, 446, rfl⟩
abbrev main_v341 : Ref sig .tc := ⟨.hbm, 447, rfl⟩
abbrev main_v342 : Ref sig .tc := ⟨.hbm, 448, rfl⟩
abbrev main_v343 : Ref sig .tc := ⟨.hbm, 449, rfl⟩
abbrev main_v344 : Ref sig .tc := ⟨.hbm, 450, rfl⟩
abbrev main_v345 : Ref sig .tc := ⟨.hbm, 451, rfl⟩
abbrev main_v346 : Ref sig .tc := ⟨.hbm, 452, rfl⟩
abbrev main_v347 : Ref sig .tc := ⟨.hbm, 453, rfl⟩
abbrev main_v348 : Ref sig .tc := ⟨.hbm, 454, rfl⟩
abbrev main_v349 : Ref sig .tc := ⟨.hbm, 455, rfl⟩
abbrev main_v350 : Ref sig .tc := ⟨.hbm, 456, rfl⟩
abbrev main_v351 : Ref sig .tc := ⟨.hbm, 457, rfl⟩
abbrev main_v352 : Ref sig .tc := ⟨.hbm, 458, rfl⟩
abbrev main_v353 : Ref sig .tc := ⟨.hbm, 459, rfl⟩
abbrev main_v354 : Ref sig .tc := ⟨.hbm, 460, rfl⟩
abbrev main_v355 : Ref sig .tc := ⟨.hbm, 461, rfl⟩
abbrev main_v356 : Ref sig .tc := ⟨.hbm, 462, rfl⟩
abbrev main_v357 : Ref sig .tc := ⟨.hbm, 463, rfl⟩
abbrev main_v358 : Ref sig .tc := ⟨.hbm, 464, rfl⟩
abbrev main_v359 : Ref sig .tc := ⟨.hbm, 465, rfl⟩
abbrev main_v360 : Ref sig .tc := ⟨.hbm, 466, rfl⟩
abbrev main_v361 : Ref sig .tc := ⟨.hbm, 467, rfl⟩
abbrev main_v362 : Ref sig .tc := ⟨.hbm, 468, rfl⟩
abbrev main_v363 : Ref sig .tc := ⟨.hbm, 469, rfl⟩
abbrev main_v364 : Ref sig .tc := ⟨.hbm, 470, rfl⟩
abbrev main_v365 : Ref sig .tc := ⟨.hbm, 471, rfl⟩
abbrev main_v366 : Ref sig .tc := ⟨.hbm, 472, rfl⟩
abbrev main_v367 : Ref sig .tc := ⟨.hbm, 473, rfl⟩
abbrev main_v368 : Ref sig .tc := ⟨.hbm, 474, rfl⟩
abbrev main_v369 : Ref sig .tc := ⟨.hbm, 475, rfl⟩
abbrev main_v370 : Ref sig .tc := ⟨.hbm, 476, rfl⟩
abbrev main_v371 : Ref sig .tc := ⟨.hbm, 477, rfl⟩
abbrev main_v372 : Ref sig .tc := ⟨.hbm, 478, rfl⟩
abbrev main_v373 : Ref sig .tc := ⟨.hbm, 479, rfl⟩
abbrev main_v374 : Ref sig .tc := ⟨.hbm, 480, rfl⟩
abbrev main_v375 : Ref sig .tc := ⟨.hbm, 481, rfl⟩
abbrev main_v376 : Ref sig .tc := ⟨.hbm, 482, rfl⟩
abbrev main_v377 : Ref sig .tc := ⟨.hbm, 483, rfl⟩
abbrev main_v378 : Ref sig .tc := ⟨.hbm, 484, rfl⟩
abbrev main_v379 : Ref sig .tc := ⟨.hbm, 485, rfl⟩
abbrev main_v380 : Ref sig .tc := ⟨.hbm, 486, rfl⟩
abbrev main_v381 : Ref sig .tc := ⟨.hbm, 487, rfl⟩
abbrev main_v382 : Ref sig .tc := ⟨.hbm, 488, rfl⟩
abbrev main_v383 : Ref sig .tc := ⟨.hbm, 489, rfl⟩
abbrev main_v384 : Ref sig .tc := ⟨.hbm, 490, rfl⟩
abbrev main_v385 : Ref sig .tc := ⟨.hbm, 491, rfl⟩
abbrev main_cst_58 : Ref sig .tc := ⟨.hbm, 492, rfl⟩
abbrev main_v386 : Ref sig .tc := ⟨.hbm, 493, rfl⟩
abbrev main_v387 : Ref sig .tc := ⟨.hbm, 494, rfl⟩
abbrev main_v388 : Ref sig .tc := ⟨.hbm, 495, rfl⟩
abbrev main_v389 : Ref sig .tc := ⟨.hbm, 496, rfl⟩
abbrev main_v390 : Ref sig .tc := ⟨.hbm, 497, rfl⟩
abbrev main_cst_59 : Ref sig .tc := ⟨.hbm, 498, rfl⟩
abbrev main_call2_v0 : Ref sig .tc := ⟨.hbm, 499, rfl⟩
abbrev main_call2_v1 : Ref sig .tc := ⟨.hbm, 500, rfl⟩
abbrev main_call2_v2 : Ref sig .tc := ⟨.hbm, 501, rfl⟩
abbrev main_v391 : Ref sig .tc := ⟨.hbm, 502, rfl⟩
abbrev main_cst_60 : Ref sig .tc := ⟨.hbm, 503, rfl⟩
abbrev main_v392 : Ref sig .tc := ⟨.hbm, 504, rfl⟩
abbrev main_cst_61 : Ref sig .tc := ⟨.hbm, 505, rfl⟩
abbrev main_v393 : Ref sig .tc := ⟨.hbm, 506, rfl⟩
abbrev main_v394 : Ref sig .tc := ⟨.hbm, 507, rfl⟩
abbrev main_v395 : Ref sig .tc := ⟨.hbm, 508, rfl⟩
abbrev main_v396 : Ref sig .tc := ⟨.hbm, 509, rfl⟩
abbrev main_v397 : Ref sig .tc := ⟨.hbm, 510, rfl⟩
abbrev main_v398 : Ref sig .tc := ⟨.hbm, 511, rfl⟩
abbrev main_cst_62 : Ref sig .tc := ⟨.hbm, 512, rfl⟩
abbrev main_v399 : Ref sig .tc := ⟨.hbm, 513, rfl⟩
abbrev main_v400 : Ref sig .tc := ⟨.hbm, 514, rfl⟩
abbrev main_v401 : Ref sig .tc := ⟨.hbm, 515, rfl⟩
abbrev main_v402 : Ref sig .tc := ⟨.hbm, 516, rfl⟩
abbrev main_v403 : Ref sig .tc := ⟨.hbm, 517, rfl⟩
abbrev main_v404 : Ref sig .tc := ⟨.hbm, 518, rfl⟩
abbrev main_v405 : Ref sig .tc := ⟨.hbm, 519, rfl⟩
abbrev main_v406 : Ref sig .tc := ⟨.hbm, 520, rfl⟩
abbrev main_v407 : Ref sig .tc := ⟨.hbm, 521, rfl⟩
abbrev main_v408 : Ref sig .tc := ⟨.hbm, 522, rfl⟩
abbrev main_v409 : Ref sig .tc := ⟨.hbm, 523, rfl⟩
abbrev main_v410 : Ref sig .tc := ⟨.hbm, 524, rfl⟩
abbrev main_v411 : Ref sig .tc := ⟨.hbm, 525, rfl⟩
abbrev main_v412 : Ref sig .tc := ⟨.hbm, 526, rfl⟩
abbrev main_v413 : Ref sig .tc := ⟨.hbm, 527, rfl⟩
abbrev main_v414 : Ref sig .tc := ⟨.hbm, 528, rfl⟩
abbrev main_cst_63 : Ref sig .tc := ⟨.hbm, 529, rfl⟩
abbrev main_v415 : Ref sig .tc := ⟨.hbm, 530, rfl⟩
abbrev main_v416 : Ref sig .tc := ⟨.hbm, 531, rfl⟩
abbrev main_cst_64 : Ref sig .tc := ⟨.hbm, 532, rfl⟩
abbrev main_v417 : Ref sig .tc := ⟨.hbm, 533, rfl⟩
abbrev main_v418 : Ref sig .tc := ⟨.hbm, 534, rfl⟩
abbrev main_v419 : Ref sig .tc := ⟨.hbm, 535, rfl⟩
abbrev main_v420 : Ref sig .tc := ⟨.hbm, 536, rfl⟩
abbrev main_v421 : Ref sig .tc := ⟨.hbm, 537, rfl⟩
abbrev main_cst_65 : Ref sig .tc := ⟨.hbm, 538, rfl⟩
abbrev main_v422 : Ref sig .tc := ⟨.hbm, 539, rfl⟩
abbrev main_v423 : Ref sig .tc := ⟨.hbm, 540, rfl⟩
abbrev main_cst_66 : Ref sig .tc := ⟨.hbm, 541, rfl⟩
abbrev main_v424 : Ref sig .tc := ⟨.hbm, 542, rfl⟩
abbrev main_v425 : Ref sig .tc := ⟨.hbm, 543, rfl⟩
abbrev main_v426 : Ref sig .tc := ⟨.hbm, 544, rfl⟩
abbrev main_v427 : Ref sig .tc := ⟨.hbm, 545, rfl⟩
abbrev main_cst_67 : Ref sig .tc := ⟨.hbm, 546, rfl⟩
abbrev main_v428 : Ref sig .tc := ⟨.hbm, 547, rfl⟩
abbrev main_v429 : Ref sig .tc := ⟨.hbm, 548, rfl⟩
abbrev main_v430 : Ref sig .tc := ⟨.hbm, 549, rfl⟩
abbrev main_v431 : Ref sig .tc := ⟨.hbm, 550, rfl⟩
abbrev main_v432 : Ref sig .tc := ⟨.hbm, 551, rfl⟩
abbrev main_v433 : Ref sig .tc := ⟨.hbm, 552, rfl⟩
abbrev main_v434 : Ref sig .tc := ⟨.hbm, 553, rfl⟩
abbrev main_v435 : Ref sig .tc := ⟨.hbm, 554, rfl⟩
abbrev main_v436 : Ref sig .tc := ⟨.hbm, 555, rfl⟩
abbrev main_v437 : Ref sig .tc := ⟨.hbm, 556, rfl⟩
abbrev main_v438 : Ref sig .tc := ⟨.hbm, 557, rfl⟩
abbrev main_v439 : Ref sig .tc := ⟨.hbm, 558, rfl⟩
abbrev main_v440 : Ref sig .tc := ⟨.hbm, 559, rfl⟩
abbrev main_v441 : Ref sig .tc := ⟨.hbm, 560, rfl⟩
abbrev main_v442 : Ref sig .tc := ⟨.hbm, 561, rfl⟩
abbrev main_v443 : Ref sig .tc := ⟨.hbm, 562, rfl⟩
abbrev main_v444 : Ref sig .tc := ⟨.hbm, 563, rfl⟩
abbrev main_v445 : Ref sig .tc := ⟨.hbm, 564, rfl⟩
abbrev main_v446 : Ref sig .tc := ⟨.hbm, 565, rfl⟩
abbrev main_v447 : Ref sig .tc := ⟨.hbm, 566, rfl⟩
abbrev main_v448 : Ref sig .tc := ⟨.hbm, 567, rfl⟩
abbrev main_cst_68 : Ref sig .tc := ⟨.hbm, 568, rfl⟩
abbrev main_v449 : Ref sig .tc := ⟨.hbm, 569, rfl⟩
abbrev main_v450 : Ref sig .tc := ⟨.hbm, 570, rfl⟩
abbrev main_v451 : Ref sig .tc := ⟨.hbm, 571, rfl⟩
abbrev main_cst_69 : Ref sig .tc := ⟨.hbm, 572, rfl⟩
abbrev main_v452 : Ref sig .tc := ⟨.hbm, 573, rfl⟩
abbrev main_v453 : Ref sig .tc := ⟨.hbm, 574, rfl⟩
abbrev main_v454 : Ref sig .tc := ⟨.hbm, 575, rfl⟩
abbrev main_cst_70 : Ref sig .tc := ⟨.hbm, 576, rfl⟩
abbrev main_v455 : Ref sig .tc := ⟨.hbm, 577, rfl⟩
abbrev main_v456 : Ref sig .tc := ⟨.hbm, 578, rfl⟩
abbrev main_cst_71 : Ref sig .tc := ⟨.hbm, 579, rfl⟩
abbrev main_v457 : Ref sig .tc := ⟨.hbm, 580, rfl⟩
abbrev main_v458 : Ref sig .tc := ⟨.hbm, 581, rfl⟩
abbrev main_v459 : Ref sig .tc := ⟨.hbm, 582, rfl⟩
abbrev main_v460 : Ref sig .tc := ⟨.hbm, 583, rfl⟩
abbrev main_v461 : Ref sig .tc := ⟨.hbm, 584, rfl⟩
abbrev main_v462 : Ref sig .tc := ⟨.hbm, 585, rfl⟩
abbrev main_v463 : Ref sig .tc := ⟨.hbm, 586, rfl⟩
abbrev main_v464 : Ref sig .tc := ⟨.hbm, 587, rfl⟩
abbrev main_v465 : Ref sig .tc := ⟨.hbm, 588, rfl⟩
abbrev main_v466 : Ref sig .tc := ⟨.hbm, 589, rfl⟩
abbrev main_v467 : Ref sig .tc := ⟨.hbm, 590, rfl⟩
abbrev main_v468 : Ref sig .tc := ⟨.hbm, 591, rfl⟩
abbrev main_v469 : Ref sig .tc := ⟨.hbm, 592, rfl⟩
abbrev main_v470 : Ref sig .tc := ⟨.hbm, 593, rfl⟩
abbrev main_v471 : Ref sig .tc := ⟨.hbm, 594, rfl⟩
abbrev main_v472 : Ref sig .tc := ⟨.hbm, 595, rfl⟩
abbrev main_v473 : Ref sig .tc := ⟨.hbm, 596, rfl⟩
abbrev main_v474 : Ref sig .tc := ⟨.hbm, 597, rfl⟩
abbrev main_v475 : Ref sig .tc := ⟨.hbm, 598, rfl⟩
abbrev main_cst_72 : Ref sig .tc := ⟨.hbm, 599, rfl⟩
abbrev main_v476 : Ref sig .tc := ⟨.hbm, 600, rfl⟩
abbrev main_v477 : Ref sig .tc := ⟨.hbm, 601, rfl⟩
abbrev main_cst_73 : Ref sig .tc := ⟨.hbm, 602, rfl⟩
abbrev main_v478 : Ref sig .tc := ⟨.hbm, 603, rfl⟩
abbrev main_v479 : Ref sig .tc := ⟨.hbm, 604, rfl⟩
abbrev main_v480 : Ref sig .tc := ⟨.hbm, 605, rfl⟩
abbrev main_v481 : Ref sig .tc := ⟨.hbm, 606, rfl⟩
abbrev main_v482 : Ref sig .tc := ⟨.hbm, 607, rfl⟩
abbrev main_cst_74 : Ref sig .tc := ⟨.hbm, 608, rfl⟩
abbrev main_v483 : Ref sig .tc := ⟨.hbm, 609, rfl⟩
abbrev main_v484 : Ref sig .tc := ⟨.hbm, 610, rfl⟩
abbrev main_cst_75 : Ref sig .tc := ⟨.hbm, 611, rfl⟩
abbrev main_v485 : Ref sig .tc := ⟨.hbm, 612, rfl⟩
abbrev main_v486 : Ref sig .tc := ⟨.hbm, 613, rfl⟩
abbrev main_v487 : Ref sig .tc := ⟨.hbm, 614, rfl⟩
abbrev main_v488 : Ref sig .tc := ⟨.hbm, 615, rfl⟩
abbrev main_cst_76 : Ref sig .tc := ⟨.hbm, 616, rfl⟩
abbrev main_v489 : Ref sig .tc := ⟨.hbm, 617, rfl⟩
abbrev main_v490 : Ref sig .tc := ⟨.hbm, 618, rfl⟩
abbrev main_v491 : Ref sig .tc := ⟨.hbm, 619, rfl⟩
abbrev main_v492 : Ref sig .tc := ⟨.hbm, 620, rfl⟩
abbrev main_v493 : Ref sig .tc := ⟨.hbm, 621, rfl⟩
abbrev main_v494 : Ref sig .tc := ⟨.hbm, 622, rfl⟩
abbrev main_v495 : Ref sig .tc := ⟨.hbm, 623, rfl⟩
abbrev main_v496 : Ref sig .tc := ⟨.hbm, 624, rfl⟩
abbrev main_v497 : Ref sig .tc := ⟨.hbm, 625, rfl⟩
abbrev main_v498 : Ref sig .tc := ⟨.hbm, 626, rfl⟩
abbrev main_v499 : Ref sig .tc := ⟨.hbm, 627, rfl⟩
abbrev main_v500 : Ref sig .tc := ⟨.hbm, 628, rfl⟩
abbrev main_v501 : Ref sig .tc := ⟨.hbm, 629, rfl⟩
abbrev main_v502 : Ref sig .tc := ⟨.hbm, 630, rfl⟩
abbrev main_v503 : Ref sig .tc := ⟨.hbm, 631, rfl⟩
abbrev main_v504 : Ref sig .tc := ⟨.hbm, 632, rfl⟩
abbrev main_v505 : Ref sig .tc := ⟨.hbm, 633, rfl⟩
abbrev main_v506 : Ref sig .tc := ⟨.hbm, 634, rfl⟩
abbrev main_v507 : Ref sig .tc := ⟨.hbm, 635, rfl⟩
abbrev main_v508 : Ref sig .tc := ⟨.hbm, 636, rfl⟩
abbrev main_v509 : Ref sig .tc := ⟨.hbm, 637, rfl⟩
abbrev main_v510 : Ref sig .tc := ⟨.hbm, 638, rfl⟩
abbrev main_v511 : Ref sig .tc := ⟨.hbm, 639, rfl⟩
abbrev main_v512 : Ref sig .tc := ⟨.hbm, 640, rfl⟩
abbrev main_v513 : Ref sig .tc := ⟨.hbm, 641, rfl⟩
abbrev main_v514 : Ref sig .tc := ⟨.hbm, 642, rfl⟩
abbrev main_v515 : Ref sig .tc := ⟨.hbm, 643, rfl⟩
abbrev main_v516 : Ref sig .tc := ⟨.hbm, 644, rfl⟩
abbrev main_v517 : Ref sig .tc := ⟨.hbm, 645, rfl⟩
abbrev main_v518 : Ref sig .tc := ⟨.hbm, 646, rfl⟩
abbrev main_v519 : Ref sig .tc := ⟨.hbm, 647, rfl⟩
abbrev main_v520 : Ref sig .tc := ⟨.hbm, 648, rfl⟩
abbrev main_v521 : Ref sig .tc := ⟨.hbm, 649, rfl⟩
abbrev main_v522 : Ref sig .tc := ⟨.hbm, 650, rfl⟩
abbrev main_v523 : Ref sig .tc := ⟨.hbm, 651, rfl⟩
abbrev main_v524 : Ref sig .tc := ⟨.hbm, 652, rfl⟩
abbrev main_v525 : Ref sig .tc := ⟨.hbm, 653, rfl⟩
abbrev main_v526 : Ref sig .tc := ⟨.hbm, 654, rfl⟩
abbrev main_v527 : Ref sig .tc := ⟨.hbm, 655, rfl⟩
abbrev main_v528 : Ref sig .tc := ⟨.hbm, 656, rfl⟩
abbrev main_v529 : Ref sig .tc := ⟨.hbm, 657, rfl⟩
abbrev main_v530 : Ref sig .tc := ⟨.hbm, 658, rfl⟩
abbrev main_v531 : Ref sig .tc := ⟨.hbm, 659, rfl⟩
abbrev main_v532 : Ref sig .tc := ⟨.hbm, 660, rfl⟩
abbrev main_v533 : Ref sig .tc := ⟨.hbm, 661, rfl⟩
abbrev main_v534 : Ref sig .tc := ⟨.hbm, 662, rfl⟩
abbrev main_cst_77 : Ref sig .tc := ⟨.hbm, 663, rfl⟩
abbrev main_v535 : Ref sig .tc := ⟨.hbm, 664, rfl⟩
abbrev main_v536 : Ref sig .tc := ⟨.hbm, 665, rfl⟩
abbrev main_v537 : Ref sig .tc := ⟨.hbm, 666, rfl⟩
abbrev main_v538 : Ref sig .tc := ⟨.hbm, 667, rfl⟩
abbrev main_v539 : Ref sig .tc := ⟨.hbm, 668, rfl⟩
abbrev main_cst_78 : Ref sig .tc := ⟨.hbm, 669, rfl⟩
abbrev main_call3_v0 : Ref sig .tc := ⟨.hbm, 670, rfl⟩
abbrev main_call3_v1 : Ref sig .tc := ⟨.hbm, 671, rfl⟩
abbrev main_call3_v2 : Ref sig .tc := ⟨.hbm, 672, rfl⟩
abbrev main_v540 : Ref sig .tc := ⟨.hbm, 673, rfl⟩
abbrev main_cst_79 : Ref sig .tc := ⟨.hbm, 674, rfl⟩
abbrev main_v541 : Ref sig .tc := ⟨.hbm, 675, rfl⟩
abbrev main_cst_80 : Ref sig .tc := ⟨.hbm, 676, rfl⟩
abbrev main_v542 : Ref sig .tc := ⟨.hbm, 677, rfl⟩
abbrev main_v543 : Ref sig .tc := ⟨.hbm, 678, rfl⟩
abbrev main_v544 : Ref sig .tc := ⟨.hbm, 679, rfl⟩
abbrev main_v545 : Ref sig .tc := ⟨.hbm, 680, rfl⟩
abbrev main_v546 : Ref sig .tc := ⟨.hbm, 681, rfl⟩
abbrev main_v547 : Ref sig .tc := ⟨.hbm, 682, rfl⟩
abbrev main_cst_81 : Ref sig .tc := ⟨.hbm, 683, rfl⟩
abbrev main_v548 : Ref sig .tc := ⟨.hbm, 684, rfl⟩
abbrev main_v549 : Ref sig .tc := ⟨.hbm, 685, rfl⟩
abbrev main_v550 : Ref sig .tc := ⟨.hbm, 686, rfl⟩
abbrev main_v551 : Ref sig .tc := ⟨.hbm, 687, rfl⟩
abbrev main_v552 : Ref sig .tc := ⟨.hbm, 688, rfl⟩
abbrev main_v553 : Ref sig .tc := ⟨.hbm, 689, rfl⟩
abbrev main_v554 : Ref sig .tc := ⟨.hbm, 690, rfl⟩
abbrev main_v555 : Ref sig .tc := ⟨.hbm, 691, rfl⟩
abbrev main_v556 : Ref sig .tc := ⟨.hbm, 692, rfl⟩
abbrev main_v557 : Ref sig .tc := ⟨.hbm, 693, rfl⟩
abbrev main_v558 : Ref sig .tc := ⟨.hbm, 694, rfl⟩
abbrev main_v559 : Ref sig .tc := ⟨.hbm, 695, rfl⟩
abbrev main_v560 : Ref sig .tc := ⟨.hbm, 696, rfl⟩
abbrev main_v561 : Ref sig .tc := ⟨.hbm, 697, rfl⟩
abbrev main_v562 : Ref sig .tc := ⟨.hbm, 698, rfl⟩
abbrev main_v563 : Ref sig .tc := ⟨.hbm, 699, rfl⟩
abbrev main_cst_82 : Ref sig .tc := ⟨.hbm, 700, rfl⟩
abbrev main_v564 : Ref sig .tc := ⟨.hbm, 701, rfl⟩
abbrev main_v565 : Ref sig .tc := ⟨.hbm, 702, rfl⟩
abbrev main_cst_83 : Ref sig .tc := ⟨.hbm, 703, rfl⟩
abbrev main_v566 : Ref sig .tc := ⟨.hbm, 704, rfl⟩
abbrev main_v567 : Ref sig .tc := ⟨.hbm, 705, rfl⟩
abbrev main_v568 : Ref sig .tc := ⟨.hbm, 706, rfl⟩
abbrev main_v569 : Ref sig .tc := ⟨.hbm, 707, rfl⟩
abbrev main_v570 : Ref sig .tc := ⟨.hbm, 708, rfl⟩
abbrev main_cst_84 : Ref sig .tc := ⟨.hbm, 709, rfl⟩
abbrev main_v571 : Ref sig .tc := ⟨.hbm, 710, rfl⟩
abbrev main_v572 : Ref sig .tc := ⟨.hbm, 711, rfl⟩
abbrev main_cst_85 : Ref sig .tc := ⟨.hbm, 712, rfl⟩
abbrev main_v573 : Ref sig .tc := ⟨.hbm, 713, rfl⟩
abbrev main_v574 : Ref sig .tc := ⟨.hbm, 714, rfl⟩
abbrev main_v575 : Ref sig .tc := ⟨.hbm, 715, rfl⟩
abbrev main_v576 : Ref sig .tc := ⟨.hbm, 716, rfl⟩
abbrev main_cst_86 : Ref sig .tc := ⟨.hbm, 717, rfl⟩
abbrev main_v577 : Ref sig .tc := ⟨.hbm, 718, rfl⟩
abbrev main_v578 : Ref sig .tc := ⟨.hbm, 719, rfl⟩
abbrev main_v579 : Ref sig .tc := ⟨.hbm, 720, rfl⟩
abbrev main_v580 : Ref sig .tc := ⟨.hbm, 721, rfl⟩
abbrev main_v581 : Ref sig .tc := ⟨.hbm, 722, rfl⟩
abbrev main_v582 : Ref sig .tc := ⟨.hbm, 723, rfl⟩
abbrev main_v583 : Ref sig .tc := ⟨.hbm, 724, rfl⟩
abbrev main_v584 : Ref sig .tc := ⟨.hbm, 725, rfl⟩
abbrev main_v585 : Ref sig .tc := ⟨.hbm, 726, rfl⟩
abbrev main_v586 : Ref sig .tc := ⟨.hbm, 727, rfl⟩
abbrev main_v587 : Ref sig .tc := ⟨.hbm, 728, rfl⟩
abbrev main_v588 : Ref sig .tc := ⟨.hbm, 729, rfl⟩
abbrev main_v589 : Ref sig .tc := ⟨.hbm, 730, rfl⟩
abbrev main_v590 : Ref sig .tc := ⟨.hbm, 731, rfl⟩
abbrev main_v591 : Ref sig .tc := ⟨.hbm, 732, rfl⟩
abbrev main_v592 : Ref sig .tc := ⟨.hbm, 733, rfl⟩
abbrev main_v593 : Ref sig .tc := ⟨.hbm, 734, rfl⟩
abbrev main_v594 : Ref sig .tc := ⟨.hbm, 735, rfl⟩
abbrev main_v595 : Ref sig .tc := ⟨.hbm, 736, rfl⟩
abbrev main_v596 : Ref sig .tc := ⟨.hbm, 737, rfl⟩
abbrev main_v597 : Ref sig .tc := ⟨.hbm, 738, rfl⟩
abbrev main_cst_87 : Ref sig .tc := ⟨.hbm, 739, rfl⟩
abbrev main_v598 : Ref sig .tc := ⟨.hbm, 740, rfl⟩
abbrev main_v599 : Ref sig .tc := ⟨.hbm, 741, rfl⟩
abbrev main_v600 : Ref sig .tc := ⟨.hbm, 742, rfl⟩
abbrev main_cst_88 : Ref sig .tc := ⟨.hbm, 743, rfl⟩
abbrev main_v601 : Ref sig .tc := ⟨.hbm, 744, rfl⟩
abbrev main_v602 : Ref sig .tc := ⟨.hbm, 745, rfl⟩
abbrev main_v603 : Ref sig .tc := ⟨.hbm, 746, rfl⟩
abbrev main_cst_89 : Ref sig .tc := ⟨.hbm, 747, rfl⟩
abbrev main_v604 : Ref sig .tc := ⟨.hbm, 748, rfl⟩
abbrev main_v605 : Ref sig .tc := ⟨.hbm, 749, rfl⟩
abbrev main_cst_90 : Ref sig .tc := ⟨.hbm, 750, rfl⟩
abbrev main_v606 : Ref sig .tc := ⟨.hbm, 751, rfl⟩
abbrev main_v607 : Ref sig .tc := ⟨.hbm, 752, rfl⟩
abbrev main_v608 : Ref sig .tc := ⟨.hbm, 753, rfl⟩
abbrev main_v609 : Ref sig .tc := ⟨.hbm, 754, rfl⟩
abbrev main_v610 : Ref sig .tc := ⟨.hbm, 755, rfl⟩
abbrev main_v611 : Ref sig .tc := ⟨.hbm, 756, rfl⟩
abbrev main_v612 : Ref sig .tc := ⟨.hbm, 757, rfl⟩
abbrev main_v613 : Ref sig .tc := ⟨.hbm, 758, rfl⟩
abbrev main_v614 : Ref sig .tc := ⟨.hbm, 759, rfl⟩
abbrev main_v615 : Ref sig .tc := ⟨.hbm, 760, rfl⟩
abbrev main_v616 : Ref sig .tc := ⟨.hbm, 761, rfl⟩
abbrev main_v617 : Ref sig .tc := ⟨.hbm, 762, rfl⟩
abbrev main_v618 : Ref sig .tc := ⟨.hbm, 763, rfl⟩
abbrev main_v619 : Ref sig .tc := ⟨.hbm, 764, rfl⟩
abbrev main_v620 : Ref sig .tc := ⟨.hbm, 765, rfl⟩
abbrev main_cst_91 : Ref sig .tc := ⟨.hbm, 766, rfl⟩
abbrev main_v621 : Ref sig .tc := ⟨.hbm, 767, rfl⟩
abbrev main_cst_92 : Ref sig .tc := ⟨.hbm, 768, rfl⟩
abbrev main_v622 : Ref sig .tc := ⟨.hbm, 769, rfl⟩
abbrev main_v623 : Ref sig .tc := ⟨.hbm, 770, rfl⟩
abbrev main_cst_93 : Ref sig .tc := ⟨.hbm, 771, rfl⟩
abbrev main_v624 : Ref sig .tc := ⟨.hbm, 772, rfl⟩
abbrev main_v625 : Ref sig .tc := ⟨.hbm, 773, rfl⟩
abbrev main_cst_94 : Ref sig .tc := ⟨.hbm, 774, rfl⟩
abbrev main_v626 : Ref sig .tc := ⟨.hbm, 775, rfl⟩
abbrev main_v627 : Ref sig .tc := ⟨.hbm, 776, rfl⟩
abbrev main_v628 : Ref sig .tc := ⟨.hbm, 777, rfl⟩
abbrev main_v629 : Ref sig .tc := ⟨.hbm, 778, rfl⟩
abbrev main_v630 : Ref sig .tc := ⟨.hbm, 779, rfl⟩
abbrev main_cst_95 : Ref sig .tc := ⟨.hbm, 780, rfl⟩
abbrev main_v631 : Ref sig .tc := ⟨.hbm, 781, rfl⟩
abbrev main_v632 : Ref sig .tc := ⟨.hbm, 782, rfl⟩
abbrev main_cst_96 : Ref sig .tc := ⟨.hbm, 783, rfl⟩
abbrev main_v633 : Ref sig .tc := ⟨.hbm, 784, rfl⟩
abbrev main_v634 : Ref sig .tc := ⟨.hbm, 785, rfl⟩
abbrev main_v635 : Ref sig .tc := ⟨.hbm, 786, rfl⟩
abbrev main_v636 : Ref sig .tc := ⟨.hbm, 787, rfl⟩
abbrev main_cst_97 : Ref sig .tc := ⟨.hbm, 788, rfl⟩
abbrev main_v637 : Ref sig .tc := ⟨.hbm, 789, rfl⟩
abbrev main_v638 : Ref sig .tc := ⟨.hbm, 790, rfl⟩
abbrev main_v639 : Ref sig .tc := ⟨.hbm, 791, rfl⟩
abbrev main_v640 : Ref sig .tc := ⟨.hbm, 792, rfl⟩
abbrev main_v641 : Ref sig .tc := ⟨.hbm, 793, rfl⟩
abbrev main_v642 : Ref sig .tc := ⟨.hbm, 794, rfl⟩
abbrev main_v643 : Ref sig .tc := ⟨.hbm, 795, rfl⟩
abbrev main_v644 : Ref sig .tc := ⟨.hbm, 796, rfl⟩
abbrev main_v645 : Ref sig .tc := ⟨.hbm, 797, rfl⟩
abbrev main_v646 : Ref sig .tc := ⟨.hbm, 798, rfl⟩
abbrev main_v647 : Ref sig .tc := ⟨.hbm, 799, rfl⟩
abbrev main_v648 : Ref sig .tc := ⟨.hbm, 800, rfl⟩
abbrev main_cst_98 : Ref sig .tc := ⟨.hbm, 801, rfl⟩
abbrev main_v649 : Ref sig .tc := ⟨.hbm, 802, rfl⟩
abbrev main_cst_99 : Ref sig .tc := ⟨.hbm, 803, rfl⟩
abbrev main_v650 : Ref sig .tc := ⟨.hbm, 804, rfl⟩
abbrev main_v651 : Ref sig .tc := ⟨.hbm, 805, rfl⟩
abbrev main_v652 : Ref sig .tc := ⟨.hbm, 806, rfl⟩
abbrev main_v653 : Ref sig .tc := ⟨.hbm, 807, rfl⟩
abbrev main_v654 : Ref sig .tc := ⟨.hbm, 808, rfl⟩
abbrev main_v655 : Ref sig .tc := ⟨.hbm, 809, rfl⟩
abbrev main_cst_100 : Ref sig .tc := ⟨.hbm, 810, rfl⟩
abbrev main_v656 : Ref sig .tc := ⟨.hbm, 811, rfl⟩
abbrev main_v657 : Ref sig .tc := ⟨.hbm, 812, rfl⟩
abbrev main_v658 : Ref sig .tc := ⟨.hbm, 813, rfl⟩
abbrev main_v659 : Ref sig .tc := ⟨.hbm, 814, rfl⟩
abbrev main_values : Ref sig .tc := ⟨.hbm, 815, rfl⟩
abbrev main_indices : Ref sig .tc := ⟨.hbm, 816, rfl⟩

abbrev nD : Nat := 1
abbrev τ : Topo := Topo.v7x

variable {F : FTy → Type} [FloatOps F]
-- ==== Proof.Reads.lean ====
/- Host and kernel array operations read at coordinates: broadcasts, casts, transposes, sums along an axis and products,
   for the shapes a transformer block uses, at every extent. -/
module

public import Idealize.ShloMosaic.Lib.ValueIdx
public import Idealize.ShloMosaic.Lib.ValueLayout
public import Idealize.ShloMosaic.Lib.ValueLayoutCasts
public import Idealize.ShloMosaic.Lib.IdealHost
public import Idealize.ShloMosaic.Lib.MatmulPlain
public import Idealize.ShloMosaic.Lib.Pipeline.Value
public import Idealize.ShloMosaic.Lib.Pointwise.SelectCore
public import Idealize.ShloMosaic.PureOps.Ideal.Laws

@[expose] public section

noncomputable section

open scoped BigOperators

namespace Blocks

open Idealize.ShloMosaic hiding ix0 ix1 ix2 ix3 ix4 ix5
open Idealize.ShloMosaic.ValueIdx

variable {α : Type} {a b c d m n : Nat}

/-! ## Host broadcasts -/

/-- A matrix as the one slice of a rank-3 array. -/
theorem bid_matrix_slice (h : (⟨2, ![a, b]⟩ : Shape).BroadcastsInDim ⟨3, ![1, a, b]⟩ ![1, 2]) (x : (⟨2, ![a, b]⟩ : Shape).Idx → α)
    (i : Fin 1) (j : Fin a) (k : Fin b) : broadcastInDim ⟨3, ![1, a, b]⟩ ![1, 2] h x (ix3 i j k) = x (ix2 j k) :=
  broadcastInDim_apply _ _ _ _ _ (fun e => by
    match e with
    | ⟨0, _⟩ => show j.val = if a = 1 then 0 else j.val; split <;> omega
    | ⟨1, _⟩ => show k.val = if b = 1 then 0 else k.val; split <;> omega)

/-- Row statistics of a rank-3 array, kept with a unit last axis. -/
theorem bid_keep3 (h : (⟨2, ![a, b]⟩ : Shape).BroadcastsInDim ⟨3, ![a, b, 1]⟩ ![0, 1]) (x : (⟨2, ![a, b]⟩ : Shape).Idx → α)
    (i : Fin a) (j : Fin b) (k : Fin 1) : broadcastInDim ⟨3, ![a, b, 1]⟩ ![0, 1] h x (ix3 i j k) = x (ix2 i j) :=
  broadcastInDim_apply _ _ _ _ _ (fun e => by
    match e with
    | ⟨0, _⟩ => show i.val = if a = 1 then 0 else i.val; split <;> omega
    | ⟨1, _⟩ => show j.val = if b = 1 then 0 else j.val; split <;> omega)

/-- Row statistics with a unit last axis, repeated along that axis. -/
theorem bid_row3 (h : (⟨3, ![a, b, 1]⟩ : Shape).BroadcastsInDim ⟨3, ![a, b, c]⟩ ![0, 1, 2]) (x : (⟨3, ![a, b, 1]⟩ : Shape).Idx → α)
    (i : Fin a) (j : Fin b) (k : Fin c) : broadcastInDim ⟨3, ![a, b, c]⟩ ![0, 1, 2] h x (ix3 i j k) = x (ix3 i j 0) :=
  broadcastInDim_apply _ _ _ _ _ (fun e => by
    match e with
    | ⟨0, _⟩ => show i.val = if a = 1 then 0 else i.val; split <;> omega
    | ⟨1, _⟩ => show j.val = if b = 1 then 0 else j.val; split <;> omega
    | ⟨2, _⟩ => show 0 = if 1 = 1 then 0 else k.val; simp)

/-- A vector as the one row of a rank-3 array. -/
theorem bid_vec3 (h : (⟨1, ![c]⟩ : Shape).BroadcastsInDim ⟨3, ![1, 1, c]⟩ ![2]) (x : (⟨1, ![c]⟩ : Shape).Idx → α)
    (i j : Fin 1) (k : Fin c) : broadcastInDim ⟨3, ![1, 1, c]⟩ ![2] h x (ix3 i j k) = x (ix1 k) :=
  broadcastInDim_apply _ _ _ _ _ (fun e => by
    match e with
    | ⟨0, _⟩ => show k.val = if c = 1 then 0 else k.val; split <;> omega)

/-- One row repeated down a rank-3 array. -/
theorem bid_rows3 (h : (⟨3, ![1, 1, c]⟩ : Shape).BroadcastsInDim ⟨3, ![a, b, c]⟩ ![0, 1, 2]) (x : (⟨3, ![1, 1, c]⟩ : Shape).Idx → α)
    (i : Fin a) (j : Fin b) (k : Fin c) : broadcastInDim ⟨3, ![a, b, c]⟩ ![0, 1, 2] h x (ix3 i j k) = x (ix3 0 0 k) :=
  broadcastInDim_apply _ _ _ _ _ (fun e => by
    match e with
    | ⟨0, _⟩ => show 0 = if 1 = 1 then 0 else i.val; simp
    | ⟨1, _⟩ => show 0 = if 1 = 1 then 0 else j.val; simp
    | ⟨2, _⟩ => show k.val = if c = 1 then 0 else k.val; split <;> omega)

/-- Row statistics of a rank-4 array, kept with a unit last axis. -/
theorem bid_keep4 (h : (⟨3, ![a, b, c]⟩ : Shape).BroadcastsInDim ⟨4, ![a, b, c, 1]⟩ ![0, 1, 2]) (x : (⟨3, ![a, b, c]⟩ : Shape).Idx → α)
    (i : Fin a) (j : Fin b) (k : Fin c) (l : Fin 1) :
    broadcastInDim ⟨4, ![a, b, c, 1]⟩ ![0, 1, 2] h x (ix4 i j k l) = x (ix3 i j k) :=
  broadcastInDim_apply _ _ _ _ _ (fun e => by
    match e with
    | ⟨0, _⟩ => show i.val = if a = 1 then 0 else i.val; split <;> omega
    | ⟨1, _⟩ => show j.val = if b = 1 then 0 else j.val; split <;> omega
    | ⟨2, _⟩ => show k.val = if c = 1 then 0 else k.val; split <;> omega)

/-- Row statistics of a rank-4 array, repeated along the last axis. -/
theorem bid_row4 (h : (⟨4, ![a, b, c, 1]⟩ : Shape).BroadcastsInDim ⟨4, ![a, b, c, d]⟩ ![0, 1, 2, 3])
    (x : (⟨4, ![a, b, c, 1]⟩ : Shape).Idx → α) (i : Fin a) (j : Fin b) (k : Fin c) (l : Fin d) :
    broadcastInDim ⟨4, ![a, b, c, d]⟩ ![0, 1, 2, 3] h x (ix4 i j k l) = x (ix4 i j k 0) :=
  broadcastInDim_apply _ _ _ _ _ (fun e => by
    match e with
    | ⟨0, _⟩ => show i.val = if a = 1 then 0 else i.val; split <;> omega
    | ⟨1, _⟩ => show j.val = if b = 1 then 0 else j.val; split <;> omega
    | ⟨2, _⟩ => show k.val = if c = 1 then 0 else k.val; split <;> omega
    | ⟨3, _⟩ => show 0 = if 1 = 1 then 0 else l.val; simp)

/-- A vector of row statistics as a column. -/
theorem bid_keep2 (h : (⟨1, ![a]⟩ : Shape).BroadcastsInDim ⟨2, ![a, 1]⟩ ![0]) (x : (⟨1, ![a]⟩ : Shape).Idx → α)
    (i : Fin a) (j : Fin 1) : broadcastInDim ⟨2, ![a, 1]⟩ ![0] h x (ix2 i j) = x (ix1 i) :=
  broadcastInDim_apply _ _ _ _ _ (fun e => by
    match e with
    | ⟨0, _⟩ => show i.val = if a = 1 then 0 else i.val; split <;> omega)

/-- A column repeated along the rows. -/
theorem bid_row2 (h : (⟨2, ![a, 1]⟩ : Shape).BroadcastsInDim ⟨2, ![a, b]⟩ ![0, 1]) (x : (⟨2, ![a, 1]⟩ : Shape).Idx → α)
    (i : Fin a) (j : Fin b) : broadcastInDim ⟨2, ![a, b]⟩ ![0, 1] h x (ix2 i j) = x (ix2 i 0) :=
  broadcastInDim_apply _ _ _ _ _ (fun e => by
    match e with
    | ⟨0, _⟩ => show i.val = if a = 1 then 0 else i.val; split <;> omega
    | ⟨1, _⟩ => show 0 = if 1 = 1 then 0 else j.val; simp)

/-- A vector as a one-row matrix. -/
theorem bid_vec2 (h : (⟨1, ![b]⟩ : Shape).BroadcastsInDim ⟨2, ![1, b]⟩ ![1]) (x : (⟨1, ![b]⟩ : Shape).Idx → α)
    (i : Fin 1) (j : Fin b) : broadcastInDim ⟨2, ![1, b]⟩ ![1] h x (ix2 i j) = x (ix1 j) :=
  broadcastInDim_apply _ _ _ _ _ (fun e => by
    match e with
    | ⟨0, _⟩ => show j.val = if b = 1 then 0 else j.val; split <;> omega)

/-! ## Kernel broadcasts -/

/-- A column repeated along the rows of a block. -/
theorem bto_col (x : (⟨2, ![a, 1]⟩ : Shape).Idx → α) (h : (⟨2, ![a, 1]⟩ : Shape).Broadcasts ⟨2, ![a, b]⟩) (i : Fin a) (j : Fin b) :
    broadcastTo ⟨2, ![a, b]⟩ x h (ix2 i j) = x (ix2 i 0) :=
  broadcastTo_apply _ _ _ _ (fun e => by
    match e with
    | ⟨0, _⟩ => show i.val = if a = 1 then 0 else i.val; split <;> omega
    | ⟨1, _⟩ => show 0 = if 1 = 1 then 0 else _; simp)

/-! ## Sums along an axis -/

/-- A block's sums along its rows. -/
theorem sum_rows (x : FVec Ideal ⟨2, ![a, b]⟩ .f32) (acc : BitVec (FTy.bits .f32)) (h : (⟨2, ![a, b]⟩ : Shape).Reduces [1] ⟨1, ![a]⟩)
    (hφ : FKind.Formats .f32) (hacc : acc = FKind.add.neutral .f32 hφ) (i : Fin a) :
    multiReduction .add [1] ⟨1, ![a]⟩ x acc h hφ hacc (ix1 i) = ∑ k : Fin b, x (ix2 i k) := by
  rw [Ideal.multiReduction_add_single]
  refine Finset.sum_congr rfl fun k _ => congrArg x ?_
  funext e; apply Fin.ext
  fin_cases e <;> rfl

/-- A block's sums down its columns. -/
theorem sum_cols (x : FVec Ideal ⟨2, ![a, b]⟩ .f32) (acc : BitVec (FTy.bits .f32)) (h : (⟨2, ![a, b]⟩ : Shape).Reduces [0] ⟨1, ![b]⟩)
    (hφ : FKind.Formats .f32) (hacc : acc = FKind.add.neutral .f32 hφ) (j : Fin b) :
    multiReduction .add [0] ⟨1, ![b]⟩ x acc h hφ hacc (ix1 j) = ∑ k : Fin a, x (ix2 k j) := by
  rw [Ideal.multiReduction_add_single]
  refine Finset.sum_congr rfl fun k _ => congrArg x ?_
  funext e; apply Fin.ext
  fin_cases e <;> rfl

/-- The word of the float zero as a real. -/
theorem zero_word : Ideal.ofBits .f32 0x00000000#32 = 0 := Ideal.ofBits_zero_f32

/-- The host's sums along the last axis of a rank-3 array. -/
theorem hostSum3 (x : FVec Ideal ⟨3, ![a, b, c]⟩ .f32) (h' : (⟨3, ![a, b, c]⟩ : Shape).ReducesTo [2] ⟨2, ![a, b]⟩)
    (hu : 0 < (⟨0, ![]⟩ : Shape).numel) (i : Fin a) (j : Fin b) :
    Host.reduceAdd x (constant ⟨0, ![]⟩ .f32 0x00000000#32) h' hu (ix2 i j) = ∑ k : Fin c, x (ix3 i j k) := by
  have h : (⟨3, ![a, b, c]⟩ : Shape).Reduces [2] ⟨2, ![a, b]⟩ := ⟨h'.1, Nat.two_pos, h'.2⟩
  rw [hostReduceAdd_apply, Ideal.hostReduceAdd_single h' h, constant_apply, zero_word, zero_add]
  refine Finset.sum_congr rfl fun k _ => congrArg x ?_
  funext e; apply Fin.ext
  fin_cases e <;> rfl

/-- The host's sums down the middle axis of a rank-3 array. -/
theorem hostSum3mid (x : FVec Ideal ⟨3, ![a, b, c]⟩ .f32) (h' : (⟨3, ![a, b, c]⟩ : Shape).ReducesTo [1] ⟨2, ![a, c]⟩)
    (hu : 0 < (⟨0, ![]⟩ : Shape).numel) (i : Fin a) (j : Fin c) :
    Host.reduceAdd x (constant ⟨0, ![]⟩ .f32 0x00000000#32) h' hu (ix2 i j) = ∑ k : Fin b, x (ix3 i k j) := by
  have h : (⟨3, ![a, b, c]⟩ : Shape).Reduces [1] ⟨2, ![a, c]⟩ := ⟨h'.1, Nat.two_pos, h'.2⟩
  rw [hostReduceAdd_apply, Ideal.hostReduceAdd_single h' h, constant_apply, zero_word, zero_add]
  refine Finset.sum_congr rfl fun k _ => congrArg x ?_
  funext e; apply Fin.ext
  fin_cases e <;> rfl

/-- The host's sums along the rows of a matrix. -/
theorem hostSum2 (x : FVec Ideal ⟨2, ![a, b]⟩ .f32) (h' : (⟨2, ![a, b]⟩ : Shape).ReducesTo [1] ⟨1, ![a]⟩)
    (hu : 0 < (⟨0, ![]⟩ : Shape).numel) (i : Fin a) :
    Host.reduceAdd x (constant ⟨0, ![]⟩ .f32 0x00000000#32) h' hu (ix1 i) = ∑ k : Fin b, x (ix2 i k) := by
  have h : (⟨2, ![a, b]⟩ : Shape).Reduces [1] ⟨1, ![a]⟩ := ⟨h'.1, Nat.one_pos, h'.2⟩
  rw [hostReduceAdd_apply, Ideal.hostReduceAdd_single h' h, constant_apply, zero_word, zero_add]
  refine Finset.sum_congr rfl fun k _ => congrArg x ?_
  funext e; apply Fin.ext
  fin_cases e <;> rfl

/-- The host's sums along the last axis of a rank-4 array. -/
theorem hostSum4 (x : FVec Ideal ⟨4, ![a, b, c, d]⟩ .f32) (h' : (⟨4, ![a, b, c, d]⟩ : Shape).ReducesTo [3] ⟨3, ![a, b, c]⟩)
    (hu : 0 < (⟨0, ![]⟩ : Shape).numel) (i : Fin a) (j : Fin b) (l : Fin c) :
    Host.reduceAdd x (constant ⟨0, ![]⟩ .f32 0x00000000#32) h' hu (ix3 i j l) = ∑ k : Fin d, x (ix4 i j l k) := by
  have h : (⟨4, ![a, b, c, d]⟩ : Shape).Reduces [3] ⟨3, ![a, b, c]⟩ := ⟨h'.1, Nat.succ_pos 2, h'.2⟩
  rw [hostReduceAdd_apply, Ideal.hostReduceAdd_single h' h, constant_apply, zero_word, zero_add]
  refine Finset.sum_congr rfl fun k _ => congrArg x ?_
  funext e; apply Fin.ext
  fin_cases e <;> rfl

/-! ## Row maxima: only that they are real numbers matters -/

/-- The word of minus infinity. -/
theorem neg_inf_word : Ideal.ofBits .f32 0xFF800000#32 = (⊥ : EReal) := by

  simp [Ideal.ofBits, Ideal.ieee]

/-- From minus infinity, a maximum over a nonempty finite family of reals is a real. -/
theorem fold_max_real {n : Nat} (hn : 0 < n) (f : Fin n → EReal) (g : Fin n → ℝ) (hf : ∀ k, f k = ((g k : ℝ) : EReal)) :
    ∃ r : ℝ, (Finset.univ : Finset (Fin n)).fold max (⊥ : EReal) f = (r : EReal) := by
  haveI : Nonempty (Fin n) := ⟨⟨0, hn⟩⟩
  have e : (Finset.univ : Finset (Fin n)).fold max (⊥ : EReal) f = Finset.univ.sup f := rfl
  obtain ⟨k, _, hk⟩ := Finset.exists_mem_eq_sup (Finset.univ : Finset (Fin n)) Finset.univ_nonempty f
  exact ⟨g k, by rw [e, hk, hf]⟩

/-- The host's row maxima of a rank-4 array of reals are reals. -/
theorem hostMax4 (x : FVec Ideal ⟨4, ![a, b, c, d]⟩ .f32) (h' : (⟨4, ![a, b, c, d]⟩ : Shape).ReducesTo [3] ⟨3, ![a, b, c]⟩)
    (hu : 0 < (⟨0, ![]⟩ : Shape).numel) (hd : 0 < d) (i : Fin a) (j : Fin b) (l : Fin c) (g : Fin d → ℝ)
    (hx : ∀ k, x (ix4 i j l k) = ((g k : ℝ) : EReal)) :
    ∃ r : ℝ, Host.reduce FloatOps.maximumf x (constant ⟨0, ![]⟩ .f32 0xFF800000#32) h' hu (ix3 i j l) = (r : EReal) := by
  have h : (⟨4, ![a, b, c, d]⟩ : Shape).Reduces [3] ⟨3, ![a, b, c]⟩ := ⟨h'.1, Nat.succ_pos 2, h'.2⟩
  rw [Host.reduce_eq_fold_single FloatOps.maximumf x _ h' h hu, constant_apply, neg_inf_word]
  refine fold_max_real hd _ g fun k => ?_
  rw [← hx k]
  refine congrArg x ?_
  funext e; apply Fin.ext
  fin_cases e <;> rfl

/-- The host's row maxima of a matrix of reals are reals. -/
theorem hostMax2 (x : FVec Ideal ⟨2, ![a, b]⟩ .f32) (h' : (⟨2, ![a, b]⟩ : Shape).ReducesTo [1] ⟨1, ![a]⟩)
    (hu : 0 < (⟨0, ![]⟩ : Shape).numel) (hb : 0 < b) (i : Fin a) (g : Fin b → ℝ) (hx : ∀ k, x (ix2 i k) = ((g k : ℝ) : EReal)) :
    ∃ r : ℝ, Host.reduce FloatOps.maximumf x (constant ⟨0, ![]⟩ .f32 0xFF800000#32) h' hu (ix1 i) = (r : EReal) := by
  have h : (⟨2, ![a, b]⟩ : Shape).Reduces [1] ⟨1, ![a]⟩ := ⟨h'.1, Nat.one_pos, h'.2⟩
  rw [Host.reduce_eq_fold_single FloatOps.maximumf x _ h' h hu, constant_apply, neg_inf_word]
  refine fold_max_real hb _ g fun k => ?_
  rw [← hx k]
  refine congrArg x ?_
  funext e; apply Fin.ext
  fin_cases e <;> rfl

/-! ## Products -/

/-- The host's product of a one-slice rank-3 array with a matrix. -/
theorem dot3 (wf) (prec : Option ContractPrecision) (x : FVec Ideal ⟨3, ![a, m, n]⟩ .f32) (w : FVec Ideal ⟨2, ![n, b]⟩ .f32)
    (i : Fin a) (j : Fin m) (k : Fin b) :
    Host.dotGeneral (⟨[2], [0], [0, 1], [1], [], [], wf⟩ : DotDims ⟨3, ![a, m, n]⟩ ⟨2, ![n, b]⟩ ⟨3, ![a, m, b]⟩) prec x w (ix3 i j k)
      = ∑ l : Fin n, x (ix3 i j l) * w (ix2 l k) := by
  let D : DotDims ⟨3, ![a, m, n]⟩ ⟨2, ![n, b]⟩ ⟨3, ![a, m, b]⟩ := ⟨[2], [0], [0, 1], [1], [], [], wf⟩
  have hr : D.contr.rank = 1 := rfl
  have hs : D.contr.size ⟨0, by omega⟩ = n := rfl
  refine (Ideal.dotGeneral_apply D prec _ x w (ix3 i j k)).trans ?_
  rw [← Equiv.sum_comp (contrEquiv1 D n hr hs).symm]
  refine Finset.sum_congr rfl fun l _ => ?_
  have hk := contrEquiv1_symm_val D n hr hs l
  have el : D.lhsIdx (ix3 i j k) ((contrEquiv1 D n hr hs).symm l) = ix3 i j l := by
    funext e; apply Fin.ext
    match e with
    | ⟨0, _⟩ => rfl
    | ⟨1, _⟩ => rfl
    | ⟨2, _⟩ => exact hk
  have er : D.rhsIdx (ix3 i j k) ((contrEquiv1 D n hr hs).symm l) = ix2 l k := by
    funext e; apply Fin.ext
    match e with
    | ⟨0, _⟩ => exact hk
    | ⟨1, _⟩ => rfl
  rw [el, er]

/-- The host's matrix product. -/
theorem dot2 (wf) (prec : Option ContractPrecision) (x : FVec Ideal ⟨2, ![m, n]⟩ .f32) (w : FVec Ideal ⟨2, ![n, b]⟩ .f32)
    (j : Fin m) (k : Fin b) :
    Host.dotGeneral (⟨[1], [0], [0], [1], [], [], wf⟩ : DotDims ⟨2, ![m, n]⟩ ⟨2, ![n, b]⟩ ⟨2, ![m, b]⟩) prec x w (ix2 j k)
      = ∑ l : Fin n, x (ix2 j l) * w (ix2 l k) := by
  let D : DotDims ⟨2, ![m, n]⟩ ⟨2, ![n, b]⟩ ⟨2, ![m, b]⟩ := ⟨[1], [0], [0], [1], [], [], wf⟩
  have hr : D.contr.rank = 1 := rfl
  have hs : D.contr.size ⟨0, by omega⟩ = n := rfl
  refine (Ideal.dotGeneral_apply D prec _ x w (ix2 j k)).trans ?_
  rw [← Equiv.sum_comp (contrEquiv1 D n hr hs).symm]
  refine Finset.sum_congr rfl fun l _ => ?_
  have hk := contrEquiv1_symm_val D n hr hs l
  have el : D.lhsIdx (ix2 j k) ((contrEquiv1 D n hr hs).symm l) = ix2 j l := by
    funext e; apply Fin.ext
    match e with
    | ⟨0, _⟩ => rfl
    | ⟨1, _⟩ => exact hk
  have er : D.rhsIdx (ix2 j k) ((contrEquiv1 D n hr hs).symm l) = ix2 l k := by
    funext e; apply Fin.ext
    match e with
    | ⟨0, _⟩ => exact hk
    | ⟨1, _⟩ => rfl
  rw [el, er]

/-- The host's scores: rows of the queries against rows of the keys, head by head. -/
theorem dotScores (wf) (prec : Option ContractPrecision) (x : FVec Ideal ⟨4, ![a, b, m, d]⟩ .f32) (w : FVec Ideal ⟨4, ![a, b, n, d]⟩ .f32)
    (i : Fin a) (h : Fin b) (j : Fin m) (k : Fin n) :
    Host.dotGeneral (⟨[3], [3], [2], [2], [0, 1], [0, 1], wf⟩ : DotDims ⟨4, ![a, b, m, d]⟩ ⟨4, ![a, b, n, d]⟩ ⟨4, ![a, b, m, n]⟩) prec x w
        (ix4 i h j k)
      = ∑ l : Fin d, x (ix4 i h j l) * w (ix4 i h k l) := by
  let D : DotDims ⟨4, ![a, b, m, d]⟩ ⟨4, ![a, b, n, d]⟩ ⟨4, ![a, b, m, n]⟩ := ⟨[3], [3], [2], [2], [0, 1], [0, 1], wf⟩
  have hr : D.contr.rank = 1 := rfl
  have hs : D.contr.size ⟨0, by omega⟩ = d := rfl
  refine (Ideal.dotGeneral_apply D prec _ x w (ix4 i h j k)).trans ?_
  rw [← Equiv.sum_comp (contrEquiv1 D d hr hs).symm]
  refine Finset.sum_congr rfl fun l _ => ?_
  have hk := contrEquiv1_symm_val D d hr hs l
  have el : D.lhsIdx (ix4 i h j k) ((contrEquiv1 D d hr hs).symm l) = ix4 i h j l := by
    funext e; apply Fin.ext
    match e with
    | ⟨0, _⟩ => rfl
    | ⟨1, _⟩ => rfl
    | ⟨2, _⟩ => rfl
    | ⟨3, _⟩ => exact hk
  have er : D.rhsIdx (ix4 i h j k) ((contrEquiv1 D d hr hs).symm l) = ix4 i h k l := by
    funext e; apply Fin.ext
    match e with
    | ⟨0, _⟩ => rfl
    | ⟨1, _⟩ => rfl
    | ⟨2, _⟩ => rfl
    | ⟨3, _⟩ => exact hk
  rw [el, er]

/-- The host's weighted values, head by head. -/
theorem dotValues (wf) (prec : Option ContractPrecision) (x : FVec Ideal ⟨4, ![a, b, m, n]⟩ .f32) (w : FVec Ideal ⟨4, ![a, b, n, d]⟩ .f32)
    (i : Fin a) (h : Fin b) (j : Fin m) (k : Fin d) :
    Host.dotGeneral (⟨[3], [2], [2], [3], [0, 1], [0, 1], wf⟩ : DotDims ⟨4, ![a, b, m, n]⟩ ⟨4, ![a, b, n, d]⟩ ⟨4, ![a, b, m, d]⟩) prec x w
        (ix4 i h j k)
      = ∑ l : Fin n, x (ix4 i h j l) * w (ix4 i h l k) := by
  let D : DotDims ⟨4, ![a, b, m, n]⟩ ⟨4, ![a, b, n, d]⟩ ⟨4, ![a, b, m, d]⟩ := ⟨[3], [2], [2], [3], [0, 1], [0, 1], wf⟩
  have hr : D.contr.rank = 1 := rfl
  have hs : D.contr.size ⟨0, by omega⟩ = n := rfl
  refine (Ideal.dotGeneral_apply D prec _ x w (ix4 i h j k)).trans ?_
  rw [← Equiv.sum_comp (contrEquiv1 D n hr hs).symm]
  refine Finset.sum_congr rfl fun l _ => ?_
  have hk := contrEquiv1_symm_val D n hr hs l
  have el : D.lhsIdx (ix4 i h j k) ((contrEquiv1 D n hr hs).symm l) = ix4 i h j l := by
    funext e; apply Fin.ext
    match e with
    | ⟨0, _⟩ => rfl
    | ⟨1, _⟩ => rfl
    | ⟨2, _⟩ => rfl
    | ⟨3, _⟩ => exact hk
  have er : D.rhsIdx (ix4 i h j k) ((contrEquiv1 D n hr hs).symm l) = ix4 i h l k := by
    funext e; apply Fin.ext
    match e with
    | ⟨0, _⟩ => rfl
    | ⟨1, _⟩ => rfl
    | ⟨2, _⟩ => exact hk
    | ⟨3, _⟩ => rfl
  rw [el, er]

/-- A kernel's matrix product onto zeros. -/
theorem mm (wf) (prec : Option ContractPrecision) (x : FVec Ideal ⟨2, ![m, n]⟩ .f32) (w : FVec Ideal ⟨2, ![n, b]⟩ .f32)
    (j : Fin m) (k : Fin b) :
    matmul (⟨[1], [0], [0], [1], [], [], wf⟩ : DotDims ⟨2, ![m, n]⟩ ⟨2, ![n, b]⟩ ⟨2, ![m, b]⟩) prec x w
        (constant ⟨2, ![m, b]⟩ .f32 0x00000000#32) (ix2 j k)
      = ∑ l : Fin n, x (ix2 j l) * w (ix2 l k) := by
  refine (Ideal.matmul_plain_apply prec x w _ j k).trans ?_
  rw [constant_apply, zero_word, zero_add]

/-- A kernel's product of rows with rows onto zeros. -/
theorem mmT (wf) (prec : Option ContractPrecision) (x : FVec Ideal ⟨2, ![m, n]⟩ .f32) (w : FVec Ideal ⟨2, ![b, n]⟩ .f32)
    (j : Fin m) (k : Fin b) :
    matmul (⟨[1], [1], [0], [0], [], [], wf⟩ : DotDims ⟨2, ![m, n]⟩ ⟨2, ![b, n]⟩ ⟨2, ![m, b]⟩) prec x w
        (constant ⟨2, ![m, b]⟩ .f32 0x00000000#32) (ix2 j k)
      = ∑ l : Fin n, x (ix2 j l) * w (ix2 k l) := by
  refine (Ideal.matmul_transposedRhs_apply prec x w _ j k).trans ?_
  rw [constant_apply, zero_word, zero_add]

/-! ## Heads -/

/-- Rows cut into heads of `d` columns. -/
theorem cast_split (x : (⟨3, ![1, m, n]⟩ : Shape).Idx → α) (h : (⟨3, ![1, m, n]⟩ : Shape).ShapeCasts ⟨4, ![1, m, b, d]⟩)
    (i : Fin 1) (j : Fin m) (e : Fin b) (l : Fin d) (k : Fin n) (hn : n = b * d) (hk : k.val = e.val * d + l.val) :
    shapeCast ⟨4, ![1, m, b, d]⟩ x h (ix4 i j e l) = x (ix3 0 j k) :=
  shapeCast_apply x h _ _ (by
    rw [Shape.rowMajor_val_three, Shape.rowMajor_val_four]
    show (0 * m + j.val) * n + k.val = ((i.val * m + j.val) * b + e.val) * d + l.val
    have : i.val = 0 := by omega
    rw [this, hk, hn]; ring)

/-- Heads laid side by side again. -/
theorem cast_join (x : (⟨4, ![1, m, b, d]⟩ : Shape).Idx → α) (h : (⟨4, ![1, m, b, d]⟩ : Shape).ShapeCasts ⟨3, ![1, m, n]⟩)
    (i : Fin 1) (j : Fin m) (e : Fin b) (l : Fin d) (k : Fin n) (hn : n = b * d) (hk : k.val = e.val * d + l.val) :
    shapeCast ⟨3, ![1, m, n]⟩ x h (ix3 i j k) = x (ix4 0 j e l) :=
  shapeCast_apply x h _ _ (by
    rw [Shape.rowMajor_val_three, Shape.rowMajor_val_four]
    show ((0 * m + j.val) * b + e.val) * d + l.val = (i.val * m + j.val) * n + k.val
    have : i.val = 0 := by omega
    rw [this, hk, hn]; ring)

/-- The row axis and the head axis exchanged. -/
theorem transpose_heads (x : (⟨4, ![a, b, c, d]⟩ : Shape).Idx → α) (h : (⟨4, ![a, b, c, d]⟩ : Shape).Transposes [0, 2, 1, 3] ⟨4, ![a, c, b, d]⟩)
    (i : Fin a) (j : Fin c) (k : Fin b) (l : Fin d) :
    transpose ⟨4, ![a, c, b, d]⟩ [0, 2, 1, 3] x h (ix4 i j k l) = x (ix4 i k j l) :=
  transpose_apply _ _ _ _ _ (fun e => by
    match e with
    | ⟨0, _⟩ => rfl
    | ⟨1, _⟩ => rfl
    | ⟨2, _⟩ => rfl
    | ⟨3, _⟩ => rfl)

end Blocks
-- ==== Proof.Spec.lean ====
/- The block's mathematics over the real numbers, coordinate by coordinate, and what it means for an array of extended
   reals to hold real numbers. -/
module

public import proofs.«01_k».proof.Proof.Reads

@[expose] public section

noncomputable section

open scoped BigOperators

namespace Blocks

open Idealize.ShloMosaic hiding ix0 ix1 ix2 ix3 ix4 ix5
open Idealize.ShloMosaic.ValueIdx

/-! ## Words as reals -/

theorem word_512 : Ideal.ofBits .f32 0x44000000#32 = ((512 : ℝ) : EReal) := by
  simp [Ideal.ofBits, Ideal.ieee, -EReal.coe_mul]; norm_num
theorem word_1152 : Ideal.ofBits .f32 0x44900000#32 = ((1152 : ℝ) : EReal) := by
  simp [Ideal.ofBits, Ideal.ieee, -EReal.coe_mul]; norm_num
theorem word_64 : Ideal.ofBits .f32 0x42800000#32 = ((64 : ℝ) : EReal) := by
  simp [Ideal.ofBits, Ideal.ieee, -EReal.coe_mul]; norm_num
theorem word_one : Ideal.ofBits .f32 0x3F800000#32 = ((1 : ℝ) : EReal) := by
  simp [Ideal.ofBits, Ideal.ieee, -EReal.coe_mul]; norm_num
theorem word_half : Ideal.ofBits .f32 0x3F000000#32 = ((1 / 2 : ℝ) : EReal) := by
  simp [Ideal.ofBits, Ideal.ieee, -EReal.coe_mul]; norm_num
theorem word_eighth : Ideal.ofBits .f32 0x3E000000#32 = ((1 / 8 : ℝ) : EReal) := by
  simp [Ideal.ofBits, Ideal.ieee, -EReal.coe_mul]; norm_num
theorem word_quarter : Ideal.ofBits .f32 0x3E800000#32 = ((1 / 4 : ℝ) : EReal) := by
  simp [Ideal.ofBits, Ideal.ieee, -EReal.coe_mul]; norm_num
theorem word_zero : Ideal.ofBits .f32 0x00000000#32 = ((0 : ℝ) : EReal) := zero_word

/-- The normalisation's small constant. -/
def eps : ℝ := 10995116 / 2 ^ 40
/-- The cubic coefficient inside the activation. -/
def c1 : ℝ := 12003091 / 2 ^ 28
/-- The scale inside the activation. -/
def c2 : ℝ := 13386282 / 2 ^ 24

theorem word_eps : Ideal.ofBits .f32 0x3727C5AC#32 = ((eps : ℝ) : EReal) := by
  simp [Ideal.ofBits, Ideal.ieee, -EReal.coe_mul, eps]; norm_num
theorem word_c1 : Ideal.ofBits .f32 0x3D372713#32 = ((c1 : ℝ) : EReal) := by
  simp [Ideal.ofBits, Ideal.ieee, -EReal.coe_mul, c1]; norm_num
theorem word_c2 : Ideal.ofBits .f32 0x3F4C422A#32 = ((c2 : ℝ) : EReal) := by
  simp [Ideal.ofBits, Ideal.ieee, -EReal.coe_mul, c2]; norm_num

theorem eps_pos : 0 < eps := by unfold eps; positivity

/-! ## Extended reals that are reals -/

theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

theorem div_real {x y : ℝ} (h : y ≠ 0) : Ideal.div (x : EReal) (y : EReal) = ((x / y : ℝ) : EReal) := by
  rw [Ideal.div_coe h, ← EReal.coe_mul, mul_one_div]

theorem sqrt_real {x : ℝ} (h : 0 ≤ x) : Ideal.sqrt (x : EReal) = ((Real.sqrt x : ℝ) : EReal) := by
  rw [Ideal.sqrt_coe, if_neg (not_lt.2 h)]

theorem rsqrt_real {x : ℝ} (h : 0 < x) : Ideal.rsqrt (x : EReal) = (((Real.sqrt x)⁻¹ : ℝ) : EReal) := by
  rw [Ideal.rsqrt_coe, if_neg (not_lt.2 h.le), if_neg h.ne']

/-- A vector of reals. -/
def Is1 {n : Nat} (a : FVec Ideal ⟨1, ![n]⟩ .f32) (f : Fin n → ℝ) : Prop := ∀ i, a (ix1 i) = ((f i : ℝ) : EReal)
/-- A matrix of reals. -/
def Is2 {m n : Nat} (a : FVec Ideal ⟨2, ![m, n]⟩ .f32) (f : Fin m → Fin n → ℝ) : Prop := ∀ i j, a (ix2 i j) = ((f i j : ℝ) : EReal)
/-- A matrix of reals under a unit first axis. -/
def Is3 {m n : Nat} (a : FVec Ideal ⟨3, ![1, m, n]⟩ .f32) (f : Fin m → Fin n → ℝ) : Prop :=
  ∀ u i j, a (ix3 u i j) = ((f i j : ℝ) : EReal)
/-- A stack of matrices of reals under a unit first axis. -/
def Is4 {b m n : Nat} (a : FVec Ideal ⟨4, ![1, b, m, n]⟩ .f32) (f : Fin b → Fin m → Fin n → ℝ) : Prop :=
  ∀ u h i j, a (ix4 u h i j) = ((f h i j : ℝ) : EReal)

/-! ## The functions -/

/-- The mean of a row of 512. -/
def mean (f : Fin 512 → ℝ) : ℝ := (∑ k, f k) / 512
/-- Its variance and the small constant. -/
def spread (f : Fin 512 → ℝ) : ℝ := (∑ k, (f k - mean f) * (f k - mean f)) / 512 + eps
/-- Layer normalisation without gain and offset, row by row. -/
def ln {n : Nat} (f : Fin n → Fin 512 → ℝ) (i : Fin n) (j : Fin 512) : ℝ := (f i j - mean (f i)) / Real.sqrt (spread (f i))
/-- Rows times a matrix. -/
def lin {n k m : Nat} (f : Fin n → Fin k → ℝ) (w : Fin k → Fin m → ℝ) (i : Fin n) (j : Fin m) : ℝ := ∑ l, f i l * w l j
/-- The sum of two matrices. -/
def add {n m : Nat} (f g : Fin n → Fin m → ℝ) (i : Fin n) (j : Fin m) : ℝ := f i j + g i j
/-- Column `d` of head `h`. -/
def col (h : Fin 8) (d : Fin 64) : Fin 512 := ⟨h.val * 64 + d.val, by omega⟩
/-- One column's head. -/
def headOf (j : Fin 512) : Fin 8 := ⟨j.val / 64, by omega⟩
/-- One column's place in its head. -/
def placeOf (j : Fin 512) : Fin 64 := ⟨j.val % 64, by omega⟩
/-- The scores of head `h`. -/
def score {n p : Nat} (q : Fin n → Fin 512 → ℝ) (k : Fin p → Fin 512 → ℝ) (h : Fin 8) (i : Fin n) (l : Fin p) : ℝ := (∑ d, q i (col h d) * k l (col h d)) / 8
/-- One head's attention: values weighted by the exponentials of the scores. -/
def headAtt {n p : Nat} (q : Fin n → Fin 512 → ℝ) (k v : Fin p → Fin 512 → ℝ) (h : Fin 8) (i : Fin n) (d : Fin 64) : ℝ :=
  (∑ l, Real.exp (score q k h i l) * v l (col h d)) / ∑ l, Real.exp (score q k h i l)
/-- The heads side by side. -/
def att {n p : Nat} (q : Fin n → Fin 512 → ℝ) (k v : Fin p → Fin 512 → ℝ) (i : Fin n) (j : Fin 512) : ℝ := headAtt q k v (headOf j) i (placeOf j)
/-- Multi-head attention with its four matrices. -/
def mha {n : Nat} (wq wk wv wo : Fin 512 → Fin 512 → ℝ) (f : Fin n → Fin 512 → ℝ) : Fin n → Fin 512 → ℝ :=
  lin (att (lin f wq) (lin f wk) (lin f wv)) wo
/-- The activation. -/
def gelu (x : ℝ) : ℝ := 1 / 2 * x * (1 + Real.tanh (c2 * (x + c1 * (x * x * x))))
/-- The activation of a matrix. -/
def act {n m : Nat} (f : Fin n → Fin m → ℝ) (i : Fin n) (j : Fin m) : ℝ := gelu (f i j)
/-- The first half of a transformer block. -/
def half1 {n : Nat} (wq wk wv wo : Fin 512 → Fin 512 → ℝ) (f : Fin n → Fin 512 → ℝ) : Fin n → Fin 512 → ℝ :=
  add f (mha wq wk wv wo (ln f))
/-- The second half. -/
def half2 {n : Nat} (w1 : Fin 512 → Fin 2048 → ℝ) (w2 : Fin 2048 → Fin 512 → ℝ) (f : Fin n → Fin 512 → ℝ) : Fin n → Fin 512 → ℝ :=
  add f (lin (act (lin (ln f) w1)) w2)
/-- One block: attention, then the two-layer map. -/
def block {n : Nat} (wq wk wv wo : Fin 512 → Fin 512 → ℝ) (w1 : Fin 512 → Fin 2048 → ℝ) (w2 : Fin 2048 → Fin 512 → ℝ)
    (f : Fin n → Fin 512 → ℝ) : Fin n → Fin 512 → ℝ := half2 w1 w2 (half1 wq wk wv wo f)
/-- Three blocks, each with its own slice of the weights. -/
def blocks3 {n : Nat} (wq wk wv wo : Fin 3 → Fin 512 → Fin 512 → ℝ) (w1 : Fin 3 → Fin 512 → Fin 2048 → ℝ)
    (w2 : Fin 3 → Fin 2048 → Fin 512 → ℝ) (f : Fin n → Fin 512 → ℝ) : Fin n → Fin 512 → ℝ :=
  block (wq 2) (wk 2) (wv 2) (wo 2) (w1 2) (w2 2) (block (wq 1) (wk 1) (wv 1) (wo 1) (w1 1) (w2 1)
    (block (wq 0) (wk 0) (wv 0) (wo 0) (w1 0) (w2 0) f))
/-- A stack of three matrices holds the real matrices `w`. -/
def IsStack {m n : Nat} (a : FVec Ideal ⟨3, ![3, m, n]⟩ .f32) (w : Fin 3 → Fin m → Fin n → ℝ) : Prop :=
  ∀ l i j, a (ix3 l i j) = ((w l i j : ℝ) : EReal)
/-- The mean of the rows. -/
def rowMean {n : Nat} (f : Fin n → Fin 512 → ℝ) (_ : Fin 1) (j : Fin 512) : ℝ := (∑ i, f i j) / 1152
/-- The head's two logits. -/
def logit {n : Nat} (wh : Fin 512 → Fin 2 → ℝ) (f : Fin n → Fin 512 → ℝ) (c : Fin 2) : ℝ := lin (ln (rowMean f)) wh 0 c
/-- Their probabilities. -/
def prob {n : Nat} (wh : Fin 512 → Fin 2 → ℝ) (f : Fin n → Fin 512 → ℝ) (c : Fin 2) : ℝ :=
  Real.exp (logit wh f c) / ∑ e, Real.exp (logit wh f e)

theorem col_head_place (j : Fin 512) : col (headOf j) (placeOf j) = j := by
  apply Fin.ext; show j.val / 64 * 64 + j.val % 64 = j.val; omega

theorem spread_pos (f : Fin 512 → ℝ) : 0 < spread f := by
  unfold spread
  have : 0 ≤ ∑ k, (f k - mean f) * (f k - mean f) := Finset.sum_nonneg fun k _ => mul_self_nonneg _
  have := eps_pos
  positivity

theorem sqrt_spread_ne (f : Fin 512 → ℝ) : Real.sqrt (spread f) ≠ 0 := (Real.sqrt_pos.2 (spread_pos f)).ne'

theorem sum_exp_ne {n : Nat} (hn : 0 < n) (s : Fin n → ℝ) : ∑ l, Real.exp (s l) ≠ 0 := by
  haveI : Nonempty (Fin n) := ⟨⟨0, hn⟩⟩
  exact (Finset.sum_pos (fun l _ => Real.exp_pos _) Finset.univ_nonempty).ne'

/-- A shift of every score changes no weighted mean. -/
theorem shift_weighted {n : Nat} (s v : Fin n → ℝ) (r : ℝ) :
    ∑ l, Real.exp (s l - r) / (∑ e, Real.exp (s e - r)) * v l = (∑ l, Real.exp (s l) * v l) / ∑ e, Real.exp (s e) := by
  have hr : Real.exp r ≠ 0 := (Real.exp_pos r).ne'
  have e1 : ∑ e, Real.exp (s e - r) = (∑ e, Real.exp (s e)) / Real.exp r := by
    rw [Finset.sum_div]; exact Finset.sum_congr rfl fun e _ => Real.exp_sub _ _
  rw [Finset.sum_div]
  refine Finset.sum_congr rfl fun l _ => ?_
  rw [e1, Real.exp_sub, div_div_div_cancel_right₀ hr]; ring

theorem shift_prob {n : Nat} (s : Fin n → ℝ) (r : ℝ) (l : Fin n) :
    Real.exp (s l - r) / (∑ e, Real.exp (s e - r)) = Real.exp (s l) / ∑ e, Real.exp (s e) := by
  have hr : Real.exp r ≠ 0 := (Real.exp_pos r).ne'
  have e1 : ∑ e, Real.exp (s e - r) = (∑ e, Real.exp (s e)) / Real.exp r := by
    rw [Finset.sum_div]; exact Finset.sum_congr rfl fun e _ => Real.exp_sub _ _
  rw [e1, Real.exp_sub, div_div_div_cancel_right₀ hr]

end Blocks
-- ==== Proof.Precond.lean ====
/- What the precondition says of the arrays: tokens and weights hold real numbers, the gains are one, the offsets zero, every
   position is allowed, the tokens already stand in slice order four to a slice, and the order of slices is a permutation. -/
module

public import proofs.«01_k».proof.Defs
public import proofs.«01_k».proof.Proof.Spec
public import proofs.«01_k».proof.Proof.Gen.Pre_inputs_as_drawn
public import Idealize.ShloMosaic.Lib.ReduceAll
public import Idealize.ShloMosaic.Lib.WordCmp
public import Idealize.ShloMosaic.Lib.ValueLayout

@[expose] public section

noncomputable section

namespace Blocks

open Idealize.ShloMosaic hiding ix0 ix1 ix2 ix3 ix4 ix5
open Idealize.ShloMosaic.ValueIdx

/-- The rank-zero shape, the one a truth value has. -/
abbrev T0 : Shape := ⟨0, ![]⟩

instance : Subsingleton T0.Idx := ⟨fun a b => funext fun k => k.elim0⟩

/-- A conjunction that holds is of two that hold. -/
theorem both {a b : IVec T0 1} (h : andi a b = fun _ => 1#1) : (a = fun _ => 1#1) ∧ (b = fun _ => 1#1) :=
  ⟨funext fun i => (IntOp.andi_eq_one.1 (congrFun h i)).1, funext fun i => (IntOp.andi_eq_one.1 (congrFun h i)).2⟩

theorem word_top : Ideal.ofBits .f32 0x7F800000#32 = (⊤ : EReal) := by
  simp [Ideal.ofBits, Ideal.ieee]

variable {s : Shape} {axes : List (Fin s.rank)} {x : FVec Ideal s .f32} {hr : s.ReducesTo axes T0} {hu : 0 < T0.numel}

/-- A truth table whose conjunction holds is true everywhere. -/
theorem table_true {y : IVec s 1} {v : IVec T0 1} (h : Host.reduce IntOp.andi y v hr hu = fun _ => 1#1) (i : s.Idx) : y i = 1#1 :=
  Host.reduce_andi_all y v hr hu (fun k => k.elim0) (congrFun h _) i

/-- An array whose magnitudes are all below infinity holds real numbers. -/
theorem real_of_finite {hb : T0.BroadcastsInDim s (![] : Fin 0 → Fin s.rank)} {v : IVec T0 1}
    (h : Host.reduce IntOp.andi (cmpf .olt (Host.absf x) (broadcastInDim s ![] hb (constant (F := Ideal) T0 .f32 0x7F800000#32))) v hr hu = fun _ => 1#1)
    (i : s.Idx) : x i = (((x i : EReal).toReal : ℝ) : EReal) := by
  have e := table_true h i
  have e' : Ideal.cmp .olt (max (x i : EReal) (-(x i : EReal))) (Ideal.ofBits .f32 0x7F800000#32) = 1#1 := e
  rw [word_top] at e'
  have lt : max (x i : EReal) (-(x i : EReal)) < ⊤ := by
    by_contra hn
    simp [Ideal.cmp, hn] at e'
  have h1 : (x i : EReal) ≠ ⊤ := fun q => absurd lt (by simp [q])
  have h2 : (x i : EReal) ≠ ⊥ := fun q => absurd lt (by simp [q])
  exact (EReal.coe_toReal h1 h2).symm

/-- An array equal everywhere to a constant word holds that word's value. -/
theorem const_of_equal {w : BitVec 32} {r : ℝ} (hw : Ideal.ofBits .f32 w = (r : EReal)) {hb : T0.BroadcastsInDim s (![] : Fin 0 → Fin s.rank)} {v : IVec T0 1}
    (h : Host.reduce IntOp.andi (cmpf .oeq x (broadcastInDim s ![] hb (constant (F := Ideal) T0 .f32 w))) v hr hu = fun _ => 1#1)
    (i : s.Idx) : x i = (r : EReal) := by
  have e := table_true h i
  have e' : Ideal.cmp .oeq (x i : EReal) (Ideal.ofBits .f32 w) = 1#1 := e
  rw [hw] at e'
  by_contra hn
  simp [Ideal.cmp, show ¬ ((x i : EReal) = (r : EReal)) from hn] at e'

/-- A truth value that is one is of a statement that holds. -/
theorem holds_of_one {p : Prop} [Decidable p] (h : BitVec.ofBool (decide p) = 1#1) : p := by
  by_contra hn
  rw [decide_eq_false hn] at h
  exact absurd h (by decide)

/-- Words equal to a count of positions below 2³² are those counts. -/
theorem toNat_of_eq {x : BitVec 32} {k : Nat} (hk : k < 2 ^ 32) (h : IntOp.cmpi .eq x (BitVec.ofNat 32 k) = 1#1) : x.toNat = k := by
  have e := h
  rw [Idealize.ShloMosaic.WordCmp.cmpi_eq_eq_toNat] at e
  have e' := holds_of_one e
  rw [BitVec.toNat_ofNat, Nat.mod_eq_of_lt hk] at e'
  exact e'

/-! ## The precondition, array by array -/

variable {x0 : FVec Ideal ⟨3, ![1, 4096, 768]⟩ .f32}
  {x1 : FVec Ideal ⟨3, ![1, 1024, 2]⟩ .f32}
  {x2 : IVec ⟨1, ![4096]⟩ 32}
  {x3 : IVec ⟨1, ![4096]⟩ 32}
  {x4 : IVec ⟨1, ![1024]⟩ 32}
  {x5 : IVec ⟨1, ![1024]⟩ 32}
  {x6 : IVec ⟨3, ![1, 1152, 1152]⟩ 1}
  {x7 : IVec ⟨3, ![1, 128, 1024]⟩ 1}
  {x8 : FVec Ideal ⟨2, ![768, 512]⟩ .f32}
  {x9 : FVec Ideal ⟨1, ![512]⟩ .f32}
  {x10 : FVec Ideal ⟨1, ![512]⟩ .f32}
  {x11 : FVec Ideal ⟨1, ![512]⟩ .f32}
  {x12 : FVec Ideal ⟨2, ![512, 512]⟩ .f32}
  {x13 : FVec Ideal ⟨1, ![512]⟩ .f32}
  {x14 : FVec Ideal ⟨2, ![512, 512]⟩ .f32}
  {x15 : FVec Ideal ⟨1, ![512]⟩ .f32}
  {x16 : FVec Ideal ⟨2, ![512, 512]⟩ .f32}
  {x17 : FVec Ideal ⟨1, ![512]⟩ .f32}
  {x18 : FVec Ideal ⟨2, ![512, 512]⟩ .f32}
  {x19 : FVec Ideal ⟨1, ![512]⟩ .f32}
  {x20 : FVec Ideal ⟨2, ![3, 512]⟩ .f32}
  {x21 : FVec Ideal ⟨2, ![3, 512]⟩ .f32}
  {x22 : FVec Ideal ⟨3, ![3, 512, 512]⟩ .f32}
  {x23 : FVec Ideal ⟨2, ![3, 512]⟩ .f32}
  {x24 : FVec Ideal ⟨3, ![3, 512, 512]⟩ .f32}
  {x25 : FVec Ideal ⟨2, ![3, 512]⟩ .f32}
  {x26 : FVec Ideal ⟨3, ![3, 512, 512]⟩ .f32}
  {x27 : FVec Ideal ⟨2, ![3, 512]⟩ .f32}
  {x28 : FVec Ideal ⟨3, ![3, 512, 512]⟩ .f32}
  {x29 : FVec Ideal ⟨2, ![3, 512]⟩ .f32}
  {x30 : FVec Ideal ⟨2, ![3, 512]⟩ .f32}
  {x31 : FVec Ideal ⟨2, ![3, 512]⟩ .f32}
  {x32 : FVec Ideal ⟨3, ![3, 512, 2048]⟩ .f32}
  {x33 : FVec Ideal ⟨2, ![3, 2048]⟩ .f32}
  {x34 : FVec Ideal ⟨3, ![3, 2048, 512]⟩ .f32}
  {x35 : FVec Ideal ⟨2, ![3, 512]⟩ .f32}
  {x36 : FVec Ideal ⟨1, ![512]⟩ .f32}
  {x37 : FVec Ideal ⟨1, ![512]⟩ .f32}
  {x38 : FVec Ideal ⟨2, ![512, 2]⟩ .f32}
  {x39 : FVec Ideal ⟨1, ![2]⟩ .f32}

/-- The precondition holds of the arrays. -/
def AsDrawn (x0 : FVec Ideal ⟨3, ![1, 4096, 768]⟩ .f32) (x1 : FVec Ideal ⟨3, ![1, 1024, 2]⟩ .f32) (x2 : IVec ⟨1, ![4096]⟩ 32) (x3 : IVec ⟨1, ![4096]⟩ 32) (x4 : IVec ⟨1, ![1024]⟩ 32) (x5 : IVec ⟨1, ![1024]⟩ 32) (x6 : IVec ⟨3, ![1, 1152, 1152]⟩ 1) (x7 : IVec ⟨3, ![1, 128, 1024]⟩ 1) (x8 : FVec Ideal ⟨2, ![768, 512]⟩ .f32) (x9 : FVec Ideal ⟨1, ![512]⟩ .f32) (x10 : FVec Ideal ⟨1, ![512]⟩ .f32) (x11 : FVec Ideal ⟨1, ![512]⟩ .f32) (x12 : FVec Ideal ⟨2, ![512, 512]⟩ .f32) (x13 : FVec Ideal ⟨1, ![512]⟩ .f32) (x14 : FVec Ideal ⟨2, ![512, 512]⟩ .f32) (x15 : FVec Ideal ⟨1, ![512]⟩ .f32) (x16 : FVec Ideal ⟨2, ![512, 512]⟩ .f32) (x17 : FVec Ideal ⟨1, ![512]⟩ .f32) (x18 : FVec Ideal ⟨2, ![512, 512]⟩ .f32) (x19 : FVec Ideal ⟨1, ![512]⟩ .f32) (x20 : FVec Ideal ⟨2, ![3, 512]⟩ .f32) (x21 : FVec Ideal ⟨2, ![3, 512]⟩ .f32) (x22 : FVec Ideal ⟨3, ![3, 512, 512]⟩ .f32) (x23 : FVec Ideal ⟨2, ![3, 512]⟩ .f32) (x24 : FVec Ideal ⟨3, ![3, 512, 512]⟩ .f32) (x25 : FVec Ideal ⟨2, ![3, 512]⟩ .f32) (x26 : FVec Ideal ⟨3, ![3, 512, 512]⟩ .f32) (x27 : FVec Ideal ⟨2, ![3, 512]⟩ .f32) (x28 : FVec Ideal ⟨3, ![3, 512, 512]⟩ .f32) (x29 : FVec Ideal ⟨2, ![3, 512]⟩ .f32) (x30 : FVec Ideal ⟨2, ![3, 512]⟩ .f32) (x31 : FVec Ideal ⟨2, ![3, 512]⟩ .f32) (x32 : FVec Ideal ⟨3, ![3, 512, 2048]⟩ .f32) (x33 : FVec Ideal ⟨2, ![3, 2048]⟩ .f32) (x34 : FVec Ideal ⟨3, ![3, 2048, 512]⟩ .f32) (x35 : FVec Ideal ⟨2, ![3, 512]⟩ .f32) (x36 : FVec Ideal ⟨1, ![512]⟩ .f32) (x37 : FVec Ideal ⟨1, ![512]⟩ .f32) (x38 : FVec Ideal ⟨2, ![512, 2]⟩ .f32) (x39 : FVec Ideal ⟨1, ![2]⟩ .f32) : Prop :=
  Cert.Pre_inputs_as_drawn.fn (F := Ideal) x0 x1 x2 x3 x4 x5 x6 x7 x8 x9 x10 x11 x12 x13 x14 x15 x16 x17 x18 x19 x20 x21 x22 x23 x24 x25 x26 x27 x28 x29 x30 x31 x32 x33 x34 x35 x36 x37 x38 x39 = fun _ => 1#1

/-- Real tokens and weights, gains one, offsets zero, every position allowed, tokens in slice order, slices permuted. -/
structure Values (x0 : FVec Ideal ⟨3, ![1, 4096, 768]⟩ .f32) (x1 : FVec Ideal ⟨3, ![1, 1024, 2]⟩ .f32) (x2 : IVec ⟨1, ![4096]⟩ 32) (x3 : IVec ⟨1, ![4096]⟩ 32) (x4 : IVec ⟨1, ![1024]⟩ 32) (x5 : IVec ⟨1, ![1024]⟩ 32) (x6 : IVec ⟨3, ![1, 1152, 1152]⟩ 1) (x7 : IVec ⟨3, ![1, 128, 1024]⟩ 1) (x8 : FVec Ideal ⟨2, ![768, 512]⟩ .f32) (x9 : FVec Ideal ⟨1, ![512]⟩ .f32) (x10 : FVec Ideal ⟨1, ![512]⟩ .f32) (x11 : FVec Ideal ⟨1, ![512]⟩ .f32) (x12 : FVec Ideal ⟨2, ![512, 512]⟩ .f32) (x13 : FVec Ideal ⟨1, ![512]⟩ .f32) (x14 : FVec Ideal ⟨2, ![512, 512]⟩ .f32) (x15 : FVec Ideal ⟨1, ![512]⟩ .f32) (x16 : FVec Ideal ⟨2, ![512, 512]⟩ .f32) (x17 : FVec Ideal ⟨1, ![512]⟩ .f32) (x18 : FVec Ideal ⟨2, ![512, 512]⟩ .f32) (x19 : FVec Ideal ⟨1, ![512]⟩ .f32) (x20 : FVec Ideal ⟨2, ![3, 512]⟩ .f32) (x21 : FVec Ideal ⟨2, ![3, 512]⟩ .f32) (x22 : FVec Ideal ⟨3, ![3, 512, 512]⟩ .f32) (x23 : FVec Ideal ⟨2, ![3, 512]⟩ .f32) (x24 : FVec Ideal ⟨3, ![3, 512, 512]⟩ .f32) (x25 : FVec Ideal ⟨2, ![3, 512]⟩ .f32) (x26 : FVec Ideal ⟨3, ![3, 512, 512]⟩ .f32) (x27 : FVec Ideal ⟨2, ![3, 512]⟩ .f32) (x28 : FVec Ideal ⟨3, ![3, 512, 512]⟩ .f32) (x29 : FVec Ideal ⟨2, ![3, 512]⟩ .f32) (x30 : FVec Ideal ⟨2, ![3, 512]⟩ .f32) (x31 : FVec Ideal ⟨2, ![3, 512]⟩ .f32) (x32 : FVec Ideal ⟨3, ![3, 512, 2048]⟩ .f32) (x33 : FVec Ideal ⟨2, ![3, 2048]⟩ .f32) (x34 : FVec Ideal ⟨3, ![3, 2048, 512]⟩ .f32) (x35 : FVec Ideal ⟨2, ![3, 512]⟩ .f32) (x36 : FVec Ideal ⟨1, ![512]⟩ .f32) (x37 : FVec Ideal ⟨1, ![512]⟩ .f32) (x38 : FVec Ideal ⟨2, ![512, 2]⟩ .f32) (x39 : FVec Ideal ⟨1, ![2]⟩ .f32) : Prop where
  e0 : ∀ i, x0 i = (((x0 i : EReal).toReal : ℝ) : EReal)
  e8 : ∀ i, x8 i = (((x8 i : EReal).toReal : ℝ) : EReal)
  e12 : ∀ i, x12 i = (((x12 i : EReal).toReal : ℝ) : EReal)
  e14 : ∀ i, x14 i = (((x14 i : EReal).toReal : ℝ) : EReal)
  e16 : ∀ i, x16 i = (((x16 i : EReal).toReal : ℝ) : EReal)
  e18 : ∀ i, x18 i = (((x18 i : EReal).toReal : ℝ) : EReal)
  e22 : ∀ i, x22 i = (((x22 i : EReal).toReal : ℝ) : EReal)
  e24 : ∀ i, x24 i = (((x24 i : EReal).toReal : ℝ) : EReal)
  e26 : ∀ i, x26 i = (((x26 i : EReal).toReal : ℝ) : EReal)
  e28 : ∀ i, x28 i = (((x28 i : EReal).toReal : ℝ) : EReal)
  e32 : ∀ i, x32 i = (((x32 i : EReal).toReal : ℝ) : EReal)
  e34 : ∀ i, x34 i = (((x34 i : EReal).toReal : ℝ) : EReal)
  e38 : ∀ i, x38 i = (((x38 i : EReal).toReal : ℝ) : EReal)
  e10 : ∀ i, x10 i = ((1 : ℝ) : EReal)
  e20 : ∀ i, x20 i = ((1 : ℝ) : EReal)
  e30 : ∀ i, x30 i = ((1 : ℝ) : EReal)
  e36 : ∀ i, x36 i = ((1 : ℝ) : EReal)
  e9 : ∀ i, x9 i = ((0 : ℝ) : EReal)
  e11 : ∀ i, x11 i = ((0 : ℝ) : EReal)
  e13 : ∀ i, x13 i = ((0 : ℝ) : EReal)
  e15 : ∀ i, x15 i = ((0 : ℝ) : EReal)
  e17 : ∀ i, x17 i = ((0 : ℝ) : EReal)
  e19 : ∀ i, x19 i = ((0 : ℝ) : EReal)
  e21 : ∀ i, x21 i = ((0 : ℝ) : EReal)
  e23 : ∀ i, x23 i = ((0 : ℝ) : EReal)
  e25 : ∀ i, x25 i = ((0 : ℝ) : EReal)
  e27 : ∀ i, x27 i = ((0 : ℝ) : EReal)
  e29 : ∀ i, x29 i = ((0 : ℝ) : EReal)
  e31 : ∀ i, x31 i = ((0 : ℝ) : EReal)
  e33 : ∀ i, x33 i = ((0 : ℝ) : EReal)
  e35 : ∀ i, x35 i = ((0 : ℝ) : EReal)
  e37 : ∀ i, x37 i = ((0 : ℝ) : EReal)
  e39 : ∀ i, x39 i = ((0 : ℝ) : EReal)
  e6 : ∀ i, x6 i = 1#1
  e7 : ∀ i, x7 i = 1#1
  e3 : ∀ i : Fin 4096, (x3 (ix1 i)).toNat = i.val
  e2 : ∀ i : Fin 4096, (x2 (ix1 i)).toNat = i.val / 4
  e5 : ∃ σ : Equiv.Perm (Fin 1024), ∀ i : Fin 1024, (x5 (ix1 i)).toNat = (σ i).val

/-- The tokens' order is the identity. -/
theorem order_of {v : IVec T0 1} {hr : Shape.ReducesTo ⟨1, ![4096]⟩ [0] T0} {hu : 0 < T0.numel}
    (h : Host.reduce IntOp.andi (cmpi .eq x3 (iotaInDim ⟨1, ![4096]⟩ 32 0)) v hr hu = fun _ => 1#1) (i : Fin 4096) : (x3 (ix1 i)).toNat = i.val := by
  have e := table_true h (ix1 i)
  have e' : IntOp.cmpi .eq (x3 (ix1 i)) (BitVec.ofNat 32 i.val) = 1#1 := e
  exact toNat_of_eq (by omega) e'

/-- Token `i` belongs to slice `i / 4`. -/
theorem labels_of {v : IVec T0 1} {hs : Shape.ShapeCasts ⟨1, ![4096]⟩ ⟨2, ![1024, 4]⟩} {hr : Shape.ReducesTo ⟨2, ![1024, 4]⟩ [0, 1] T0} {hu : 0 < T0.numel}
    (h : Host.reduce IntOp.andi (cmpi .eq (shapeCast ⟨2, ![1024, 4]⟩ x2 hs) (iotaInDim ⟨2, ![1024, 4]⟩ 32 0)) v hr hu = fun _ => 1#1)
    (i : Fin 4096) : (x2 (ix1 i)).toNat = i.val / 4 := by
  have e := table_true h (ix2 ⟨i.val / 4, by omega⟩ ⟨i.val % 4, by omega⟩)
  have e' : IntOp.cmpi .eq (shapeCast ⟨2, ![1024, 4]⟩ x2 hs (ix2 ⟨i.val / 4, by omega⟩ ⟨i.val % 4, by omega⟩)) (BitVec.ofNat 32 (i.val / 4)) = 1#1 := e
  have r : shapeCast ⟨2, ![1024, 4]⟩ x2 hs (ix2 ⟨i.val / 4, by omega⟩ ⟨i.val % 4, by omega⟩) = x2 (ix1 i) := by
    refine shapeCast_apply x2 hs _ _ ?_
    rw [Shape.rowMajor_val_one, Shape.rowMajor_val_two]
    show i.val = i.val / 4 * 4 + i.val % 4
    omega
  rw [r] at e'
  exact toNat_of_eq (by omega) e'

/-- The slices' order is a permutation: every place is among the 1024, and no two are equal. -/
theorem permutation_of {b0 b1 : Shape.BroadcastsInDim T0 ⟨1, ![1024]⟩ (![] : Fin 0 → Fin 1)} {v0 v1 v2 : IVec T0 1}
    {hr0 hr1 : Shape.ReducesTo ⟨1, ![1024]⟩ [0] T0} {hr2 : Shape.ReducesTo ⟨2, ![1024, 1024]⟩ [0, 1] T0} {hu0 hu1 hu2 : 0 < T0.numel}
    {c0 : Shape.BroadcastsInDim ⟨1, ![1024]⟩ ⟨2, ![1024, 1]⟩ (![0] : Fin 1 → Fin 2)} {c1 : Shape.BroadcastsInDim ⟨1, ![1024]⟩ ⟨2, ![1, 1024]⟩ (![1] : Fin 1 → Fin 2)}
    {d0 : Shape.BroadcastsInDim ⟨2, ![1024, 1]⟩ ⟨2, ![1024, 1024]⟩ (![0, 1] : Fin 2 → Fin 2)} {d1 : Shape.BroadcastsInDim ⟨2, ![1, 1024]⟩ ⟨2, ![1024, 1024]⟩ (![0, 1] : Fin 2 → Fin 2)}
    (h0 : Host.reduce IntOp.andi (cmpi .sge x5 (broadcastInDim ⟨1, ![1024]⟩ ![] b0 (constantI T0 32 0#32))) v0 hr0 hu0 = fun _ => 1#1)
    (h1 : Host.reduce IntOp.andi (cmpi .slt x5 (broadcastInDim ⟨1, ![1024]⟩ ![] b1 (constantI T0 32 1024#32))) v1 hr1 hu1 = fun _ => 1#1)
    (h2 : Host.reduce IntOp.andi (ori (cmpi .ne (broadcastInDim ⟨2, ![1024, 1024]⟩ ![0, 1] d0 (broadcastInDim ⟨2, ![1024, 1]⟩ ![0] c0 x5))
      (broadcastInDim ⟨2, ![1024, 1024]⟩ ![0, 1] d1 (broadcastInDim ⟨2, ![1, 1024]⟩ ![1] c1 x5)))
      (cmpi .eq (iotaInDim ⟨2, ![1024, 1024]⟩ 32 0) (iotaInDim ⟨2, ![1024, 1024]⟩ 32 1))) v2 hr2 hu2 = fun _ => 1#1) :
    ∃ σ : Equiv.Perm (Fin 1024), ∀ i : Fin 1024, (x5 (ix1 i)).toNat = (σ i).val := by
  have lt : ∀ i : Fin 1024, (x5 (ix1 i)).toNat < 1024 := fun i => by
    have a := table_true h0 (ix1 i)
    have b := table_true h1 (ix1 i)
    have a' : IntOp.cmpi .sge (x5 (ix1 i)) 0#32 = 1#1 := a
    have b' : IntOp.cmpi .slt (x5 (ix1 i)) 1024#32 = 1#1 := b
    rw [Idealize.ShloMosaic.WordCmp.cmpi_sge_eq] at a'
    rw [Idealize.ShloMosaic.WordCmp.cmpi_slt_eq] at b'
    have a2 : (0#32 : BitVec 32).toInt ≤ (x5 (ix1 i)).toInt := holds_of_one a'
    have b2 : (x5 (ix1 i)).toInt < (1024#32 : BitVec 32).toInt := holds_of_one b'
    have z : (0#32 : BitVec 32).toInt = 0 := by decide
    have k : (1024#32 : BitVec 32).toInt = 1024 := by decide
    rw [z] at a2; rw [k] at b2
    have := BitVec.toInt_eq_toNat_cond (x5 (ix1 i))
    split at this <;> omega
  let g : Fin 1024 → Fin 1024 := fun i => ⟨(x5 (ix1 i)).toNat, lt i⟩
  have inj : Function.Injective g := fun i j e => by
    have e1 : (x5 (ix1 i)).toNat = (x5 (ix1 j)).toNat := congrArg (fun k : Fin 1024 => k.val) e
    have e2 : x5 (ix1 i) = x5 (ix1 j) := BitVec.eq_of_toNat_eq e1
    have a := table_true h2 (ix2 i j)
    have ri : broadcastInDim ⟨2, ![1024, 1024]⟩ ![0, 1] d0 (broadcastInDim ⟨2, ![1024, 1]⟩ ![0] c0 x5) (ix2 i j) = x5 (ix1 i) := by
      show x5 _ = _
      congr 1; funext a; apply Fin.ext; match a with | ⟨0, _⟩ => rfl
    have rj : broadcastInDim ⟨2, ![1024, 1024]⟩ ![0, 1] d1 (broadcastInDim ⟨2, ![1, 1024]⟩ ![1] c1 x5) (ix2 i j) = x5 (ix1 j) := by
      show x5 _ = _
      congr 1; funext a; apply Fin.ext; match a with | ⟨0, _⟩ => rfl
    have a' : IntOp.ori (IntOp.cmpi .ne (broadcastInDim ⟨2, ![1024, 1024]⟩ ![0, 1] d0 (broadcastInDim ⟨2, ![1024, 1]⟩ ![0] c0 x5) (ix2 i j))
      (broadcastInDim ⟨2, ![1024, 1024]⟩ ![0, 1] d1 (broadcastInDim ⟨2, ![1, 1024]⟩ ![1] c1 x5) (ix2 i j))) (IntOp.cmpi .eq (BitVec.ofNat 32 i.val) (BitVec.ofNat 32 j.val)) = 1#1 := a
    rw [ri, rj, e2] at a'
    have n : IntOp.cmpi .ne (x5 (ix1 j)) (x5 (ix1 j)) = 0#1 := by simp [IntOp.cmpi]
    rw [n] at a'
    have q : IntOp.cmpi .eq (BitVec.ofNat 32 i.val) (BitVec.ofNat 32 j.val) = 1#1 := by simpa [IntOp.ori] using a'
    have := toNat_of_eq (by omega) q
    rw [BitVec.toNat_ofNat, Nat.mod_eq_of_lt (by omega)] at this
    exact Fin.ext this
  exact ⟨Equiv.ofBijective g (Finite.injective_iff_bijective.mp inj), fun i => rfl⟩

/-- What the precondition says. -/
theorem values_of (h : AsDrawn x0 x1 x2 x3 x4 x5 x6 x7 x8 x9 x10 x11 x12 x13 x14 x15 x16 x17 x18 x19 x20 x21 x22 x23 x24 x25 x26 x27 x28 x29 x30 x31 x32 x33 x34 x35 x36 x37 x38 x39) : Values x0 x1 x2 x3 x4 x5 x6 x7 x8 x9 x10 x11 x12 x13 x14 x15 x16 x17 x18 x19 x20 x21 x22 x23 x24 x25 x26 x27 x28 x29 x30 x31 x32 x33 x34 x35 x36 x37 x38 x39 := by
  obtain ⟨h39, t39⟩ := both h
  obtain ⟨h38, t38⟩ := both h39
  obtain ⟨h37, t37⟩ := both h38
  obtain ⟨h36, t36⟩ := both h37
  obtain ⟨h35, t35⟩ := both h36
  obtain ⟨h34, t34⟩ := both h35
  obtain ⟨h33, t33⟩ := both h34
  obtain ⟨h32, t32⟩ := both h33
  obtain ⟨h31, t31⟩ := both h32
  obtain ⟨h30, t30⟩ := both h31
  obtain ⟨h29, t29⟩ := both h30
  obtain ⟨h28, t28⟩ := both h29
  obtain ⟨h27, t27⟩ := both h28
  obtain ⟨h26, t26⟩ := both h27
  obtain ⟨h25, t25⟩ := both h26
  obtain ⟨h24, t24⟩ := both h25
  obtain ⟨h23, t23⟩ := both h24
  obtain ⟨h22, t22⟩ := both h23
  obtain ⟨h21, t21⟩ := both h22
  obtain ⟨h20, t20⟩ := both h21
  obtain ⟨h19, t19⟩ := both h20
  obtain ⟨h18, t18⟩ := both h19
  obtain ⟨h17, t17⟩ := both h18
  obtain ⟨h16, t16⟩ := both h17
  obtain ⟨h15, t15⟩ := both h16
  obtain ⟨h14, t14⟩ := both h15
  obtain ⟨h13, t13⟩ := both h14
  obtain ⟨h12, t12⟩ := both h13
  obtain ⟨h11, t11⟩ := both h12
  obtain ⟨h10, t10⟩ := both h11
  obtain ⟨h9, t9⟩ := both h10
  obtain ⟨h8, t8⟩ := both h9
  obtain ⟨h7, t7⟩ := both h8
  obtain ⟨h6, t6⟩ := both h7
  obtain ⟨h5, t5⟩ := both h6
  obtain ⟨h4, t4⟩ := both h5
  obtain ⟨h3, t3⟩ := both h4
  obtain ⟨h2, t2⟩ := both h3
  obtain ⟨h1, t1⟩ := both h2
  exact ⟨real_of_finite h1, real_of_finite t1, real_of_finite t2, real_of_finite t3, real_of_finite t4, real_of_finite t5, real_of_finite t6, real_of_finite t7, real_of_finite t8, real_of_finite t9, real_of_finite t10, real_of_finite t11, real_of_finite t12, const_of_equal word_one t13, const_of_equal word_one t14, const_of_equal word_one t15, const_of_equal word_one t16, const_of_equal word_zero t17, const_of_equal word_zero t18, const_of_equal word_zero t19, const_of_equal word_zero t20, const_of_equal word_zero t21, const_of_equal word_zero t22, const_of_equal word_zero t23, const_of_equal word_zero t24, const_of_equal word_zero t25, const_of_equal word_zero t26, const_of_equal word_zero t27, const_of_equal word_zero t28, const_of_equal word_zero t29, const_of_equal word_zero t30, const_of_equal word_zero t31, const_of_equal word_zero t32, table_true t33, table_true t34, order_of t35, labels_of t36, permutation_of t37 t38 t39⟩

end Blocks
-- ==== Proof.KernelIdealEmbedRuns.lean ====
/- The first call: its windows' blocks and its staging buffers. -/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.Frame
public import Idealize.ShloMosaic.Lib.Pipeline.FrameBody
public import Idealize.ShloMosaic.Lib.Exec
public import Idealize.ShloMosaic.Lib.Ring
public import Idealize.ShloMosaic.Lib.Tactic
public import Idealize.ShloMosaic.Lib.WordCmp

@[expose] public section

set_option maxRecDepth 16384

noncomputable section

namespace Cert.KernelIdeal.Embed0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## The windows' blocks -/

/-- Window w's block at point t, read off its array as the region finds it (V). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point. -/
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point. -/
theorem before0_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point. -/
theorem before0_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point. -/
theorem before0_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point. -/
theorem before0_6_of {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- One staging buffer of output window 7, through which its contents are stated (View.read_writes_of_cover: the choice does not matter). -/
abbrev VO0_7 : View sig .tc .vmem S1152x512 .f32 := (Memref.whole cc0_stg7_0 : Memref sig .tc .vmem S1152x512 .f32).view
/-- Each window's current staging memref at point t, spelled as the pipeline passes it (bodyAt0), and its wholeness. -/
abbrev ms0_0 (t : Fin cfg0.N) : Memref sig .tc .vmem S1024x3072 .f32 := win0_0.stage (cfg0.slots t 0)
abbrev hs0_0 (t : Fin cfg0.N) : (ms0_0 t).IsWhole := hstage0_0 0
abbrev ms0_1 (t : Fin cfg0.N) : Memref sig .tc .vmem S768x512 .f32 := win0_1.stage (cfg0.slots t 1)
abbrev hs0_1 (t : Fin cfg0.N) : (ms0_1 t).IsWhole := hstage0_1 0
abbrev ms0_2 (t : Fin cfg0.N) : Memref sig .tc .vmem S8x1024 .i32 := win0_2.stage (cfg0.slots t 2)
abbrev hs0_2 (t : Fin cfg0.N) : (ms0_2 t).IsWhole := hstage0_2 0
abbrev ms0_3 (t : Fin cfg0.N) : Memref sig .tc .vmem S512x512 .f32 := win0_3.stage (cfg0.slots t 3)
abbrev hs0_3 (t : Fin cfg0.N) : (ms0_3 t).IsWhole := hstage0_3 0
abbrev ms0_4 (t : Fin cfg0.N) : Memref sig .tc .vmem S512x512 .f32 := win0_4.stage (cfg0.slots t 4)
abbrev hs0_4 (t : Fin cfg0.N) : (ms0_4 t).IsWhole := hstage0_4 0
abbrev ms0_5 (t : Fin cfg0.N) : Memref sig .tc .vmem S512x512 .f32 := win0_5.stage (cfg0.slots t 5)
abbrev hs0_5 (t : Fin cfg0.N) : (ms0_5 t).IsWhole := hstage0_5 0
abbrev ms0_6 (t : Fin cfg0.N) : Memref sig .tc .vmem S512x512 .f32 := win0_6.stage (cfg0.slots t 6)
abbrev hs0_6 (t : Fin cfg0.N) : (ms0_6 t).IsWhole := hstage0_6 0
abbrev ms0_7 (t : Fin cfg0.N) : Memref sig .tc .vmem S1152x512 .f32 := win0_7.stage (cfg0.slots t 7)
abbrev hs0_7 (t : Fin cfg0.N) : (ms0_7 t).IsWhole := hstage0_7 0

end Cert.KernelIdeal.Embed0

end
-- ==== Proof.KernelIdealEmbedRunA.lean ====
/- The first call: its body run. -/
module

public import proofs.«01_k».proof.Proof.KernelIdealEmbedRuns

@[expose] public section

set_option maxRecDepth 16384

noncomputable section

namespace Cert.KernelIdeal.Embed0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref. -/
noncomputable def kernelRun0_A (c : Dev nD) (arg0 : Memref sig .tc .vmem S1024x3072 .f32) (harg0 : arg0.IsWhole) (arg1 : Memref sig .tc .vmem S768x512 .f32) (harg1 : arg1.IsWhole) (arg2 : Memref sig .tc .vmem S8x1024 .i32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1152x512 .f32) (harg7 : arg7.IsWhole)
    (x0 : Vec F S1024x3072 .f32) (x1 : Vec F S768x512 .f32) (x2 : Vec F S8x1024 .i32) (x3 : Vec F S512x512 .f32) (x4 : Vec F S512x512 .f32) (x5 : Vec F S512x512 .f32) (x6 : Vec F S512x512 .f32) :
    { L7 : List (View.Piece (Elt F) S1152x512 .f32) //
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ f, arg7.view.loc (c : Thread nD τ) ↦[arg7.view.set]{fullShare} arg7.view.writes (Elt F) f L7)) -∗ K ⟨⟩))
          ⊢ wp frame (wpE (defs₀ (F := F)) Variants.none c none) E (cc0__embed_kernel arg0 harg0 arg1 harg1 arg2 harg2 arg3 harg3 arg4 harg4 arg5 harg5 arg6 harg6 arg7 harg7) K } := by
  refine ⟨?_, fun E K => ?run⟩
  case run =>
    simp only [cc0__embed_kernel_eq_skeleton]; unfold cc0__embed_kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; iexact H7

end Cert.KernelIdeal.Embed0

end
-- ==== Proof.KernelIdealEmbedFrame.lean ====
/- The first call: what it leaves and its body's obligation. -/
module

public import proofs.«01_k».proof.Proof.KernelIdealEmbedRunA

@[expose] public section

set_option maxRecDepth 16384

noncomputable section

namespace Cert.KernelIdeal.Embed0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-- The body's two stores cover the whole of output 7. -/
theorem cover0_A_7 (c : Dev nD) (arg0 : Memref sig .tc .vmem S1024x3072 .f32) (harg0 : arg0.IsWhole) (arg1 : Memref sig .tc .vmem S768x512 .f32) (harg1 : arg1.IsWhole) (arg2 : Memref sig .tc .vmem S8x1024 .i32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1152x512 .f32) (harg7 : arg7.IsWhole)
    (x0 : Vec F S1024x3072 .f32) (x1 : Vec F S768x512 .f32) (x2 : Vec F S8x1024 .i32) (x3 : Vec F S512x512 .f32) (x4 : Vec F S512x512 .f32) (x5 : Vec F S512x512 .f32) (x6 : Vec F S512x512 .f32) (y : S1152x512.Idx) :
    ∃ pc ∈ (kernelRun0_A c arg0 harg0 arg1 harg1 arg2 harg2 arg3 harg3 arg4 harg4 arg5 harg5 arg6 harg6 arg7 harg7 x0 x1 x2 x3 x4 x5 x6).1, y ∈ pc.1.set :=
  View.cover_of_tiledBy (kernelRun0_A c arg0 harg0 arg1 harg1 arg2 harg2 arg3 harg3 arg4 harg4 arg5 harg5 arg6 harg6 arg7 harg7 x0 x1 x2 x3 x4 x5 x6).1 ![128, 512] (by sl_kernel_rfl) y

/-- What the run leaves in output 7's staging buffer: its pieces read back over junk. -/
def out0_A_7 (c : Dev nD) (arg0 : Memref sig .tc .vmem S1024x3072 .f32) (harg0 : arg0.IsWhole) (arg1 : Memref sig .tc .vmem S768x512 .f32) (harg1 : arg1.IsWhole) (arg2 : Memref sig .tc .vmem S8x1024 .i32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1152x512 .f32) (harg7 : arg7.IsWhole)
    (x0 : Vec F S1024x3072 .f32) (x1 : Vec F S768x512 .f32) (x2 : Vec F S8x1024 .i32) (x3 : Vec F S512x512 .f32) (x4 : Vec F S512x512 .f32) (x5 : Vec F S512x512 .f32) (x6 : Vec F S512x512 .f32) : Vec F S1152x512 .f32 :=
  VO0_7.read (Elt F) (VO0_7.writes (Elt F) VO0_7.junk (kernelRun0_A c arg0 harg0 arg1 harg1 arg2 harg2 arg3 harg3 arg4 harg4 arg5 harg5 arg6 harg6 arg7 harg7 x0 x1 x2 x3 x4 x5 x6).1)

/-! ## What the outputs hold after each point -/

/-- What the outputs' staging buffers hold after the body at point t: the run's contents at the point's memrefs and input blocks. -/
def outsAt0 (c : Dev nD) (t : Fin cfg0.N) : Vec F S1152x512 .f32 :=
  out0_A_7 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk V c 0 t) (iblk V c 1 t) (iblk V c 2 t) (iblk V c 3 t) (iblk V c 4 t) (iblk V c 5 t) (iblk V c 6 t)

/-! ## The pipeline's proof data -/

/-- The proof data of the one pipeline on core c. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => (outsAt0 V c t)
  Φ _ := Pipeline.scopedRest (Ix := Unit) (Name := ℕ) (U := UR sig nD τ) (Lvl := ℕ) (Val := Elt F) spec0 c
  q _ := fullShare
  owed _ := 0

/-- The proof data's arrays are the region-entry contents. -/
theorem A_eq (c : Dev nD) (w : Fin cfg0.W) : (dat V c).A w = V c (Pipeline.arrRef spec0 w) := by
  dsimp only [dat]

/-- What the body leaves, window by window (the proof data's match reduced by dsimp). -/
theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = iblk V c 2 t := by dsimp only [dat]
theorem after0_3 (c : Dev nD) (t : Fin cfg0.N) : (dat V c).after 3 t = iblk V c 3 t := by dsimp only [dat]
theorem after0_4 (c : Dev nD) (t : Fin cfg0.N) : (dat V c).after 4 t = iblk V c 4 t := by dsimp only [dat]
theorem after0_5 (c : Dev nD) (t : Fin cfg0.N) : (dat V c).after 5 t = iblk V c 5 t := by dsimp only [dat]
theorem after0_6 (c : Dev nD) (t : Fin cfg0.N) : (dat V c).after 6 t = iblk V c 6 t := by dsimp only [dat]
theorem after0_7 (c : Dev nD) (t : Fin cfg0.N) : (dat V c).after 7 t = (outsAt0 V c t) := by dsimp only [dat]

/-- Each input's current staging buffer holds its block at every point, fetched there or not (beforeK_W_of). -/
theorem before0_0 (c : Dev nD) (t : Fin cfg0.N) (d) : (dat V c).before 0 t d = iblk V c 0 t :=
  before0_0_of V (dat V c) (A_eq V c 0) (after0_0 V c) t d
theorem before0_1 (c : Dev nD) (t : Fin cfg0.N) (d) : (dat V c).before 1 t d = iblk V c 1 t :=
  before0_1_of V (dat V c) (A_eq V c 1) (after0_1 V c) t d
theorem before0_2 (c : Dev nD) (t : Fin cfg0.N) (d) : (dat V c).before 2 t d = iblk V c 2 t :=
  before0_2_of V (dat V c) (A_eq V c 2) (after0_2 V c) t d
theorem before0_3 (c : Dev nD) (t : Fin cfg0.N) (d) : (dat V c).before 3 t d = iblk V c 3 t :=
  before0_3_of V (dat V c) (A_eq V c 3) (after0_3 V c) t d
theorem before0_4 (c : Dev nD) (t : Fin cfg0.N) (d) : (dat V c).before 4 t d = iblk V c 4 t :=
  before0_4_of V (dat V c) (A_eq V c 4) (after0_4 V c) t d
theorem before0_5 (c : Dev nD) (t : Fin cfg0.N) (d) : (dat V c).before 5 t d = iblk V c 5 t :=
  before0_5_of V (dat V c) (A_eq V c 5) (after0_5 V c) t d
theorem before0_6 (c : Dev nD) (t : Fin cfg0.N) (d) : (dat V c).before 6 t d = iblk V c 6 t :=
  before0_6_of V (dat V c) (A_eq V c 6) (after0_6 V c) t d

/-! ## The body obligation, at a generic point -/

/-- What the body is called with at point t (Lib/Pipeline.lean BodyObligation's precondition, the windows one by one). -/
def bodyPre (c : Dev nD) (t : Fin cfg0.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d))
    ∗ (∃ d, owns (c : Thread nD τ) (ms0_4 t) fullShare ((dat V c).before 4 t d))
    ∗ (∃ d, owns (c : Thread nD τ) (ms0_5 t) fullShare ((dat V c).before 5 t d))
    ∗ (∃ d, owns (c : Thread nD τ) (ms0_6 t) fullShare ((dat V c).before 6 t d))
    ∗ (∃ d, owns (c : Thread nD τ) (ms0_7 t) fullShare ((dat V c).before 7 t d)))

/-- and what it returns. -/
def bodyPost (c : Dev nD) (t : Fin cfg0.N) : sProp 𝕄 :=
  iprop((dat V c).Φ t.succ ∗ (dat V c).owesAt () t.succ
    ∗ owns (c : Thread nD τ) (ms0_0 t) fullShare ((dat V c).after 0 t)
    ∗ owns (c : Thread nD τ) (ms0_1 t) fullShare ((dat V c).after 1 t)
    ∗ owns (c : Thread nD τ) (ms0_2 t) fullShare ((dat V c).after 2 t)
    ∗ owns (c : Thread nD τ) (ms0_3 t) fullShare ((dat V c).after 3 t)
    ∗ owns (c : Thread nD τ) (ms0_4 t) fullShare ((dat V c).after 4 t)
    ∗ owns (c : Thread nD τ) (ms0_5 t) fullShare ((dat V c).after 5 t)
    ∗ owns (c : Thread nD τ) (ms0_6 t) fullShare ((dat V c).after 6 t)
    ∗ owns (c : Thread nD τ) (ms0_7 t) fullShare ((dat V c).after 7 t))

set_option maxHeartbeats 800000 in
/-- The body at any point: the inputs' memrefs hold their blocks (before0_W). -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4, before0_5, before0_6]
  rw [show (dat V c).Φ t.succ = (dat V c).Φ t.castSucc from rfl,
    show (dat V c).owesAt () t.succ = (dat V c).owesAt () t.castSucc from rfl,
    after0_0, after0_1, after0_2, after0_3, after0_4, after0_5, after0_6, after0_7]
  unfold outsAt0
  unfold out0_A_7
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c _ _ _ _ _ _ _ _ _ _ _ _ _ _ _ _ (iblk V c 0 t) (iblk V c 1 t) (iblk V c 2 t) (iblk V c 3 t) (iblk V c 4 t) (iblk V c 5 t) (iblk V c 6 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (cover0_A_7 c _ _ _ _ _ _ _ _ _ _ _ _ _ _ _ _ _ _ _ _ _ _ _)

/-- The body table's row at point t's slots is the body as bodyAt0 spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean triple_restated). -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

end Cert.KernelIdeal.Embed0

end
-- ==== Proof.KernelIdealBlocksRuns.lean ====
/- The blocks' call: its windows' blocks, its branch conditions and its staging buffers. -/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.Frame
public import Idealize.ShloMosaic.Lib.Pipeline.FrameBody
public import Idealize.ShloMosaic.Lib.Exec
public import Idealize.ShloMosaic.Lib.Ring
public import Idealize.ShloMosaic.Lib.Tactic
public import Idealize.ShloMosaic.Lib.WordCmp

@[expose] public section

set_option maxRecDepth 16384

noncomputable section

namespace Cert.KernelIdeal.Blocks1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## The windows' blocks -/

/-- Window w's block at point t, read off its array as the region finds it (V). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point. -/
theorem before0_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point. -/
theorem before0_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point. -/
theorem before0_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point. -/
theorem before0_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point. -/
theorem before0_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point. -/
theorem before0_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point. -/
theorem before0_6_of {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point. -/
theorem before0_7_of {c : Dev nD} (dat : Dat τ (Elt F) Unit ℕ (UR sig nD τ) ℕ cfg1 c) (hA : dat.A 7 = V c (Pipeline.arrRef spec1 7))
    (hafter : ∀ t, dat.after 7 t = iblk V c 7 t) (t : Fin cfg1.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's scf.if 0 (k1_h1), from the grid coordinates (the skeleton's scalar chain substituted). -/
abbrev cond0_0 (i : grid1.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg1.N, cond0_0 (grid1.coords t) ↔ t.val % 3 = 0 :=
  (fun t => by
    have ht : t.val < 3 := Nat.lt_of_lt_of_eq t.isLt N_1
    have e0 : (grid1.coords t 0).val = t.val / 1 % 3 := Pipeline.Grid.coords_val t 0 (by decide) rfl
    simp only [cond0_0, e0]
    word_cmp
   : ∀ t : Fin grid1.N, cond0_0 (grid1.coords t) ↔ t.val % 3 = 0)

/-- The condition of the body's scf.if 1 (k1_h2), from the grid coordinates (the skeleton's scalar chain substituted). -/
abbrev cond0_1 (i : grid1.Coords) : Prop := k1_cond2 i = 1#1
/-- It holds at the last point only — by arithmetic of the point. -/
theorem hcond0_1 : ∀ t : Fin cfg1.N, cond0_1 (grid1.coords t) ↔ t.val % 3 = 2 :=
  (fun t => by
    have ht : t.val < 3 := Nat.lt_of_lt_of_eq t.isLt N_1
    have e0 : (grid1.coords t 0).val = t.val / 1 % 3 := Pipeline.Grid.coords_val t 0 (by decide) rfl
    simp only [cond0_1, k1_cond2, e0]
    word_cmp
   : ∀ t : Fin grid1.N, cond0_1 (grid1.coords t) ↔ t.val % 3 = 2)

/-! ## Where the windows are idle (the printed configuration's table `Cfg.idle`) -/

/-- Window 0 is never idle (an input). -/
theorem liveAt0_0 : ∀ t : Fin cfg1.N, cfg1.idle 0 (grid1.coords t) = false := fun _ => rfl
/-- Window 1 is never idle (an input). -/
theorem liveAt0_1 : ∀ t : Fin cfg1.N, cfg1.idle 1 (grid1.coords t) = false := fun _ => rfl
/-- Window 2 is never idle (an input). -/
theorem liveAt0_2 : ∀ t : Fin cfg1.N, cfg1.idle 2 (grid1.coords t) = false := fun _ => rfl
/-- Window 3 is never idle (an input). -/
theorem liveAt0_3 : ∀ t : Fin cfg1.N, cfg1.idle 3 (grid1.coords t) = false := fun _ => rfl
/-- Window 4 is never idle (an input). -/
theorem liveAt0_4 : ∀ t : Fin cfg1.N, cfg1.idle 4 (grid1.coords t) = false := fun _ => rfl
/-- Window 5 is never idle (an input). -/
theorem liveAt0_5 : ∀ t : Fin cfg1.N, cfg1.idle 5 (grid1.coords t) = false := fun _ => rfl
/-- Window 6 is never idle (an input). -/
theorem liveAt0_6 : ∀ t : Fin cfg1.N, cfg1.idle 6 (grid1.coords t) = false := fun _ => rfl
/-- Window 7 is never idle (an input). -/
theorem liveAt0_7 : ∀ t : Fin cfg1.N, cfg1.idle 7 (grid1.coords t) = false := fun _ => rfl
/-- At the points of case A the printed configuration (Cfg.idle) calls output 8 idle: the case stores nothing into it. -/
theorem idleAt0_8_A : ∀ t : Fin cfg1.N, cond0_0 (grid1.coords t) → ¬cond0_1 (grid1.coords t) → cfg1.idle 8 (grid1.coords t) = true := by decide +kernel
/-- At the points of case A the pipeline does not write output 8's block back. -/
theorem noFlush0_8_A : ∀ t : Fin cfg1.N, cond0_0 (grid1.coords t) → ¬cond0_1 (grid1.coords t) → (cfg1.win 8).flush t = false := by decide +kernel
/-- At the points of case B the printed configuration (Cfg.idle) calls output 8 idle: the case stores nothing into it. -/
theorem idleAt0_8_B : ∀ t : Fin cfg1.N, ¬cond0_0 (grid1.coords t) → ¬cond0_1 (grid1.coords t) → cfg1.idle 8 (grid1.coords t) = true := by decide +kernel
/-- At the points of case B the pipeline does not write output 8's block back. -/
theorem noFlush0_8_B : ∀ t : Fin cfg1.N, ¬cond0_0 (grid1.coords t) → ¬cond0_1 (grid1.coords t) → (cfg1.win 8).flush t = false := by decide +kernel
/-- At the points of case C the printed configuration (Cfg.idle) calls output 8 live: the case stores into it. -/
theorem liveAt0_8_C : ∀ t : Fin cfg1.N, ¬cond0_0 (grid1.coords t) → cond0_1 (grid1.coords t) → cfg1.idle 8 (grid1.coords t) = false := by decide +kernel
/-- At the points of case A the printed configuration (Cfg.idle) calls output 9 idle: the case stores nothing into it. -/
theorem idleAt0_9_A : ∀ t : Fin cfg1.N, cond0_0 (grid1.coords t) → ¬cond0_1 (grid1.coords t) → cfg1.idle 9 (grid1.coords t) = true := by decide +kernel
/-- At the points of case A the pipeline does not write output 9's block back. -/
theorem noFlush0_9_A : ∀ t : Fin cfg1.N, cond0_0 (grid1.coords t) → ¬cond0_1 (grid1.coords t) → (cfg1.win 9).flush t = false := by decide +kernel
/-- At the points of case B the printed configuration (Cfg.idle) calls output 9 idle: the case stores nothing into it. -/
theorem idleAt0_9_B : ∀ t : Fin cfg1.N, ¬cond0_0 (grid1.coords t) → ¬cond0_1 (grid1.coords t) → cfg1.idle 9 (grid1.coords t) = true := by decide +kernel
/-- At the points of case B the pipeline does not write output 9's block back. -/
theorem noFlush0_9_B : ∀ t : Fin cfg1.N, ¬cond0_0 (grid1.coords t) → ¬cond0_1 (grid1.coords t) → (cfg1.win 9).flush t = false := by decide +kernel
/-- At the points of case C the printed configuration (Cfg.idle) calls output 9 live: the case stores into it. -/
theorem liveAt0_9_C : ∀ t : Fin cfg1.N, ¬cond0_0 (grid1.coords t) → cond0_1 (grid1.coords t) → cfg1.idle 9 (grid1.coords t) = false := by decide +kernel
/-- At the points of case A the printed configuration (Cfg.idle) calls output 10 idle: the case stores nothing into it. -/
theorem idleAt0_10_A : ∀ t : Fin cfg1.N, cond0_0 (grid1.coords t) → ¬cond0_1 (grid1.coords t) → cfg1.idle 10 (grid1.coords t) = true := by decide +kernel
/-- At the points of case A the pipeline does not write output 10's block back. -/
theorem noFlush0_10_A : ∀ t : Fin cfg1.N, cond0_0 (grid1.coords t) → ¬cond0_1 (grid1.coords t) → (cfg1.win 10).flush t = false := by decide +kernel
/-- At the points of case B the printed configuration (Cfg.idle) calls output 10 idle: the case stores nothing into it. -/
theorem idleAt0_10_B : ∀ t : Fin cfg1.N, ¬cond0_0 (grid1.coords t) → ¬cond0_1 (grid1.coords t) → cfg1.idle 10 (grid1.coords t) = true := by decide +kernel
/-- At the points of case B the pipeline does not write output 10's block back. -/
theorem noFlush0_10_B : ∀ t : Fin cfg1.N, ¬cond0_0 (grid1.coords t) → ¬cond0_1 (grid1.coords t) → (cfg1.win 10).flush t = false := by decide +kernel
/-- At the points of case C the printed configuration (Cfg.idle) calls output 10 live: the case stores into it. -/
theorem liveAt0_10_C : ∀ t : Fin cfg1.N, ¬cond0_0 (grid1.coords t) → cond0_1 (grid1.coords t) → cfg1.idle 10 (grid1.coords t) = false := by decide +kernel

/-! ## The kernel body on any staging memrefs: a subtype the run finds -/

/-- One staging buffer of output window 8, through which its contents are stated (View.read_writes_of_cover: the choice does not matter). -/
abbrev VO0_8 : View sig .tc .vmem S1x2 .f32 := (Memref.whole cc1_stg8_0 : Memref sig .tc .vmem S1x2 .f32).view
/-- One staging buffer of output window 9, through which its contents are stated (View.read_writes_of_cover: the choice does not matter). -/
abbrev VO0_9 : View sig .tc .vmem S1x2 .f32 := (Memref.whole cc1_stg9_0 : Memref sig .tc .vmem S1x2 .f32).view
/-- One staging buffer of output window 10, through which its contents are stated (View.read_writes_of_cover: the choice does not matter). -/
abbrev VO0_10 : View sig .tc .vmem S1x1 .i32 := (Memref.whole cc1_stg10_0 : Memref sig .tc .vmem S1x1 .i32).view
/-- Each window's current staging memref at point t, spelled as the pipeline passes it (bodyAt1), and its wholeness. -/
abbrev ms1_0 (t : Fin cfg1.N) : Memref sig .tc .vmem S1152x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512x2048 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x2048x512 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S2x512 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x2 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x2 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1x1 .i32 := win1_10.stage (cfg1.slots t 10)
abbrev hs1_10 (t : Fin cfg1.N) : (ms1_10 t).IsWhole := hstage1_10 ((cfg1.slots t 10).cast nbuf1_10)
/-- The scratch operands: whole scoped buffers of the kernel's own, passed beside the windows. -/
abbrev scM0_0 : Memref sig .tc .vmem S1152x512 .f32 := Memref.whole cc1_scratch0
/-- The scratch arg12 the kernel carries between points, as a view: what it holds is stated through it. -/
abbrev VS0_0 : View sig .tc .vmem S1152x512 .f32 := scM0_0.view

/-- The other call's staging buffers, each at some contents. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg7_0), ((c : Thread nD τ).loc cc0_stg7_0) ↦{fullShare} f))

/-- What the region starts from: the carried scratch at some contents beside the other call's staging buffers. -/
def Phi0 (c : Dev nD) : sProp 𝕄 := iprop(iprop((∃ d, owns (c : Thread nD τ) scM0_0 fullShare d)) ∗ others (F := F) c)

theorem PhiA0_eq (c : Dev nD) :
    (Phi0 c : sProp 𝕄) = iprop(iprop((∃ d, owns (c : Thread nD τ) scM0_0 fullShare d)) ∗ others (F := F) c) := rfl

theorem Phi0_of_rest (c : Dev nD) : (Pipeline.scopedRest (Ix := Unit) (Name := ℕ) (U := UR sig nD τ) (Lvl := ℕ) (Val := Elt F) spec1 c : sProp 𝕄) ⊢ Phi0 c := by
  unfold Phi0 others; rw [scopedRest1_eq]; simp only [scM0_0, owns_whole]
  iintro ⟨H0, H1, H2, H3, H4, H5, H6, H7, Hs⟩
  isplitl [Hs]; · iexact Hs
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem rest_of_Phi0 (c : Dev nD) : (Phi0 c : sProp 𝕄) ⊢ Pipeline.scopedRest (Ix := Unit) (Name := ℕ) (U := UR sig nD τ) (Lvl := ℕ) (Val := Elt F) spec1 c := by
  unfold Phi0 others; rw [scopedRest1_eq]; simp only [scM0_0, owns_whole]
  iintro ⟨Hs, H0, H1, H2, H3, H4, H5, H6, H7⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact Hs

end Cert.KernelIdeal.Blocks1

end
-- ==== Proof.KernelIdealBlocksRunA.lean ====
/- The blocks' call: its body run in case A. -/
module

public import proofs.«01_k».proof.Proof.KernelIdealBlocksRuns

@[expose] public section

set_option maxRecDepth 16384

noncomputable section

namespace Cert.KernelIdeal.Blocks1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref. -/
noncomputable def kernelRun0_A (c : Dev nD) (i : grid1.Coords) (arg1 : Memref sig .tc .vmem S1152x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x2048 .f32) (harg6 : arg6.IsWhole) (arg7 : Memref sig .tc .vmem S1x2048x512 .f32) (harg7 : arg7.IsWhole) (arg8 : Memref sig .tc .vmem S2x512 .f32) (harg8 : arg8.IsWhole) (arg9 : Memref sig .tc .vmem S1x2 .f32) (harg9 : arg9.IsWhole) (arg10 : Memref sig .tc .vmem S1x2 .f32) (harg10 : arg10.IsWhole) (arg11 : Memref sig .tc .vmem S1x1 .i32) (harg11 : arg11.IsWhole) (arg12 : Memref sig .tc .vmem S1152x512 .f32) (harg12 : arg12.IsWhole) (hc0 : cond0_0 i) (hc1 : ¬cond0_1 i)
    (x0 : Vec F S1152x512 .f32) (x1 : Vec F S1x512x512 .f32) (x2 : Vec F S1x512x512 .f32) (x3 : Vec F S1x512x512 .f32) (x4 : Vec F S1x512x512 .f32) (x5 : Vec F S1x512x2048 .f32) (x6 : Vec F S1x2048x512 .f32) (x7 : Vec F S2x512 .f32) :
    Σ' (L8 : List (View.Piece (Elt F) S1x2 .f32)), Σ' (L9 : List (View.Piece (Elt F) S1x2 .f32)), Σ' (L10 : List (View.Piece (Elt F) S1x1 .i32)), { LS0 : List (View.Piece (Elt F) S1152x512 .f32) //
      ∀ (xi8 : Vec F S1x2 .f32) (xi9 : Vec F S1x2 .f32) (xi10 : Vec F S1x1 .i32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ owns (c : Thread nD τ) arg10 fullShare xi9 ∗ owns (c : Thread nD τ) arg11 fullShare xi10 ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ owns (c : Thread nD τ) arg10 fullShare xi9 ∗ owns (c : Thread nD τ) arg11 fullShare xi10 ∗ (∃ f, arg12.view.loc (c : Thread nD τ) ↦[arg12.view.set]{fullShare} arg12.view.writes (Elt F) f LS0)) -∗ K ⟨⟩))
          ⊢ wp frame (wpE (defs₀ (F := F)) Variants.none c none) E (cc1__blocks_kernel i arg1 harg1 arg2 harg2 arg3 harg3 arg4 harg4 arg5 harg5 arg6 harg6 arg7 harg7 arg8 harg8 arg9 harg9 arg10 harg10 arg11 harg11 arg12 harg12) K } := by
  refine ⟨[], [], [], ?_, fun xi8 xi9 xi10 E K => ?run⟩
  case run =>
    simp only [cc1__blocks_kernel_eq_skeleton]; unfold cc1__blocks_kernel_skel
    simp only [k1_part2_eq_skeleton, k1_part3_eq_skeleton, k1_part4_eq_skeleton, k1_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    iexists _; iexact HS0

end Cert.KernelIdeal.Blocks1

end
-- ==== Proof.KernelIdealBlocksRunB.lean ====
/- The blocks' call: its body run in case B. -/
module

public import proofs.«01_k».proof.Proof.KernelIdealBlocksRuns

@[expose] public section

set_option maxRecDepth 16384

noncomputable section

namespace Cert.KernelIdeal.Blocks1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref. -/
noncomputable def kernelRun0_B (c : Dev nD) (i : grid1.Coords) (arg1 : Memref sig .tc .vmem S1152x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x2048 .f32) (harg6 : arg6.IsWhole) (arg7 : Memref sig .tc .vmem S1x2048x512 .f32) (harg7 : arg7.IsWhole) (arg8 : Memref sig .tc .vmem S2x512 .f32) (harg8 : arg8.IsWhole) (arg9 : Memref sig .tc .vmem S1x2 .f32) (harg9 : arg9.IsWhole) (arg10 : Memref sig .tc .vmem S1x2 .f32) (harg10 : arg10.IsWhole) (arg11 : Memref sig .tc .vmem S1x1 .i32) (harg11 : arg11.IsWhole) (arg12 : Memref sig .tc .vmem S1152x512 .f32) (harg12 : arg12.IsWhole) (hc0 : ¬cond0_0 i) (hc1 : ¬cond0_1 i)
    (x0 : Vec F S1152x512 .f32) (x1 : Vec F S1x512x512 .f32) (x2 : Vec F S1x512x512 .f32) (x3 : Vec F S1x512x512 .f32) (x4 : Vec F S1x512x512 .f32) (x5 : Vec F S1x512x2048 .f32) (x6 : Vec F S1x2048x512 .f32) (x7 : Vec F S2x512 .f32) (xs0 : Vec F S1152x512 .f32) :
    Σ' (L8 : List (View.Piece (Elt F) S1x2 .f32)), Σ' (L9 : List (View.Piece (Elt F) S1x2 .f32)), Σ' (L10 : List (View.Piece (Elt F) S1x1 .i32)), { LS0 : List (View.Piece (Elt F) S1152x512 .f32) //
      ∀ (xi8 : Vec F S1x2 .f32) (xi9 : Vec F S1x2 .f32) (xi10 : Vec F S1x1 .i32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ owns (c : Thread nD τ) arg10 fullShare xi9 ∗ owns (c : Thread nD τ) arg11 fullShare xi10 ∗ owns (c : Thread nD τ) arg12 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ owns (c : Thread nD τ) arg10 fullShare xi9 ∗ owns (c : Thread nD τ) arg11 fullShare xi10 ∗ (∃ f, arg12.view.loc (c : Thread nD τ) ↦[arg12.view.set]{fullShare} arg12.view.writes (Elt F) f LS0)) -∗ K ⟨⟩))
          ⊢ wp frame (wpE (defs₀ (F := F)) Variants.none c none) E (cc1__blocks_kernel i arg1 harg1 arg2 harg2 arg3 harg3 arg4 harg4 arg5 harg5 arg6 harg6 arg7 harg7 arg8 harg8 arg9 harg9 arg10 harg10 arg11 harg11 arg12 harg12) K } := by
  refine ⟨[], [], [], ?_, fun xi8 xi9 xi10 E K => ?run⟩
  case run =>
    simp only [cc1__blocks_kernel_eq_skeleton]; unfold cc1__blocks_kernel_skel
    simp only [k1_part2_eq_skeleton, k1_part3_eq_skeleton, k1_part4_eq_skeleton, k1_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    iexists _; iexact HS0

end Cert.KernelIdeal.Blocks1

end
-- ==== Proof.KernelIdealBlocksRunC.lean ====
/- The blocks' call: its body run in case C. -/
module

public import proofs.«01_k».proof.Proof.KernelIdealBlocksRuns

@[expose] public section

set_option maxRecDepth 16384

noncomputable section

namespace Cert.KernelIdeal.Blocks1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref. -/
noncomputable def kernelRun0_C (c : Dev nD) (i : grid1.Coords) (arg1 : Memref sig .tc .vmem S1152x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x2048 .f32) (harg6 : arg6.IsWhole) (arg7 : Memref sig .tc .vmem S1x2048x512 .f32) (harg7 : arg7.IsWhole) (arg8 : Memref sig .tc .vmem S2x512 .f32) (harg8 : arg8.IsWhole) (arg9 : Memref sig .tc .vmem S1x2 .f32) (harg9 : arg9.IsWhole) (arg10 : Memref sig .tc .vmem S1x2 .f32) (harg10 : arg10.IsWhole) (arg11 : Memref sig .tc .vmem S1x1 .i32) (harg11 : arg11.IsWhole) (arg12 : Memref sig .tc .vmem S1152x512 .f32) (harg12 : arg12.IsWhole) (hc0 : ¬cond0_0 i) (hc1 : cond0_1 i)
    (x0 : Vec F S1152x512 .f32) (x1 : Vec F S1x512x512 .f32) (x2 : Vec F S1x512x512 .f32) (x3 : Vec F S1x512x512 .f32) (x4 : Vec F S1x512x512 .f32) (x5 : Vec F S1x512x2048 .f32) (x6 : Vec F S1x2048x512 .f32) (x7 : Vec F S2x512 .f32) (xs0 : Vec F S1152x512 .f32) :
    Σ' (L8 : List (View.Piece (Elt F) S1x2 .f32)), Σ' (L9 : List (View.Piece (Elt F) S1x2 .f32)), Σ' (L10 : List (View.Piece (Elt F) S1x1 .i32)), { LS0 : List (View.Piece (Elt F) S1152x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS0)) -∗ K ⟨⟩))
          ⊢ wp frame (wpE (defs₀ (F := F)) Variants.none c none) E (cc1__blocks_kernel i arg1 harg1 arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc1__blocks_kernel_eq_skeleton]; unfold cc1__blocks_kernel_skel
    simp only [k1_part2_eq_skeleton, k1_part3_eq_skeleton, k1_part4_eq_skeleton, k1_part5_eq_skeleton, k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg12.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    iexists _; iexact HS0

end Cert.KernelIdeal.Blocks1

end
-- ==== Proof.KernelIdealBlocksFrame.lean ====
/- The blocks' call: what it leaves after each point and its body's obligation. -/
module

public import proofs.«01_k».proof.Proof.KernelIdealBlocksRunA
public import proofs.«01_k».proof.Proof.KernelIdealBlocksRunB
public import proofs.«01_k».proof.Proof.KernelIdealBlocksRunC

@[expose] public section

set_option maxRecDepth 16384

noncomputable section

namespace Cert.KernelIdeal.Blocks1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-- Case A stores nothing into output 8 (the window is idle at its points and not written back there). -/
def out0_A_8 (c : Dev nD) (i : grid1.Coords) (arg1 : Memref sig .tc .vmem S1152x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x2048 .f32) (harg6 : arg6.IsWhole) (arg7 : Memref sig .tc .vmem S1x2048x512 .f32) (harg7 : arg7.IsWhole) (arg8 : Memref sig .tc .vmem S2x512 .f32) (harg8 : arg8.IsWhole) (arg9 : Memref sig .tc .vmem S1x2 .f32) (harg9 : arg9.IsWhole) (arg10 : Memref sig .tc .vmem S1x2 .f32) (harg10 : arg10.IsWhole) (arg11 : Memref sig .tc .vmem S1x1 .i32) (harg11 : arg11.IsWhole) (arg12 : Memref sig .tc .vmem S1152x512 .f32) (harg12 : arg12.IsWhole) (hc0 : cond0_0 i) (hc1 : ¬cond0_1 i)
    (x0 : Vec F S1152x512 .f32) (x1 : Vec F S1x512x512 .f32) (x2 : Vec F S1x512x512 .f32) (x3 : Vec F S1x512x512 .f32) (x4 : Vec F S1x512x512 .f32) (x5 : Vec F S1x512x2048 .f32) (x6 : Vec F S1x2048x512 .f32) (x7 : Vec F S2x512 .f32) : Vec F S1x2 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7).1)

/-- Case A stores nothing into output 9 (the window is idle at its points and not written back there). -/
def out0_A_9 (c : Dev nD) (i : grid1.Coords) (arg1 : Memref sig .tc .vmem S1152x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x2048 .f32) (harg6 : arg6.IsWhole) (arg7 : Memref sig .tc .vmem S1x2048x512 .f32) (harg7 : arg7.IsWhole) (arg8 : Memref sig .tc .vmem S2x512 .f32) (harg8 : arg8.IsWhole) (arg9 : Memref sig .tc .vmem S1x2 .f32) (harg9 : arg9.IsWhole) (arg10 : Memref sig .tc .vmem S1x2 .f32) (harg10 : arg10.IsWhole) (arg11 : Memref sig .tc .vmem S1x1 .i32) (harg11 : arg11.IsWhole) (arg12 : Memref sig .tc .vmem S1152x512 .f32) (harg12 : arg12.IsWhole) (hc0 : cond0_0 i) (hc1 : ¬cond0_1 i)
    (x0 : Vec F S1152x512 .f32) (x1 : Vec F S1x512x512 .f32) (x2 : Vec F S1x512x512 .f32) (x3 : Vec F S1x512x512 .f32) (x4 : Vec F S1x512x512 .f32) (x5 : Vec F S1x512x2048 .f32) (x6 : Vec F S1x2048x512 .f32) (x7 : Vec F S2x512 .f32) : Vec F S1x2 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7).2.1)

/-- Case A stores nothing into output 10 (the window is idle at its points and not written back there). -/
def out0_A_10 (c : Dev nD) (i : grid1.Coords) (arg1 : Memref sig .tc .vmem S1152x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x2048 .f32) (harg6 : arg6.IsWhole) (arg7 : Memref sig .tc .vmem S1x2048x512 .f32) (harg7 : arg7.IsWhole) (arg8 : Memref sig .tc .vmem S2x512 .f32) (harg8 : arg8.IsWhole) (arg9 : Memref sig .tc .vmem S1x2 .f32) (harg9 : arg9.IsWhole) (arg10 : Memref sig .tc .vmem S1x2 .f32) (harg10 : arg10.IsWhole) (arg11 : Memref sig .tc .vmem S1x1 .i32) (harg11 : arg11.IsWhole) (arg12 : Memref sig .tc .vmem S1152x512 .f32) (harg12 : arg12.IsWhole) (hc0 : cond0_0 i) (hc1 : ¬cond0_1 i)
    (x0 : Vec F S1152x512 .f32) (x1 : Vec F S1x512x512 .f32) (x2 : Vec F S1x512x512 .f32) (x3 : Vec F S1x512x512 .f32) (x4 : Vec F S1x512x512 .f32) (x5 : Vec F S1x512x2048 .f32) (x6 : Vec F S1x2048x512 .f32) (x7 : Vec F S2x512 .f32) : Vec F S1x1 .i32 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7).2.2.1)

/-- Case A's pieces for scratch arg12, which the kernel carries between points, cover it: 2 pieces of S1152x512 tiling it (Lib/Ring.lean Piece.tiledL). -/
theorem scover0_A_0 (c : Dev nD) (i : grid1.Coords) (arg1 : Memref sig .tc .vmem S1152x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x2048 .f32) (harg6 : arg6.IsWhole) (arg7 : Memref sig .tc .vmem S1x2048x512 .f32) (harg7 : arg7.IsWhole) (arg8 : Memref sig .tc .vmem S2x512 .f32) (harg8 : arg8.IsWhole) (arg9 : Memref sig .tc .vmem S1x2 .f32) (harg9 : arg9.IsWhole) (arg10 : Memref sig .tc .vmem S1x2 .f32) (harg10 : arg10.IsWhole) (arg11 : Memref sig .tc .vmem S1x1 .i32) (harg11 : arg11.IsWhole) (arg12 : Memref sig .tc .vmem S1152x512 .f32) (harg12 : arg12.IsWhole) (hc0 : cond0_0 i) (hc1 : ¬cond0_1 i)
    (x0 : Vec F S1152x512 .f32) (x1 : Vec F S1x512x512 .f32) (x2 : Vec F S1x512x512 .f32) (x3 : Vec F S1x512x512 .f32) (x4 : Vec F S1x512x512 .f32) (x5 : Vec F S1x512x2048 .f32) (x6 : Vec F S1x2048x512 .f32) (x7 : Vec F S2x512 .f32) (y : S1152x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7).2.2.2.1 S1152x512.size (by sl_kernel_rfl) y

/-- What case A leaves in scratch arg12: its pieces read back over junk. -/
def sout0_A_0 (c : Dev nD) (i : grid1.Coords) (arg1 : Memref sig .tc .vmem S1152x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x2048 .f32) (harg6 : arg6.IsWhole) (arg7 : Memref sig .tc .vmem S1x2048x512 .f32) (harg7 : arg7.IsWhole) (arg8 : Memref sig .tc .vmem S2x512 .f32) (harg8 : arg8.IsWhole) (arg9 : Memref sig .tc .vmem S1x2 .f32) (harg9 : arg9.IsWhole) (arg10 : Memref sig .tc .vmem S1x2 .f32) (harg10 : arg10.IsWhole) (arg11 : Memref sig .tc .vmem S1x1 .i32) (harg11 : arg11.IsWhole) (arg12 : Memref sig .tc .vmem S1152x512 .f32) (harg12 : arg12.IsWhole) (hc0 : cond0_0 i) (hc1 : ¬cond0_1 i)
    (x0 : Vec F S1152x512 .f32) (x1 : Vec F S1x512x512 .f32) (x2 : Vec F S1x512x512 .f32) (x3 : Vec F S1x512x512 .f32) (x4 : Vec F S1x512x512 .f32) (x5 : Vec F S1x512x2048 .f32) (x6 : Vec F S1x2048x512 .f32) (x7 : Vec F S2x512 .f32) : Vec F S1152x512 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7).2.2.2.1)

/-- Case B stores nothing into output 8 (the window is idle at its points and not written back there). -/
def out0_B_8 (c : Dev nD) (i : grid1.Coords) (arg1 : Memref sig .tc .vmem S1152x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x2048 .f32) (harg6 : arg6.IsWhole) (arg7 : Memref sig .tc .vmem S1x2048x512 .f32) (harg7 : arg7.IsWhole) (arg8 : Memref sig .tc .vmem S2x512 .f32) (harg8 : arg8.IsWhole) (arg9 : Memref sig .tc .vmem S1x2 .f32) (harg9 : arg9.IsWhole) (arg10 : Memref sig .tc .vmem S1x2 .f32) (harg10 : arg10.IsWhole) (arg11 : Memref sig .tc .vmem S1x1 .i32) (harg11 : arg11.IsWhole) (arg12 : Memref sig .tc .vmem S1152x512 .f32) (harg12 : arg12.IsWhole) (hc0 : ¬cond0_0 i) (hc1 : ¬cond0_1 i)
    (x0 : Vec F S1152x512 .f32) (x1 : Vec F S1x512x512 .f32) (x2 : Vec F S1x512x512 .f32) (x3 : Vec F S1x512x512 .f32) (x4 : Vec F S1x512x512 .f32) (x5 : Vec F S1x512x2048 .f32) (x6 : Vec F S1x2048x512 .f32) (x7 : Vec F S2x512 .f32) (xs0 : Vec F S1152x512 .f32) : Vec F S1x2 .f32 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xs0).1)

/-- Case B stores nothing into output 9 (the window is idle at its points and not written back there). -/
def out0_B_9 (c : Dev nD) (i : grid1.Coords) (arg1 : Memref sig .tc .vmem S1152x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x2048 .f32) (harg6 : arg6.IsWhole) (arg7 : Memref sig .tc .vmem S1x2048x512 .f32) (harg7 : arg7.IsWhole) (arg8 : Memref sig .tc .vmem S2x512 .f32) (harg8 : arg8.IsWhole) (arg9 : Memref sig .tc .vmem S1x2 .f32) (harg9 : arg9.IsWhole) (arg10 : Memref sig .tc .vmem S1x2 .f32) (harg10 : arg10.IsWhole) (arg11 : Memref sig .tc .vmem S1x1 .i32) (harg11 : arg11.IsWhole) (arg12 : Memref sig .tc .vmem S1152x512 .f32) (harg12 : arg12.IsWhole) (hc0 : ¬cond0_0 i) (hc1 : ¬cond0_1 i)
    (x0 : Vec F S1152x512 .f32) (x1 : Vec F S1x512x512 .f32) (x2 : Vec F S1x512x512 .f32) (x3 : Vec F S1x512x512 .f32) (x4 : Vec F S1x512x512 .f32) (x5 : Vec F S1x512x2048 .f32) (x6 : Vec F S1x2048x512 .f32) (x7 : Vec F S2x512 .f32) (xs0 : Vec F S1152x512 .f32) : Vec F S1x2 .f32 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.1)

/-- Case B stores nothing into output 10 (the window is idle at its points and not written back there). -/
def out0_B_10 (c : Dev nD) (i : grid1.Coords) (arg1 : Memref sig .tc .vmem S1152x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x2048 .f32) (harg6 : arg6.IsWhole) (arg7 : Memref sig .tc .vmem S1x2048x512 .f32) (harg7 : arg7.IsWhole) (arg8 : Memref sig .tc .vmem S2x512 .f32) (harg8 : arg8.IsWhole) (arg9 : Memref sig .tc .vmem S1x2 .f32) (harg9 : arg9.IsWhole) (arg10 : Memref sig .tc .vmem S1x2 .f32) (harg10 : arg10.IsWhole) (arg11 : Memref sig .tc .vmem S1x1 .i32) (harg11 : arg11.IsWhole) (arg12 : Memref sig .tc .vmem S1152x512 .f32) (harg12 : arg12.IsWhole) (hc0 : ¬cond0_0 i) (hc1 : ¬cond0_1 i)
    (x0 : Vec F S1152x512 .f32) (x1 : Vec F S1x512x512 .f32) (x2 : Vec F S1x512x512 .f32) (x3 : Vec F S1x512x512 .f32) (x4 : Vec F S1x512x512 .f32) (x5 : Vec F S1x512x2048 .f32) (x6 : Vec F S1x2048x512 .f32) (x7 : Vec F S2x512 .f32) (xs0 : Vec F S1152x512 .f32) : Vec F S1x1 .i32 :=
  VO0_10.read (Elt F) (VO0_10.writes (Elt F) VO0_10.junk (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.2.1)

/-- Case B's pieces for scratch arg12, which the kernel carries between points, cover it: 1 piece of S1152x512 tiling it (Lib/Ring.lean Piece.tiledL). -/
theorem scover0_B_0 (c : Dev nD) (i : grid1.Coords) (arg1 : Memref sig .tc .vmem S1152x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x2048 .f32) (harg6 : arg6.IsWhole) (arg7 : Memref sig .tc .vmem S1x2048x512 .f32) (harg7 : arg7.IsWhole) (arg8 : Memref sig .tc .vmem S2x512 .f32) (harg8 : arg8.IsWhole) (arg9 : Memref sig .tc .vmem S1x2 .f32) (harg9 : arg9.IsWhole) (arg10 : Memref sig .tc .vmem S1x2 .f32) (harg10 : arg10.IsWhole) (arg11 : Memref sig .tc .vmem S1x1 .i32) (harg11 : arg11.IsWhole) (arg12 : Memref sig .tc .vmem S1152x512 .f32) (harg12 : arg12.IsWhole) (hc0 : ¬cond0_0 i) (hc1 : ¬cond0_1 i)
    (x0 : Vec F S1152x512 .f32) (x1 : Vec F S1x512x512 .f32) (x2 : Vec F S1x512x512 .f32) (x3 : Vec F S1x512x512 .f32) (x4 : Vec F S1x512x512 .f32) (x5 : Vec F S1x512x2048 .f32) (x6 : Vec F S1x2048x512 .f32) (x7 : Vec F S2x512 .f32) (xs0 : Vec F S1152x512 .f32) (y : S1152x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.2.2.1 S1152x512.size (by sl_kernel_rfl) y

/-- What case B leaves in scratch arg12: its pieces read back over junk. -/
def sout0_B_0 (c : Dev nD) (i : grid1.Coords) (arg1 : Memref sig .tc .vmem S1152x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x2048 .f32) (harg6 : arg6.IsWhole) (arg7 : Memref sig .tc .vmem S1x2048x512 .f32) (harg7 : arg7.IsWhole) (arg8 : Memref sig .tc .vmem S2x512 .f32) (harg8 : arg8.IsWhole) (arg9 : Memref sig .tc .vmem S1x2 .f32) (harg9 : arg9.IsWhole) (arg10 : Memref sig .tc .vmem S1x2 .f32) (harg10 : arg10.IsWhole) (arg11 : Memref sig .tc .vmem S1x1 .i32) (harg11 : arg11.IsWhole) (arg12 : Memref sig .tc .vmem S1152x512 .f32) (harg12 : arg12.IsWhole) (hc0 : ¬cond0_0 i) (hc1 : ¬cond0_1 i)
    (x0 : Vec F S1152x512 .f32) (x1 : Vec F S1x512x512 .f32) (x2 : Vec F S1x512x512 .f32) (x3 : Vec F S1x512x512 .f32) (x4 : Vec F S1x512x512 .f32) (x5 : Vec F S1x512x2048 .f32) (x6 : Vec F S1x2048x512 .f32) (x7 : Vec F S2x512 .f32) (xs0 : Vec F S1152x512 .f32) : Vec F S1152x512 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.2.2.1)

/-- Case C's pieces for output 8 tile its block. -/
theorem cover0_C_8 (c : Dev nD) (i : grid1.Coords) (arg1 : Memref sig .tc .vmem S1152x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x2048 .f32) (harg6 : arg6.IsWhole) (arg7 : Memref sig .tc .vmem S1x2048x512 .f32) (harg7 : arg7.IsWhole) (arg8 : Memref sig .tc .vmem S2x512 .f32) (harg8 : arg8.IsWhole) (arg9 : Memref sig .tc .vmem S1x2 .f32) (harg9 : arg9.IsWhole) (arg10 : Memref sig .tc .vmem S1x2 .f32) (harg10 : arg10.IsWhole) (arg11 : Memref sig .tc .vmem S1x1 .i32) (harg11 : arg11.IsWhole) (arg12 : Memref sig .tc .vmem S1152x512 .f32) (harg12 : arg12.IsWhole) (hc0 : ¬cond0_0 i) (hc1 : cond0_1 i)
    (x0 : Vec F S1152x512 .f32) (x1 : Vec F S1x512x512 .f32) (x2 : Vec F S1x512x512 .f32) (x3 : Vec F S1x512x512 .f32) (x4 : Vec F S1x512x512 .f32) (x5 : Vec F S1x512x2048 .f32) (x6 : Vec F S1x2048x512 .f32) (x7 : Vec F S2x512 .f32) (xs0 : Vec F S1152x512 .f32) (y : S1x2.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xs0).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xs0).1 S1x1.size (by sl_kernel_rfl) y

/-- What case C leaves in output 8's staging buffer: its pieces read back over junk. -/
def out0_C_8 (c : Dev nD) (i : grid1.Coords) (arg1 : Memref sig .tc .vmem S1152x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x2048 .f32) (harg6 : arg6.IsWhole) (arg7 : Memref sig .tc .vmem S1x2048x512 .f32) (harg7 : arg7.IsWhole) (arg8 : Memref sig .tc .vmem S2x512 .f32) (harg8 : arg8.IsWhole) (arg9 : Memref sig .tc .vmem S1x2 .f32) (harg9 : arg9.IsWhole) (arg10 : Memref sig .tc .vmem S1x2 .f32) (harg10 : arg10.IsWhole) (arg11 : Memref sig .tc .vmem S1x1 .i32) (harg11 : arg11.IsWhole) (arg12 : Memref sig .tc .vmem S1152x512 .f32) (harg12 : arg12.IsWhole) (hc0 : ¬cond0_0 i) (hc1 : cond0_1 i)
    (x0 : Vec F S1152x512 .f32) (x1 : Vec F S1x512x512 .f32) (x2 : Vec F S1x512x512 .f32) (x3 : Vec F S1x512x512 .f32) (x4 : Vec F S1x512x512 .f32) (x5 : Vec F S1x512x2048 .f32) (x6 : Vec F S1x2048x512 .f32) (x7 : Vec F S2x512 .f32) (xs0 : Vec F S1152x512 .f32) : Vec F S1x2 .f32 :=
  VO0_8.read (Elt F) (VO0_8.writes (Elt F) VO0_8.junk (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xs0).1)

/-- Case C's pieces for output 9 tile its block. -/
theorem cover0_C_9 (c : Dev nD) (i : grid1.Coords) (arg1 : Memref sig .tc .vmem S1152x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x2048 .f32) (harg6 : arg6.IsWhole) (arg7 : Memref sig .tc .vmem S1x2048x512 .f32) (harg7 : arg7.IsWhole) (arg8 : Memref sig .tc .vmem S2x512 .f32) (harg8 : arg8.IsWhole) (arg9 : Memref sig .tc .vmem S1x2 .f32) (harg9 : arg9.IsWhole) (arg10 : Memref sig .tc .vmem S1x2 .f32) (harg10 : arg10.IsWhole) (arg11 : Memref sig .tc .vmem S1x1 .i32) (harg11 : arg11.IsWhole) (arg12 : Memref sig .tc .vmem S1152x512 .f32) (harg12 : arg12.IsWhole) (hc0 : ¬cond0_0 i) (hc1 : cond0_1 i)
    (x0 : Vec F S1152x512 .f32) (x1 : Vec F S1x512x512 .f32) (x2 : Vec F S1x512x512 .f32) (x3 : Vec F S1x512x512 .f32) (x4 : Vec F S1x512x512 .f32) (x5 : Vec F S1x512x2048 .f32) (x6 : Vec F S1x2048x512 .f32) (x7 : Vec F S2x512 .f32) (xs0 : Vec F S1152x512 .f32) (y : S1x2.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.1 S1x1.size (by sl_kernel_rfl) y

/-- What case C leaves in output 9's staging buffer: its pieces read back over junk. -/
def out0_C_9 (c : Dev nD) (i : grid1.Coords) (arg1 : Memref sig .tc .vmem S1152x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x2048 .f32) (harg6 : arg6.IsWhole) (arg7 : Memref sig .tc .vmem S1x2048x512 .f32) (harg7 : arg7.IsWhole) (arg8 : Memref sig .tc .vmem S2x512 .f32) (harg8 : arg8.IsWhole) (arg9 : Memref sig .tc .vmem S1x2 .f32) (harg9 : arg9.IsWhole) (arg10 : Memref sig .tc .vmem S1x2 .f32) (harg10 : arg10.IsWhole) (arg11 : Memref sig .tc .vmem S1x1 .i32) (harg11 : arg11.IsWhole) (arg12 : Memref sig .tc .vmem S1152x512 .f32) (harg12 : arg12.IsWhole) (hc0 : ¬cond0_0 i) (hc1 : cond0_1 i)
    (x0 : Vec F S1152x512 .f32) (x1 : Vec F S1x512x512 .f32) (x2 : Vec F S1x512x512 .f32) (x3 : Vec F S1x512x512 .f32) (x4 : Vec F S1x512x512 .f32) (x5 : Vec F S1x512x2048 .f32) (x6 : Vec F S1x2048x512 .f32) (x7 : Vec F S2x512 .f32) (xs0 : Vec F S1152x512 .f32) : Vec F S1x2 .f32 :=
  VO0_9.read (Elt F) (VO0_9.writes (Elt F) VO0_9.junk (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.1)

/-- Case C's pieces for output 10 tile its block. -/
theorem cover0_C_10 (c : Dev nD) (i : grid1.Coords) (arg1 : Memref sig .tc .vmem S1152x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x2048 .f32) (harg6 : arg6.IsWhole) (arg7 : Memref sig .tc .vmem S1x2048x512 .f32) (harg7 : arg7.IsWhole) (arg8 : Memref sig .tc .vmem S2x512 .f32) (harg8 : arg8.IsWhole) (arg9 : Memref sig .tc .vmem S1x2 .f32) (harg9 : arg9.IsWhole) (arg10 : Memref sig .tc .vmem S1x2 .f32) (harg10 : arg10.IsWhole) (arg11 : Memref sig .tc .vmem S1x1 .i32) (harg11 : arg11.IsWhole) (arg12 : Memref sig .tc .vmem S1152x512 .f32) (harg12 : arg12.IsWhole) (hc0 : ¬cond0_0 i) (hc1 : cond0_1 i)
    (x0 : Vec F S1152x512 .f32) (x1 : Vec F S1x512x512 .f32) (x2 : Vec F S1x512x512 .f32) (x3 : Vec F S1x512x512 .f32) (x4 : Vec F S1x512x512 .f32) (x5 : Vec F S1x512x2048 .f32) (x6 : Vec F S1x2048x512 .f32) (x7 : Vec F S2x512 .f32) (xs0 : Vec F S1152x512 .f32) (y : S1x1.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.2.1 S1x1.size (by sl_kernel_rfl) y

/-- What case C leaves in output 10's staging buffer: its pieces read back over junk. -/
def out0_C_10 (c : Dev nD) (i : grid1.Coords) (arg1 : Memref sig .tc .vmem S1152x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x2048 .f32) (harg6 : arg6.IsWhole) (arg7 : Memref sig .tc .vmem S1x2048x512 .f32) (harg7 : arg7.IsWhole) (arg8 : Memref sig .tc .vmem S2x512 .f32) (harg8 : arg8.IsWhole) (arg9 : Memref sig .tc .vmem S1x2 .f32) (harg9 : arg9.IsWhole) (arg10 : Memref sig .tc .vmem S1x2 .f32) (harg10 : arg10.IsWhole) (arg11 : Memref sig .tc .vmem S1x1 .i32) (harg11 : arg11.IsWhole) (arg12 : Memref sig .tc .vmem S1152x512 .f32) (harg12 : arg12.IsWhole) (hc0 : ¬cond0_0 i) (hc1 : cond0_1 i)
    (x0 : Vec F S1152x512 .f32) (x1 : Vec F S1x512x512 .f32) (x2 : Vec F S1x512x512 .f32) (x3 : Vec F S1x512x512 .f32) (x4 : Vec F S1x512x512 .f32) (x5 : Vec F S1x512x2048 .f32) (x6 : Vec F S1x2048x512 .f32) (x7 : Vec F S2x512 .f32) (xs0 : Vec F S1152x512 .f32) : Vec F S1x1 .i32 :=
  VO0_10.read (Elt F) (VO0_10.writes (Elt F) VO0_10.junk (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.2.1)

/-- Case C's pieces for scratch arg12, which the kernel carries between points, cover it: 1 piece of S1152x512 tiling it (Lib/Ring.lean Piece.tiledL). -/
theorem scover0_C_0 (c : Dev nD) (i : grid1.Coords) (arg1 : Memref sig .tc .vmem S1152x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x2048 .f32) (harg6 : arg6.IsWhole) (arg7 : Memref sig .tc .vmem S1x2048x512 .f32) (harg7 : arg7.IsWhole) (arg8 : Memref sig .tc .vmem S2x512 .f32) (harg8 : arg8.IsWhole) (arg9 : Memref sig .tc .vmem S1x2 .f32) (harg9 : arg9.IsWhole) (arg10 : Memref sig .tc .vmem S1x2 .f32) (harg10 : arg10.IsWhole) (arg11 : Memref sig .tc .vmem S1x1 .i32) (harg11 : arg11.IsWhole) (arg12 : Memref sig .tc .vmem S1152x512 .f32) (harg12 : arg12.IsWhole) (hc0 : ¬cond0_0 i) (hc1 : cond0_1 i)
    (x0 : Vec F S1152x512 .f32) (x1 : Vec F S1x512x512 .f32) (x2 : Vec F S1x512x512 .f32) (x3 : Vec F S1x512x512 .f32) (x4 : Vec F S1x512x512 .f32) (x5 : Vec F S1x512x2048 .f32) (x6 : Vec F S1x2048x512 .f32) (x7 : Vec F S2x512 .f32) (xs0 : Vec F S1152x512 .f32) (y : S1152x512.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.2.2.1 S1152x512.size (by sl_kernel_rfl) y

/-- What case C leaves in scratch arg12: its pieces read back over junk. -/
def sout0_C_0 (c : Dev nD) (i : grid1.Coords) (arg1 : Memref sig .tc .vmem S1152x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x2048 .f32) (harg6 : arg6.IsWhole) (arg7 : Memref sig .tc .vmem S1x2048x512 .f32) (harg7 : arg7.IsWhole) (arg8 : Memref sig .tc .vmem S2x512 .f32) (harg8 : arg8.IsWhole) (arg9 : Memref sig .tc .vmem S1x2 .f32) (harg9 : arg9.IsWhole) (arg10 : Memref sig .tc .vmem S1x2 .f32) (harg10 : arg10.IsWhole) (arg11 : Memref sig .tc .vmem S1x1 .i32) (harg11 : arg11.IsWhole) (arg12 : Memref sig .tc .vmem S1152x512 .f32) (harg12 : arg12.IsWhole) (hc0 : ¬cond0_0 i) (hc1 : cond0_1 i)
    (x0 : Vec F S1152x512 .f32) (x1 : Vec F S1x512x512 .f32) (x2 : Vec F S1x512x512 .f32) (x3 : Vec F S1x512x512 .f32) (x4 : Vec F S1x512x512 .f32) (x5 : Vec F S1x512x2048 .f32) (x6 : Vec F S1x2048x512 .f32) (x7 : Vec F S2x512 .f32) (xs0 : Vec F S1152x512 .f32) : Vec F S1152x512 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.2.2.1)

/-! ## What the outputs hold after each point -/

/-- What the outputs' staging buffers and the scratch hold after the body at position n. -/
def outsAt0 (c : Dev nD) : (n : ℕ) → n < cfg1.N → Vec F S1x2 .f32 × Vec F S1x2 .f32 × Vec F S1x1 .i32 × Vec F S1152x512 .f32
  | 0, hn => (out0_A_8 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) scM0_0 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩), out0_A_9 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) scM0_0 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩), out0_A_10 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) scM0_0 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩), sout0_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) scM0_0 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩))
  | n + 1, hn =>
    if h0 : (n + 1) % 3 = 0 then
      if h1 : (n + 1) % 3 = 2 then
        False.elim (by have hN : n + 1 < 3 := lt_of_lt_of_eq hn (show cfg1.N = 3 from N_1); omega)
      else
        (out0_A_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM0_0 (Memref.isWhole_whole _) ((hcond0_0 ⟨n + 1, hn⟩).mpr h0) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩), out0_A_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM0_0 (Memref.isWhole_whole _) ((hcond0_0 ⟨n + 1, hn⟩).mpr h0) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩), out0_A_10 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM0_0 (Memref.isWhole_whole _) ((hcond0_0 ⟨n + 1, hn⟩).mpr h0) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩), sout0_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM0_0 (Memref.isWhole_whole _) ((hcond0_0 ⟨n + 1, hn⟩).mpr h0) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩))
    else
      if h1 : (n + 1) % 3 = 2 then
        (out0_C_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM0_0 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt0 c n (Nat.lt_of_succ_lt hn)).2.2.2, out0_C_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM0_0 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt0 c n (Nat.lt_of_succ_lt hn)).2.2.2, out0_C_10 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM0_0 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt0 c n (Nat.lt_of_succ_lt hn)).2.2.2, sout0_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM0_0 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt0 c n (Nat.lt_of_succ_lt hn)).2.2.2)
      else
        (out0_B_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM0_0 (Memref.isWhole_whole _) (fun h => h0 ((hcond0_0 ⟨n + 1, hn⟩).mp h)) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt0 c n (Nat.lt_of_succ_lt hn)).2.2.2, out0_B_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM0_0 (Memref.isWhole_whole _) (fun h => h0 ((hcond0_0 ⟨n + 1, hn⟩).mp h)) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt0 c n (Nat.lt_of_succ_lt hn)).2.2.2, out0_B_10 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM0_0 (Memref.isWhole_whole _) (fun h => h0 ((hcond0_0 ⟨n + 1, hn⟩).mp h)) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt0 c n (Nat.lt_of_succ_lt hn)).2.2.2, sout0_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM0_0 (Memref.isWhole_whole _) (fun h => h0 ((hcond0_0 ⟨n + 1, hn⟩).mp h)) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt0 c n (Nat.lt_of_succ_lt hn)).2.2.2)

/-- outsAt0 at a point of case A: that case's contents. -/
theorem outsAt0_A (c : Dev nD) (t : Fin cfg1.N) (h0 : t.val % 3 = 0) (h1 : ¬t.val % 3 = 2) :
    outsAt0 V c t.val t.isLt = (out0_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM0_0 (Memref.isWhole_whole _) ((hcond0_0 t).mpr h0) (fun h => h1 ((hcond0_1 t).mp h)) (iblk V c 0 t) (iblk V c 1 t) (iblk V c 2 t) (iblk V c 3 t) (iblk V c 4 t) (iblk V c 5 t) (iblk V c 6 t) (iblk V c 7 t), out0_A_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM0_0 (Memref.isWhole_whole _) ((hcond0_0 t).mpr h0) (fun h => h1 ((hcond0_1 t).mp h)) (iblk V c 0 t) (iblk V c 1 t) (iblk V c 2 t) (iblk V c 3 t) (iblk V c 4 t) (iblk V c 5 t) (iblk V c 6 t) (iblk V c 7 t), out0_A_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM0_0 (Memref.isWhole_whole _) ((hcond0_0 t).mpr h0) (fun h => h1 ((hcond0_1 t).mp h)) (iblk V c 0 t) (iblk V c 1 t) (iblk V c 2 t) (iblk V c 3 t) (iblk V c 4 t) (iblk V c 5 t) (iblk V c 6 t) (iblk V c 7 t), sout0_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM0_0 (Memref.isWhole_whole _) ((hcond0_0 t).mpr h0) (fun h => h1 ((hcond0_1 t).mp h)) (iblk V c 0 t) (iblk V c 1 t) (iblk V c 2 t) (iblk V c 3 t) (iblk V c 4 t) (iblk V c 5 t) (iblk V c 6 t) (iblk V c 7 t)) := by
  obtain ⟨n, hn⟩ := t
  cases n with
  | zero => exact rfl
  | succ n => exact (dif_pos h0).trans ((dif_neg h1).trans rfl)

/-- outsAt0 at a point of case B: that case's contents, over what the point before left. -/
theorem outsAt0_B (c : Dev nD) (t : Fin cfg1.N) (h0 : ¬t.val % 3 = 0) (h1 : ¬t.val % 3 = 2) :
    outsAt0 V c t.val t.isLt = (out0_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM0_0 (Memref.isWhole_whole _) (fun h => h0 ((hcond0_0 t).mp h)) (fun h => h1 ((hcond0_1 t).mp h)) (iblk V c 0 t) (iblk V c 1 t) (iblk V c 2 t) (iblk V c 3 t) (iblk V c 4 t) (iblk V c 5 t) (iblk V c 6 t) (iblk V c 7 t) (outsAt0 V c (t.val - 1) (Nat.lt_of_le_of_lt (Nat.sub_le _ _) t.isLt)).2.2.2, out0_B_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM0_0 (Memref.isWhole_whole _) (fun h => h0 ((hcond0_0 t).mp h)) (fun h => h1 ((hcond0_1 t).mp h)) (iblk V c 0 t) (iblk V c 1 t) (iblk V c 2 t) (iblk V c 3 t) (iblk V c 4 t) (iblk V c 5 t) (iblk V c 6 t) (iblk V c 7 t) (outsAt0 V c (t.val - 1) (Nat.lt_of_le_of_lt (Nat.sub_le _ _) t.isLt)).2.2.2, out0_B_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM0_0 (Memref.isWhole_whole _) (fun h => h0 ((hcond0_0 t).mp h)) (fun h => h1 ((hcond0_1 t).mp h)) (iblk V c 0 t) (iblk V c 1 t) (iblk V c 2 t) (iblk V c 3 t) (iblk V c 4 t) (iblk V c 5 t) (iblk V c 6 t) (iblk V c 7 t) (outsAt0 V c (t.val - 1) (Nat.lt_of_le_of_lt (Nat.sub_le _ _) t.isLt)).2.2.2, sout0_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM0_0 (Memref.isWhole_whole _) (fun h => h0 ((hcond0_0 t).mp h)) (fun h => h1 ((hcond0_1 t).mp h)) (iblk V c 0 t) (iblk V c 1 t) (iblk V c 2 t) (iblk V c 3 t) (iblk V c 4 t) (iblk V c 5 t) (iblk V c 6 t) (iblk V c 7 t) (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- outsAt0 at a point of case C: that case's contents, over what the point before left. -/
theorem outsAt0_C (c : Dev nD) (t : Fin cfg1.N) (h0 : ¬t.val % 3 = 0) (h1 : t.val % 3 = 2) :
    outsAt0 V c t.val t.isLt = (out0_C_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM0_0 (Memref.isWhole_whole _) (fun h => h0 ((hcond0_0 t).mp h)) ((hcond0_1 t).mpr h1) (iblk V c 0 t) (iblk V c 1 t) (iblk V c 2 t) (iblk V c 3 t) (iblk V c 4 t) (iblk V c 5 t) (iblk V c 6 t) (iblk V c 7 t) (outsAt0 V c (t.val - 1) (Nat.lt_of_le_of_lt (Nat.sub_le _ _) t.isLt)).2.2.2, out0_C_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM0_0 (Memref.isWhole_whole _) (fun h => h0 ((hcond0_0 t).mp h)) ((hcond0_1 t).mpr h1) (iblk V c 0 t) (iblk V c 1 t) (iblk V c 2 t) (iblk V c 3 t) (iblk V c 4 t) (iblk V c 5 t) (iblk V c 6 t) (iblk V c 7 t) (outsAt0 V c (t.val - 1) (Nat.lt_of_le_of_lt (Nat.sub_le _ _) t.isLt)).2.2.2, out0_C_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM0_0 (Memref.isWhole_whole _) (fun h => h0 ((hcond0_0 t).mp h)) ((hcond0_1 t).mpr h1) (iblk V c 0 t) (iblk V c 1 t) (iblk V c 2 t) (iblk V c 3 t) (iblk V c 4 t) (iblk V c 5 t) (iblk V c 6 t) (iblk V c 7 t) (outsAt0 V c (t.val - 1) (Nat.lt_of_le_of_lt (Nat.sub_le _ _) t.isLt)).2.2.2, sout0_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM0_0 (Memref.isWhole_whole _) (fun h => h0 ((hcond0_0 t).mp h)) ((hcond0_1 t).mpr h1) (iblk V c 0 t) (iblk V c 1 t) (iblk V c 2 t) (iblk V c 3 t) (iblk V c 4 t) (iblk V c 5 t) (iblk V c 6 t) (iblk V c 7 t) (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position n with a scratch the kernel CARRIES between points. -/
def PhiS (c : Dev nD) : (n : ℕ) → n ≤ cfg1.N → sProp 𝕄
  | 0, _ => Phi0 (F := F) c
  | n + 1, hn => iprop(iprop(owns (c : Thread nD τ) scM0_0 fullShare ((outsAt0 V c n hn).2.2.2)) ∗ others (F := F) c)

theorem PhiS_zero (c : Dev nD) (n : ℕ) (h : n ≤ cfg1.N) (hz : n = 0) : PhiS V c n h = Phi0 (F := F) c := by
  subst hz; rfl

/-- After point n (before point n + 1): the carried scratch at that point's contents. -/
theorem PhiS_succ (c : Dev nD) (n : ℕ) (hn : n < cfg1.N) :
    PhiS V c (n + 1) hn = iprop(iprop(owns (c : Thread nD τ) scM0_0 fullShare ((outsAt0 V c n hn).2.2.2)) ∗ others (F := F) c) := rfl

/-- Before a point that is not the first: the carried scratch at what the point before left. -/
theorem PhiS_pos (c : Dev nD) (n : ℕ) (h : n ≤ cfg1.N) (hz : n ≠ 0) :
    PhiS V c n h = iprop(iprop(owns (c : Thread nD τ) scM0_0 fullShare ((outsAt0 V c (n - 1) (by omega)).2.2.2)) ∗ others (F := F) c) := by
  cases n with
  | zero => exact absurd rfl hz
  | succ n => rfl

/-! ## The pipeline's proof data -/

/-- The proof data of the one pipeline on core c. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => (outsAt0 V c t.val t.isLt).1
    | ⟨9, _⟩ => (outsAt0 V c t.val t.isLt).2.1
    | ⟨10, _⟩ => (outsAt0 V c t.val t.isLt).2.2.1
  Φ t := PhiS V c t.val (Nat.le_of_lt_succ t.isLt)
  q _ := fullShare
  owed _ := 0

/-- The proof data's arrays are the region-entry contents. -/
theorem A_eq (c : Dev nD) (w : Fin cfg1.W) : (dat V c).A w = V c (Pipeline.arrRef spec1 w) := by
  dsimp only [dat]

/-- The invariant at a point's start (the proof data at t.castSucc), restated at t.val. -/
theorem PhiS_castSucc (c : Dev nD) (t : Fin cfg1.N) :
    (dat V c).Φ t.castSucc = PhiS V c t.val (Nat.le_of_lt t.isLt) := by
  dsimp only [dat]; exact Pipeline.Dat.Φ_castSucc (PhiS V c) t

/-- What the body leaves, window by window (the proof data's match reduced by dsimp). -/
theorem after0_0 (c : Dev nD) (t : Fin cfg1.N) : (dat V c).after 0 t = iblk V c 0 t := by dsimp only [dat]
theorem after0_1 (c : Dev nD) (t : Fin cfg1.N) : (dat V c).after 1 t = iblk V c 1 t := by dsimp only [dat]
theorem after0_2 (c : Dev nD) (t : Fin cfg1.N) : (dat V c).after 2 t = iblk V c 2 t := by dsimp only [dat]
theorem after0_3 (c : Dev nD) (t : Fin cfg1.N) : (dat V c).after 3 t = iblk V c 3 t := by dsimp only [dat]
theorem after0_4 (c : Dev nD) (t : Fin cfg1.N) : (dat V c).after 4 t = iblk V c 4 t := by dsimp only [dat]
theorem after0_5 (c : Dev nD) (t : Fin cfg1.N) : (dat V c).after 5 t = iblk V c 5 t := by dsimp only [dat]
theorem after0_6 (c : Dev nD) (t : Fin cfg1.N) : (dat V c).after 6 t = iblk V c 6 t := by dsimp only [dat]
theorem after0_7 (c : Dev nD) (t : Fin cfg1.N) : (dat V c).after 7 t = iblk V c 7 t := by dsimp only [dat]
theorem after0_8 (c : Dev nD) (t : Fin cfg1.N) : (dat V c).after 8 t = (outsAt0 V c t.val t.isLt).1 := by dsimp only [dat]
theorem after0_9 (c : Dev nD) (t : Fin cfg1.N) : (dat V c).after 9 t = (outsAt0 V c t.val t.isLt).2.1 := by dsimp only [dat]
theorem after0_10 (c : Dev nD) (t : Fin cfg1.N) : (dat V c).after 10 t = (outsAt0 V c t.val t.isLt).2.2.1 := by dsimp only [dat]

/-- Each input's current staging buffer holds its block at every point, fetched there or not (beforeK_W_of). -/
theorem before0_0 (c : Dev nD) (t : Fin cfg1.N) (d) : (dat V c).before 0 t d = iblk V c 0 t :=
  before0_0_of V (dat V c) (A_eq V c 0) (after0_0 V c) t d
theorem before0_1 (c : Dev nD) (t : Fin cfg1.N) (d) : (dat V c).before 1 t d = iblk V c 1 t :=
  before0_1_of V (dat V c) (A_eq V c 1) (after0_1 V c) t d
theorem before0_2 (c : Dev nD) (t : Fin cfg1.N) (d) : (dat V c).before 2 t d = iblk V c 2 t :=
  before0_2_of V (dat V c) (A_eq V c 2) (after0_2 V c) t d
theorem before0_3 (c : Dev nD) (t : Fin cfg1.N) (d) : (dat V c).before 3 t d = iblk V c 3 t :=
  before0_3_of V (dat V c) (A_eq V c 3) (after0_3 V c) t d
theorem before0_4 (c : Dev nD) (t : Fin cfg1.N) (d) : (dat V c).before 4 t d = iblk V c 4 t :=
  before0_4_of V (dat V c) (A_eq V c 4) (after0_4 V c) t d
theorem before0_5 (c : Dev nD) (t : Fin cfg1.N) (d) : (dat V c).before 5 t d = iblk V c 5 t :=
  before0_5_of V (dat V c) (A_eq V c 5) (after0_5 V c) t d
theorem before0_6 (c : Dev nD) (t : Fin cfg1.N) (d) : (dat V c).before 6 t d = iblk V c 6 t :=
  before0_6_of V (dat V c) (A_eq V c 6) (after0_6 V c) t d
theorem before0_7 (c : Dev nD) (t : Fin cfg1.N) (d) : (dat V c).before 7 t d = iblk V c 7 t :=
  before0_7_of V (dat V c) (A_eq V c 7) (after0_7 V c) t d

/-! ## The body obligation, at a generic point -/

/-- What the body is called with at point t (Lib/Pipeline.lean BodyObligation's precondition, the windows one by one). -/
def bodyPre (c : Dev nD) (t : Fin cfg1.N) : sProp 𝕄 :=
  iprop((dat V c).Φ t.castSucc ∗ (dat V c).owesAt () t.castSucc
    ∗ (∃ d, owns (c : Thread nD τ) (ms1_0 t) fullShare ((dat V c).before 0 t d))
    ∗ (∃ d, owns (c : Thread nD τ) (ms1_1 t) fullShare ((dat V c).before 1 t d))
    ∗ (∃ d, owns (c : Thread nD τ) (ms1_2 t) fullShare ((dat V c).before 2 t d))
    ∗ (∃ d, owns (c : Thread nD τ) (ms1_3 t) fullShare ((dat V c).before 3 t d))
    ∗ (∃ d, owns (c : Thread nD τ) (ms1_4 t) fullShare ((dat V c).before 4 t d))
    ∗ (∃ d, owns (c : Thread nD τ) (ms1_5 t) fullShare ((dat V c).before 5 t d))
    ∗ (∃ d, owns (c : Thread nD τ) (ms1_6 t) fullShare ((dat V c).before 6 t d))
    ∗ (∃ d, owns (c : Thread nD τ) (ms1_7 t) fullShare ((dat V c).before 7 t d))
    ∗ (∃ d, owns (c : Thread nD τ) (ms1_8 t) fullShare ((dat V c).before 8 t d))
    ∗ (∃ d, owns (c : Thread nD τ) (ms1_9 t) fullShare ((dat V c).before 9 t d))
    ∗ (∃ d, owns (c : Thread nD τ) (ms1_10 t) fullShare ((dat V c).before 10 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t)

set_option maxHeartbeats 14400000 in
/-- The body at any point: the inputs' memrefs hold their blocks (before0_W). -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0_0, before0_1, before0_2, before0_3, before0_4, before0_5, before0_6, before0_7]
  rw [show (dat V c).owesAt () t.succ = (dat V c).owesAt () t.castSucc from rfl]
  rw [show (dat V c).Φ t.succ = PhiS V c (t.val + 1) t.isLt from rfl, PhiS_succ]
  have hN : t.val < 3 := lt_of_lt_of_eq t.isLt (show cfg1.N = 3 from N_1)
  by_cases h0 : t.val % 3 = 0
  · by_cases h1 : t.val % 3 = 2
    · exfalso; omega
    · rw [show (dat V c).leavesExact 0 t = owns (c : Thread nD τ) (ms1_0 t) fullShare ((dat V c).after 0 t) from by
      unfold Dat.leavesExact; rw [liveAt0_0 t], after0_0]
      rw [show (dat V c).leavesExact 1 t = owns (c : Thread nD τ) (ms1_1 t) fullShare ((dat V c).after 1 t) from by
      unfold Dat.leavesExact; rw [liveAt0_1 t], after0_1]
      rw [show (dat V c).leavesExact 2 t = owns (c : Thread nD τ) (ms1_2 t) fullShare ((dat V c).after 2 t) from by
      unfold Dat.leavesExact; rw [liveAt0_2 t], after0_2]
      rw [show (dat V c).leavesExact 3 t = owns (c : Thread nD τ) (ms1_3 t) fullShare ((dat V c).after 3 t) from by
      unfold Dat.leavesExact; rw [liveAt0_3 t], after0_3]
      rw [show (dat V c).leavesExact 4 t = owns (c : Thread nD τ) (ms1_4 t) fullShare ((dat V c).after 4 t) from by
      unfold Dat.leavesExact; rw [liveAt0_4 t], after0_4]
      rw [show (dat V c).leavesExact 5 t = owns (c : Thread nD τ) (ms1_5 t) fullShare ((dat V c).after 5 t) from by
      unfold Dat.leavesExact; rw [liveAt0_5 t], after0_5]
      rw [show (dat V c).leavesExact 6 t = owns (c : Thread nD τ) (ms1_6 t) fullShare ((dat V c).after 6 t) from by
      unfold Dat.leavesExact; rw [liveAt0_6 t], after0_6]
      rw [show (dat V c).leavesExact 7 t = owns (c : Thread nD τ) (ms1_7 t) fullShare ((dat V c).after 7 t) from by
      unfold Dat.leavesExact; rw [liveAt0_7 t], after0_7]
      rw [Dat.leavesExact_idle (dat V c) 8 t (idleAt0_8_A t ((hcond0_0 t).mpr h0) (fun h => h1 ((hcond0_1 t).mp h))) (noFlush0_8_A t ((hcond0_0 t).mpr h0) (fun h => h1 ((hcond0_1 t).mp h)))]
      rw [Dat.leavesExact_idle (dat V c) 9 t (idleAt0_9_A t ((hcond0_0 t).mpr h0) (fun h => h1 ((hcond0_1 t).mp h))) (noFlush0_9_A t ((hcond0_0 t).mpr h0) (fun h => h1 ((hcond0_1 t).mp h)))]
      rw [Dat.leavesExact_idle (dat V c) 10 t (idleAt0_10_A t ((hcond0_0 t).mpr h0) (fun h => h1 ((hcond0_1 t).mp h))) (noFlush0_10_A t ((hcond0_0 t).mpr h0) (fun h => h1 ((hcond0_1 t).mp h)))]
      by_cases hz : t.val = 0
      · rw [PhiS_castSucc V c t, PhiS_zero V c _ _ hz, PhiA0_eq]
        rw [outsAt0_A V c t h0 h1]
        unfold sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_A c (grid1.coords t) _ _ _ _ _ _ _ _ _ _ _ _ _ _ _ _ _ _ _ _ _ _ _ _ ((hcond0_0 t).mpr h0) (fun h => h1 ((hcond0_1 t).mp h)) (iblk V c 0 t) (iblk V c 1 t) (iblk V c 2 t) (iblk V c 3 t) (iblk V c 4 t) (iblk V c 5 t) (iblk V c 6 t) (iblk V c 7 t)).2.2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexact HS0
        iintro ⟨H0, H1, H2, H3, H4, H5, H6, H7, H8, H9, H10, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        iexists _; iexact H10
      · exfalso; have hN : t.val < 3 := lt_of_lt_of_eq t.isLt (show cfg1.N = 3 from N_1); omega
  · by_cases h1 : t.val % 3 = 2
    · rw [show (dat V c).leavesExact 0 t = owns (c : Thread nD τ) (ms1_0 t) fullShare ((dat V c).after 0 t) from by
      unfold Dat.leavesExact; rw [liveAt0_0 t], after0_0]
      rw [show (dat V c).leavesExact 1 t = owns (c : Thread nD τ) (ms1_1 t) fullShare ((dat V c).after 1 t) from by
      unfold Dat.leavesExact; rw [liveAt0_1 t], after0_1]
      rw [show (dat V c).leavesExact 2 t = owns (c : Thread nD τ) (ms1_2 t) fullShare ((dat V c).after 2 t) from by
      unfold Dat.leavesExact; rw [liveAt0_2 t], after0_2]
      rw [show (dat V c).leavesExact 3 t = owns (c : Thread nD τ) (ms1_3 t) fullShare ((dat V c).after 3 t) from by
      unfold Dat.leavesExact; rw [liveAt0_3 t], after0_3]
      rw [show (dat V c).leavesExact 4 t = owns (c : Thread nD τ) (ms1_4 t) fullShare ((dat V c).after 4 t) from by
      unfold Dat.leavesExact; rw [liveAt0_4 t], after0_4]
      rw [show (dat V c).leavesExact 5 t = owns (c : Thread nD τ) (ms1_5 t) fullShare ((dat V c).after 5 t) from by
      unfold Dat.leavesExact; rw [liveAt0_5 t], after0_5]
      rw [show (dat V c).leavesExact 6 t = owns (c : Thread nD τ) (ms1_6 t) fullShare ((dat V c).after 6 t) from by
      unfold Dat.leavesExact; rw [liveAt0_6 t], after0_6]
      rw [show (dat V c).leavesExact 7 t = owns (c : Thread nD τ) (ms1_7 t) fullShare ((dat V c).after 7 t) from by
      unfold Dat.leavesExact; rw [liveAt0_7 t], after0_7]
      rw [show (dat V c).leavesExact 8 t = owns (c : Thread nD τ) (ms1_8 t) fullShare ((dat V c).after 8 t) from by
      unfold Dat.leavesExact; rw [liveAt0_8_C t (fun h => h0 ((hcond0_0 t).mp h)) ((hcond0_1 t).mpr h1)], after0_8]
      rw [show (dat V c).leavesExact 9 t = owns (c : Thread nD τ) (ms1_9 t) fullShare ((dat V c).after 9 t) from by
      unfold Dat.leavesExact; rw [liveAt0_9_C t (fun h => h0 ((hcond0_0 t).mp h)) ((hcond0_1 t).mpr h1)], after0_9]
      rw [show (dat V c).leavesExact 10 t = owns (c : Thread nD τ) (ms1_10 t) fullShare ((dat V c).after 10 t) from by
      unfold Dat.leavesExact; rw [liveAt0_10_C t (fun h => h0 ((hcond0_0 t).mp h)) ((hcond0_1 t).mpr h1)], after0_10]
      by_cases hz : t.val = 0
      · exfalso; have hN : t.val < 3 := lt_of_lt_of_eq t.isLt (show cfg1.N = 3 from N_1); omega
      · rw [PhiS_castSucc V c t, PhiS_pos V c _ _ hz]
        rw [outsAt0_C V c t h0 h1]
        unfold out0_C_8 out0_C_9 out0_C_10 sout0_C_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_C c (grid1.coords t) _ _ _ _ _ _ _ _ _ _ _ _ _ _ _ _ _ _ _ _ _ _ _ _ (fun h => h0 ((hcond0_0 t).mp h)) ((hcond0_1 t).mpr h1) (iblk V c 0 t) (iblk V c 1 t) (iblk V c 2 t) (iblk V c 3 t) (iblk V c 4 t) (iblk V c 5 t) (iblk V c 6 t) (iblk V c 7 t) _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]; · iexists _; iexact H10
        isplitl [HS0]; · iexact HS0
        iintro ⟨H0, H1, H2, H3, H4, H5, H6, H7, ⟨%e8, H8⟩, ⟨%e9, H9⟩, ⟨%e10, H10⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_C_8 c _ _ _ _ _ _ _ _ _ _ _ _ _ _ _ _ _ _ _ _ _ _ _ _ _ _ _ _ _ _ _ _ _ _ _ _)
        isplitl [H9]
        · unfold owns; iexists _; isplitr
          swap; · iexact H9
          ipureintro; exact View.read_writes_of_cover _ _ _ _ _ (cover0_C_9 c _ _ _ _ _ _ _ _ _ _ _ _ _ _ _ _ _ _ _ _ _ _ _ _ _ _ _ _ _ _ _ _ _ _ _ _)
        unfold owns; iexists _; isplitr
        swap; · iexact H10
        ipureintro; exact View.read_writes_of_cover _ _ _ _ _ (cover0_C_10 c _ _ _ _ _ _ _ _ _ _ _ _ _ _ _ _ _ _ _ _ _ _ _ _ _ _ _ _ _ _ _ _ _ _ _ _)
    · rw [show (dat V c).leavesExact 0 t = owns (c : Thread nD τ) (ms1_0 t) fullShare ((dat V c).after 0 t) from by
      unfold Dat.leavesExact; rw [liveAt0_0 t], after0_0]
      rw [show (dat V c).leavesExact 1 t = owns (c : Thread nD τ) (ms1_1 t) fullShare ((dat V c).after 1 t) from by
      unfold Dat.leavesExact; rw [liveAt0_1 t], after0_1]
      rw [show (dat V c).leavesExact 2 t = owns (c : Thread nD τ) (ms1_2 t) fullShare ((dat V c).after 2 t) from by
      unfold Dat.leavesExact; rw [liveAt0_2 t], after0_2]
      rw [show (dat V c).leavesExact 3 t = owns (c : Thread nD τ) (ms1_3 t) fullShare ((dat V c).after 3 t) from by
      unfold Dat.leavesExact; rw [liveAt0_3 t], after0_3]
      rw [show (dat V c).leavesExact 4 t = owns (c : Thread nD τ) (ms1_4 t) fullShare ((dat V c).after 4 t) from by
      unfold Dat.leavesExact; rw [liveAt0_4 t], after0_4]
      rw [show (dat V c).leavesExact 5 t = owns (c : Thread nD τ) (ms1_5 t) fullShare ((dat V c).after 5 t) from by
      unfold Dat.leavesExact; rw [liveAt0_5 t], after0_5]
      rw [show (dat V c).leavesExact 6 t = owns (c : Thread nD τ) (ms1_6 t) fullShare ((dat V c).after 6 t) from by
      unfold Dat.leavesExact; rw [liveAt0_6 t], after0_6]
      rw [show (dat V c).leavesExact 7 t = owns (c : Thread nD τ) (ms1_7 t) fullShare ((dat V c).after 7 t) from by
      unfold Dat.leavesExact; rw [liveAt0_7 t], after0_7]
      rw [Dat.leavesExact_idle (dat V c) 8 t (idleAt0_8_B t (fun h => h0 ((hcond0_0 t).mp h)) (fun h => h1 ((hcond0_1 t).mp h))) (noFlush0_8_B t (fun h => h0 ((hcond0_0 t).mp h)) (fun h => h1 ((hcond0_1 t).mp h)))]
      rw [Dat.leavesExact_idle (dat V c) 9 t (idleAt0_9_B t (fun h => h0 ((hcond0_0 t).mp h)) (fun h => h1 ((hcond0_1 t).mp h))) (noFlush0_9_B t (fun h => h0 ((hcond0_0 t).mp h)) (fun h => h1 ((hcond0_1 t).mp h)))]
      rw [Dat.leavesExact_idle (dat V c) 10 t (idleAt0_10_B t (fun h => h0 ((hcond0_0 t).mp h)) (fun h => h1 ((hcond0_1 t).mp h))) (noFlush0_10_B t (fun h => h0 ((hcond0_0 t).mp h)) (fun h => h1 ((hcond0_1 t).mp h)))]
      by_cases hz : t.val = 0
      · exfalso; have hN : t.val < 3 := lt_of_lt_of_eq t.isLt (show cfg1.N = 3 from N_1); omega
      · rw [PhiS_castSucc V c t, PhiS_pos V c _ _ hz]
        rw [outsAt0_B V c t h0 h1]
        unfold sout0_B_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_B c (grid1.coords t) _ _ _ _ _ _ _ _ _ _ _ _ _ _ _ _ _ _ _ _ _ _ _ _ (fun h => h0 ((hcond0_0 t).mp h)) (fun h => h1 ((hcond0_1 t).mp h)) (iblk V c 0 t) (iblk V c 1 t) (iblk V c 2 t) (iblk V c 3 t) (iblk V c 4 t) (iblk V c 5 t) (iblk V c 6 t) (iblk V c 7 t) _).2.2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexact HS0
        iintro ⟨H0, H1, H2, H3, H4, H5, H6, H7, H8, H9, H10, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        iexists _; iexact H10

/-- The body table's row at point t's slots is the body as bodyAt1 spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean triple_restated). -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

/-- What the launch hands the region (ΦA) is the invariant before the first point. -/
theorem hin (c : Dev nD) : Phi0 (F := F) c ⊢ (dat V c).Φ 0 := by
  rw [show (dat V c).Φ 0 = PhiS V c 0 (Nat.zero_le _) from rfl, PhiS_zero V c 0 _ rfl]
  try exact Idealize.SL.BI.Entails.refl _

/-- After any point but the first the invariant gives ΦA back: the carried scratch's named contents are forgotten. -/
theorem Phi_out (c : Dev nD) (t : Fin (cfg1.N + 1)) (ht : t.val ≠ 0) : (dat V c).Φ t ⊢ Phi0 (F := F) c := by
  rw [show (dat V c).Φ t = PhiS V c t.val (Nat.le_of_lt_succ t.isLt) from rfl, PhiS_pos V c _ _ ht, PhiA0_eq]
  iintro ⟨HS0, Hg⟩
  isplitl [HS0]
  · iexists _; iexact HS0
  iexact Hg

/-- The same after the last point. -/
theorem hout (c : Dev nD) : (dat V c).Φ (Fin.last cfg1.N) ⊢ Phi0 (F := F) c :=
  Phi_out V c _ (by rw [Fin.val_last]; have : cfg1.N = 3 := N_1; omega)

end Cert.KernelIdeal.Blocks1

end
-- ==== Proof.KernelIdealRun.lean ====
/- The two calls joined: each call's region record between the program's thread states, and the whole run. -/
module

public import proofs.«01_k».proof.Proof.KernelIdealEmbedFrame
public import proofs.«01_k».proof.Proof.KernelIdealBlocksFrame
public import proofs.«01_k».proof.Proof.Gen.KernelIdeal.Regions
public import Idealize.ShloMosaic.Lib.Pipeline.Frame
public import Idealize.ShloMosaic.Lib.Pipeline.Regions
public import Idealize.ShloMosaic.Lib.Pipeline.RegionsLoop
public import Idealize.ShloMosaic.Lib.Pipeline.Kit

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-- What the first call finds in each buffer. -/
def entry0 (c : Dev nD) (b : Ref sig .tc) : Buf (Elt F) ((c : Thread nD τ).loc b) := V1 m c (Proc.devRef .tc b)

/-- The buffers after the first call: its result is what its pipeline wrote back. -/
def left0 (c : Dev nD) : Valuation τ sig (Elt F) :=
  Function.update (V1 m c) main_v7 ((Embed0.dat (entry0 m) c).arrAt 7 cfg0.N)

/-- What the second call finds in each buffer. -/
def entry1 (c : Dev nD) (b : Ref sig .tc) : Buf (Elt F) ((c : Thread nD τ).loc b) :=
  StableHlo.after hostOps1 (left0 m c) (Proc.devRef .tc b)

/-- The buffers after the second call: its three results are what its pipeline wrote back. -/
def left1 (c : Dev nD) : Valuation τ sig (Elt F) :=
  Function.update (Function.update (Function.update (StableHlo.after hostOps1 (left0 m c))
    main_v11_0 ((Blocks1.dat (entry1 m) c).arrAt 8 cfg1.N))
    main_v11_1 ((Blocks1.dat (entry1 m) c).arrAt 9 cfg1.N))
    main_v11_2 ((Blocks1.dat (entry1 m) c).arrAt 10 cfg1.N)

/-- What the calls leave, in the form the program's thread states read it. -/
def outs : Outs (F := F) := fun J r c => if J = 2 then left0 m c r else left1 m c r

theorem outs_first (c : Dev nD) : outs m 2 main_v7 c = (Embed0.dat (entry0 m) c).arrAt 7 cfg0.N := by
  unfold outs; rw [if_pos rfl]; unfold left0; exact Function.update_self ..

theorem V2_eq (c : Dev nD) : V2 m (outs m) c = left0 m c := by
  unfold V2; rw [outs_first]; rfl

theorem V3_eq (c : Dev nD) : V3 m (outs m) c = StableHlo.after hostOps1 (left0 m c) := by
  unfold V3; rw [V2_eq]

theorem outs_logits (c : Dev nD) : outs m 4 main_v11_0 c = (Blocks1.dat (entry1 m) c).arrAt 8 cfg1.N := by
  unfold outs; rw [if_neg (by decide)]; unfold left1
  rw [Function.update_of_ne (StableHlo.devRef_ne_of_ne (by decide)), Function.update_of_ne (StableHlo.devRef_ne_of_ne (by decide))]
  exact Function.update_self ..
theorem outs_probs (c : Dev nD) : outs m 4 main_v11_1 c = (Blocks1.dat (entry1 m) c).arrAt 9 cfg1.N := by
  unfold outs; rw [if_neg (by decide)]; unfold left1
  rw [Function.update_of_ne (StableHlo.devRef_ne_of_ne (by decide))]
  exact Function.update_self ..
theorem outs_indices (c : Dev nD) : outs m 4 main_v11_2 c = (Blocks1.dat (entry1 m) c).arrAt 10 cfg1.N := by
  unfold outs; rw [if_neg (by decide)]; unfold left1
  exact Function.update_self ..

theorem V4_eq (c : Dev nD) : V4 m (outs m) c = left1 m c := by
  unfold V4; rw [outs_logits, outs_probs, outs_indices, V3_eq]; rfl

/-- Each call's pipeline data at what that call finds. -/
def pdats : (p : Fin 2) → (c : Dev nD) → Dat τ (Elt F) Unit ℕ (UR sig nD τ) ℕ (cfgs p) c
  | ⟨0, _⟩, c => Embed0.dat (entry0 m) c
  | ⟨1, _⟩, c => Blocks1.dat (entry1 m) c

/-- Beside the buffers a core owes nothing. -/
def rest (_ : Fin 3) (c : Dev nD) : sProp 𝕄 := iprop(∃ W, owes (c : Thread nD τ) (0 : CellTallies nD τ sig Unit) W)

/-- No level is used. -/
abbrev noLevels : GSem nD τ sig → Finset Unit := fun _ => ∅
abbrev level : GSem nD τ sig → Unit → ℕ := fun _ _ => 0

/-- A buffer the second call's results do not name is as the second host stretch left it. -/
theorem after_second (c : Dev nD) (r : Ref sig .tc) (h : r ∉ ([main_v11_0, main_v11_1, main_v11_2] : List (Ref sig .tc))) :
    V4 m (outs m) c (Proc.devRef .tc r) = entry1 m c r := by
  have e := V4_of m (outs m) c r h
  rw [V3_eq] at e; exact e
theorem after_second_logits (c : Dev nD) : V4 m (outs m) c main_v11_0 = (Blocks1.dat (entry1 m) c).arrAt 8 cfg1.N := by
  rw [← outs_logits]; unfold V4
  rw [Function.update_of_ne (StableHlo.devRef_ne_of_ne (by decide)), Function.update_of_ne (StableHlo.devRef_ne_of_ne (by decide))]
  exact Function.update_self ..
theorem after_second_probs (c : Dev nD) : V4 m (outs m) c main_v11_1 = (Blocks1.dat (entry1 m) c).arrAt 9 cfg1.N := by
  rw [← outs_probs]; unfold V4
  rw [Function.update_of_ne (StableHlo.devRef_ne_of_ne (by decide))]
  exact Function.update_self ..
theorem after_second_indices (c : Dev nD) : V4 m (outs m) c main_v11_2 = (Blocks1.dat (entry1 m) c).arrAt 10 cfg1.N := by
  rw [← outs_indices]; unfold V4
  exact Function.update_self ..
theorem after_first (c : Dev nD) : V2 m (outs m) c main_v7 = (Embed0.dat (entry0 m) c).arrAt 7 cfg0.N := by
  rw [← outs_first]; unfold V2; exact Function.update_self ..

/-- What the first call leaves in its windows' arrays is what the state after it says. -/
theorem first_in0 (c : Dev nD) : (Embed0.dat (entry0 m) c).arrAt 0 cfg0.N = V2 m (outs m) c (Proc.devRef .tc (Pipeline.arrRef spec0 0)) :=
  ((Embed0.dat (entry0 m) c).arrAt_in 0 rfl _).trans ((Embed0.A_eq (entry0 m) c 0).trans (V2_of m (outs m) c (Pipeline.arrRef spec0 0) (by decide)).symm)
theorem first_in1 (c : Dev nD) : (Embed0.dat (entry0 m) c).arrAt 1 cfg0.N = V2 m (outs m) c (Proc.devRef .tc (Pipeline.arrRef spec0 1)) :=
  ((Embed0.dat (entry0 m) c).arrAt_in 1 rfl _).trans ((Embed0.A_eq (entry0 m) c 1).trans (V2_of m (outs m) c (Pipeline.arrRef spec0 1) (by decide)).symm)
theorem first_in2 (c : Dev nD) : (Embed0.dat (entry0 m) c).arrAt 2 cfg0.N = V2 m (outs m) c (Proc.devRef .tc (Pipeline.arrRef spec0 2)) :=
  ((Embed0.dat (entry0 m) c).arrAt_in 2 rfl _).trans ((Embed0.A_eq (entry0 m) c 2).trans (V2_of m (outs m) c (Pipeline.arrRef spec0 2) (by decide)).symm)
theorem first_in3 (c : Dev nD) : (Embed0.dat (entry0 m) c).arrAt 3 cfg0.N = V2 m (outs m) c (Proc.devRef .tc (Pipeline.arrRef spec0 3)) :=
  ((Embed0.dat (entry0 m) c).arrAt_in 3 rfl _).trans ((Embed0.A_eq (entry0 m) c 3).trans (V2_of m (outs m) c (Pipeline.arrRef spec0 3) (by decide)).symm)
theorem first_in4 (c : Dev nD) : (Embed0.dat (entry0 m) c).arrAt 4 cfg0.N = V2 m (outs m) c (Proc.devRef .tc (Pipeline.arrRef spec0 4)) :=
  ((Embed0.dat (entry0 m) c).arrAt_in 4 rfl _).trans ((Embed0.A_eq (entry0 m) c 4).trans (V2_of m (outs m) c (Pipeline.arrRef spec0 4) (by decide)).symm)
theorem first_in5 (c : Dev nD) : (Embed0.dat (entry0 m) c).arrAt 5 cfg0.N = V2 m (outs m) c (Proc.devRef .tc (Pipeline.arrRef spec0 5)) :=
  ((Embed0.dat (entry0 m) c).arrAt_in 5 rfl _).trans ((Embed0.A_eq (entry0 m) c 5).trans (V2_of m (outs m) c (Pipeline.arrRef spec0 5) (by decide)).symm)
theorem first_in6 (c : Dev nD) : (Embed0.dat (entry0 m) c).arrAt 6 cfg0.N = V2 m (outs m) c (Proc.devRef .tc (Pipeline.arrRef spec0 6)) :=
  ((Embed0.dat (entry0 m) c).arrAt_in 6 rfl _).trans ((Embed0.A_eq (entry0 m) c 6).trans (V2_of m (outs m) c (Pipeline.arrRef spec0 6) (by decide)).symm)
theorem first_arrays (c : Dev nD) (w : Fin cfg0.W) : (Embed0.dat (entry0 m) c).arrAt w cfg0.N = V2 m (outs m) c (Proc.devRef .tc (Pipeline.arrRef spec0 w)) := by
  fin_cases w
  · exact first_in0 m c
  · exact first_in1 m c
  · exact first_in2 m c
  · exact first_in3 m c
  · exact first_in4 m c
  · exact first_in5 m c
  · exact first_in6 m c
  · exact (after_first m c).symm
/-- The buffers the first call has no window for are as it found them. -/
theorem first_others (c : Dev nD) (b : Ref sig .tc) (hb : b ∉ Finset.univ.image (Pipeline.arrRef spec0)) : V2 m (outs m) c (Proc.devRef .tc b) = entry0 m c b :=
  V2_of m (outs m) c b fun h => hb ((List.mem_singleton.mp h) ▸ Finset.mem_image.mpr ⟨7, Finset.mem_univ _, rfl⟩)
/-- What the second call leaves in its windows' arrays is what the state after it says. -/
theorem second_in0 (c : Dev nD) : (Blocks1.dat (entry1 m) c).arrAt 0 cfg1.N = V4 m (outs m) c (Proc.devRef .tc (Pipeline.arrRef spec1 0)) :=
  ((Blocks1.dat (entry1 m) c).arrAt_in 0 rfl _).trans ((Blocks1.A_eq (entry1 m) c 0).trans (after_second m c (Pipeline.arrRef spec1 0) (by decide)).symm)
theorem second_in1 (c : Dev nD) : (Blocks1.dat (entry1 m) c).arrAt 1 cfg1.N = V4 m (outs m) c (Proc.devRef .tc (Pipeline.arrRef spec1 1)) :=
  ((Blocks1.dat (entry1 m) c).arrAt_in 1 rfl _).trans ((Blocks1.A_eq (entry1 m) c 1).trans (after_second m c (Pipeline.arrRef spec1 1) (by decide)).symm)
theorem second_in2 (c : Dev nD) : (Blocks1.dat (entry1 m) c).arrAt 2 cfg1.N = V4 m (outs m) c (Proc.devRef .tc (Pipeline.arrRef spec1 2)) :=
  ((Blocks1.dat (entry1 m) c).arrAt_in 2 rfl _).trans ((Blocks1.A_eq (entry1 m) c 2).trans (after_second m c (Pipeline.arrRef spec1 2) (by decide)).symm)
theorem second_in3 (c : Dev nD) : (Blocks1.dat (entry1 m) c).arrAt 3 cfg1.N = V4 m (outs m) c (Proc.devRef .tc (Pipeline.arrRef spec1 3)) :=
  ((Blocks1.dat (entry1 m) c).arrAt_in 3 rfl _).trans ((Blocks1.A_eq (entry1 m) c 3).trans (after_second m c (Pipeline.arrRef spec1 3) (by decide)).symm)
theorem second_in4 (c : Dev nD) : (Blocks1.dat (entry1 m) c).arrAt 4 cfg1.N = V4 m (outs m) c (Proc.devRef .tc (Pipeline.arrRef spec1 4)) :=
  ((Blocks1.dat (entry1 m) c).arrAt_in 4 rfl _).trans ((Blocks1.A_eq (entry1 m) c 4).trans (after_second m c (Pipeline.arrRef spec1 4) (by decide)).symm)
theorem second_in5 (c : Dev nD) : (Blocks1.dat (entry1 m) c).arrAt 5 cfg1.N = V4 m (outs m) c (Proc.devRef .tc (Pipeline.arrRef spec1 5)) :=
  ((Blocks1.dat (entry1 m) c).arrAt_in 5 rfl _).trans ((Blocks1.A_eq (entry1 m) c 5).trans (after_second m c (Pipeline.arrRef spec1 5) (by decide)).symm)
theorem second_in6 (c : Dev nD) : (Blocks1.dat (entry1 m) c).arrAt 6 cfg1.N = V4 m (outs m) c (Proc.devRef .tc (Pipeline.arrRef spec1 6)) :=
  ((Blocks1.dat (entry1 m) c).arrAt_in 6 rfl _).trans ((Blocks1.A_eq (entry1 m) c 6).trans (after_second m c (Pipeline.arrRef spec1 6) (by decide)).symm)
theorem second_in7 (c : Dev nD) : (Blocks1.dat (entry1 m) c).arrAt 7 cfg1.N = V4 m (outs m) c (Proc.devRef .tc (Pipeline.arrRef spec1 7)) :=
  ((Blocks1.dat (entry1 m) c).arrAt_in 7 rfl _).trans ((Blocks1.A_eq (entry1 m) c 7).trans (after_second m c (Pipeline.arrRef spec1 7) (by decide)).symm)
theorem second_arrays (c : Dev nD) (w : Fin cfg1.W) : (Blocks1.dat (entry1 m) c).arrAt w cfg1.N = V4 m (outs m) c (Proc.devRef .tc (Pipeline.arrRef spec1 w)) := by
  fin_cases w
  · exact second_in0 m c
  · exact second_in1 m c
  · exact second_in2 m c
  · exact second_in3 m c
  · exact second_in4 m c
  · exact second_in5 m c
  · exact second_in6 m c
  · exact second_in7 m c
  · exact (after_second_logits m c).symm
  · exact (after_second_probs m c).symm
  · exact (after_second_indices m c).symm
/-- The buffers the second call has no window for are as it found them. -/
theorem second_others (c : Dev nD) (b : Ref sig .tc) (hb : b ∉ Finset.univ.image (Pipeline.arrRef spec1)) : V4 m (outs m) c (Proc.devRef .tc b) = entry1 m c b :=
  after_second m c b fun h => by
    rcases List.mem_cons.mp h with h | h
    · exact hb (h ▸ Finset.mem_image.mpr ⟨8, Finset.mem_univ _, rfl⟩)
    rcases List.mem_cons.mp h with h | h
    · exact hb (h ▸ Finset.mem_image.mpr ⟨9, Finset.mem_univ _, rfl⟩)
    · exact hb ((List.mem_singleton.mp h) ▸ Finset.mem_image.mpr ⟨10, Finset.mem_univ _, rfl⟩)

set_option maxHeartbeats 1000000 in
set_option backward.isDefEq.respectTransparency.types false in
/-- The first call between its two thread states. -/
def region0 : RegionSeg (pcfgs (F := F)) adm (pdats m) () defs₀ Variants.none noLevels level 0 where
  win := launch0.win.to₀
  block_pos := launch0.block_pos
  stage_whole := launch0.stage_whole
  K := PEmpty
  osem k := k.elim
  ho := Pipeline.OwnSemFacts.none _
  hbody c := (Embed0.body_obligation (entry0 m) c).loose
  hwaits := Pipeline.hwaits_of_owed_zero _ _ _ _ noLevels level 0 fun _ _ => rfl
  pre c := iprop(StableHlo.held (c : Thread nD τ) (Pipeline.ucRefs τ sig) (V1 m c) ∗ rest (F := F) 0 c)
  post c := iprop(StableHlo.held (c : Thread nD τ) (Pipeline.ucRefs τ sig) (V2 m (outs m) c) ∗ rest (F := F) 1 c)
  X _ := BI.emp
  Y _ := BI.emp
  Z c := iprop(Pipeline.unscopedRest (Ix := Unit) (Name := ℕ) (U := UR sig nD τ) (Lvl := ℕ) spec0 c (entry0 m c))
  hentry c := by
    rw [Pipeline.ownSems0_none]
    have hsplit := Pipeline.arrays_of_unscopedBufs (p := 0) (pcfgs (F := F)) adm (pdats m) launch0.win launch0.arr_whole c
      ((pdats m 0 c).share_full fun _ => rfl) (entry0 m c) fun _ => rfl
    rw [show StableHlo.held (c : Thread nD τ) (Pipeline.ucRefs τ sig) (V1 m c) = unscopedBufs c (entry0 m c) from
      (Pipeline.unscopedBufs_held (Ix := Unit) (Name := ℕ) (U := UR sig nD τ) (Lvl := ℕ) c _).symm]
    unfold rest
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    iintro ⟨-, -, Hr⟩
    iapply (show Pipeline.scopedRest (Ix := Unit) (Name := ℕ) (U := UR sig nD τ) (Lvl := ℕ) (Val := Elt F) spec0 c ⊢ (pdats m 0 c).Φ 0 from .rfl)
    iexact Hr
  hout c := by
    rw [Pipeline.ownSems0_none]
    refine (show (pdats m 0 c).Φ (Fin.last _) ⊢ Pipeline.scopedRest (Ix := Unit) (Name := ℕ) (U := UR sig nD τ) (Lvl := ℕ) (Val := Elt F) spec0 c from .rfl).trans ?_
    iintro Hr
    isplitr; · iempintro
    isplitr; · iempintro
    iexact Hr
  hexit c := by
    have hjoin := Pipeline.unscopedBufs_of_arrays (p := 0) (pcfgs (F := F)) adm (Ix := Unit) (Name := ℕ) (U := UR sig nD τ) (Lvl := ℕ) launch0.win launch0.arr_whole c
      (pdats m) ((pdats m 0 c).share_full fun _ => rfl) (entry0 m c) (fun b => V2 m (outs m) c (Proc.devRef .tc b)) ((pdats m 0 c).arrAt · cfg0.N)
      (fun w => by
        exact first_arrays m c w)
      (fun b hb => first_others m c b hb)
    rw [show StableHlo.held (c : Thread nD τ) (Pipeline.ucRefs τ sig) (V2 m (outs m) c) = unscopedBufs c (fun b => V2 m (outs m) c (Proc.devRef .tc b)) from
      (Pipeline.unscopedBufs_held (Ix := Unit) (Name := ℕ) (U := UR sig nD τ) (Lvl := ℕ) c _).symm]
    unfold rest
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option maxHeartbeats 1000000 in
set_option backward.isDefEq.respectTransparency.types false in
/-- The second call between its two thread states. -/
def region1 : RegionSeg (pcfgs (F := F)) adm (pdats m) () defs₀ Variants.none noLevels level 1 where
  win := launch1.win.to₀
  block_pos := launch1.block_pos
  stage_whole := launch1.stage_whole
  K := PEmpty
  osem k := k.elim
  ho := Pipeline.OwnSemFacts.none _
  hbody c := (Blocks1.body_obligation (entry1 m) c).loose
  hwaits := Pipeline.hwaits_of_owed_zero _ _ _ _ noLevels level 1 fun _ _ => rfl
  pre c := iprop(StableHlo.held (c : Thread nD τ) (Pipeline.ucRefs τ sig) (V3 m (outs m) c) ∗ rest (F := F) 1 c)
  post c := iprop(StableHlo.held (c : Thread nD τ) (Pipeline.ucRefs τ sig) (V4 m (outs m) c) ∗ rest (F := F) 2 c)
  X _ := BI.emp
  Y _ := BI.emp
  Z c := iprop(Pipeline.unscopedRest (Ix := Unit) (Name := ℕ) (U := UR sig nD τ) (Lvl := ℕ) spec1 c (entry1 m c))
  hentry c := by
    rw [Pipeline.ownSems0_none]
    have hsplit := Pipeline.arrays_of_unscopedBufs (p := 1) (pcfgs (F := F)) adm (pdats m) launch1.win launch1.arr_whole c
      ((pdats m 1 c).share_full fun _ => rfl) (entry1 m c) fun _ => rfl
    rw [show StableHlo.held (c : Thread nD τ) (Pipeline.ucRefs τ sig) (V3 m (outs m) c) = unscopedBufs c (entry1 m c) from by
      rw [V3_eq]; exact (Pipeline.unscopedBufs_held (Ix := Unit) (Name := ℕ) (U := UR sig nD τ) (Lvl := ℕ) c _).symm]
    unfold rest
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    iintro ⟨-, -, Hr⟩
    iapply (show Pipeline.scopedRest (Ix := Unit) (Name := ℕ) (U := UR sig nD τ) (Lvl := ℕ) (Val := Elt F) spec1 c ⊢ (pdats m 1 c).Φ 0 from (Blocks1.Phi0_of_rest c).trans (Blocks1.hin (entry1 m) c))
    iexact Hr
  hout c := by
    rw [Pipeline.ownSems0_none]
    refine (show (pdats m 1 c).Φ (Fin.last _) ⊢ Pipeline.scopedRest (Ix := Unit) (Name := ℕ) (U := UR sig nD τ) (Lvl := ℕ) (Val := Elt F) spec1 c from (Blocks1.hout (entry1 m) c).trans (Blocks1.rest_of_Phi0 c)).trans ?_
    iintro Hr
    isplitr; · iempintro
    isplitr; · iempintro
    iexact Hr
  hexit c := by
    have hjoin := Pipeline.unscopedBufs_of_arrays (p := 1) (pcfgs (F := F)) adm (Ix := Unit) (Name := ℕ) (U := UR sig nD τ) (Lvl := ℕ) launch1.win launch1.arr_whole c
      (pdats m) ((pdats m 1 c).share_full fun _ => rfl) (entry1 m c) (fun b => V4 m (outs m) c (Proc.devRef .tc b)) ((pdats m 1 c).arrAt · cfg1.N)
      (fun w => by
        exact second_arrays m c w)
      (fun b hb => second_others m c b hb)
    rw [show StableHlo.held (c : Thread nD τ) (Pipeline.ucRefs τ sig) (V4 m (outs m) c) = unscopedBufs c (fun b => V4 m (outs m) c (Proc.devRef .tc b)) from
      (Pipeline.unscopedBufs_held (Ix := Unit) (Name := ℕ) (U := UR sig nD τ) (Lvl := ℕ) c _).symm]
    unfold rest
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- The whole program's run: it ends with every buffer at its contents after the second call, and every semaphore at zero. -/
theorem run (ρ : Dev nD → PrngReg) :
    θ_run defs (onTc (τ := τ) (main (F := F))) ⟨m, fun _ => 0, ρ⟩ (fun r =>
      (∀ c : Dev nD, ∀ b ∈ Pipeline.ucRefs τ sig, r.2.mem ((c : Thread nD τ).1, b) = V4 m (outs m) c b) ∧ r.2.sem = fun _ => 0) := by
  refine Pipeline.θ_run_regions_kit_dev_sems (pcfgs (F := F)) adm (pdats m) () cellOf_inj emb₁ defs₀ Variants.none noLevels level m ρ main
    (segs m (outs m) Variants.none noLevels level (rest (F := F)) () (pdats m) (region0 m) (region1 m))
    (fun c Q => by
      rewrite [main_chain c, Seg.run_eq_chain,
        show (segs m (outs m) Variants.none noLevels level (rest (F := F)) () (pdats m) (region0 m) (region1 m) c).map Seg.prog = [
          StableHlo.seq hostOps0, Prog.lift (.customCall (Pipeline.entry 0) ()),
          StableHlo.seq hostOps1, Prog.lift (.customCall (Pipeline.entry 1) ()) ] from rfl]
      exact .rfl)
    (fun c => by simp only [segs, Seg.pipes_host, Seg.pipes_region, Seg.pipes_nil]; decide) (0 : Dev nD → CellTallies nD τ sig Unit) (fun _ _ => rfl)
    (fun _ => iprop(emp))
    (initOf (Pipeline.cells cfgs cellOf_inj) (Pipeline.launchToks cfgs cellOf_inj)) ?_
    (T₀ := fun c => iprop(StableHlo.held (c : Thread nD τ) (Pipeline.ucRefs τ sig) (V0 m c) ∗ rest (F := F) 0 c))
    (Tₙ := fun c => StableHlo.held (c : Thread nD τ) (Pipeline.ucRefs τ sig) (V4 m (outs m) c))
    (hch := fun c => ⟨.rfl, .rfl, .rfl, .rfl, .rfl⟩)
    (hinit := ?_)
    (QY := fun c s => ∀ b ∈ Pipeline.ucRefs τ sig, s.mem ((c : Thread nD τ).1, b) = V4 m (outs m) c b)
    (hfin := fun c s' => ?_) (hQ := fun _ h hz => ⟨h, funext fun g => hz g (.inr (regions_no_unscoped g.2))⟩)
  · iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · refine Pipeline.initEach noLevels level fun c => ?_
    rw [show unscopedBufs c (fun b => m ((c.tc : Thread nD τ).loc b)) = StableHlo.held (c.tc : Thread nD τ) (Pipeline.ucRefs τ sig) (V0 m c)
      from Pipeline.unscopedBufs_held (Ix := Unit) (Name := ℕ) (U := UR sig nD τ) (Lvl := ℕ) c (V0 m c)]
    iintro ⟨⟨Hh, -, HO, -, -, -⟩, -⟩
    imodintro
    isplitl [Hh]; · iexact Hh
    unfold rest; iexists ∅; iexact HO
  · unfold StableHlo.held
    iintro ⟨Hh, HSI⟩
    ihave Hr := (pointsTo_read_all (Pipeline.ucRefs τ sig) (fun b => ((c : Thread nD τ).1, b)) (V4 m (outs m) c) s') $$ [Hh HSI]
    · isplitl [Hh] <;> iassumption
    imodintro; iexact Hr

/-- A buffer of the program is one the run ends with. -/
theorem mem_uc (r : Ref sig .tc) (h : r.isScoped = false) : (Proc.devRef .tc r : DevRef τ sig) ∈ Pipeline.ucRefs τ sig :=
  Finset.mem_filter.mpr ⟨StableHlo.devRef_mem_tcRefs r, fun h' => by
    have e : r.isScoped = true := h'
    rw [h] at e; cases e⟩

/-- The frame claim's facts: every argument ends as launched. -/
theorem kept (ρ : Dev nD → PrngReg) : θ_run defs (onTc (τ := τ) (main (F := F))) ⟨m, fun _ => 0, ρ⟩ (fun r =>
    (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39))
    ∧ r.2.sem = fun _ => 0) :=
  (θ_run defs _ _).mono (fun r h => ⟨fun c => ⟨
    (h.1 c _ (mem_uc main_arg0 (by decide))).trans (V4_main_arg0 m (outs m) c),
    (h.1 c _ (mem_uc main_arg1 (by decide))).trans (V4_main_arg1 m (outs m) c),
    (h.1 c _ (mem_uc main_arg2 (by decide))).trans (V4_main_arg2 m (outs m) c),
    (h.1 c _ (mem_uc main_arg3 (by decide))).trans (V4_main_arg3 m (outs m) c),
    (h.1 c _ (mem_uc main_arg4 (by decide))).trans (V4_main_arg4 m (outs m) c),
    (h.1 c _ (mem_uc main_arg5 (by decide))).trans (V4_main_arg5 m (outs m) c),
    (h.1 c _ (mem_uc main_arg6 (by decide))).trans (V4_main_arg6 m (outs m) c),
    (h.1 c _ (mem_uc main_arg7 (by decide))).trans (V4_main_arg7 m (outs m) c),
    (h.1 c _ (mem_uc main_arg8 (by decide))).trans (V4_main_arg8 m (outs m) c),
    (h.1 c _ (mem_uc main_arg9 (by decide))).trans (V4_main_arg9 m (outs m) c),
    (h.1 c _ (mem_uc main_arg10 (by decide))).trans (V4_main_arg10 m (outs m) c),
    (h.1 c _ (mem_uc main_arg11 (by decide))).trans (V4_main_arg11 m (outs m) c),
    (h.1 c _ (mem_uc main_arg12 (by decide))).trans (V4_main_arg12 m (outs m) c),
    (h.1 c _ (mem_uc main_arg13 (by decide))).trans (V4_main_arg13 m (outs m) c),
    (h.1 c _ (mem_uc main_arg14 (by decide))).trans (V4_main_arg14 m (outs m) c),
    (h.1 c _ (mem_uc main_arg15 (by decide))).trans (V4_main_arg15 m (outs m) c),
    (h.1 c _ (mem_uc main_arg16 (by decide))).trans (V4_main_arg16 m (outs m) c),
    (h.1 c _ (mem_uc main_arg17 (by decide))).trans (V4_main_arg17 m (outs m) c),
    (h.1 c _ (mem_uc main_arg18 (by decide))).trans (V4_main_arg18 m (outs m) c),
    (h.1 c _ (mem_uc main_arg19 (by decide))).trans (V4_main_arg19 m (outs m) c),
    (h.1 c _ (mem_uc main_arg20 (by decide))).trans (V4_main_arg20 m (outs m) c),
    (h.1 c _ (mem_uc main_arg21 (by decide))).trans (V4_main_arg21 m (outs m) c),
    (h.1 c _ (mem_uc main_arg22 (by decide))).trans (V4_main_arg22 m (outs m) c),
    (h.1 c _ (mem_uc main_arg23 (by decide))).trans (V4_main_arg23 m (outs m) c),
    (h.1 c _ (mem_uc main_arg24 (by decide))).trans (V4_main_arg24 m (outs m) c),
    (h.1 c _ (mem_uc main_arg25 (by decide))).trans (V4_main_arg25 m (outs m) c),
    (h.1 c _ (mem_uc main_arg26 (by decide))).trans (V4_main_arg26 m (outs m) c),
    (h.1 c _ (mem_uc main_arg27 (by decide))).trans (V4_main_arg27 m (outs m) c),
    (h.1 c _ (mem_uc main_arg28 (by decide))).trans (V4_main_arg28 m (outs m) c),
    (h.1 c _ (mem_uc main_arg29 (by decide))).trans (V4_main_arg29 m (outs m) c),
    (h.1 c _ (mem_uc main_arg30 (by decide))).trans (V4_main_arg30 m (outs m) c),
    (h.1 c _ (mem_uc main_arg31 (by decide))).trans (V4_main_arg31 m (outs m) c),
    (h.1 c _ (mem_uc main_arg32 (by decide))).trans (V4_main_arg32 m (outs m) c),
    (h.1 c _ (mem_uc main_arg33 (by decide))).trans (V4_main_arg33 m (outs m) c),
    (h.1 c _ (mem_uc main_arg34 (by decide))).trans (V4_main_arg34 m (outs m) c),
    (h.1 c _ (mem_uc main_arg35 (by decide))).trans (V4_main_arg35 m (outs m) c),
    (h.1 c _ (mem_uc main_arg36 (by decide))).trans (V4_main_arg36 m (outs m) c),
    (h.1 c _ (mem_uc main_arg37 (by decide))).trans (V4_main_arg37 m (outs m) c),
    (h.1 c _ (mem_uc main_arg38 (by decide))).trans (V4_main_arg38 m (outs m) c),
    (h.1 c _ (mem_uc main_arg39 (by decide))).trans (V4_main_arg39 m (outs m) c)⟩, h.2⟩) (run m ρ)

end Cert.KernelIdeal.Run

end
-- ==== Proof.HostOps.lean ====
/- What a reference's groups of host operations compute over real numbers: layer normalisation, a product with offset,
   heads, masked attention and the activation. -/
module

public import proofs.«01_k».proof.Proof.Spec

@[expose] public section

noncomputable section

open scoped BigOperators

namespace Blocks

open Idealize.ShloMosaic hiding ix0 ix1 ix2 ix3 ix4 ix5
open Idealize.ShloMosaic.ValueIdx

variable {n m k p : Nat}

theorem hostUnary_sqrt {s : Shape} (x : FVec Ideal s .f32) (i : s.Idx) : Host.sqrt x i = Ideal.sqrt (x i) := rfl
theorem hostUnary_exp {s : Shape} (x : FVec Ideal s .f32) (i : s.Idx) : Host.exp x i = Ideal.exp (x i) := rfl
theorem hostUnary_tanh {s : Shape} (x : FVec Ideal s .f32) (i : s.Idx) : Host.tanh x i = Ideal.tanh (x i) := rfl

/-- The host's row means of a one-slice array. -/
theorem host_mean3 {x : FVec Ideal ⟨3, ![1, n, 512]⟩ .f32} {f : Fin n → Fin 512 → ℝ} (hx : Is3 x f) (h1 h2 hu h3) (u : Fin 1) (i : Fin n) (z : Fin 1) :
    Host.divf (broadcastInDim ⟨3, ![1, n, 1]⟩ ![0, 1] h1 (Host.reduceAdd (t := ⟨2, ![1, n]⟩) (axes := [2]) x (constant ⟨0, ![]⟩ .f32 0x00000000#32) h2 hu))
      (broadcastInDim ⟨3, ![1, n, 1]⟩ ![] h3 (constant (F := Ideal) ⟨0, ![]⟩ .f32 0x44000000#32)) (ix3 u i z)
      = (((∑ l, f i l) / 512 : ℝ) : EReal) := by
  rw [hostDivf_apply, bid_keep3, broadcastInDim_scalar_apply, hostSum3, constant_apply, word_512]
  simp only [hx u i _]
  rw [coe_sum, div_real (by norm_num)]

/-- The squares of a one-slice array. -/
theorem host_sq3 {x : FVec Ideal ⟨3, ![1, n, m]⟩ .f32} {f : Fin n → Fin m → ℝ} (hx : Is3 x f) :
    Is3 (mulf x x) fun i j => f i j * f i j := by
  intro u i j
  rw [mulf_apply, hx, ← EReal.coe_mul]

/-- The host's layer normalisation of a one-slice array, its gain one and its offset zero. -/
theorem host_ln3 {x : FVec Ideal ⟨3, ![1, n, 512]⟩ .f32} {f : Fin n → Fin 512 → ℝ} (hx : Is3 x f)
    {g b : FVec Ideal ⟨1, ![512]⟩ .f32} (hg : Is1 g fun _ => 1) (hb : Is1 b fun _ => 0)
    (h1 h2 hu h3 h4 h12 h13) :
    Is3 (addf (mulf (Host.divf
        (subf x (broadcastInDim ⟨3, ![1, n, 512]⟩ ![0, 1, 2] h4
          (Host.divf (broadcastInDim ⟨3, ![1, n, 1]⟩ ![0, 1] h1 (Host.reduceAdd (t := ⟨2, ![1, n]⟩) (axes := [2]) x (constant ⟨0, ![]⟩ .f32 0x00000000#32) h2 hu))
            (broadcastInDim ⟨3, ![1, n, 1]⟩ ![] h3 (constant (F := Ideal) ⟨0, ![]⟩ .f32 0x44000000#32)))))
        (broadcastInDim ⟨3, ![1, n, 512]⟩ ![0, 1, 2] h4 (Host.sqrt (addf
          (Host.divf (broadcastInDim ⟨3, ![1, n, 1]⟩ ![0, 1] h1 (Host.reduceAdd (t := ⟨2, ![1, n]⟩) (axes := [2])
              (mulf
                (subf x (broadcastInDim ⟨3, ![1, n, 512]⟩ ![0, 1, 2] h4
                  (Host.divf (broadcastInDim ⟨3, ![1, n, 1]⟩ ![0, 1] h1 (Host.reduceAdd (t := ⟨2, ![1, n]⟩) (axes := [2]) x (constant ⟨0, ![]⟩ .f32 0x00000000#32) h2 hu))
                    (broadcastInDim ⟨3, ![1, n, 1]⟩ ![] h3 (constant (F := Ideal) ⟨0, ![]⟩ .f32 0x44000000#32)))))
                (subf x (broadcastInDim ⟨3, ![1, n, 512]⟩ ![0, 1, 2] h4
                  (Host.divf (broadcastInDim ⟨3, ![1, n, 1]⟩ ![0, 1] h1 (Host.reduceAdd (t := ⟨2, ![1, n]⟩) (axes := [2]) x (constant ⟨0, ![]⟩ .f32 0x00000000#32) h2 hu))
                    (broadcastInDim ⟨3, ![1, n, 1]⟩ ![] h3 (constant (F := Ideal) ⟨0, ![]⟩ .f32 0x44000000#32))))))
              (constant ⟨0, ![]⟩ .f32 0x00000000#32) h2 hu))
            (broadcastInDim ⟨3, ![1, n, 1]⟩ ![] h3 (constant (F := Ideal) ⟨0, ![]⟩ .f32 0x44000000#32)))
          (broadcastInDim ⟨3, ![1, n, 1]⟩ ![] h3 (constant (F := Ideal) ⟨0, ![]⟩ .f32 0x3727C5AC#32))))))
        (broadcastInDim ⟨3, ![1, n, 512]⟩ ![0, 1, 2] h12 (broadcastInDim ⟨3, ![1, 1, 512]⟩ ![2] h13 g)))
      (broadcastInDim ⟨3, ![1, n, 512]⟩ ![0, 1, 2] h12 (broadcastInDim ⟨3, ![1, 1, 512]⟩ ![2] h13 b))) (ln f) := by
  have hc : Is3 (subf x (broadcastInDim ⟨3, ![1, n, 512]⟩ ![0, 1, 2] h4
          (Host.divf (broadcastInDim ⟨3, ![1, n, 1]⟩ ![0, 1] h1 (Host.reduceAdd (t := ⟨2, ![1, n]⟩) (axes := [2]) x (constant ⟨0, ![]⟩ .f32 0x00000000#32) h2 hu))
            (broadcastInDim ⟨3, ![1, n, 1]⟩ ![] h3 (constant (F := Ideal) ⟨0, ![]⟩ .f32 0x44000000#32)))))
      (fun i j => f i j - mean (f i)) := by
    intro u i j
    rw [subf_apply, bid_row3, host_mean3 hx, hx u i j, ← EReal.coe_sub]; rfl
  have hq := host_sq3 hc
  intro u i j
  rw [addf_apply, mulf_apply, hostDivf_apply, bid_rows3, bid_rows3, bid_vec3, bid_vec3, hg, hb, bid_row3, hostUnary_sqrt, addf_apply,
    broadcastInDim_scalar_apply, constant_apply, word_eps, host_mean3 hq, ← EReal.coe_add,
    show (∑ l, (f i l - mean (f i)) * (f i l - mean (f i))) / 512 + eps = spread (f i) from rfl, sqrt_real (le_of_lt (spread_pos (f i))),
    hc u i j, div_real (sqrt_spread_ne (f i)), ← EReal.coe_mul, ← EReal.coe_add, mul_one, add_zero]
  rfl

/-- The host's product of a one-slice array with a matrix, and an offset that is zero. -/
theorem host_lin3 {x : FVec Ideal ⟨3, ![1, n, k]⟩ .f32} {f : Fin n → Fin k → ℝ} (hx : Is3 x f)
    {w : FVec Ideal ⟨2, ![k, m]⟩ .f32} {W : Fin k → Fin m → ℝ} (hw : Is2 w W) {b : FVec Ideal ⟨1, ![m]⟩ .f32} (hb : Is1 b fun _ => 0) (wf h1 h2) :
    Is3 (addf (Host.dotGeneral (⟨[2], [0], [0, 1], [1], [], [], wf⟩ : DotDims ⟨3, ![1, n, k]⟩ ⟨2, ![k, m]⟩ ⟨3, ![1, n, m]⟩) none x w)
      (broadcastInDim ⟨3, ![1, n, m]⟩ ![0, 1, 2] h1 (broadcastInDim ⟨3, ![1, 1, m]⟩ ![2] h2 b))) (lin f W) := by
  intro u i j
  rw [addf_apply, dot3, bid_rows3, bid_vec3, hb]
  simp only [hx u i _, hw _ j, ← EReal.coe_mul]
  rw [coe_sum, ← EReal.coe_add, add_zero]; rfl

/-- The host's product of a one-slice array with a matrix. -/
theorem host_dot3 {x : FVec Ideal ⟨3, ![1, n, k]⟩ .f32} {f : Fin n → Fin k → ℝ} (hx : Is3 x f)
    {w : FVec Ideal ⟨2, ![k, m]⟩ .f32} {W : Fin k → Fin m → ℝ} (hw : Is2 w W) (wf) :
    Is3 (Host.dotGeneral (⟨[2], [0], [0, 1], [1], [], [], wf⟩ : DotDims ⟨3, ![1, n, k]⟩ ⟨2, ![k, m]⟩ ⟨3, ![1, n, m]⟩) none x w) (lin f W) := by
  intro u i j
  rw [dot3]
  simp only [hx u i _, hw _ j, ← EReal.coe_mul]
  rw [coe_sum]; rfl

/-- The sum of two one-slice arrays. -/
theorem host_add3 {x y : FVec Ideal ⟨3, ![1, n, m]⟩ .f32} {f g : Fin n → Fin m → ℝ} (hx : Is3 x f) (hy : Is3 y g) : Is3 (addf x y) (add f g) := by
  intro u i j
  rw [addf_apply, hx, hy, ← EReal.coe_add]; rfl

/-- An offset that is zero, added to a one-slice array. -/
theorem host_bias3 {x : FVec Ideal ⟨3, ![1, n, m]⟩ .f32} {f : Fin n → Fin m → ℝ} (hx : Is3 x f) {b : FVec Ideal ⟨1, ![m]⟩ .f32}
    (hb : Is1 b fun _ => 0) (h1 h2) :
    Is3 (addf x (broadcastInDim ⟨3, ![1, n, m]⟩ ![0, 1, 2] h1 (broadcastInDim ⟨3, ![1, 1, m]⟩ ![2] h2 b))) f := by
  intro u i j
  rw [addf_apply, bid_rows3, bid_vec3, hb, hx, ← EReal.coe_add, add_zero]

/-- A one-slice array cut into eight heads, the heads first. -/
theorem host_heads {x : FVec Ideal ⟨3, ![1, n, 512]⟩ .f32} {f : Fin n → Fin 512 → ℝ} (hx : Is3 x f) (h1 h2) :
    Is4 (transpose ⟨4, ![1, 8, n, 64]⟩ [0, 2, 1, 3] (shapeCast ⟨4, ![1, n, 8, 64]⟩ x h1) h2) (fun h i d => f i (col h d)) := by
  intro u h i d
  rw [transpose_heads, cast_split x h1 u i h d (col h d) rfl rfl, hx]

/-- The heads side by side again. -/
theorem host_unheads {x : FVec Ideal ⟨4, ![1, 8, n, 64]⟩ .f32} {f : Fin 8 → Fin n → Fin 64 → ℝ} (hx : Is4 x f) (h1 h2) :
    Is3 (shapeCast ⟨3, ![1, n, 512]⟩ (transpose ⟨4, ![1, n, 8, 64]⟩ [0, 2, 1, 3] x h2) h1) (fun i j => f (headOf j) i (placeOf j)) := by
  intro u i j
  rw [cast_join _ h1 u i (headOf j) (placeOf j) j rfl (by show j.val = j.val / 64 * 64 + j.val % 64; omega), transpose_heads, hx]

/-- The host's masked scores, every position allowed: products over the root of 64. -/
theorem host_scores {q : FVec Ideal ⟨4, ![1, 8, n, 64]⟩ .f32} {k : FVec Ideal ⟨4, ![1, 8, p, 64]⟩ .f32} {Q : Fin n → Fin 512 → ℝ} {K : Fin p → Fin 512 → ℝ}
    (hq : Is4 q fun h i d => Q i (col h d)) (hk : Is4 k fun h i d => K i (col h d))
    {c : IVec ⟨4, ![1, 8, n, p]⟩ 1} (hc : ∀ i, c i = 1#1) {off : FVec Ideal ⟨4, ![1, 8, n, p]⟩ .f32} (wf h1) :
    Is4 (select c (Host.divf (Host.dotGeneral (⟨[3], [3], [2], [2], [0, 1], [0, 1], wf⟩ : DotDims ⟨4, ![1, 8, n, 64]⟩ ⟨4, ![1, 8, p, 64]⟩ ⟨4, ![1, 8, n, p]⟩) none q k)
      (broadcastInDim ⟨4, ![1, 8, n, p]⟩ ![] h1 (id (Host.sqrt (constant (F := Ideal) ⟨0, ![]⟩ .f32 0x42800000#32))))) off) (score Q K) := by
  have s64 : Real.sqrt 64 = 8 := by rw [show (64 : ℝ) = 8 * 8 by norm_num]; exact Real.sqrt_mul_self (by norm_num)
  intro u h i l
  rw [select_apply, hc, select_one, hostDivf_apply, dotScores, broadcastInDim_scalar_apply]
  simp only [hq u h i _, hk u h l _, ← EReal.coe_mul, id]
  rw [coe_sum, hostUnary_sqrt, constant_apply, word_64, sqrt_real (by norm_num), s64, div_real (by norm_num)]; rfl

/-- The host's exponentials of the scores with each row's maximum taken off: some real number is taken off. -/
theorem host_exps (hp : 0 < p) {S : FVec Ideal ⟨4, ![1, 8, n, p]⟩ .f32} {s : Fin 8 → Fin n → Fin p → ℝ} (hs : Is4 S s) (h2 hu h3 h4 h5) :
    ∃ r : Fin 8 → Fin n → ℝ, Is4 (Host.exp (subf S
      (broadcastInDim ⟨4, ![1, 8, n, p]⟩ ![0, 1, 2, 3] h4 (broadcastInDim ⟨4, ![1, 8, n, 1]⟩ ![0, 1, 2] h3
        (maximumf (broadcastInDim ⟨3, ![1, 8, n]⟩ ![] h5 (constant (F := Ideal) ⟨0, ![]⟩ .f32 0xFF800000#32))
          (Host.reduce (t := ⟨3, ![1, 8, n]⟩) (axes := [3]) FloatOps.maximumf S (constant (F := Ideal) ⟨0, ![]⟩ .f32 0xFF800000#32) h2 hu))))))
      (fun h i l => Real.exp (s h i l - r h i)) := by
  have hm : ∀ h i, ∃ r : ℝ, Host.reduce (t := ⟨3, ![1, 8, n]⟩) (axes := [3]) FloatOps.maximumf S (constant (F := Ideal) ⟨0, ![]⟩ .f32 0xFF800000#32) h2 hu
      (ix3 0 h i) = (r : EReal) := fun h i => hostMax4 S h2 hu hp 0 h i (s h i) (fun l => hs 0 h i l)
  choose r hr using hm
  refine ⟨r, fun u h i l => ?_⟩
  obtain rfl : u = 0 := Subsingleton.elim _ _
  rw [hostUnary_exp, subf_apply, bid_row4, bid_keep4, maximumf_apply, hr, hs, broadcastInDim_scalar_apply, constant_apply, neg_inf_word,
    max_eq_right bot_le, ← EReal.coe_sub, Ideal.exp_coe]

/-- The host's values weighted by the exponentials over their sums. -/
theorem host_weighted (hp : 0 < p) {E : FVec Ideal ⟨4, ![1, 8, n, p]⟩ .f32} {v : FVec Ideal ⟨4, ![1, 8, p, 64]⟩ .f32} {Q : Fin n → Fin 512 → ℝ} {K V : Fin p → Fin 512 → ℝ}
    (he : ∃ r : Fin 8 → Fin n → ℝ, Is4 E (fun h i l => Real.exp (score Q K h i l - r h i))) (hv : Is4 v fun h i d => V i (col h d)) (wf h6 hu h7 h8) :
    Is4 (Host.dotGeneral (⟨[3], [2], [2], [3], [0, 1], [0, 1], wf⟩ : DotDims ⟨4, ![1, 8, n, p]⟩ ⟨4, ![1, 8, p, 64]⟩ ⟨4, ![1, 8, n, 64]⟩) none
      (Host.divf E
        (broadcastInDim ⟨4, ![1, 8, n, p]⟩ ![0, 1, 2, 3] h8 (broadcastInDim ⟨4, ![1, 8, n, 1]⟩ ![0, 1, 2] h7
          (Host.reduceAdd (t := ⟨3, ![1, 8, n]⟩) (axes := [3]) E (constant ⟨0, ![]⟩ .f32 0x00000000#32) h6 hu)))) v) (headAtt Q K V) := by
  obtain ⟨r, he⟩ := he
  intro u h i d
  have hne : ∑ l, Real.exp (score Q K h i l - r h i) ≠ 0 := sum_exp_ne hp _
  have hsum : ∀ l, broadcastInDim ⟨4, ![1, 8, n, p]⟩ ![0, 1, 2, 3] h8 (broadcastInDim ⟨4, ![1, 8, n, 1]⟩ ![0, 1, 2] h7
      (Host.reduceAdd (t := ⟨3, ![1, 8, n]⟩) (axes := [3]) E (constant ⟨0, ![]⟩ .f32 0x00000000#32) h6 hu)) (ix4 u h i l)
      = ((∑ l, Real.exp (score Q K h i l - r h i) : ℝ) : EReal) := by
    intro l
    rw [bid_row4, bid_keep4, hostSum4, ← coe_sum]
    exact Finset.sum_congr rfl fun k _ => he u h i k
  have hterm : ∀ l, Host.divf E (broadcastInDim ⟨4, ![1, 8, n, p]⟩ ![0, 1, 2, 3] h8 (broadcastInDim ⟨4, ![1, 8, n, 1]⟩ ![0, 1, 2] h7
      (Host.reduceAdd (t := ⟨3, ![1, 8, n]⟩) (axes := [3]) E (constant ⟨0, ![]⟩ .f32 0x00000000#32) h6 hu))) (ix4 u h i l) * v (ix4 u h l d)
      = ((Real.exp (score Q K h i l - r h i) / (∑ l, Real.exp (score Q K h i l - r h i)) * V l (col h d) : ℝ) : EReal) := by
    intro l
    rw [hostDivf_apply, hsum, he u h i l, hv u h l d, div_real hne, ← EReal.coe_mul]
  rw [dotValues, Finset.sum_congr rfl fun l _ => hterm l, coe_sum]
  rw [shift_weighted (score Q K h i) (fun l => V l (col h d)) (r h i)]; rfl

/-- The host's activation of a one-slice array. -/
theorem host_act {x : FVec Ideal ⟨3, ![1, n, m]⟩ .f32} {f : Fin n → Fin m → ℝ} (hx : Is3 x f) (h1 h2 h3 h4) :
    Is3 (mulf x (mulf (broadcastInDim ⟨3, ![1, n, m]⟩ ![] h4 (constant (F := Ideal) ⟨0, ![]⟩ .f32 0x3F000000#32))
      (addf (broadcastInDim ⟨3, ![1, n, m]⟩ ![] h3 (constant (F := Ideal) ⟨0, ![]⟩ .f32 0x3F800000#32))
        (Host.tanh (mulf (broadcastInDim ⟨3, ![1, n, m]⟩ ![] h2 (constant (F := Ideal) ⟨0, ![]⟩ .f32 0x3F4C422A#32))
          (addf x (mulf (broadcastInDim ⟨3, ![1, n, m]⟩ ![] h1 (constant (F := Ideal) ⟨0, ![]⟩ .f32 0x3D372713#32)) (mulf (mulf x x) x)))))))) (act f) := by
  intro u i j
  rw [mulf_apply, mulf_apply, addf_apply, hostUnary_tanh, mulf_apply, addf_apply, mulf_apply, mulf_apply, mulf_apply, broadcastInDim_scalar_apply,
    broadcastInDim_scalar_apply, broadcastInDim_scalar_apply, broadcastInDim_scalar_apply, constant_apply, constant_apply, constant_apply, constant_apply,
    word_half, word_one, word_c1, word_c2, hx u i j]
  simp only [← EReal.coe_mul, ← EReal.coe_add, Ideal.tanh_coe]
  refine congrArg (fun t : ℝ => (t : EReal)) ?_
  unfold act gelu; ring

end Blocks
-- ==== Proof.KernelOps.lean ====
/- What a kernel's groups of vector operations compute over real numbers: layer normalisation, one attention head without a
   row maximum, the heads side by side and the activation. -/
module

public import proofs.«01_k».proof.Proof.Spec

@[expose] public section

noncomputable section

open scoped BigOperators

namespace Blocks

open Idealize.ShloMosaic hiding ix0 ix1 ix2 ix3 ix4 ix5
open Idealize.ShloMosaic.ValueIdx

variable {n m k p : Nat}

theorem unary_rsqrt {s : Shape} (x : FVec Ideal s .f32) (i : s.Idx) : rsqrt x i = Ideal.rsqrt (x i) := rfl
theorem unary_exp {s : Shape} (x : FVec Ideal s .f32) (i : s.Idx) : exp x i = Ideal.exp (x i) := rfl
theorem unary_tanh {s : Shape} (x : FVec Ideal s .f32) (i : s.Idx) : tanh x i = Ideal.tanh (x i) := rfl
theorem splat_word {s : Shape} (w : BitVec (FTy.bits .f32)) (i : s.Idx) : broadcast s (Scalar.ofBits (F := Ideal) .f32 w) i = Ideal.ofBits .f32 w := rfl

/-- Row means of a block as a column. -/
theorem kern_mean {x : FVec Ideal ⟨2, ![n, 512]⟩ .f32} {f : Fin n → Fin 512 → ℝ} (hx : Is2 x f) (h1 hφ hacc h2) (i : Fin n) (z : Fin 1) :
    divf (shapeCast ⟨2, ![n, 1]⟩ (multiReduction .add [1] ⟨1, ![n]⟩ x 0x00000000#32 h1 hφ hacc) h2)
      (broadcast ⟨2, ![n, 1]⟩ (Scalar.ofBits (F := Ideal) .f32 0x44000000#32)) (ix2 i z) = (((∑ l, f i l) / 512 : ℝ) : EReal) := by
  rw [divf_apply, shapeCast_a_a1_apply, sum_rows, splat_word, word_512]
  simp only [hx i _]
  rw [coe_sum, div_real (by norm_num)]

/-- A block's squares. -/
theorem kern_sq {x : FVec Ideal ⟨2, ![n, m]⟩ .f32} {f : Fin n → Fin m → ℝ} (hx : Is2 x f) : Is2 (mulf x x) fun i j => f i j * f i j := by
  intro i j
  rw [mulf_apply, hx, ← EReal.coe_mul]

/-- A block's layer normalisation. -/
theorem kern_ln {x : FVec Ideal ⟨2, ![n, 512]⟩ .f32} {f : Fin n → Fin 512 → ℝ} (hx : Is2 x f) (h1 hφ hacc h2 h3) :
    Is2 (mulf
      (subf x (broadcastTo ⟨2, ![n, 512]⟩
        (divf (shapeCast ⟨2, ![n, 1]⟩ (multiReduction .add [1] ⟨1, ![n]⟩ x 0x00000000#32 h1 hφ hacc) h2)
          (broadcast ⟨2, ![n, 1]⟩ (Scalar.ofBits (F := Ideal) .f32 0x44000000#32))) h3))
      (broadcastTo ⟨2, ![n, 512]⟩ (rsqrt (addf
        (divf (shapeCast ⟨2, ![n, 1]⟩ (multiReduction .add [1] ⟨1, ![n]⟩
            (mulf
              (subf x (broadcastTo ⟨2, ![n, 512]⟩
                (divf (shapeCast ⟨2, ![n, 1]⟩ (multiReduction .add [1] ⟨1, ![n]⟩ x 0x00000000#32 h1 hφ hacc) h2)
                  (broadcast ⟨2, ![n, 1]⟩ (Scalar.ofBits (F := Ideal) .f32 0x44000000#32))) h3))
              (subf x (broadcastTo ⟨2, ![n, 512]⟩
                (divf (shapeCast ⟨2, ![n, 1]⟩ (multiReduction .add [1] ⟨1, ![n]⟩ x 0x00000000#32 h1 hφ hacc) h2)
                  (broadcast ⟨2, ![n, 1]⟩ (Scalar.ofBits (F := Ideal) .f32 0x44000000#32))) h3)))
            0x00000000#32 h1 hφ hacc) h2)
          (broadcast ⟨2, ![n, 1]⟩ (Scalar.ofBits (F := Ideal) .f32 0x44000000#32)))
        (broadcast ⟨2, ![n, 1]⟩ (Scalar.ofBits (F := Ideal) .f32 0x3727C5AC#32)))) h3)) (ln f) := by
  have hc : Is2 (subf x (broadcastTo ⟨2, ![n, 512]⟩
        (divf (shapeCast ⟨2, ![n, 1]⟩ (multiReduction .add [1] ⟨1, ![n]⟩ x 0x00000000#32 h1 hφ hacc) h2)
          (broadcast ⟨2, ![n, 1]⟩ (Scalar.ofBits (F := Ideal) .f32 0x44000000#32))) h3)) (fun i j => f i j - mean (f i)) := by
    intro i j
    rw [subf_apply, bto_col, kern_mean hx, hx i j, ← EReal.coe_sub]; rfl
  have hq := kern_sq hc
  intro i j
  rw [mulf_apply, bto_col, unary_rsqrt, addf_apply, splat_word, word_eps, kern_mean hq, ← EReal.coe_add,
    show (∑ l, (f i l - mean (f i)) * (f i l - mean (f i))) / 512 + eps = spread (f i) from rfl, rsqrt_real (spread_pos (f i)),
    hc i j, ← EReal.coe_mul, ← div_eq_mul_inv]
  rfl

/-- A block times a weight that is stored under a unit first axis. -/
theorem kern_lin {x : FVec Ideal ⟨2, ![n, k]⟩ .f32} {f : Fin n → Fin k → ℝ} (hx : Is2 x f)
    {w : FVec Ideal ⟨3, ![1, k, m]⟩ .f32} {W : Fin k → Fin m → ℝ} (hw : Is3 w W) (wf h1) :
    Is2 (matmul (⟨[1], [0], [0], [1], [], [], wf⟩ : DotDims ⟨2, ![n, k]⟩ ⟨2, ![k, m]⟩ ⟨2, ![n, m]⟩) none x (shapeCast ⟨2, ![k, m]⟩ w h1)
      (constant ⟨2, ![n, m]⟩ .f32 0x00000000#32)) (lin f W) := by
  intro i j
  rw [mm]
  refine Eq.trans (Finset.sum_congr rfl fun l _ => ?_) (coe_sum _ _)
  rw [shapeCast_1ab_ab_apply, hx, hw, ← EReal.coe_mul]

/-- A block times a plain weight. -/
theorem kern_lin2 {x : FVec Ideal ⟨2, ![n, k]⟩ .f32} {f : Fin n → Fin k → ℝ} (hx : Is2 x f)
    {w : FVec Ideal ⟨2, ![k, m]⟩ .f32} {W : Fin k → Fin m → ℝ} (hw : Is2 w W) (wf) :
    Is2 (matmul (⟨[1], [0], [0], [1], [], [], wf⟩ : DotDims ⟨2, ![n, k]⟩ ⟨2, ![k, m]⟩ ⟨2, ![n, m]⟩) none x w
      (constant ⟨2, ![n, m]⟩ .f32 0x00000000#32)) (lin f W) := by
  intro i j
  rw [mm]
  refine Eq.trans (Finset.sum_congr rfl fun l _ => ?_) (coe_sum _ _)
  rw [hx, hw, ← EReal.coe_mul]

/-- The sum of two blocks. -/
theorem kern_add {x y : FVec Ideal ⟨2, ![n, m]⟩ .f32} {f g : Fin n → Fin m → ℝ} (hx : Is2 x f) (hy : Is2 y g) : Is2 (addf x y) (add f g) := by
  intro i j
  rw [addf_apply, hx, hy, ← EReal.coe_add]; rfl

/-- One head's exponentials of the scores, the queries already over eight. -/
theorem kern_exps {q : FVec Ideal ⟨2, ![n, 512]⟩ .f32} {k : FVec Ideal ⟨2, ![p, 512]⟩ .f32} {Q : Fin n → Fin 512 → ℝ} {K : Fin p → Fin 512 → ℝ} (hq : Is2 q fun i j => Q i j / 8) (hk : Is2 k K)
    (h : Fin 8) {o : Nat} (ho : o = h.val * 64) (wf h1 h2) :
    Is2 (exp (matmul (⟨[1], [1], [0], [0], [], [], wf⟩ : DotDims ⟨2, ![n, 64]⟩ ⟨2, ![p, 64]⟩ ⟨2, ![n, p]⟩) none
      (extractStridedSlice ⟨2, ![n, 64]⟩ ![0, o] q h1) (extractStridedSlice ⟨2, ![p, 64]⟩ ![0, o] k h2)
      (constant ⟨2, ![n, p]⟩ .f32 0x00000000#32))) (fun i l => Real.exp (score Q K h i l)) := by
  intro i l
  have e : ∀ d : Fin 64, (col h d).val = o + d.val := fun d => by rw [ho]; rfl
  have hs : ∑ d : Fin 64, extractStridedSlice ⟨2, ![n, 64]⟩ ![0, o] q h1 (ix2 i d) * extractStridedSlice ⟨2, ![p, 64]⟩ ![0, o] k h2 (ix2 l d)
      = ((score Q K h i l : ℝ) : EReal) := by
    unfold score
    rw [Finset.sum_div]
    refine Eq.trans (Finset.sum_congr rfl fun d _ => ?_) (coe_sum _ _)
    rw [slice2_axis1_apply o q h1 i d (col h d) (e d), slice2_axis1_apply o k h2 l d (col h d) (e d), hq, hk, ← EReal.coe_mul]
    refine congrArg (fun t : ℝ => (t : EReal)) ?_
    ring
  rw [unary_exp, mmT, hs, Ideal.exp_coe]

/-- One over each row's sum of exponentials, as a column. -/
theorem kern_recip (hp : 0 < p) {E : FVec Ideal ⟨2, ![n, p]⟩ .f32} {s : Fin n → Fin p → ℝ} (hE : Is2 E fun i l => Real.exp (s i l)) (h1 hφ hacc h2) :
    Is2 (divf (broadcast ⟨2, ![n, 1]⟩ (Scalar.ofBits (F := Ideal) .f32 0x3F800000#32))
      (shapeCast ⟨2, ![n, 1]⟩ (multiReduction .add [1] ⟨1, ![n]⟩ E 0x00000000#32 h1 hφ hacc) h2)) (fun i _ => 1 / ∑ l, Real.exp (s i l)) := by
  intro i z
  rw [divf_apply, splat_word, word_one, shapeCast_a_a1_apply, sum_rows]
  simp only [hE i _]
  rw [coe_sum, div_real (sum_exp_ne hp _)]

/-- One head: the values weighted by the exponentials, times one over their sum. -/
theorem kern_weighted {E : FVec Ideal ⟨2, ![n, p]⟩ .f32} {R : FVec Ideal ⟨2, ![n, 1]⟩ .f32} {v : FVec Ideal ⟨2, ![p, 512]⟩ .f32} {Q : Fin n → Fin 512 → ℝ} {K V : Fin p → Fin 512 → ℝ}
    (h : Fin 8) {o : Nat} (ho : o = h.val * 64) (hE : Is2 E fun i l => Real.exp (score Q K h i l))
    (hR : Is2 R fun i _ => 1 / ∑ l, Real.exp (score Q K h i l)) (hv : Is2 v V) (wf h1 h2) :
    Is2 (mulf (matmul (⟨[1], [0], [0], [1], [], [], wf⟩ : DotDims ⟨2, ![n, p]⟩ ⟨2, ![p, 64]⟩ ⟨2, ![n, 64]⟩) none E
      (extractStridedSlice ⟨2, ![p, 64]⟩ ![0, o] v h1) (constant ⟨2, ![n, 64]⟩ .f32 0x00000000#32)) (broadcastTo ⟨2, ![n, 64]⟩ R h2)) (headAtt Q K V h) := by
  intro i d
  have e : (col h d).val = o + d.val := by rw [ho]; rfl
  have hs : ∑ l : Fin p, E (ix2 i l) * extractStridedSlice ⟨2, ![p, 64]⟩ ![0, o] v h1 (ix2 l d)
      = ((∑ l, Real.exp (score Q K h i l) * V l (col h d) : ℝ) : EReal) := by
    refine Eq.trans (Finset.sum_congr rfl fun l _ => ?_) (coe_sum _ _)
    rw [slice2_axis1_apply o v h1 l d (col h d) e, hE, hv, ← EReal.coe_mul]
  rw [mulf_apply, mm, hs, bto_col, hR, ← EReal.coe_mul, mul_one_div]
  rfl

set_option maxHeartbeats 2000000 in
/-- Eight heads side by side. -/
theorem kern_heads {p0 p1 p2 p3 p4 p5 p6 p7 : FVec Ideal ⟨2, ![n, 64]⟩ .f32} {H : Fin 8 → Fin n → Fin 64 → ℝ}
    (h0 : Is2 p0 (H 0)) (h1 : Is2 p1 (H 1)) (h2 : Is2 p2 (H 2)) (h3 : Is2 p3 (H 3)) (h4 : Is2 p4 (H 4)) (h5 : Is2 p5 (H 5)) (h6 : Is2 p6 (H 6))
    (h7 : Is2 p7 (H 7)) (hc) :
    Is2 (concatenate ⟨2, ![n, 512]⟩ 1 [⟨⟨2, ![n, 64]⟩, p0⟩, ⟨⟨2, ![n, 64]⟩, p1⟩, ⟨⟨2, ![n, 64]⟩, p2⟩, ⟨⟨2, ![n, 64]⟩, p3⟩, ⟨⟨2, ![n, 64]⟩, p4⟩,
      ⟨⟨2, ![n, 64]⟩, p5⟩, ⟨⟨2, ![n, 64]⟩, p6⟩, ⟨⟨2, ![n, 64]⟩, p7⟩] hc) (fun i j => H (headOf j) i (placeOf j)) := by
  intro i j
  have key : ∀ (p : FVec Ideal ⟨2, ![n, 64]⟩ .f32) (h : Fin 8), Is2 p (H h) → ∀ (y : (⟨2, ![n, 64]⟩ : Shape).Idx), (y 0).val = i.val →
      h.val * 64 + (y 1).val = j.val → p y = ((H (headOf j) i (placeOf j) : ℝ) : EReal) := by
    intro p h hp y hy0 hy1
    have l1 : (y 1).val < 64 := (y 1).isLt
    have eh : headOf j = h := by apply Fin.ext; show j.val / 64 = h.val; omega
    have ey : y = ix2 i (placeOf j) := by
      rw [ValueIdx.eq_ix2 y]
      have a0 : y 0 = i := Fin.ext hy0
      have a1 : y 1 = placeOf j := by apply Fin.ext; show (y 1).val = j.val % 64; omega
      rw [a0, a1]
      rfl
    rw [ey, hp, eh]
  rw [concatenate_cons_apply]
  simp only [concatenateAt_cons, concatenateAt_singleton]
  have hj : j.val < 512 := j.isLt
  split_ifs with c0 c1 c2 c3 c4 c5 c6
  · exact key p0 0 h0 _ rfl (by
      show 0 * 64 + (j.val) = j.val
      omega)
  · exact key p1 1 h1 _ rfl (by
      have d0 : ¬ j.val < 64 := c0
      show 1 * 64 + (j.val - 64) = j.val
      omega)
  · exact key p2 2 h2 _ rfl (by
      have d0 : ¬ j.val < 64 := c0
      have d1 : ¬ j.val - 64 < 64 := c1
      show 2 * 64 + (j.val - 64 - 64) = j.val
      omega)
  · exact key p3 3 h3 _ rfl (by
      have d0 : ¬ j.val < 64 := c0
      have d1 : ¬ j.val - 64 < 64 := c1
      have d2 : ¬ j.val - 64 - 64 < 64 := c2
      show 3 * 64 + (j.val - 64 - 64 - 64) = j.val
      omega)
  · exact key p4 4 h4 _ rfl (by
      have d0 : ¬ j.val < 64 := c0
      have d1 : ¬ j.val - 64 < 64 := c1
      have d2 : ¬ j.val - 64 - 64 < 64 := c2
      have d3 : ¬ j.val - 64 - 64 - 64 < 64 := c3
      show 4 * 64 + (j.val - 64 - 64 - 64 - 64) = j.val
      omega)
  · exact key p5 5 h5 _ rfl (by
      have d0 : ¬ j.val < 64 := c0
      have d1 : ¬ j.val - 64 < 64 := c1
      have d2 : ¬ j.val - 64 - 64 < 64 := c2
      have d3 : ¬ j.val - 64 - 64 - 64 < 64 := c3
      have d4 : ¬ j.val - 64 - 64 - 64 - 64 < 64 := c4
      show 5 * 64 + (j.val - 64 - 64 - 64 - 64 - 64) = j.val
      omega)
  · exact key p6 6 h6 _ rfl (by
      have d0 : ¬ j.val < 64 := c0
      have d1 : ¬ j.val - 64 < 64 := c1
      have d2 : ¬ j.val - 64 - 64 < 64 := c2
      have d3 : ¬ j.val - 64 - 64 - 64 < 64 := c3
      have d4 : ¬ j.val - 64 - 64 - 64 - 64 < 64 := c4
      have d5 : ¬ j.val - 64 - 64 - 64 - 64 - 64 < 64 := c5
      show 6 * 64 + (j.val - 64 - 64 - 64 - 64 - 64 - 64) = j.val
      omega)
  · exact key p7 7 h7 _ rfl (by
      have d0 : ¬ j.val < 64 := c0
      have d1 : ¬ j.val - 64 < 64 := c1
      have d2 : ¬ j.val - 64 - 64 < 64 := c2
      have d3 : ¬ j.val - 64 - 64 - 64 < 64 := c3
      have d4 : ¬ j.val - 64 - 64 - 64 - 64 < 64 := c4
      have d5 : ¬ j.val - 64 - 64 - 64 - 64 - 64 < 64 := c5
      have d6 : ¬ j.val - 64 - 64 - 64 - 64 - 64 - 64 < 64 := c6
      show 7 * 64 + (j.val - 64 - 64 - 64 - 64 - 64 - 64 - 64) = j.val
      omega)

/-- The activation of a block. -/
theorem kern_act {x : FVec Ideal ⟨2, ![n, m]⟩ .f32} {f : Fin n → Fin m → ℝ} (hx : Is2 x f) :
    Is2 (mulf x (mulf (broadcast ⟨2, ![n, m]⟩ (Scalar.ofBits (F := Ideal) .f32 0x3F000000#32))
      (addf (broadcast ⟨2, ![n, m]⟩ (Scalar.ofBits (F := Ideal) .f32 0x3F800000#32))
        (tanh (mulf (broadcast ⟨2, ![n, m]⟩ (Scalar.ofBits (F := Ideal) .f32 0x3F4C422A#32))
          (addf x (mulf (broadcast ⟨2, ![n, m]⟩ (Scalar.ofBits (F := Ideal) .f32 0x3D372713#32)) (mulf x (mulf x x))))))))) (act f) := by
  intro i j
  rw [mulf_apply, mulf_apply, addf_apply, unary_tanh, mulf_apply, addf_apply, mulf_apply, mulf_apply, mulf_apply, splat_word, splat_word, splat_word, splat_word,
    word_half, word_one, word_c1, word_c2, hx i j]
  simp only [← EReal.coe_mul, ← EReal.coe_add, Ideal.tanh_coe]
  refine congrArg (fun t : ℝ => (t : EReal)) ?_
  unfold act gelu
  have e : f i j * (f i j * f i j) = f i j * f i j * f i j := by ring
  rw [e]; ring

end Blocks
-- ==== Proof.HostReads.lean ====
/- What the two calls find in their operands: the host regroups the patches, repeats the labels, scales the query weights and
   transposes the head's matrix; every other operand is an argument or the first call's result. -/
module

public import proofs.«01_k».proof.Proof.KernelIdealRun
public import Idealize.ShloMosaic.Lib.StableHlo.RunRead
public import proofs.«01_k».proof.Proof.HostOps
public import proofs.«01_k».proof.Proof.KernelOps

@[expose] public section

noncomputable section

namespace Cert.KernelIdeal.Entry

open Idealize.ShloMosaic hiding ix0 ix1 ix2 ix3 ix4 ix5
open Idealize.ShloMosaic.ValueIdx
open Idealize.ShloMosaic.TcCoe
open Cert.KernelIdeal Cert.KernelIdeal.Gen Cert.KernelIdeal.Run
open Blocks

section
variable {F : FTy → Type} [FloatOps F] (m : (ℓ : Loc nD τ sig) → Buf (Elt F) ℓ) (c : Dev nD)

/-- The first call finds a buffer the host did not write as launched. -/
theorem first_kept (b : Ref sig .tc) (h : b ∉ hostOps0_W) : entry0 m c b = m ((c : Thread nD τ).loc b) := V1_of m c b h

/-- After the first call every buffer but its result is as before it. -/
theorem left_kept (b : Ref sig .tc) (h : b ∉ ([main_v7] : List (Ref sig .tc))) : left0 m c (Proc.devRef .tc b) = V1 m c (Proc.devRef .tc b) := by
  have e := V2_of m (outs m) c b h
  rw [V2_eq] at e; exact e

/-- The second call finds a buffer neither the host nor the first call wrote as launched. -/
theorem second_kept (b : Ref sig .tc) (h : b ∉ hostOps1_W) (h' : b ∉ ([main_v7] : List (Ref sig .tc))) (h'' : b ∉ hostOps0_W) :
    entry1 m c b = m ((c : Thread nD τ).loc b) :=
  (StableHlo.after_of_writes_sub hostOps1 _ hostOps1_writes h).trans ((left_kept m c b h').trans (V1_of m c b h''))

/-- The second call finds the first call's result. -/
theorem second_state : entry1 m c main_v7 = (Embed0.dat (entry0 m) c).arrAt 7 cfg0.N := by
  refine (StableHlo.after_of_writes_sub hostOps1 _ hostOps1_writes (by decide)).trans ?_
  unfold left0
  exact Function.update_self ..

/-- Four neighbouring patches side by side. -/
theorem first_patches (i : Fin 1024) (e : Fin 4) (j : Fin 768) :
    entry0 m c main_v0 (ix2 i ⟨e.val * 768 + j.val, by omega⟩) = m ((c : Thread nD τ).loc main_arg0) (ix3 0 ⟨4 * i.val + e.val, by omega⟩ j) := by
  show StableHlo.after hostOps0 _ (Proc.devRef .tc main_v0) _ = _
  after_reads_simp
  refine shapeCast_apply (s := S1x4096x768) (t := S1024x3072) (m ((c : Thread nD τ).loc main_arg0)) _ (ix2 i ⟨e.val * 768 + j.val, by omega⟩)
    (ix3 0 ⟨4 * i.val + e.val, by omega⟩ j) ?_
  rw [Shape.rowMajor_val_three, Shape.rowMajor_val_two]
  show (0 * 4096 + (4 * i.val + e.val)) * 768 + j.val = i.val * 3072 + (e.val * 768 + j.val)
  omega

/-- The labels, the same in each of eight rows. -/
theorem first_labels (i : Fin 1024) : entry0 m c main_v2 (ix2 0 i) = m ((c : Thread nD τ).loc main_arg4) (ix1 i) := by
  show StableHlo.after hostOps0 _ (Proc.devRef .tc main_v2) _ = _
  after_reads_simp
  refine shapeCast_apply (s := S1024) (t := S1x1024) (m ((c : Thread nD τ).loc main_arg4)) _ _ (ix1 i) ?_
  rw [Shape.rowMajor_val_one, Shape.rowMajor_val_two]
  show i.val = 0 * 1024 + i.val
  omega

/-- The head's matrix transposed. -/
theorem second_head (i : Fin 2) (j : Fin 512) : entry1 m c main_v10 (ix2 i j) = m ((c : Thread nD τ).loc main_arg38) (ix2 j i) := by
  have e := (left_kept m c main_arg38 (by decide)).trans (V1_of m c main_arg38 (by decide))
  show StableHlo.after hostOps1 _ (Proc.devRef .tc main_v10) _ = _
  after_reads_simp
  refine Eq.trans ?_ (congrFun e (ix2 j i))
  show left0 m c (Proc.devRef .tc main_arg38) _ = _
  congr 1; funext a; apply Fin.ext
  match a with | ⟨0, _⟩ => rfl | ⟨1, _⟩ => rfl

end

variable (m : (ℓ : Loc nD τ sig) → Buf (Elt Ideal) ℓ) (c : Dev nD)

/-- One over the square root of 64. -/
theorem scale : (fun x : EReal => x * Ideal.div (Ideal.ofBits .f32 0x3F800000#32) (Ideal.sqrt (Ideal.ofBits .f32 0x42800000#32))) = fun x => x * ((1 / 8 : ℝ) : EReal) := by
  rw [word_one, word_64, sqrt_real (by norm_num), div_real (by positivity)]
  have : Real.sqrt 64 = 8 := by rw [show (64 : ℝ) = 8 ^ 2 by norm_num]; exact Real.sqrt_sq (by norm_num)
  rw [this]

/-- The first call's query weights are scaled. -/
theorem first_query (i j : Fin 512) (w : ℝ) (h : m ((c : Thread nD τ).loc main_arg12) (ix2 i j) = ((w : ℝ) : EReal)) :
    entry0 m c main_v6 (ix2 i j) = ((w / 8 : ℝ) : EReal) := by
  show StableHlo.after hostOps0 _ (Proc.devRef .tc main_v6) _ = _
  after_reads_simp
  show (fun x : EReal => x * Ideal.div (Ideal.ofBits .f32 0x3F800000#32) (Ideal.sqrt (Ideal.ofBits .f32 0x42800000#32)))
    (m ((c : Thread nD τ).loc main_arg12) (ix2 i j)) = _
  rw [scale, h]
  dsimp only
  rw [← EReal.coe_mul]
  congr 1; ring

/-- The word the second call's query weights are scaled by. -/
theorem scale_kept : (left0 m c (Proc.devRef .tc main_v4) : FVec Ideal S_ .f32) = fun _ => Ideal.div (Ideal.ofBits .f32 0x3F800000#32) (Ideal.sqrt (Ideal.ofBits .f32 0x42800000#32)) := by
  rw [left_kept m c main_v4 (by decide)]
  show StableHlo.after hostOps0 _ (Proc.devRef .tc main_v4) = _
  after_reads_simp
  rfl

/-- The second call's query weights are scaled. -/
theorem second_query (l : Fin 3) (i j : Fin 512) (w : ℝ) (h : m ((c : Thread nD τ).loc main_arg22) (ix3 l i j) = ((w : ℝ) : EReal)) :
    entry1 m c main_v9 (ix3 l i j) = ((w / 8 : ℝ) : EReal) := by
  have e := (left_kept m c main_arg22 (by decide)).trans (V1_of m c main_arg22 (by decide))
  show StableHlo.after hostOps1 _ (Proc.devRef .tc main_v9) _ = _
  after_reads_simp
  rw [e, scale_kept]
  show (fun x : EReal => x * Ideal.div (Ideal.ofBits .f32 0x3F800000#32) (Ideal.sqrt (Ideal.ofBits .f32 0x42800000#32)))
    (m ((c : Thread nD τ).loc main_arg22) (ix3 l i j)) = _
  rw [scale, h]
  dsimp only
  rw [← EReal.coe_mul]
  congr 1; ring

end Cert.KernelIdeal.Entry
-- ==== Proof.EmbedSpec.lean ====
/- The first stage's mathematics over the real numbers: tokens from groups of four patches, region means and their attention to
   the tokens; and why the order of the tokens changes neither the region means nor what the head reads. -/
module

public import proofs.«01_k».proof.Proof.Spec

@[expose] public section

noncomputable section

open scoped BigOperators

namespace Blocks

/-- The mean of each group of four patches. -/
def group4 (x : Fin 4096 → Fin 768 → ℝ) (i : Fin 1024) (j : Fin 768) : ℝ := (∑ e : Fin 4, x ⟨4 * i.val + e.val, by omega⟩ j) / 4
/-- The tokens: the group means mapped and activated. -/
def tokens (x : Fin 4096 → Fin 768 → ℝ) (w : Fin 768 → Fin 512 → ℝ) : Fin 1024 → Fin 512 → ℝ := act (lin (group4 x) w)
/-- How many tokens carry the label `a`. -/
def tally {p : Nat} (r : Fin p → Nat) (a : Nat) : ℝ := ∑ i, if r i = a then 1 else 0
/-- The mean of the tokens of each region; nothing for an empty one. -/
def segMean {p n : Nat} (r : Fin p → Nat) (h : Fin p → Fin 512 → ℝ) (a : Fin n) (j : Fin 512) : ℝ :=
  (∑ i, if r i = a.val then h i j else 0) / max (tally r a.val) 1
/-- Attention of some rows to others. -/
def cross {n p : Nat} (wq wk wv wo : Fin 512 → Fin 512 → ℝ) (s : Fin n → Fin 512 → ℝ) (h : Fin p → Fin 512 → ℝ) : Fin n → Fin 512 → ℝ :=
  lin (att (lin s wq) (lin h wk) (lin h wv)) wo
/-- The region rows: their means and what they attend to. -/
def regions {p : Nat} (wq wk wv wo : Fin 512 → Fin 512 → ℝ) (r : Fin p → Nat) (h : Fin p → Fin 512 → ℝ) : Fin 128 → Fin 512 → ℝ :=
  add (segMean r h) (cross wq wk wv wo (ln (segMean r h)) (ln h))
/-- Tokens above region rows. -/
def stacked (h : Fin 1024 → Fin 512 → ℝ) (s : Fin 128 → Fin 512 → ℝ) (i : Fin 1152) (j : Fin 512) : ℝ :=
  if hi : i.val < 1024 then h ⟨i.val, hi⟩ j else s ⟨i.val - 1024, by omega⟩ j
/-- The state the blocks start from. -/
def start (x : Fin 4096 → Fin 768 → ℝ) (w : Fin 768 → Fin 512 → ℝ) (wq wk wv wo : Fin 512 → Fin 512 → ℝ) (r : Fin 1024 → Nat) : Fin 1152 → Fin 512 → ℝ :=
  stacked (tokens x w) (regions wq wk wv wo r (tokens x w))
/-- The state the blocks start from, the tokens in the order `σ`. -/
def startAt (σ : Fin 1024 → Fin 1024) (x : Fin 4096 → Fin 768 → ℝ) (w : Fin 768 → Fin 512 → ℝ) (wq wk wv wo : Fin 512 → Fin 512 → ℝ)
    (r : Fin 1024 → Nat) : Fin 1152 → Fin 512 → ℝ :=
  stacked (fun i => tokens x w (σ i)) (regions wq wk wv wo (fun i => r (σ i)) (fun i => tokens x w (σ i)))

/-! ## Order -/

section
variable {p n : Nat} (σ : Equiv.Perm (Fin p))

/-- The region means do not depend on the tokens' order. -/
theorem segMean_perm (r : Fin p → Nat) (h : Fin p → Fin 512 → ℝ) : (segMean (fun i => r (σ i)) (fun i => h (σ i)) : Fin n → Fin 512 → ℝ) = segMean r h := by
  funext a j
  unfold segMean tally
  rw [Equiv.sum_comp σ (fun i => if r i = a.val then h i j else 0), Equiv.sum_comp σ (fun i => if r i = a.val then (1 : ℝ) else 0)]

/-- Attention does not depend on the order of what is attended to. -/
theorem att_perm (q : Fin n → Fin 512 → ℝ) (k v : Fin p → Fin 512 → ℝ) : att q (fun i => k (σ i)) (fun i => v (σ i)) = att q k v := by
  funext i j
  show (∑ l, Real.exp (score q k (headOf j) i (σ l)) * v (σ l) (col (headOf j) (placeOf j))) / (∑ l, Real.exp (score q k (headOf j) i (σ l))) = _
  rw [Equiv.sum_comp σ (fun l => Real.exp (score q k (headOf j) i l) * v l (col (headOf j) (placeOf j))),
    Equiv.sum_comp σ (fun l => Real.exp (score q k (headOf j) i l))]
  rfl

/-- The region rows do not depend on the tokens' order. -/
theorem regions_perm (wq wk wv wo : Fin 512 → Fin 512 → ℝ) (r : Fin p → Nat) (h : Fin p → Fin 512 → ℝ) :
    regions wq wk wv wo (fun i => r (σ i)) (fun i => h (σ i)) = regions wq wk wv wo r h := by
  unfold regions
  rw [segMean_perm]
  refine congrArg (fun t => add (segMean r h) (lin t wo)) ?_
  exact att_perm σ (lin (ln (segMean r h)) wq) (lin (ln h) wk) (lin (ln h) wv)

/-- A block of reordered rows is the block's rows, reordered. -/
theorem block_perm (wq wk wv wo : Fin 512 → Fin 512 → ℝ) (w1 : Fin 512 → Fin 2048 → ℝ) (w2 : Fin 2048 → Fin 512 → ℝ) (f : Fin p → Fin 512 → ℝ) :
    block wq wk wv wo w1 w2 (fun i => f (σ i)) = fun i => block wq wk wv wo w1 w2 f (σ i) := by
  have hm : half1 wq wk wv wo (fun i => f (σ i)) = fun i => half1 wq wk wv wo f (σ i) := by
    unfold half1 mha
    have e := att_perm σ (fun i => lin (ln f) wq (σ i)) (lin (ln f) wk) (lin (ln f) wv)
    funext i j
    show f (σ i) j + lin (att (fun i => lin (ln f) wq (σ i)) (fun i => lin (ln f) wk (σ i)) (fun i => lin (ln f) wv (σ i))) wo i j = _
    rw [e]; rfl
  unfold block
  rw [hm]; rfl

theorem blocks3_perm (wq wk wv wo : Fin 3 → Fin 512 → Fin 512 → ℝ) (w1 : Fin 3 → Fin 512 → Fin 2048 → ℝ) (w2 : Fin 3 → Fin 2048 → Fin 512 → ℝ)
    (f : Fin p → Fin 512 → ℝ) : blocks3 wq wk wv wo w1 w2 (fun i => f (σ i)) = fun i => blocks3 wq wk wv wo w1 w2 f (σ i) := by
  unfold blocks3
  rw [block_perm, block_perm, block_perm]

/-- The mean of the rows does not depend on their order. -/
theorem rowMean_perm (f : Fin p → Fin 512 → ℝ) : rowMean (fun i => f (σ i)) = rowMean f := by
  funext u j
  unfold rowMean
  rw [Equiv.sum_comp σ (fun i => f i j)]

theorem logit_perm (wh : Fin 512 → Fin 2 → ℝ) (f : Fin p → Fin 512 → ℝ) : logit wh (fun i => f (σ i)) = logit wh f := by
  funext c
  unfold logit
  rw [rowMean_perm]
end

/-- A reordering of the tokens, the region rows left in place. -/
def widen (σ : Fin 1024 → Fin 1024) (i : Fin 1152) : Fin 1152 := if hi : i.val < 1024 then ⟨(σ ⟨i.val, hi⟩).val, by omega⟩ else i

theorem widen_inverse {σ τ : Fin 1024 → Fin 1024} (h : ∀ i, τ (σ i) = i) (i : Fin 1152) : widen τ (widen σ i) = i := by
  unfold widen
  by_cases hi : i.val < 1024
  · rw [dif_pos hi]
    have hl : (σ ⟨i.val, hi⟩).val < 1024 := (σ ⟨i.val, hi⟩).isLt
    rw [dif_pos hl]
    apply Fin.ext
    show (τ ⟨(σ ⟨i.val, hi⟩).val, hl⟩).val = i.val
    exact congrArg Fin.val (h ⟨i.val, hi⟩)
  · rw [dif_neg hi, dif_neg hi]

/-- The same as a permutation. -/
def widenPerm (σ : Equiv.Perm (Fin 1024)) : Equiv.Perm (Fin 1152) :=
  ⟨widen σ, widen σ.symm, widen_inverse σ.symm_apply_apply, widen_inverse σ.apply_symm_apply⟩

/-- The reordered start is the start, its rows reordered. -/
theorem startAt_perm (σ : Equiv.Perm (Fin 1024)) (x : Fin 4096 → Fin 768 → ℝ) (w : Fin 768 → Fin 512 → ℝ) (wq wk wv wo : Fin 512 → Fin 512 → ℝ)
    (r : Fin 1024 → Nat) : startAt σ x w wq wk wv wo r = fun i => start x w wq wk wv wo r (widenPerm σ i) := by
  unfold startAt start
  rw [regions_perm]
  funext i j
  show _ = stacked _ _ (widen σ i) j
  unfold stacked widen
  by_cases hi : i.val < 1024
  · have hl : (σ ⟨i.val, hi⟩).val < 1024 := (σ ⟨i.val, hi⟩).isLt
    rw [dif_pos hi, dif_pos hi, dif_pos hl]
  · rw [dif_neg hi, dif_neg hi, dif_neg hi]

/-- The logits do not depend on the tokens' order. -/
theorem logit_start (σ : Equiv.Perm (Fin 1024)) (x : Fin 4096 → Fin 768 → ℝ) (w : Fin 768 → Fin 512 → ℝ) (aq ak av ao : Fin 512 → Fin 512 → ℝ)
    (r : Fin 1024 → Nat) (wq wk wv wo : Fin 3 → Fin 512 → Fin 512 → ℝ) (w1 : Fin 3 → Fin 512 → Fin 2048 → ℝ) (w2 : Fin 3 → Fin 2048 → Fin 512 → ℝ)
    (wh : Fin 512 → Fin 2 → ℝ) :
    logit wh (blocks3 wq wk wv wo w1 w2 (startAt σ x w aq ak av ao r)) = logit wh (blocks3 wq wk wv wo w1 w2 (start x w aq ak av ao r)) := by
  rw [startAt_perm, blocks3_perm, logit_perm]

theorem prob_start (σ : Equiv.Perm (Fin 1024)) (x : Fin 4096 → Fin 768 → ℝ) (w : Fin 768 → Fin 512 → ℝ) (aq ak av ao : Fin 512 → Fin 512 → ℝ)
    (r : Fin 1024 → Nat) (wq wk wv wo : Fin 3 → Fin 512 → Fin 512 → ℝ) (w1 : Fin 3 → Fin 512 → Fin 2048 → ℝ) (w2 : Fin 3 → Fin 2048 → Fin 512 → ℝ)
    (wh : Fin 512 → Fin 2 → ℝ) :
    prob wh (blocks3 wq wk wv wo w1 w2 (startAt σ x w aq ak av ao r)) = prob wh (blocks3 wq wk wv wo w1 w2 (start x w aq ak av ao r)) := by
  funext c
  unfold prob
  rw [logit_start]

end Blocks
-- ==== Proof.EmbedValue.lean ====
/- The first kernel's arithmetic over real numbers: tokens from groups of four patches, the labelled means by a one-hot product
   and the regions' attention to the tokens. -/
module

public import proofs.«01_k».proof.Proof.KernelOps
public import proofs.«01_k».proof.Proof.EmbedSpec
public import Idealize.ShloMosaic.Lib.WordCmp
public import proofs.«01_k».proof.Proof.Gen.KernelIdeal.Skeleton

@[expose] public section

noncomputable section

open scoped BigOperators

namespace Blocks

open Idealize.ShloMosaic hiding ix0 ix1 ix2 ix3 ix4 ix5
open Idealize.ShloMosaic.ValueIdx

/-- One part of four that a row of patches holds. -/
theorem part_of {x : FVec Ideal ⟨2, ![1024, 3072]⟩ .f32} {X : Fin 4096 → Fin 768 → ℝ}
    (hx : ∀ (i : Fin 1024) (e : Fin 4) (j : Fin 768), x (ix2 i ⟨e.val * 768 + j.val, by omega⟩) = ((X ⟨4 * i.val + e.val, by omega⟩ j : ℝ) : EReal))
    (e : Fin 4) {o : Nat} (ho : o = e.val * 768) (h) (i : Fin 1024) (j : Fin 768) :
    extractStridedSlice ⟨2, ![1024, 768]⟩ ![0, o] x h (ix2 i j) = ((X ⟨4 * i.val + e.val, by omega⟩ j : ℝ) : EReal) := by
  subst ho
  rw [slice2_axis1_apply _ x h i j ⟨e.val * 768 + j.val, by omega⟩ rfl, hx]

/-- The four parts added and quartered. -/
theorem kern_group {x : FVec Ideal ⟨2, ![1024, 3072]⟩ .f32} {X : Fin 4096 → Fin 768 → ℝ}
    (hx : ∀ (i : Fin 1024) (e : Fin 4) (j : Fin 768), x (ix2 i ⟨e.val * 768 + j.val, by omega⟩) = ((X ⟨4 * i.val + e.val, by omega⟩ j : ℝ) : EReal))
    (h0 h1 h2 h3) :
    Is2 (mulf (addf (addf (addf (extractStridedSlice ⟨2, ![1024, 768]⟩ ![0, 0] x h0) (extractStridedSlice ⟨2, ![1024, 768]⟩ ![0, 768] x h1))
      (extractStridedSlice ⟨2, ![1024, 768]⟩ ![0, 1536] x h2)) (extractStridedSlice ⟨2, ![1024, 768]⟩ ![0, 2304] x h3))
      (broadcast ⟨2, ![1024, 768]⟩ (Scalar.ofBits (F := Ideal) .f32 0x3E800000#32))) (group4 X) := by
  intro i j
  rw [mulf_apply, addf_apply, addf_apply, addf_apply, part_of hx (o := 0) 0 rfl, part_of hx (o := 768) 1 rfl, part_of hx (o := 1536) 2 rfl,
    part_of hx (o := 2304) 3 rfl, splat_word, word_quarter,
    ← EReal.coe_add, ← EReal.coe_add, ← EReal.coe_add, ← EReal.coe_mul]
  refine congrArg (fun t : ℝ => (t : EReal)) ?_
  unfold group4
  rw [Fin.sum_univ_four, mul_one_div]

/-- The one-hot matrix of a row of labels. -/
theorem kern_onehot {n p : Nat} (hn : n < 2 ^ 31) {v : IVec ⟨2, ![1, p]⟩ 32} {r : Fin p → Nat} (hv : ∀ i, (v (ix2 0 i)).toNat = r i) (hi hb hw) :
    Is2 (sitofp (F := Ideal) .f32 (extui 32 (cmpi .eq (broadcastTo ⟨2, ![n, p]⟩ v hb) (iota .tc ⟨2, ![n, p]⟩ 32 [0] hi)) hw) : FVec Ideal ⟨2, ![n, p]⟩ .f32)
      (fun a i => if r i = a.val then 1 else 0) := by
  intro a i
  have hbv : broadcastTo ⟨2, ![n, p]⟩ v hb (ix2 a i) = v (ix2 0 i) := broadcastTo_apply _ _ _ _ (fun e => by
    match e with
    | ⟨0, _⟩ => show 0 = if 1 = 1 then 0 else _; simp
    | ⟨1, _⟩ => show i.val = if p = 1 then 0 else i.val; split <;> omega)
  have hio : iota .tc ⟨2, ![n, p]⟩ 32 [0] hi (ix2 a i) = BitVec.ofNat 32 a.val := iota_single_apply _ _ _ _ _ _
  have ha := a.isLt
  rw [sitofp_apply, extui_apply]
  show (((BitVec.setWidth 32 (IntOp.cmpi .eq (broadcastTo ⟨2, ![n, p]⟩ v hb (ix2 a i)) (iota .tc ⟨2, ![n, p]⟩ 32 [0] hi (ix2 a i)))).toInt : ℝ) : EReal) = _
  rw [hbv, hio]
  have e2 : IntOp.cmpi .eq (v (ix2 0 i)) (BitVec.ofNat 32 a.val) = BitVec.ofBool (decide (r i = a.val)) := by
    rw [Idealize.ShloMosaic.WordCmp.cmpi_eq_eq_toNat, hv, BitVec.toNat_ofNat, Nat.mod_eq_of_lt (by omega)]
  rw [e2]
  show _ = (((if r i = a.val then 1 else 0 : ℝ)) : EReal)
  by_cases h : r i = a.val
  · rw [if_pos h, decide_eq_true h]
    simp
  · rw [if_neg h, decide_eq_false h]
    simp

theorem tally_pos {p : Nat} (r : Fin p → Nat) (a : Nat) : max (tally r a) 1 ≠ 0 := (lt_of_lt_of_le one_pos (le_max_right _ _)).ne'

/-- The labelled means by a one-hot product. -/
theorem kern_means {n p : Nat} {O : FVec Ideal ⟨2, ![n, p]⟩ .f32} {r : Fin p → Nat} (hO : Is2 O fun a i => if r i = a.val then 1 else 0)
    {x : FVec Ideal ⟨2, ![p, 512]⟩ .f32} {f : Fin p → Fin 512 → ℝ} (hx : Is2 x f) (wf h1 hφ hacc h2 h3) :
    Is2 (mulf (matmul (⟨[1], [0], [0], [1], [], [], wf⟩ : DotDims ⟨2, ![n, p]⟩ ⟨2, ![p, 512]⟩ ⟨2, ![n, 512]⟩) none O x
        (constant ⟨2, ![n, 512]⟩ .f32 0x00000000#32))
      (broadcastTo ⟨2, ![n, 512]⟩ (divf (broadcast ⟨2, ![n, 1]⟩ (Scalar.ofBits (F := Ideal) .f32 0x3F800000#32))
        (maximumf (shapeCast ⟨2, ![n, 1]⟩ (multiReduction .add [1] ⟨1, ![n]⟩ O 0x00000000#32 h1 hφ hacc) h2)
          (broadcast ⟨2, ![n, 1]⟩ (Scalar.ofBits (F := Ideal) .f32 0x3F800000#32)))) h3)) (segMean r f) := by
  intro a j
  have hs : ∑ i : Fin p, O (ix2 a i) * x (ix2 i j) = ((∑ i, (if r i = a.val then f i j else 0) : ℝ) : EReal) := by
    refine Eq.trans (Finset.sum_congr rfl fun i _ => ?_) (coe_sum _ _)
    rw [hO, hx, ← EReal.coe_mul]
    refine congrArg (fun t : ℝ => (t : EReal)) ?_
    show (if r i = a.val then (1 : ℝ) else 0) * f i j = if r i = a.val then f i j else 0
    rw [ite_mul, one_mul, zero_mul]
  have hc : ∑ i : Fin p, O (ix2 a i) = ((tally r a.val : ℝ) : EReal) := (Finset.sum_congr rfl fun i _ => hO a i).trans (coe_sum _ _)
  rw [mulf_apply, mm, hs, bto_col, divf_apply, splat_word, word_one, maximumf_apply, shapeCast_a_a1_apply, sum_rows, hc, splat_word, word_one,
    show max ((tally r a.val : ℝ) : EReal) ((1 : ℝ) : EReal) = ((max (tally r a.val) 1 : ℝ) : EReal) from (EReal.coe_strictMono.monotone.map_max).symm,
    div_real (tally_pos r a.val), ← EReal.coe_mul, mul_one_div]
  rfl

end Blocks

namespace Cert.KernelIdeal.Embed

open Idealize.ShloMosaic hiding ix0 ix1 ix2 ix3 ix4 ix5
open Idealize.ShloMosaic.ValueIdx
open Cert.KernelIdeal.Gen Blocks

/-- The region rows the kernel stores. -/
def lower {F : FTy → Type} [FloatOps F] (x0 : Vec F S1024x3072 .f32) (x1 : Vec F S768x512 .f32) (x2 : Vec F S1x1024 .i32) (x3 x4 x5 x6 : Vec F S512x512 .f32) :
    FVec F S128x512 .f32 :=
  let h := k0_pay2 x0 x1
  let s := k0_pay3 x0 x1 x2
  let q := k0_pay6 s (k0_pay4 x0 x1 x2) x3
  let k := k0_pay7 h x4
  let v := k0_pay8 h x5
  k0_pay1 s x6 v (k0_pay10 k v (k0_pay9 s (k0_pay4 x0 x1 x2) x3)) (k0_pay11 q k v) (k0_pay12 q k v)
    (k0_pay16 (k0_pay13 q k) (k0_pay14 q k) (k0_pay15 v) (constant S128x64 .f32 0x00000000#32)) (k0_pay17 q k v) (k0_pay18 q k v) (k0_pay19 q k v)
    (k0_pay20 q k) (k0_pay21 q k) (Scalar.ofBits .f32 0x3F800000#32)

section
variable {x0 : Vec Ideal S1024x3072 .f32} {X : Fin 4096 → Fin 768 → ℝ}
  (h0 : ∀ (i : Fin 1024) (e : Fin 4) (j : Fin 768), x0 (ix2 i ⟨e.val * 768 + j.val, by omega⟩) = ((X ⟨4 * i.val + e.val, by omega⟩ j : ℝ) : EReal))
  {x1 : Vec Ideal S768x512 .f32} {wm : Fin 768 → Fin 512 → ℝ} (h1 : Is2 x1 wm)
  {x2 : Vec Ideal S1x1024 .i32} {r : Fin 1024 → Nat} (h2 : ∀ i, (x2 (ix2 0 i)).toNat = r i)
  {x3 x4 x5 x6 : Vec Ideal S512x512 .f32} {wq wk wv wo : Fin 512 → Fin 512 → ℝ}
  (h3 : Is2 x3 fun i j => wq i j / 8) (h4 : Is2 x4 wk) (h5 : Is2 x5 wv) (h6 : Is2 x6 wo)

include h0 h1

/-- The tokens. -/
theorem upper_is : Is2 (k0_pay2 x0 x1) (tokens X wm) :=
  kern_act (kern_lin2 (kern_group (x := shapeCast S1024x3072 x0 shapeCasts_S1024x3072_S1024x3072) (by rw [shapeCast_self]; exact h0) _ _ _ _) h1 _)

theorem keyed_is : Is2 (k0_pay5 (k0_pay2 x0 x1)) (ln (tokens X wm)) := kern_ln (upper_is h0 h1) _ _ _ _ _

include h4 in
theorem keys_is : Is2 (k0_pay7 (k0_pay2 x0 x1) x4) (lin (ln (tokens X wm)) wk) := kern_lin2 (keyed_is h0 h1) h4 _

include h5 in
theorem values_is : Is2 (k0_pay8 (k0_pay2 x0 x1) x5) (lin (ln (tokens X wm)) wv) := kern_lin2 (keyed_is h0 h1) h5 _

include h2

/-- The region means. -/
theorem means_is : Is2 (k0_pay3 x0 x1 x2) (segMean r (tokens X wm)) :=
  kern_means (kern_onehot (n := 128) (by norm_num) (v := shapeCast S1x1024 x2 shapeCasts_S1x1024_S1x1024) (by rw [shapeCast_self]; exact h2) _ _ _)
    (upper_is h0 h1) _ _ _ _ _ _

include h3 in
theorem queries_is : Is2 (k0_pay6 (k0_pay3 x0 x1 x2) (k0_pay4 x0 x1 x2) x3) (fun i j => lin (ln (segMean r (tokens X wm))) wq i j / 8) := by
  have h := kern_lin2 (kern_ln (means_is h0 h1 h2) reduces_S128x512_S128 (.inl rfl) rfl shapeCasts_S128_S128x1 broadcasts_S128x1_S128x512)
    (w := shapeCast S512x512 x3 shapeCasts_S512x512_S512x512) (W := fun i j => wq i j / 8) (by rw [shapeCast_self]; exact h3) dot_S128x512_S512x512_S128x512_1_0_0_1_n_n.wf
  intro i j
  refine (h i j).trans (congrArg (fun t : ℝ => (t : EReal)) ?_)
  show ∑ l, ln (segMean r (tokens X wm)) i l * (wq l j / 8) = (∑ l, ln (segMean r (tokens X wm)) i l * wq l j) / 8
  rw [Finset.sum_div]
  exact Finset.sum_congr rfl fun l _ => (mul_div_assoc _ _ _).symm

include h3 h4 h5 h6 in
/-- The region rows. -/
theorem lower_is : Is2 (lower x0 x1 x2 x3 x4 x5 x6) (regions wq wk wv wo r (tokens X wm)) := by
  have hq := queries_is h0 h1 h2 h3
  have hk := keys_is h0 h1 h4
  have hv := values_is h0 h1 h5
  have e := fun (h : Fin 8) (o : Nat) (ho : o = h.val * 64) (sl : S128x512.Slices ![0, o] S128x64) (sl' : S1024x512.Slices ![0, o] S1024x64) =>
    kern_exps hq hk h ho dot_S128x64_S1024x64_S128x1024_1_1_0_0_n_n.wf sl sl'
  have d := fun (h : Fin 8) (o : Nat) (ho : o = h.val * 64) (sl : S128x512.Slices ![0, o] S128x64) (sl' : S1024x512.Slices ![0, o] S1024x64) =>
    kern_weighted h ho (e h o ho sl sl') (kern_recip (by norm_num) (e h o ho sl sl') reduces_S128x1024_S128 (.inl rfl) rfl shapeCasts_S128_S128x1) hv
      dot_S128x1024_S1024x64_S128x64_1_0_0_1_n_n.wf sl' broadcasts_S128x1_S128x64
  have hc := kern_heads (H := headAtt (lin (ln (segMean r (tokens X wm))) wq) (lin (ln (tokens X wm)) wk) (lin (ln (tokens X wm)) wv))
    (d 0 0 rfl slices_S128x512_o0_0_S128x64 slices_S1024x512_o0_0_S1024x64)
    (d 1 64 rfl slices_S128x512_o0_64_S128x64 slices_S1024x512_o0_64_S1024x64)
    (d 2 128 rfl slices_S128x512_o0_128_S128x64 slices_S1024x512_o0_128_S1024x64)
    (d 3 192 rfl slices_S128x512_o0_192_S128x64 slices_S1024x512_o0_192_S1024x64)
    (d 4 256 rfl slices_S128x512_o0_256_S128x64 slices_S1024x512_o0_256_S1024x64)
    (d 5 320 rfl slices_S128x512_o0_320_S128x64 slices_S1024x512_o0_320_S1024x64)
    (d 6 384 rfl slices_S128x512_o0_384_S128x64 slices_S1024x512_o0_384_S1024x64)
    (d 7 448 rfl slices_S128x512_o0_448_S128x64 slices_S1024x512_o0_448_S1024x64)
    concatenates_S128x64_S128x64_S128x64_S128x64_S128x64_S128x64_S128x64_S128x64_S128x512_d1
  exact kern_add (means_is h0 h1 h2) (kern_lin2 hc h6 _)
end

end Cert.KernelIdeal.Embed
-- ==== Proof.EmbedLeft.lean ====
/- What the embedding call leaves in its output array, over whatever it finds in the buffers: the tokens in the upper rows, the
   regions in the lower. -/
module

public import proofs.«01_k».proof.Proof.KernelIdealEmbedFrame
public import proofs.«01_k».proof.Proof.EmbedValue
public import Idealize.ShloMosaic.Lib.Pipeline.Value

@[expose] public section

noncomputable section

namespace Cert.KernelIdeal.Embed

open Idealize.ShloMosaic hiding ix0 ix1 ix2 ix3 ix4 ix5
open Idealize.ShloMosaic.ValueIdx
open Idealize.ShloMosaic.TcCoe
open Cert.KernelIdeal Cert.KernelIdeal.Gen Cert.KernelIdeal.Embed0
open Blocks

section
variable {F : FTy → Type} [FloatOps F]

theorem off2 : (![0, 0] : Fin 2 → Nat) = fun _ => 0 := funext fun a => by fin_cases a <;> rfl

/-- The first of the eight equal rows of labels. -/
def labelRow (x : Vec F S8x1024 .i32) : Vec F S1x1024 .i32 := View.ld x (Rect.unit (s := S8x1024) ![0, 0] S1x1024.size inb_S8x1024_S1x1024_0_0)

/-- A row past the tokens is not one of theirs. -/
theorem low_not_up (i : Fin 128) (j : Fin 512) : (ix2 ⟨1024 + i.val, by omega⟩ j : S1152x512.Idx)
    ∉ (Rect.unit (s := S1152x512) ![0, 0] S1024x512.size inb_S1152x512_S1024x512_0_0).set := by
  intro h
  have h2 := ((Rect.mem_set_unit (s := S1152x512) (off := ![0, 0]) (size := S1024x512.size) (inb := inb_S1152x512_S1024x512_0_0)).1 h) 0
  have h3 : 1024 + i.val < 0 + 1024 := h2.2
  omega

/-- The body's output: tokens in its upper rows, regions in its lower. -/
theorem rows_A (c : Dev nD) (a0 : Memref sig .tc .vmem S1024x3072 .f32) (h0 : a0.IsWhole) (a1 : Memref sig .tc .vmem S768x512 .f32) (h1 : a1.IsWhole) (a2 : Memref sig .tc .vmem S8x1024 .i32) (h2 : a2.IsWhole) (a3 : Memref sig .tc .vmem S512x512 .f32) (h3 : a3.IsWhole) (a4 : Memref sig .tc .vmem S512x512 .f32) (h4 : a4.IsWhole) (a5 : Memref sig .tc .vmem S512x512 .f32) (h5 : a5.IsWhole) (a6 : Memref sig .tc .vmem S512x512 .f32) (h6 : a6.IsWhole) (a7 : Memref sig .tc .vmem S1152x512 .f32) (h7 : a7.IsWhole) (x0 : Vec F S1024x3072 .f32) (x1 : Vec F S768x512 .f32) (x2 : Vec F S8x1024 .i32) (x3 : Vec F S512x512 .f32) (x4 : Vec F S512x512 .f32) (x5 : Vec F S512x512 .f32) (x6 : Vec F S512x512 .f32) (i : Fin 1024) (i' : Fin 128) (j : Fin 512) :
    out0_A_7 c a0 h0 a1 h1 a2 h2 a3 h3 a4 h4 a5 h5 a6 h6 a7 h7 x0 x1 x2 x3 x4 x5 x6 (ix2 ⟨i.val, by omega⟩ j) = k0_pay2 x0 x1 (ix2 i j)
    ∧ out0_A_7 c a0 h0 a1 h1 a2 h2 a3 h3 a4 h4 a5 h5 a6 h6 a7 h7 x0 x1 x2 x3 x4 x5 x6 (ix2 ⟨1024 + i'.val, by omega⟩ j) = lower x0 x1 (labelRow x2) x3 x4 x5 x6 (ix2 i' j) := by
  unfold out0_A_7
  rw [View.read_writes_eq_canon _ _ _ (cover0_A_7 c a0 h0 a1 h1 a2 h2 a3 h3 a4 h4 a5 h5 a6 h6 a7 h7 x0 x1 x2 x3 x4 x5 x6)]
  unfold kernelRun0_A
  dsimp only
  sl_unfold_words
  simp only [View.readAt_eq_ld, h0.read_unread, h1.read_unread, h2.read_unread, h3.read_unread, h4.read_unread, h5.read_unread, h6.read_unread,
    View.ld_unit_zero (S := S1024x3072) off2, View.ld_unit_zero (S := S768x512) off2, View.ld_unit_zero (S := S512x512) off2]
  constructor
  · have e : (ix2 ⟨i.val, by omega⟩ j : S1152x512.Idx) = (Rect.unit (s := S1152x512) ![0, 0] S1024x512.size inb_S1152x512_S1024x512_0_0).emb (ix2 i j) := by
      funext a; apply Fin.ext
      match a with
      | ⟨0, _⟩ => show i.val = 0 + 1 * i.val; omega
      | ⟨1, _⟩ => show j.val = 0 + 1 * j.val; omega
    rw [e]; exact View.canon_cons_emb _ _ _ _
  · have e : (ix2 ⟨1024 + i'.val, by omega⟩ j : S1152x512.Idx) = (Rect.unit (s := S1152x512) ![1024, 0] S128x512.size inb_S1152x512_S128x512_1024_0).emb (ix2 i' j) := by
      funext a; apply Fin.ext
      match a with
      | ⟨0, _⟩ => show 1024 + i'.val = 1024 + 1 * i'.val; omega
      | ⟨1, _⟩ => show j.val = 0 + 1 * j.val; omega
    rw [View.canon_cons_of_not_mem]
    · rw [e]; exact View.canon_cons_emb _ _ _ _
    · exact low_not_up i' j

variable (V : (c : Dev nD) → (b : Ref sig .tc) → Buf (Elt F) ((c : Thread nD τ).loc b)) (c : Dev nD)

/-- Window 0 is staged whole. -/
theorem blk0 (t : Fin cfg0.N) : iblk V c 0 t = V c main_v0 := by
  have hi : win0_0.index t 0 = 0 ∧ win0_0.index t 1 = 0 := by obtain rfl := fin_N0 t; decide
  funext j
  unfold iblk
  rw [View.read_apply]
  show V c main_v0 _ = _
  congr 1; funext a; apply Fin.ext
  match a with
  | ⟨0, _⟩ => show win0_0.index t 0 * 1024 + 1 * (j 0).val = (j 0).val; rw [hi.1]; omega
  | ⟨1, _⟩ => show win0_0.index t 1 * 3072 + 1 * (j 1).val = (j 1).val; rw [hi.2]; omega

/-- Window 1 is staged whole. -/
theorem blk1 (t : Fin cfg0.N) : iblk V c 1 t = V c main_arg8 := by
  have hi : win0_1.index t 0 = 0 ∧ win0_1.index t 1 = 0 := by obtain rfl := fin_N0 t; decide
  funext j
  unfold iblk
  rw [View.read_apply]
  show V c main_arg8 _ = _
  congr 1; funext a; apply Fin.ext
  match a with
  | ⟨0, _⟩ => show win0_1.index t 0 * 768 + 1 * (j 0).val = (j 0).val; rw [hi.1]; omega
  | ⟨1, _⟩ => show win0_1.index t 1 * 512 + 1 * (j 1).val = (j 1).val; rw [hi.2]; omega

/-- Window 2 is staged whole. -/
theorem blk2 (t : Fin cfg0.N) : iblk V c 2 t = V c main_v2 := by
  have hi : win0_2.index t 0 = 0 ∧ win0_2.index t 1 = 0 := by obtain rfl := fin_N0 t; decide
  funext j
  unfold iblk
  rw [View.read_apply]
  show V c main_v2 _ = _
  congr 1; funext a; apply Fin.ext
  match a with
  | ⟨0, _⟩ => show win0_2.index t 0 * 8 + 1 * (j 0).val = (j 0).val; rw [hi.1]; omega
  | ⟨1, _⟩ => show win0_2.index t 1 * 1024 + 1 * (j 1).val = (j 1).val; rw [hi.2]; omega

/-- Window 3 is staged whole. -/
theorem blk3 (t : Fin cfg0.N) : iblk V c 3 t = V c main_v6 := by
  have hi : win0_3.index t 0 = 0 ∧ win0_3.index t 1 = 0 := by obtain rfl := fin_N0 t; decide
  funext j
  unfold iblk
  rw [View.read_apply]
  show V c main_v6 _ = _
  congr 1; funext a; apply Fin.ext
  match a with
  | ⟨0, _⟩ => show win0_3.index t 0 * 512 + 1 * (j 0).val = (j 0).val; rw [hi.1]; omega
  | ⟨1, _⟩ => show win0_3.index t 1 * 512 + 1 * (j 1).val = (j 1).val; rw [hi.2]; omega

/-- Window 4 is staged whole. -/
theorem blk4 (t : Fin cfg0.N) : iblk V c 4 t = V c main_arg14 := by
  have hi : win0_4.index t 0 = 0 ∧ win0_4.index t 1 = 0 := by obtain rfl := fin_N0 t; decide
  funext j
  unfold iblk
  rw [View.read_apply]
  show V c main_arg14 _ = _
  congr 1; funext a; apply Fin.ext
  match a with
  | ⟨0, _⟩ => show win0_4.index t 0 * 512 + 1 * (j 0).val = (j 0).val; rw [hi.1]; omega
  | ⟨1, _⟩ => show win0_4.index t 1 * 512 + 1 * (j 1).val = (j 1).val; rw [hi.2]; omega

/-- Window 5 is staged whole. -/
theorem blk5 (t : Fin cfg0.N) : iblk V c 5 t = V c main_arg16 := by
  have hi : win0_5.index t 0 = 0 ∧ win0_5.index t 1 = 0 := by obtain rfl := fin_N0 t; decide
  funext j
  unfold iblk
  rw [View.read_apply]
  show V c main_arg16 _ = _
  congr 1; funext a; apply Fin.ext
  match a with
  | ⟨0, _⟩ => show win0_5.index t 0 * 512 + 1 * (j 0).val = (j 0).val; rw [hi.1]; omega
  | ⟨1, _⟩ => show win0_5.index t 1 * 512 + 1 * (j 1).val = (j 1).val; rw [hi.2]; omega

/-- Window 6 is staged whole. -/
theorem blk6 (t : Fin cfg0.N) : iblk V c 6 t = V c main_arg18 := by
  have hi : win0_6.index t 0 = 0 ∧ win0_6.index t 1 = 0 := by obtain rfl := fin_N0 t; decide
  funext j
  unfold iblk
  rw [View.read_apply]
  show V c main_arg18 _ = _
  congr 1; funext a; apply Fin.ext
  match a with
  | ⟨0, _⟩ => show win0_6.index t 0 * 512 + 1 * (j 0).val = (j 0).val; rw [hi.1]; omega
  | ⟨1, _⟩ => show win0_6.index t 1 * 512 + 1 * (j 1).val = (j 1).val; rw [hi.2]; omega

/-- The output's one block is its whole array. -/
theorem whole7 (g : Vec F S1152x512 .f32) :
    (cfg0.win 7).cut (grid0.coords t0_0) g = ((cfg0.win 7).blk t0_0).view.read (Elt F) g := by
  have hi : win0_7.index t0_0 0 = 0 ∧ win0_7.index t0_0 1 = 0 := by decide
  funext y
  show g ((cfg0.win 7).xinj (grid0.coords t0_0) y) = g (((cfg0.win 7).blk t0_0).view.emb y)
  refine congrArg g (funext fun a => Fin.ext ?_)
  match a with
  | ⟨0, _⟩ => show (y 0).val = win0_7.index t0_0 0 * 1152 + 1 * (y 0).val; rw [hi.1]; omega
  | ⟨1, _⟩ => show (y 1).val = win0_7.index t0_0 1 * 512 + 1 * (y 1).val; rw [hi.2]; omega

/-- The output is written back once. -/
theorem final7 : (dat V c).arrAt 7 cfg0.N = outsAt0 V c t0_0 := by
  have hi : win0_7.index t0_0 0 = 0 ∧ win0_7.index t0_0 1 = 0 := by decide
  refine (dat V c).arrAt_eq_of_cover 7 _ (fun t hf => ?_) (fun i => ⟨t0_0, flush0_7 t0_0, ?_⟩)
  · obtain rfl := fin_N0 t
    show (cfg0.win 7).cut (grid0.coords t0_0) ((dat V c).after 7 t0_0) = _
    rw [after0_7]
    exact whole7 _
  · show i ∈ ((View.whole main_v7).slice (win0_7.rect t0_0)).set
    rw [View.set_slice_whole, Rect.mem_set_unit]
    have h0 : (i 0).val < 1152 := (i 0).isLt
    have h1 : (i 1).val < 512 := (i 1).isLt
    intro a
    match a with
    | ⟨0, _⟩ => show win0_7.index t0_0 0 * 1152 ≤ (i 0).val ∧ (i 0).val < win0_7.index t0_0 0 * 1152 + 1152; rw [hi.1]; omega
    | ⟨1, _⟩ => show win0_7.index t0_0 1 * 512 ≤ (i 1).val ∧ (i 1).val < win0_7.index t0_0 1 * 512 + 512; rw [hi.2]; omega

end

variable {V : (c : Dev nD) → (b : Ref sig .tc) → Buf (Elt Ideal) ((c : Thread nD τ).loc b)} {c : Dev nD}
variable {X : Fin 4096 → Fin 768 → ℝ} {wm : Fin 768 → Fin 512 → ℝ} {wq wk wv wo : Fin 512 → Fin 512 → ℝ} {r : Fin 1024 → Nat}

/-- The state the call leaves: the tokens, then the regions. -/
theorem state_left
    (h0 : ∀ (i : Fin 1024) (e : Fin 4) (j : Fin 768), (V c main_v0 : FVec Ideal ⟨2, ![1024, 3072]⟩ .f32) (ix2 i ⟨e.val * 768 + j.val, by omega⟩)
      = ((X ⟨4 * i.val + e.val, by omega⟩ j : ℝ) : EReal))
    (h1 : Is2 (V c main_arg8 : FVec Ideal ⟨2, ![768, 512]⟩ .f32) wm)
    (h2 : ∀ i : Fin 1024, ((V c main_v2 : IVec ⟨2, ![8, 1024]⟩ 32) (ix2 0 i)).toNat = r i)
    (h3 : Is2 (V c main_v6 : FVec Ideal ⟨2, ![512, 512]⟩ .f32) fun i j => wq i j / 8)
    (h4 : Is2 (V c main_arg14 : FVec Ideal ⟨2, ![512, 512]⟩ .f32) wk)
    (h5 : Is2 (V c main_arg16 : FVec Ideal ⟨2, ![512, 512]⟩ .f32) wv)
    (h6 : Is2 (V c main_arg18 : FVec Ideal ⟨2, ![512, 512]⟩ .f32) wo) :
    Is2 ((dat V c).arrAt 7 cfg0.N : FVec Ideal ⟨2, ![1152, 512]⟩ .f32) (start X wm wq wk wv wo r) := by
  rw [final7]
  unfold outsAt0
  rw [blk0, blk1, blk2, blk3, blk4, blk5, blk6]
  have hr := fun i i' j => rows_A (F := Ideal) c (ms0_0 t0_0) (hs0_0 t0_0) (ms0_1 t0_0) (hs0_1 t0_0) (ms0_2 t0_0) (hs0_2 t0_0) (ms0_3 t0_0) (hs0_3 t0_0)
    (ms0_4 t0_0) (hs0_4 t0_0) (ms0_5 t0_0) (hs0_5 t0_0) (ms0_6 t0_0) (hs0_6 t0_0) (ms0_7 t0_0) (hs0_7 t0_0)
    (V c main_v0) (V c main_arg8) (V c main_v2) (V c main_v6) (V c main_arg14) (V c main_arg16) (V c main_arg18) i i' j
  have hl : ∀ i : Fin 1024, (labelRow (F := Ideal) (V c main_v2) (ix2 0 i)).toNat = r i := fun i => by
    refine Eq.trans ?_ (h2 i)
    refine congrArg (fun k => ((V c main_v2 : IVec ⟨2, ![8, 1024]⟩ 32) k).toNat) ?_
    funext a; apply Fin.ext
    match a with
    | ⟨0, _⟩ => rfl
    | ⟨1, _⟩ => show 0 + 1 * i.val = i.val; omega
  intro i j
  unfold start stacked
  by_cases hi : i.val < 1024
  · rw [dif_pos hi]
    exact (hr ⟨i.val, hi⟩ 0 j).1.trans (upper_is h0 h1 ⟨i.val, hi⟩ j)
  · rw [dif_neg hi]
    have hb : i.val - 1024 < 128 := by omega
    have e : i = ⟨1024 + (i.val - 1024), by omega⟩ := Fin.ext (by show i.val = 1024 + (i.val - 1024); omega)
    have hz := (hr 0 ⟨i.val - 1024, hb⟩ j).2.trans (lower_is h0 h1 hl h3 h4 h5 h6 ⟨i.val - 1024, hb⟩ j)
    rw [← hz]
    exact congrArg (fun k : Fin 1152 => out0_A_7 (F := Ideal) c (ms0_0 t0_0) (hs0_0 t0_0) (ms0_1 t0_0) (hs0_1 t0_0) (ms0_2 t0_0) (hs0_2 t0_0)
      (ms0_3 t0_0) (hs0_3 t0_0) (ms0_4 t0_0) (hs0_4 t0_0) (ms0_5 t0_0) (hs0_5 t0_0) (ms0_6 t0_0) (hs0_6 t0_0) (ms0_7 t0_0) (hs0_7 t0_0)
      (V c main_v0) (V c main_arg8) (V c main_v2) (V c main_v6) (V c main_arg14) (V c main_arg16) (V c main_arg18) (ix2 k j)) e

end Cert.KernelIdeal.Embed
-- ==== Proof.HeadOps.lean ====
/- The classification head over real numbers: the mean of the rows, the two logits, their probabilities and the larger one's
   place, as a kernel's vector operations give them. -/
module

public import proofs.«01_k».proof.Proof.KernelOps

@[expose] public section

noncomputable section

open scoped BigOperators

namespace Blocks

open Idealize.ShloMosaic hiding ix0 ix1 ix2 ix3 ix4 ix5
open Idealize.ShloMosaic.ValueIdx

/-- The mean of a block's rows, as a block of one row. -/
theorem kern_rows {x : FVec Ideal ⟨2, ![1152, 512]⟩ .f32} {f : Fin 1152 → Fin 512 → ℝ} (hx : Is2 x f) (h1 hφ hacc h2) :
    Is2 (divf (shapeCast ⟨2, ![1, 512]⟩ (multiReduction .add [0] ⟨1, ![512]⟩ x 0x00000000#32 h1 hφ hacc) h2)
      (broadcast ⟨2, ![1, 512]⟩ (Scalar.ofBits (F := Ideal) .f32 0x44900000#32))) (rowMean f) := by
  intro i j
  rw [divf_apply, shapeCast_a_1a_apply, sum_cols, splat_word, word_1152]
  simp only [hx _ j]
  rw [coe_sum, div_real (by norm_num)]
  rfl

/-- Each logit as a row sum against the transposed matrix. -/
theorem kern_logits {x : FVec Ideal ⟨2, ![1, 512]⟩ .f32} {f : Fin 1 → Fin 512 → ℝ} (hx : Is2 x f)
    {w : FVec Ideal ⟨2, ![2, 512]⟩ .f32} {W : Fin 512 → Fin 2 → ℝ} (hw : Is2 w fun c j => W j c) (h1 h2 h3 hφ hacc h4) :
    Is2 (shapeCast ⟨2, ![2, 1]⟩ (multiReduction .add [1] ⟨1, ![2]⟩ (mulf (broadcastTo ⟨2, ![2, 512]⟩ x h1) (shapeCast ⟨2, ![2, 512]⟩ w h2))
      0x00000000#32 h3 hφ hacc) h4) (fun c _ => lin f W 0 c) := by
  intro c z
  rw [shapeCast_a_a1_apply, sum_rows]
  refine Eq.trans (Finset.sum_congr rfl fun l _ => ?_) (coe_sum _ _)
  rw [mulf_apply, broadcastTo_1b_ab_apply, shapeCast_self, hx, hw, ← EReal.coe_mul]

/-- One entry of the column of two logits. -/
theorem kern_pick {x : FVec Ideal ⟨2, ![2, 1]⟩ .f32} {l : Fin 2 → ℝ} (hx : Is2 x fun c _ => l c) (c : Fin 2) {o : Nat} (ho : o = c.val) (h) :
    Is2 (extractStridedSlice ⟨2, ![1, 1]⟩ ![o, 0] x h) (fun _ _ => l c) := by
  intro i j
  have hi : i.val = 0 := by omega
  rw [slice2_axis0_apply o x h i j c (by rw [hi, ho]; rfl), hx]

/-- Two numbers' exponentials from their maximum, over the sum of both: the first one's. -/
theorem pair_prob {n : Nat} {a b : FVec Ideal ⟨2, ![n, 1]⟩ .f32} {l : Fin 2 → ℝ} (ha : Is2 a fun _ _ => l 0) (hb : Is2 b fun _ _ => l 1) :
    Is2 (divf (exp (subf a (maximumf a b))) (addf (exp (subf a (maximumf a b))) (exp (subf b (maximumf a b)))))
        (fun _ _ => Real.exp (l 0) / ∑ e, Real.exp (l e))
    ∧ Is2 (divf (exp (subf b (maximumf a b))) (addf (exp (subf a (maximumf a b))) (exp (subf b (maximumf a b)))))
        (fun _ _ => Real.exp (l 1) / ∑ e, Real.exp (l e)) := by
  have hm : ∀ i j, maximumf a b (ix2 i j) = ((max (l 0) (l 1) : ℝ) : EReal) := by
    intro i j
    rw [ValueIdx.maximumf_apply, ha, hb]
    exact (EReal.coe_strictMono.monotone.map_max).symm
  have hp : (0 : ℝ) < Real.exp (l 0 - max (l 0) (l 1)) + Real.exp (l 1 - max (l 0) (l 1)) := add_pos (Real.exp_pos _) (Real.exp_pos _)
  constructor <;> intro i j
  · rw [divf_apply, addf_apply, unary_exp, unary_exp, subf_apply, subf_apply, hm, ha, hb, ← EReal.coe_sub, ← EReal.coe_sub, Ideal.exp_coe, Ideal.exp_coe,
      ← EReal.coe_add, div_real hp.ne', ← shift_prob l (max (l 0) (l 1)) 0, Fin.sum_univ_two]
  · rw [divf_apply, addf_apply, unary_exp, unary_exp, subf_apply, subf_apply, hm, ha, hb, ← EReal.coe_sub, ← EReal.coe_sub, Ideal.exp_coe, Ideal.exp_coe,
      ← EReal.coe_add, div_real hp.ne', ← shift_prob l (max (l 0) (l 1)) 1, Fin.sum_univ_two]

/-- The word that says whether the second number is larger. -/
theorem pair_larger {a b : FVec Ideal ⟨2, ![1, 1]⟩ .f32} {l : Fin 2 → ℝ} (ha : Is2 a fun _ _ => l 0) (hb : Is2 b fun _ _ => l 1) (h) (i j : Fin 1) :
    extui 32 (cmpf .ogt b a) h (ix2 i j) = if l 0 < l 1 then 1#32 else 0#32 := by
  rw [extui_apply, cmpf_apply, ha, hb, Ideal.cmpf_def]
  by_cases hl : l 0 < l 1
  · rw [if_pos hl]
    simp [Ideal.cmp, hl]
  · rw [if_neg hl]
    simp [Ideal.cmp, hl]

end Blocks
-- ==== Proof.Layer.lean ====
/- One layer of the blocks kernel: what a grid point computes from the state it reads and the layer's weights, over real numbers. -/
module

public import proofs.«01_k».proof.Proof.HeadOps
public import proofs.«01_k».proof.Proof.Gen.KernelIdeal.Skeleton

@[expose] public section

noncomputable section

open scoped BigOperators

namespace Cert.KernelIdeal.Block

open Idealize.ShloMosaic Cert.KernelIdeal.Gen Blocks

/-- The state after the attention of a layer. -/
def mid {F : FTy → Type} [FloatOps F] (s : Vec F S1152x512 .f32) (x1 x2 x3 x4 : Vec F S1x512x512 .f32) : FVec F S1152x512 .f32 :=
  k1_pay33 s (k1_pay15 x4) (k1_pay18 s x3)
    (k1_pay21 (k1_pay18 s x3) (k1_pay19 s x1) (k1_pay20 s x2) (constant S1152x1152 .f32 0x00000000#32))
    (k1_pay22 (k1_pay16 s x1) (k1_pay17 s x2) (k1_pay18 s x3))
    (k1_pay23 (k1_pay16 s x1) (k1_pay17 s x2) (k1_pay18 s x3))
    (k1_pay27 (k1_pay25 (k1_pay16 s x1) (k1_pay17 s x2) (k1_pay18 s x3)) (k1_pay26 (k1_pay16 s x1) (k1_pay17 s x2)))
    (k1_pay28 (k1_pay16 s x1) (k1_pay17 s x2) (k1_pay18 s x3))
    (k1_pay29 (k1_pay16 s x1) (k1_pay17 s x2) (k1_pay18 s x3))
    (k1_pay30 (k1_pay16 s x1) (k1_pay17 s x2) (k1_pay18 s x3))
    (k1_pay31 (k1_pay16 s x1) (k1_pay17 s x2)) (k1_pay32 (k1_pay16 s x1) (k1_pay17 s x2))

/-- The activation of a layer. -/
def inner {F : FTy → Type} [FloatOps F] (s : Vec F S1152x512 .f32) (x1 x2 x3 x4 : Vec F S1x512x512 .f32) (x5 : Vec F S1x512x2048 .f32) : FVec F S1152x2048 .f32 :=
  k1_pay34 s (k1_pay15 x4) (k1_pay18 s x3)
    (k1_pay21 (k1_pay18 s x3) (k1_pay19 s x1) (k1_pay20 s x2) (constant S1152x1152 .f32 0x00000000#32))
    (k1_pay22 (k1_pay16 s x1) (k1_pay17 s x2) (k1_pay18 s x3))
    (k1_pay23 (k1_pay16 s x1) (k1_pay17 s x2) (k1_pay18 s x3))
    (k1_pay27 (k1_pay25 (k1_pay16 s x1) (k1_pay17 s x2) (k1_pay18 s x3)) (k1_pay26 (k1_pay16 s x1) (k1_pay17 s x2)))
    (k1_pay28 (k1_pay16 s x1) (k1_pay17 s x2) (k1_pay18 s x3))
    (k1_pay29 (k1_pay16 s x1) (k1_pay17 s x2) (k1_pay18 s x3))
    (k1_pay30 (k1_pay16 s x1) (k1_pay17 s x2) (k1_pay18 s x3))
    (k1_pay31 (k1_pay16 s x1) (k1_pay17 s x2)) (k1_pay32 (k1_pay16 s x1) (k1_pay17 s x2)) x5

/-- The state after a layer. -/
def layer {F : FTy → Type} [FloatOps F] (s : Vec F S1152x512 .f32) (x1 x2 x3 x4 : Vec F S1x512x512 .f32) (x5 : Vec F S1x512x2048 .f32)
    (x6 : Vec F S1x2048x512 .f32) : FVec F S1152x512 .f32 :=
  k1_pay1 (mid s x1 x2 x3 x4) (inner s x1 x2 x3 x4 x5) (k1_pay35 x6) (constant S1152x512 .f32 0x00000000#32)

section
variable {s : Vec Ideal S1152x512 .f32} {f : Fin 1152 → Fin 512 → ℝ} (hs : Is2 s f)
  {x1 x2 x3 x4 : Vec Ideal S1x512x512 .f32} {wq wk wv wo : Fin 512 → Fin 512 → ℝ}
  (h1 : Is3 x1 fun i j => wq i j / 8) (h2 : Is3 x2 wk) (h3 : Is3 x3 wv)
  (h4 : Is3 x4 wo)

include hs

theorem norm_is : Is2 (k1_pay14 s) (ln f) := kern_ln hs _ _ _ _ _

include h2 in
theorem keys_is : Is2 (k1_pay17 s x2) (lin (ln f) wk) := kern_lin (norm_is hs) h2 _ _

include h3 in
theorem values_is : Is2 (k1_pay18 s x3) (lin (ln f) wv) := kern_lin (norm_is hs) h3 _ _

include h1 in
theorem queries_is : Is2 (k1_pay16 s x1) (fun i j => lin (ln f) wq i j / 8) := by
  have h := kern_lin (norm_is hs) h1 dot_S1152x512_S512x512_S1152x512_1_0_0_1_n_n.wf shapeCasts_S1x512x512_S512x512
  intro i j
  refine (h i j).trans (congrArg (fun t : ℝ => (t : EReal)) ?_)
  show ∑ l, ln f i l * (wq l j / 8) = (∑ l, ln f i l * wq l j) / 8
  rw [Finset.sum_div]
  exact Finset.sum_congr rfl fun l _ => (mul_div_assoc _ _ _).symm

include h1 h2 h3 h4 in
theorem mid_is : Is2 (mid s x1 x2 x3 x4) (half1 wq wk wv wo f) := by
  have hq := queries_is hs h1
  have hk := keys_is hs h2
  have hv := values_is hs h3
  have e := fun (h : Fin 8) (o : Nat) (ho : o = h.val * 64) (sl : S1152x512.Slices ![0, o] S1152x64) =>
    kern_exps hq hk h ho dot_S1152x64_S1152x64_S1152x1152_1_1_0_0_n_n.wf sl sl
  have d := fun (h : Fin 8) (o : Nat) (ho : o = h.val * 64) (sl : S1152x512.Slices ![0, o] S1152x64) =>
    kern_weighted h ho (e h o ho sl) (kern_recip (by norm_num) (e h o ho sl) reduces_S1152x1152_S1152 (.inl rfl) rfl shapeCasts_S1152_S1152x1) hv
      dot_S1152x1152_S1152x64_S1152x64_1_0_0_1_n_n.wf sl broadcasts_S1152x1_S1152x64
  have hc := kern_heads (H := headAtt (lin (ln f) wq) (lin (ln f) wk) (lin (ln f) wv))
    (d 0 0 rfl slices_S1152x512_o0_0_S1152x64)
    (d 1 64 rfl slices_S1152x512_o0_64_S1152x64)
    (d 2 128 rfl slices_S1152x512_o0_128_S1152x64)
    (d 3 192 rfl slices_S1152x512_o0_192_S1152x64)
    (d 4 256 rfl slices_S1152x512_o0_256_S1152x64)
    (d 5 320 rfl slices_S1152x512_o0_320_S1152x64)
    (d 6 384 rfl slices_S1152x512_o0_384_S1152x64)
    (d 7 448 rfl slices_S1152x512_o0_448_S1152x64)
    concatenates_S1152x64_S1152x64_S1152x64_S1152x64_S1152x64_S1152x64_S1152x64_S1152x64_S1152x512_d1
  exact kern_add hs (kern_lin hc h4 _ _)

variable {x5 : Vec Ideal S1x512x2048 .f32} {w1 : Fin 512 → Fin 2048 → ℝ} (h5 : Is3 x5 w1)
  {x6 : Vec Ideal S1x2048x512 .f32} {w2 : Fin 2048 → Fin 512 → ℝ} (h6 : Is3 x6 w2)

include h1 h2 h3 h4 h5 in
theorem inner_is : Is2 (inner s x1 x2 x3 x4 x5) (act (lin (ln (half1 wq wk wv wo f)) w1)) :=
  kern_act (kern_lin (kern_ln (mid_is hs h1 h2 h3 h4) _ _ _ _ _) h5 _ _)

include h1 h2 h3 h4 h5 h6 in
/-- A layer is its two halves. -/
theorem layer_is : Is2 (layer s x1 x2 x3 x4 x5 x6) (half2 w1 w2 (half1 wq wk wv wo f)) :=
  kern_add (mid_is hs h1 h2 h3 h4) (kern_lin (inner_is hs h1 h2 h3 h4 h5) h6 _ _)

variable {x7 : Vec Ideal S2x512 .f32} {wh : Fin 512 → Fin 2 → ℝ} (h7 : Is2 x7 fun c j => wh j c)

include h7

/-- The column of the two logits. -/
theorem logits_is : Is2 (k1_pay4 s x7) (fun c _ => logit wh f c) :=
  kern_logits (kern_ln (kern_rows hs _ _ _ _) _ _ _ _ _) h7 _ _ _ _ _ _

theorem logit0_is : Is2 (k1_pay5 s x7) (fun _ _ => logit wh f 0) := kern_pick (logits_is hs h7) 0 (o := 0) rfl slices_S2x1_o0_0_S1x1
theorem logit1_is : Is2 (k1_pay6 s x7) (fun _ _ => logit wh f 1) := kern_pick (logits_is hs h7) 1 (o := 1) rfl slices_S2x1_o1_0_S1x1
theorem prob0_is : Is2 (k1_pay11 s x7) (fun _ _ => prob wh f 0) := (pair_prob (logit0_is hs h7) (logit1_is hs h7)).1
theorem prob1_is : Is2 (k1_pay12 s x7) (fun _ _ => prob wh f 1) := (pair_prob (logit0_is hs h7) (logit1_is hs h7)).2
/-- The larger logit's place. -/
theorem larger_is (i j : Fin 1) : k1_pay3 (k1_pay5 s x7) (k1_pay6 s x7) (ValueIdx.ix2 i j) = if logit wh f 0 < logit wh f 1 then 1#32 else 0#32 :=
  pair_larger (logit0_is hs h7) (logit1_is hs h7) natLt_1_32 i j
end

end Cert.KernelIdeal.Block
-- ==== Proof.BlockValue.lean ====
/- What each grid point of the blocks kernel leaves: in the carried state a layer applied to what it read, and at the last point
   the logits, the probabilities and the larger one's place in the outputs. -/
module

public import proofs.«01_k».proof.Proof.Layer
public import proofs.«01_k».proof.Proof.KernelIdealBlocksFrame
public import Idealize.ShloMosaic.Lib.Tactic

@[expose] public section

noncomputable section

namespace Cert.KernelIdeal.Block

open Idealize.ShloMosaic Idealize.ShloMosaic.TcCoe Idealize.ShloMosaic.Tactic
open Cert.KernelIdeal.Gen Cert.KernelIdeal.Blocks1

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

/-- The first entry of a row of two is not in the block of the second. -/
theorem first_not_second : (ValueIdx.ix2 0 0 : S1x2.Idx) ∉ (Rect.unit (s := S1x2) ![0, 1] S1x1.size inb_S1x2_S1x1_0_1).set := by
  intro h
  have h2 := ((Rect.mem_set_unit (s := S1x2) (off := ![0, 1]) (size := S1x1.size) (inb := inb_S1x2_S1x1_0_1)).1 h) 1
  have h3 : 1 ≤ 0 := h2.1
  omega

/-- The first point leaves a layer of the initial state. -/
theorem state_A (c : Dev nD) (i : grid1.Coords) (a1 : Memref sig .tc .vmem S1152x512 .f32) (h1 : a1.IsWhole) (a2 : Memref sig .tc .vmem S1x512x512 .f32) (h2 : a2.IsWhole) (a3 : Memref sig .tc .vmem S1x512x512 .f32) (h3 : a3.IsWhole) (a4 : Memref sig .tc .vmem S1x512x512 .f32) (h4 : a4.IsWhole) (a5 : Memref sig .tc .vmem S1x512x512 .f32) (h5 : a5.IsWhole) (a6 : Memref sig .tc .vmem S1x512x2048 .f32) (h6 : a6.IsWhole) (a7 : Memref sig .tc .vmem S1x2048x512 .f32) (h7 : a7.IsWhole) (a8 : Memref sig .tc .vmem S2x512 .f32) (h8 : a8.IsWhole) (a9 : Memref sig .tc .vmem S1x2 .f32) (h9 : a9.IsWhole) (a10 : Memref sig .tc .vmem S1x2 .f32) (h10 : a10.IsWhole) (a11 : Memref sig .tc .vmem S1x1 .i32) (h11 : a11.IsWhole) (a12 : Memref sig .tc .vmem S1152x512 .f32) (h12 : a12.IsWhole)
    (hc0 : cond0_0 i) (hc1 : ¬cond0_1 i) (x0 : Vec F S1152x512 .f32) (x1 x2 x3 x4 : Vec F S1x512x512 .f32) (x5 : Vec F S1x512x2048 .f32) (x6 : Vec F S1x2048x512 .f32) (x7 : Vec F S2x512 .f32) :
    sout0_A_0 c i a1 h1 a2 h2 a3 h3 a4 h4 a5 h5 a6 h6 a7 h7 a8 h8 a9 h9 a10 h10 a11 h11 a12 h12 hc0 hc1 x0 x1 x2 x3 x4 x5 x6 x7 = layer x0 x1 x2 x3 x4 x5 x6 := by
  unfold sout0_A_0
  rw [View.read_writes_eq_canon _ _ _ (scover0_A_0 c i a1 h1 a2 h2 a3 h3 a4 h4 a5 h5 a6 h6 a7 h7 a8 h8 a9 h9 a10 h10 a11 h11 a12 h12 hc0 hc1 x0 x1 x2 x3 x4 x5 x6 x7)]
  unfold kernelRun0_A
  dsimp only
  sl_unfold_words
  rw [View.canon_cons_unit_zero (S := S1152x512) zero2, View.readCov_unit_zero (S := S1152x512) _ zero2]
  simp only [View.readAt_eq_ld, h1.read_unread, h2.read_unread, h3.read_unread, h4.read_unread, h5.read_unread, h6.read_unread, h7.read_unread,
    h8.read_unread, h12.read_unread, View.ld_unit_zero (S := S1152x512) zero2, View.ld_unit_zero (S := S1x512x512) zero3,
    View.ld_unit_zero (S := S1x512x2048) zero3, View.ld_unit_zero (S := S1x2048x512) zero3, View.ld_unit_zero (S := S2x512) zero2]
  have e : k1_pay13 x0 = x0 := (shapeCast_self _ _).trans (shapeCast_self _ _)
  rw [e]
  exact shapeCast_self _ _

/-- A later point leaves a layer of the state the point before left. -/
theorem state_B (c : Dev nD) (i : grid1.Coords) (a1 : Memref sig .tc .vmem S1152x512 .f32) (h1 : a1.IsWhole) (a2 : Memref sig .tc .vmem S1x512x512 .f32) (h2 : a2.IsWhole) (a3 : Memref sig .tc .vmem S1x512x512 .f32) (h3 : a3.IsWhole) (a4 : Memref sig .tc .vmem S1x512x512 .f32) (h4 : a4.IsWhole) (a5 : Memref sig .tc .vmem S1x512x512 .f32) (h5 : a5.IsWhole) (a6 : Memref sig .tc .vmem S1x512x2048 .f32) (h6 : a6.IsWhole) (a7 : Memref sig .tc .vmem S1x2048x512 .f32) (h7 : a7.IsWhole) (a8 : Memref sig .tc .vmem S2x512 .f32) (h8 : a8.IsWhole) (a9 : Memref sig .tc .vmem S1x2 .f32) (h9 : a9.IsWhole) (a10 : Memref sig .tc .vmem S1x2 .f32) (h10 : a10.IsWhole) (a11 : Memref sig .tc .vmem S1x1 .i32) (h11 : a11.IsWhole) (a12 : Memref sig .tc .vmem S1152x512 .f32) (h12 : a12.IsWhole)
    (hc0 : ¬cond0_0 i) (hc1 : ¬cond0_1 i) (x0 : Vec F S1152x512 .f32) (x1 x2 x3 x4 : Vec F S1x512x512 .f32) (x5 : Vec F S1x512x2048 .f32) (x6 : Vec F S1x2048x512 .f32) (x7 : Vec F S2x512 .f32) (s : Vec F S1152x512 .f32) :
    sout0_B_0 c i a1 h1 a2 h2 a3 h3 a4 h4 a5 h5 a6 h6 a7 h7 a8 h8 a9 h9 a10 h10 a11 h11 a12 h12 hc0 hc1 x0 x1 x2 x3 x4 x5 x6 x7 s = layer s x1 x2 x3 x4 x5 x6 := by
  unfold sout0_B_0
  rw [View.read_writes_eq_canon _ _ _ (scover0_B_0 c i a1 h1 a2 h2 a3 h3 a4 h4 a5 h5 a6 h6 a7 h7 a8 h8 a9 h9 a10 h10 a11 h11 a12 h12 hc0 hc1 x0 x1 x2 x3 x4 x5 x6 x7 s)]
  unfold kernelRun0_B
  dsimp only
  sl_unfold_words
  rw [View.canon_unit_zero (S := S1152x512) zero2]
  simp only [View.readAt_eq_ld, h1.read_unread, h2.read_unread, h3.read_unread, h4.read_unread, h5.read_unread, h6.read_unread, h7.read_unread,
    h8.read_unread, h12.read_unread, View.ld_unit_zero (S := S1152x512) zero2, View.ld_unit_zero (S := S1x512x512) zero3,
    View.ld_unit_zero (S := S1x512x2048) zero3, View.ld_unit_zero (S := S1x2048x512) zero3, View.ld_unit_zero (S := S2x512) zero2]
  exact shapeCast_self _ _

/-- The last point's logits: one entry each of two blocks of one. -/
theorem logits_C (c : Dev nD) (i : grid1.Coords) (a1 : Memref sig .tc .vmem S1152x512 .f32) (h1 : a1.IsWhole) (a2 : Memref sig .tc .vmem S1x512x512 .f32) (h2 : a2.IsWhole) (a3 : Memref sig .tc .vmem S1x512x512 .f32) (h3 : a3.IsWhole) (a4 : Memref sig .tc .vmem S1x512x512 .f32) (h4 : a4.IsWhole) (a5 : Memref sig .tc .vmem S1x512x512 .f32) (h5 : a5.IsWhole) (a6 : Memref sig .tc .vmem S1x512x2048 .f32) (h6 : a6.IsWhole) (a7 : Memref sig .tc .vmem S1x2048x512 .f32) (h7 : a7.IsWhole) (a8 : Memref sig .tc .vmem S2x512 .f32) (h8 : a8.IsWhole) (a9 : Memref sig .tc .vmem S1x2 .f32) (h9 : a9.IsWhole) (a10 : Memref sig .tc .vmem S1x2 .f32) (h10 : a10.IsWhole) (a11 : Memref sig .tc .vmem S1x1 .i32) (h11 : a11.IsWhole) (a12 : Memref sig .tc .vmem S1152x512 .f32) (h12 : a12.IsWhole)
    (hc0 : ¬cond0_0 i) (hc1 : cond0_1 i) (x0 : Vec F S1152x512 .f32) (x1 x2 x3 x4 : Vec F S1x512x512 .f32) (x5 : Vec F S1x512x2048 .f32) (x6 : Vec F S1x2048x512 .f32) (x7 : Vec F S2x512 .f32) (s : Vec F S1152x512 .f32) :
    out0_C_8 c i a1 h1 a2 h2 a3 h3 a4 h4 a5 h5 a6 h6 a7 h7 a8 h8 a9 h9 a10 h10 a11 h11 a12 h12 hc0 hc1 x0 x1 x2 x3 x4 x5 x6 x7 s (ValueIdx.ix2 0 0) = k1_pay5 (layer s x1 x2 x3 x4 x5 x6) x7 (ValueIdx.ix2 0 0)
    ∧ out0_C_8 c i a1 h1 a2 h2 a3 h3 a4 h4 a5 h5 a6 h6 a7 h7 a8 h8 a9 h9 a10 h10 a11 h11 a12 h12 hc0 hc1 x0 x1 x2 x3 x4 x5 x6 x7 s (ValueIdx.ix2 0 1) = k1_pay6 (layer s x1 x2 x3 x4 x5 x6) x7 (ValueIdx.ix2 0 0) := by
  unfold out0_C_8
  rw [View.read_writes_eq_canon _ _ _ (cover0_C_8 c i a1 h1 a2 h2 a3 h3 a4 h4 a5 h5 a6 h6 a7 h7 a8 h8 a9 h9 a10 h10 a11 h11 a12 h12 hc0 hc1 x0 x1 x2 x3 x4 x5 x6 x7 s)]
  unfold kernelRun0_C
  dsimp only
  sl_unfold_words
  simp only [View.readAt_eq_ld, h1.read_unread, h2.read_unread, h3.read_unread, h4.read_unread, h5.read_unread, h6.read_unread, h7.read_unread,
    h8.read_unread, h12.read_unread, View.ld_unit_zero (S := S1152x512) zero2, View.ld_unit_zero (S := S1x512x512) zero3,
    View.ld_unit_zero (S := S1x512x2048) zero3, View.ld_unit_zero (S := S1x2048x512) zero3, View.ld_unit_zero (S := S2x512) zero2]
  have e0 : (ValueIdx.ix2 0 0 : S1x2.Idx) = (Rect.unit (s := S1x2) ![0, 0] S1x1.size inb_S1x2_S1x1_0_0).emb (ValueIdx.ix2 0 0) := by
    funext a; apply Fin.ext; match a with | ⟨0, _⟩ => rfl | ⟨1, _⟩ => rfl
  have e1 : (ValueIdx.ix2 0 1 : S1x2.Idx) = (Rect.unit (s := S1x2) ![0, 1] S1x1.size inb_S1x2_S1x1_0_1).emb (ValueIdx.ix2 0 0) := by
    funext a; apply Fin.ext; match a with | ⟨0, _⟩ => rfl | ⟨1, _⟩ => rfl
  constructor
  · rw [View.canon_cons_of_not_mem]
    · rw [e0]; exact View.canon_cons_emb _ _ _ _
    · exact first_not_second
  · rw [e1]; exact View.canon_cons_emb _ _ _ _

/-- The last point's probs: one entry each of two blocks of one. -/
theorem probs_C (c : Dev nD) (i : grid1.Coords) (a1 : Memref sig .tc .vmem S1152x512 .f32) (h1 : a1.IsWhole) (a2 : Memref sig .tc .vmem S1x512x512 .f32) (h2 : a2.IsWhole) (a3 : Memref sig .tc .vmem S1x512x512 .f32) (h3 : a3.IsWhole) (a4 : Memref sig .tc .vmem S1x512x512 .f32) (h4 : a4.IsWhole) (a5 : Memref sig .tc .vmem S1x512x512 .f32) (h5 : a5.IsWhole) (a6 : Memref sig .tc .vmem S1x512x2048 .f32) (h6 : a6.IsWhole) (a7 : Memref sig .tc .vmem S1x2048x512 .f32) (h7 : a7.IsWhole) (a8 : Memref sig .tc .vmem S2x512 .f32) (h8 : a8.IsWhole) (a9 : Memref sig .tc .vmem S1x2 .f32) (h9 : a9.IsWhole) (a10 : Memref sig .tc .vmem S1x2 .f32) (h10 : a10.IsWhole) (a11 : Memref sig .tc .vmem S1x1 .i32) (h11 : a11.IsWhole) (a12 : Memref sig .tc .vmem S1152x512 .f32) (h12 : a12.IsWhole)
    (hc0 : ¬cond0_0 i) (hc1 : cond0_1 i) (x0 : Vec F S1152x512 .f32) (x1 x2 x3 x4 : Vec F S1x512x512 .f32) (x5 : Vec F S1x512x2048 .f32) (x6 : Vec F S1x2048x512 .f32) (x7 : Vec F S2x512 .f32) (s : Vec F S1152x512 .f32) :
    out0_C_9 c i a1 h1 a2 h2 a3 h3 a4 h4 a5 h5 a6 h6 a7 h7 a8 h8 a9 h9 a10 h10 a11 h11 a12 h12 hc0 hc1 x0 x1 x2 x3 x4 x5 x6 x7 s (ValueIdx.ix2 0 0) = k1_pay11 (layer s x1 x2 x3 x4 x5 x6) x7 (ValueIdx.ix2 0 0)
    ∧ out0_C_9 c i a1 h1 a2 h2 a3 h3 a4 h4 a5 h5 a6 h6 a7 h7 a8 h8 a9 h9 a10 h10 a11 h11 a12 h12 hc0 hc1 x0 x1 x2 x3 x4 x5 x6 x7 s (ValueIdx.ix2 0 1) = k1_pay12 (layer s x1 x2 x3 x4 x5 x6) x7 (ValueIdx.ix2 0 0) := by
  unfold out0_C_9
  rw [View.read_writes_eq_canon _ _ _ (cover0_C_9 c i a1 h1 a2 h2 a3 h3 a4 h4 a5 h5 a6 h6 a7 h7 a8 h8 a9 h9 a10 h10 a11 h11 a12 h12 hc0 hc1 x0 x1 x2 x3 x4 x5 x6 x7 s)]
  unfold kernelRun0_C
  dsimp only
  sl_unfold_words
  simp only [View.readAt_eq_ld, h1.read_unread, h2.read_unread, h3.read_unread, h4.read_unread, h5.read_unread, h6.read_unread, h7.read_unread,
    h8.read_unread, h12.read_unread, View.ld_unit_zero (S := S1152x512) zero2, View.ld_unit_zero (S := S1x512x512) zero3,
    View.ld_unit_zero (S := S1x512x2048) zero3, View.ld_unit_zero (S := S1x2048x512) zero3, View.ld_unit_zero (S := S2x512) zero2]
  have e0 : (ValueIdx.ix2 0 0 : S1x2.Idx) = (Rect.unit (s := S1x2) ![0, 0] S1x1.size inb_S1x2_S1x1_0_0).emb (ValueIdx.ix2 0 0) := by
    funext a; apply Fin.ext; match a with | ⟨0, _⟩ => rfl | ⟨1, _⟩ => rfl
  have e1 : (ValueIdx.ix2 0 1 : S1x2.Idx) = (Rect.unit (s := S1x2) ![0, 1] S1x1.size inb_S1x2_S1x1_0_1).emb (ValueIdx.ix2 0 0) := by
    funext a; apply Fin.ext; match a with | ⟨0, _⟩ => rfl | ⟨1, _⟩ => rfl
  constructor
  · rw [View.canon_cons_of_not_mem]
    · rw [e0]; exact View.canon_cons_emb _ _ _ _
    · exact first_not_second
  · rw [e1]; exact View.canon_cons_emb _ _ _ _

/-- The last point's place of the larger logit. -/
theorem place_C (c : Dev nD) (i : grid1.Coords) (a1 : Memref sig .tc .vmem S1152x512 .f32) (h1 : a1.IsWhole) (a2 : Memref sig .tc .vmem S1x512x512 .f32) (h2 : a2.IsWhole) (a3 : Memref sig .tc .vmem S1x512x512 .f32) (h3 : a3.IsWhole) (a4 : Memref sig .tc .vmem S1x512x512 .f32) (h4 : a4.IsWhole) (a5 : Memref sig .tc .vmem S1x512x512 .f32) (h5 : a5.IsWhole) (a6 : Memref sig .tc .vmem S1x512x2048 .f32) (h6 : a6.IsWhole) (a7 : Memref sig .tc .vmem S1x2048x512 .f32) (h7 : a7.IsWhole) (a8 : Memref sig .tc .vmem S2x512 .f32) (h8 : a8.IsWhole) (a9 : Memref sig .tc .vmem S1x2 .f32) (h9 : a9.IsWhole) (a10 : Memref sig .tc .vmem S1x2 .f32) (h10 : a10.IsWhole) (a11 : Memref sig .tc .vmem S1x1 .i32) (h11 : a11.IsWhole) (a12 : Memref sig .tc .vmem S1152x512 .f32) (h12 : a12.IsWhole)
    (hc0 : ¬cond0_0 i) (hc1 : cond0_1 i) (x0 : Vec F S1152x512 .f32) (x1 x2 x3 x4 : Vec F S1x512x512 .f32) (x5 : Vec F S1x512x2048 .f32) (x6 : Vec F S1x2048x512 .f32) (x7 : Vec F S2x512 .f32) (s : Vec F S1152x512 .f32) :
    out0_C_10 c i a1 h1 a2 h2 a3 h3 a4 h4 a5 h5 a6 h6 a7 h7 a8 h8 a9 h9 a10 h10 a11 h11 a12 h12 hc0 hc1 x0 x1 x2 x3 x4 x5 x6 x7 s
      = k1_pay3 (k1_pay5 (layer s x1 x2 x3 x4 x5 x6) x7) (k1_pay6 (layer s x1 x2 x3 x4 x5 x6) x7) := by
  unfold out0_C_10
  rw [View.read_writes_eq_canon _ _ _ (cover0_C_10 c i a1 h1 a2 h2 a3 h3 a4 h4 a5 h5 a6 h6 a7 h7 a8 h8 a9 h9 a10 h10 a11 h11 a12 h12 hc0 hc1 x0 x1 x2 x3 x4 x5 x6 x7 s)]
  unfold kernelRun0_C
  dsimp only
  sl_unfold_words
  rw [View.canon_unit_zero (S := S1x1) zero2]
  simp only [View.readAt_eq_ld, h1.read_unread, h2.read_unread, h3.read_unread, h4.read_unread, h5.read_unread, h6.read_unread, h7.read_unread,
    h8.read_unread, h12.read_unread, View.ld_unit_zero (S := S1152x512) zero2, View.ld_unit_zero (S := S1x512x512) zero3,
    View.ld_unit_zero (S := S1x512x2048) zero3, View.ld_unit_zero (S := S1x2048x512) zero3, View.ld_unit_zero (S := S2x512) zero2]
  rfl

end Cert.KernelIdeal.Block
-- ==== Proof.KernelValue.lean ====
/- What the blocks call stages at each point and leaves in its output arrays, over whatever it finds in the buffers: the head
   of three blocks, each taking its own slice of every weight stack. -/
module

public import proofs.«01_k».proof.Proof.BlockValue
public import Idealize.ShloMosaic.Lib.Pipeline.Value

@[expose] public section

noncomputable section

namespace Cert.KernelIdeal.Block

open Idealize.ShloMosaic hiding ix0 ix1 ix2 ix3 ix4 ix5
open Idealize.ShloMosaic.ValueIdx
open Idealize.ShloMosaic.TcCoe
open Cert.KernelIdeal Cert.KernelIdeal.Gen Cert.KernelIdeal.Blocks1
open Blocks

section
variable {F : FTy → Type} [FloatOps F] (V : (c : Dev nD) → (b : Ref sig .tc) → Buf (Elt F) ((c : Thread nD τ).loc b)) (c : Dev nD)

/-- The layer a grid point runs. -/
def lay (t : Fin cfg1.N) : Fin 3 := ⟨t.val, lt_of_lt_of_eq t.isLt N_1⟩

/-- The initial state is staged whole. -/
theorem blk0 (t : Fin cfg1.N) : iblk V c 0 t = V c main_v7 := by
  have hi : win1_0.index t 0 = 0 ∧ win1_0.index t 1 = 0 := by rcases fin_N1 t with rfl | rfl | rfl <;> decide
  funext j
  unfold iblk
  rw [View.read_apply]
  show V c main_v7 _ = _
  congr 1; funext a; apply Fin.ext
  match a with
  | ⟨0, _⟩ => show win1_0.index t 0 * 1152 + 1 * (j 0).val = (j 0).val; rw [hi.1]; omega
  | ⟨1, _⟩ => show win1_0.index t 1 * 512 + 1 * (j 1).val = (j 1).val; rw [hi.2]; omega

/-- Window 1 stages a point's own slice of its stack. -/
theorem blk1 (t : Fin cfg1.N) (i : Fin 512) (j : Fin 512) : iblk V c 1 t (ix3 0 i j) = V c main_v9 (ix3 (lay t) i j) := by
  have hi : win1_1.index t 0 = t.val ∧ win1_1.index t 1 = 0 ∧ win1_1.index t 2 = 0 := by
    rcases fin_N1 t with rfl | rfl | rfl <;> decide
  unfold iblk
  rw [View.read_apply]
  show V c main_v9 _ = _
  congr 1; funext a; apply Fin.ext
  match a with
  | ⟨0, _⟩ => show win1_1.index t 0 * 1 + 1 * 0 = t.val; rw [hi.1]; omega
  | ⟨1, _⟩ => show win1_1.index t 1 * 512 + 1 * i.val = i.val; rw [hi.2.1]; omega
  | ⟨2, _⟩ => show win1_1.index t 2 * 512 + 1 * j.val = j.val; rw [hi.2.2]; omega

/-- Window 2 stages a point's own slice of its stack. -/
theorem blk2 (t : Fin cfg1.N) (i : Fin 512) (j : Fin 512) : iblk V c 2 t (ix3 0 i j) = V c main_arg24 (ix3 (lay t) i j) := by
  have hi : win1_2.index t 0 = t.val ∧ win1_2.index t 1 = 0 ∧ win1_2.index t 2 = 0 := by
    rcases fin_N1 t with rfl | rfl | rfl <;> decide
  unfold iblk
  rw [View.read_apply]
  show V c main_arg24 _ = _
  congr 1; funext a; apply Fin.ext
  match a with
  | ⟨0, _⟩ => show win1_2.index t 0 * 1 + 1 * 0 = t.val; rw [hi.1]; omega
  | ⟨1, _⟩ => show win1_2.index t 1 * 512 + 1 * i.val = i.val; rw [hi.2.1]; omega
  | ⟨2, _⟩ => show win1_2.index t 2 * 512 + 1 * j.val = j.val; rw [hi.2.2]; omega

/-- Window 3 stages a point's own slice of its stack. -/
theorem blk3 (t : Fin cfg1.N) (i : Fin 512) (j : Fin 512) : iblk V c 3 t (ix3 0 i j) = V c main_arg26 (ix3 (lay t) i j) := by
  have hi : win1_3.index t 0 = t.val ∧ win1_3.index t 1 = 0 ∧ win1_3.index t 2 = 0 := by
    rcases fin_N1 t with rfl | rfl | rfl <;> decide
  unfold iblk
  rw [View.read_apply]
  show V c main_arg26 _ = _
  congr 1; funext a; apply Fin.ext
  match a with
  | ⟨0, _⟩ => show win1_3.index t 0 * 1 + 1 * 0 = t.val; rw [hi.1]; omega
  | ⟨1, _⟩ => show win1_3.index t 1 * 512 + 1 * i.val = i.val; rw [hi.2.1]; omega
  | ⟨2, _⟩ => show win1_3.index t 2 * 512 + 1 * j.val = j.val; rw [hi.2.2]; omega

/-- Window 4 stages a point's own slice of its stack. -/
theorem blk4 (t : Fin cfg1.N) (i : Fin 512) (j : Fin 512) : iblk V c 4 t (ix3 0 i j) = V c main_arg28 (ix3 (lay t) i j) := by
  have hi : win1_4.index t 0 = t.val ∧ win1_4.index t 1 = 0 ∧ win1_4.index t 2 = 0 := by
    rcases fin_N1 t with rfl | rfl | rfl <;> decide
  unfold iblk
  rw [View.read_apply]
  show V c main_arg28 _ = _
  congr 1; funext a; apply Fin.ext
  match a with
  | ⟨0, _⟩ => show win1_4.index t 0 * 1 + 1 * 0 = t.val; rw [hi.1]; omega
  | ⟨1, _⟩ => show win1_4.index t 1 * 512 + 1 * i.val = i.val; rw [hi.2.1]; omega
  | ⟨2, _⟩ => show win1_4.index t 2 * 512 + 1 * j.val = j.val; rw [hi.2.2]; omega

/-- Window 5 stages a point's own slice of its stack. -/
theorem blk5 (t : Fin cfg1.N) (i : Fin 512) (j : Fin 2048) : iblk V c 5 t (ix3 0 i j) = V c main_arg32 (ix3 (lay t) i j) := by
  have hi : win1_5.index t 0 = t.val ∧ win1_5.index t 1 = 0 ∧ win1_5.index t 2 = 0 := by
    rcases fin_N1 t with rfl | rfl | rfl <;> decide
  unfold iblk
  rw [View.read_apply]
  show V c main_arg32 _ = _
  congr 1; funext a; apply Fin.ext
  match a with
  | ⟨0, _⟩ => show win1_5.index t 0 * 1 + 1 * 0 = t.val; rw [hi.1]; omega
  | ⟨1, _⟩ => show win1_5.index t 1 * 512 + 1 * i.val = i.val; rw [hi.2.1]; omega
  | ⟨2, _⟩ => show win1_5.index t 2 * 2048 + 1 * j.val = j.val; rw [hi.2.2]; omega

/-- Window 6 stages a point's own slice of its stack. -/
theorem blk6 (t : Fin cfg1.N) (i : Fin 2048) (j : Fin 512) : iblk V c 6 t (ix3 0 i j) = V c main_arg34 (ix3 (lay t) i j) := by
  have hi : win1_6.index t 0 = t.val ∧ win1_6.index t 1 = 0 ∧ win1_6.index t 2 = 0 := by
    rcases fin_N1 t with rfl | rfl | rfl <;> decide
  unfold iblk
  rw [View.read_apply]
  show V c main_arg34 _ = _
  congr 1; funext a; apply Fin.ext
  match a with
  | ⟨0, _⟩ => show win1_6.index t 0 * 1 + 1 * 0 = t.val; rw [hi.1]; omega
  | ⟨1, _⟩ => show win1_6.index t 1 * 2048 + 1 * i.val = i.val; rw [hi.2.1]; omega
  | ⟨2, _⟩ => show win1_6.index t 2 * 512 + 1 * j.val = j.val; rw [hi.2.2]; omega

/-- The head's matrix is staged whole. -/
theorem blk7 (t : Fin cfg1.N) (i : Fin 2) (j : Fin 512) : iblk V c 7 t (ix2 i j) = V c main_v10 (ix2 i j) := by
  have hi : win1_7.index t 0 = 0 ∧ win1_7.index t 1 = 0 := by rcases fin_N1 t with rfl | rfl | rfl <;> decide
  unfold iblk
  rw [View.read_apply]
  show V c main_v10 _ = _
  congr 1; funext a; apply Fin.ext
  match a with
  | ⟨0, _⟩ => show win1_7.index t 0 * 2 + 1 * i.val = i.val; rw [hi.1]; omega
  | ⟨1, _⟩ => show win1_7.index t 1 * 512 + 1 * j.val = j.val; rw [hi.2]; omega

/-- Output 8 is written back once, at the last point, and its block is its array. -/
theorem final8 : (dat V c).arrAt 8 cfg1.N = (outsAt0 V c t1_2.val t1_2.isLt).1 := by
  have hi : win1_8.index t1_2 0 = 0 ∧ win1_8.index t1_2 1 = 0 := by decide
  refine (dat V c).arrAt_eq_of_cover 8 _ (fun t hf => ?_) (fun i => ⟨t1_2, (flush1_8 t1_2).mpr (by decide), ?_⟩)
  · have ht : t = t1_2 := by
      have hm := (flush1_8 t).mp hf
      rcases fin_N1 t with rfl | rfl | rfl
      · exact absurd hm (by decide)
      · exact absurd hm (by decide)
      · rfl
    subst ht
    show (cfg1.win 8).cut (grid1.coords t1_2) ((dat V c).after 8 t1_2) = _
    rw [after0_8]
    funext y
    show (outsAt0 V c t1_2.val t1_2.isLt).1 ((cfg1.win 8).xinj (grid1.coords t1_2) y)
      = (outsAt0 V c t1_2.val t1_2.isLt).1 (((cfg1.win 8).blk t1_2).view.emb y)
    refine congrArg (outsAt0 V c t1_2.val t1_2.isLt).1 (funext fun a => Fin.ext ?_)
    match a with
    | ⟨0, _⟩ => show (y 0).val = win1_8.index t1_2 0 * 1 + 1 * (y 0).val; rw [hi.1]; omega
    | ⟨1, _⟩ => show (y 1).val = win1_8.index t1_2 1 * 2 + 1 * (y 1).val; rw [hi.2]; omega
  · show i ∈ ((View.whole main_v11_0).slice (win1_8.rect t1_2)).set
    rw [View.set_slice_whole, Rect.mem_set_unit]
    have h0 : (i 0).val < 1 := (i 0).isLt
    have h1 : (i 1).val < 2 := (i 1).isLt
    intro a
    match a with
    | ⟨0, _⟩ => show win1_8.index t1_2 0 * 1 ≤ (i 0).val ∧ (i 0).val < win1_8.index t1_2 0 * 1 + 1; rw [hi.1]; omega
    | ⟨1, _⟩ => show win1_8.index t1_2 1 * 2 ≤ (i 1).val ∧ (i 1).val < win1_8.index t1_2 1 * 2 + 2; rw [hi.2]; omega

/-- Output 9 is written back once, at the last point, and its block is its array. -/
theorem final9 : (dat V c).arrAt 9 cfg1.N = (outsAt0 V c t1_2.val t1_2.isLt).2.1 := by
  have hi : win1_9.index t1_2 0 = 0 ∧ win1_9.index t1_2 1 = 0 := by decide
  refine (dat V c).arrAt_eq_of_cover 9 _ (fun t hf => ?_) (fun i => ⟨t1_2, (flush1_9 t1_2).mpr (by decide), ?_⟩)
  · have ht : t = t1_2 := by
      have hm := (flush1_9 t).mp hf
      rcases fin_N1 t with rfl | rfl | rfl
      · exact absurd hm (by decide)
      · exact absurd hm (by decide)
      · rfl
    subst ht
    show (cfg1.win 9).cut (grid1.coords t1_2) ((dat V c).after 9 t1_2) = _
    rw [after0_9]
    funext y
    show (outsAt0 V c t1_2.val t1_2.isLt).2.1 ((cfg1.win 9).xinj (grid1.coords t1_2) y)
      = (outsAt0 V c t1_2.val t1_2.isLt).2.1 (((cfg1.win 9).blk t1_2).view.emb y)
    refine congrArg (outsAt0 V c t1_2.val t1_2.isLt).2.1 (funext fun a => Fin.ext ?_)
    match a with
    | ⟨0, _⟩ => show (y 0).val = win1_9.index t1_2 0 * 1 + 1 * (y 0).val; rw [hi.1]; omega
    | ⟨1, _⟩ => show (y 1).val = win1_9.index t1_2 1 * 2 + 1 * (y 1).val; rw [hi.2]; omega
  · show i ∈ ((View.whole main_v11_1).slice (win1_9.rect t1_2)).set
    rw [View.set_slice_whole, Rect.mem_set_unit]
    have h0 : (i 0).val < 1 := (i 0).isLt
    have h1 : (i 1).val < 2 := (i 1).isLt
    intro a
    match a with
    | ⟨0, _⟩ => show win1_9.index t1_2 0 * 1 ≤ (i 0).val ∧ (i 0).val < win1_9.index t1_2 0 * 1 + 1; rw [hi.1]; omega
    | ⟨1, _⟩ => show win1_9.index t1_2 1 * 2 ≤ (i 1).val ∧ (i 1).val < win1_9.index t1_2 1 * 2 + 2; rw [hi.2]; omega

/-- Output 10 is written back once, at the last point, and its block is its array. -/
theorem final10 : (dat V c).arrAt 10 cfg1.N = (outsAt0 V c t1_2.val t1_2.isLt).2.2.1 := by
  have hi : win1_10.index t1_2 0 = 0 ∧ win1_10.index t1_2 1 = 0 := by decide
  refine (dat V c).arrAt_eq_of_cover 10 _ (fun t hf => ?_) (fun i => ⟨t1_2, (flush1_10 t1_2).mpr (by decide), ?_⟩)
  · have ht : t = t1_2 := by
      have hm := (flush1_10 t).mp hf
      rcases fin_N1 t with rfl | rfl | rfl
      · exact absurd hm (by decide)
      · exact absurd hm (by decide)
      · rfl
    subst ht
    show (cfg1.win 10).cut (grid1.coords t1_2) ((dat V c).after 10 t1_2) = _
    rw [after0_10]
    funext y
    show (outsAt0 V c t1_2.val t1_2.isLt).2.2.1 ((cfg1.win 10).xinj (grid1.coords t1_2) y)
      = (outsAt0 V c t1_2.val t1_2.isLt).2.2.1 (((cfg1.win 10).blk t1_2).view.emb y)
    refine congrArg (outsAt0 V c t1_2.val t1_2.isLt).2.2.1 (funext fun a => Fin.ext ?_)
    match a with
    | ⟨0, _⟩ => show (y 0).val = win1_10.index t1_2 0 * 1 + 1 * (y 0).val; rw [hi.1]; omega
    | ⟨1, _⟩ => show (y 1).val = win1_10.index t1_2 1 * 1 + 1 * (y 1).val; rw [hi.2]; omega
  · show i ∈ ((View.whole main_v11_2).slice (win1_10.rect t1_2)).set
    rw [View.set_slice_whole, Rect.mem_set_unit]
    have h0 : (i 0).val < 1 := (i 0).isLt
    have h1 : (i 1).val < 1 := (i 1).isLt
    intro a
    match a with
    | ⟨0, _⟩ => show win1_10.index t1_2 0 * 1 ≤ (i 0).val ∧ (i 0).val < win1_10.index t1_2 0 * 1 + 1; rw [hi.1]; omega
    | ⟨1, _⟩ => show win1_10.index t1_2 1 * 1 ≤ (i 1).val ∧ (i 1).val < win1_10.index t1_2 1 * 1 + 1; rw [hi.2]; omega

end

/-- A slice of a stack is read at its one first index. -/
theorem one_slice {m n : Nat} {a : FVec Ideal ⟨3, ![1, m, n]⟩ .f32} {f : Fin m → Fin n → ℝ}
    (h : ∀ i j, a (ix3 0 i j) = ((f i j : ℝ) : EReal)) : Is3 a f := fun z i j => by
  obtain rfl : z = 0 := Subsingleton.elim _ _
  exact h i j

variable {V : (c : Dev nD) → (b : Ref sig .tc) → Buf (Elt Ideal) ((c : Thread nD τ).loc b)} {c : Dev nD}
variable {f : Fin 1152 → Fin 512 → ℝ} {wq wk wv wo : Fin 3 → Fin 512 → Fin 512 → ℝ} {w1 : Fin 3 → Fin 512 → Fin 2048 → ℝ}
  {w2 : Fin 3 → Fin 2048 → Fin 512 → ℝ} {wh : Fin 512 → Fin 2 → ℝ}
variable (h0 : Is2 (V c main_v7 : FVec Ideal ⟨2, ![1152, 512]⟩ .f32) f)
  (hq : IsStack (V c main_v9 : FVec Ideal ⟨3, ![3, 512, 512]⟩ .f32) (fun l i j => wq l i j / 8))
  (hk : IsStack (V c main_arg24 : FVec Ideal ⟨3, ![3, 512, 512]⟩ .f32) wk)
  (hv : IsStack (V c main_arg26 : FVec Ideal ⟨3, ![3, 512, 512]⟩ .f32) wv)
  (ho : IsStack (V c main_arg28 : FVec Ideal ⟨3, ![3, 512, 512]⟩ .f32) wo)
  (h1 : IsStack (V c main_arg32 : FVec Ideal ⟨3, ![3, 512, 2048]⟩ .f32) w1)
  (h2 : IsStack (V c main_arg34 : FVec Ideal ⟨3, ![3, 2048, 512]⟩ .f32) w2)
  (hh : Is2 (V c main_v10 : FVec Ideal ⟨2, ![2, 512]⟩ .f32) (fun i j => wh j i))

include hq hk hv ho h1 h2

/-- A point applies its block to the state it reads. -/
theorem point_is (t : Fin cfg1.N) {s : FVec Ideal S1152x512 .f32} {g : Fin 1152 → Fin 512 → ℝ} (hs : Is2 s g) :
    Is2 (layer s (iblk V c 1 t) (iblk V c 2 t) (iblk V c 3 t) (iblk V c 4 t) (iblk V c 5 t) (iblk V c 6 t))
      (block (wq (lay t)) (wk (lay t)) (wv (lay t)) (wo (lay t)) (w1 (lay t)) (w2 (lay t)) g) :=
  layer_is hs
    (one_slice fun i j => (blk1 V c t i j).trans (hq (lay t) i j))
    (one_slice fun i j => (blk2 V c t i j).trans (hk (lay t) i j))
    (one_slice fun i j => (blk3 V c t i j).trans (hv (lay t) i j))
    (one_slice fun i j => (blk4 V c t i j).trans (ho (lay t) i j))
    (one_slice fun i j => (blk5 V c t i j).trans (h1 (lay t) i j))
    (one_slice fun i j => (blk6 V c t i j).trans (h2 (lay t) i j))

include h0

/-- The state after the first point. -/
theorem carried0 : Is2 (outsAt0 V c t1_0.val t1_0.isLt).2.2.2 (block (wq 0) (wk 0) (wv 0) (wo 0) (w1 0) (w2 0) f) := by
  rw [outsAt0_A V c t1_0 (by decide) (by decide)]
  dsimp only
  rw [state_A]
  exact point_is hq hk hv ho h1 h2 t1_0 (by rw [blk0]; exact h0)

/-- The state after the second point. -/
theorem carried1 : Is2 (outsAt0 V c t1_1.val t1_1.isLt).2.2.2 (block (wq 1) (wk 1) (wv 1) (wo 1) (w1 1) (w2 1)
    (block (wq 0) (wk 0) (wv 0) (wo 0) (w1 0) (w2 0) f)) := by
  rw [outsAt0_B V c t1_1 (by decide) (by decide)]
  dsimp only
  rw [state_B]
  exact point_is hq hk hv ho h1 h2 t1_1 (carried0 h0 hq hk hv ho h1 h2)

/-- The state the last point's head reads. -/
theorem carried2 : Is2 (layer (outsAt0 V c t1_1.val t1_1.isLt).2.2.2 (iblk V c 1 t1_2) (iblk V c 2 t1_2) (iblk V c 3 t1_2)
    (iblk V c 4 t1_2) (iblk V c 5 t1_2) (iblk V c 6 t1_2)) (blocks3 wq wk wv wo w1 w2 f) :=
  point_is hq hk hv ho h1 h2 t1_2 (carried1 h0 hq hk hv ho h1 h2)

include hh

omit h0 hq hk hv ho h1 h2 in
/-- The head's matrix as the points read it. -/
theorem head_is (t : Fin cfg1.N) : Is2 (iblk V c 7 t : FVec Ideal ⟨2, ![2, 512]⟩ .f32) (fun i j => wh j i) :=
  fun i j => (blk7 V c t i j).trans (hh i j)

/-- The logits the call leaves. -/
theorem logits_left (j : Fin 2) : (dat V c).arrAt 8 cfg1.N (ix2 0 j) = ((logit wh (blocks3 wq wk wv wo w1 w2 f) j : ℝ) : EReal) := by
  rw [final8, outsAt0_C V c t1_2 (by decide) (by decide)]
  dsimp only
  have hs := carried2 h0 hq hk hv ho h1 h2
  have h7 := head_is hh t1_2
  match j with
  | ⟨0, _⟩ => exact (logits_C ..).1.trans (logit0_is hs h7 0 0)
  | ⟨1, _⟩ => exact (logits_C ..).2.trans (logit1_is hs h7 0 0)

/-- The probabilities the call leaves. -/
theorem probs_left (j : Fin 2) : (dat V c).arrAt 9 cfg1.N (ix2 0 j) = ((prob wh (blocks3 wq wk wv wo w1 w2 f) j : ℝ) : EReal) := by
  rw [final9, outsAt0_C V c t1_2 (by decide) (by decide)]
  dsimp only
  have hs := carried2 h0 hq hk hv ho h1 h2
  have h7 := head_is hh t1_2
  match j with
  | ⟨0, _⟩ => exact (probs_C ..).1.trans (prob0_is hs h7 0 0)
  | ⟨1, _⟩ => exact (probs_C ..).2.trans (prob1_is hs h7 0 0)

/-- The place of the larger logit, which the call leaves: the first on a tie. -/
theorem place_left : (dat V c).arrAt 10 cfg1.N (ix2 0 0)
    = if logit wh (blocks3 wq wk wv wo w1 w2 f) 0 < logit wh (blocks3 wq wk wv wo w1 w2 f) 1 then 1#32 else 0#32 := by
  rw [final10, outsAt0_C V c t1_2 (by decide) (by decide)]
  dsimp only
  exact (congrFun (place_C ..) _).trans (larger_is (carried2 h0 hq hk hv ho h1 h2) (head_is hh t1_2) 0 0)

end Cert.KernelIdeal.Block
-- ==== Proof.Segments.lean ====
/- The host's row gathers and the float sums it scatters by label, read at coordinates. -/
module

public import proofs.«01_k».proof.Proof.HostOps

@[expose] public section

noncomputable section

open scoped BigOperators

namespace Blocks

open Idealize.ShloMosaic hiding ix0 ix1 ix2 ix3 ix4 ix5
open Idealize.ShloMosaic.ValueIdx

variable {α : Type} {n m p q : Nat}

/-- An index word read as a natural number. -/
theorem word_toInt {w : BitVec 32} {b : Nat} (h : w.toNat = b) (hb : b < 2 ^ 31) : w.toInt = (b : Int) := by
  rw [BitVec.toInt_eq_toNat_of_lt (by omega), h]

/-- A word read signed is a small number exactly when read unsigned it is. -/
theorem word_toInt_iff (w : BitVec 32) {b : Nat} (hb : b < 2 ^ 31) : w.toInt = (b : Int) ↔ w.toNat = b := by
  have := w.isLt
  rw [BitVec.toInt_eq_toNat_cond]
  split <;> omega

/-! ## Gathers -/

/-- Rows of a matrix taken by number. -/
theorem gather_rows (wf) (hn : n < 2 ^ 31) (x : (⟨2, ![n, m]⟩ : Shape).Idx → α) (idx : IVec ⟨2, ![p, 1]⟩ 32) (i : Fin p) (j : Fin m) (b : Fin n)
    (hb : (idx (ix2 i 0)).toNat = b.val) :
    Host.gather (⟨[1], [0], [], [], [0], 1, ![1, m], wf⟩ : GatherDims ⟨2, ![n, m]⟩ ⟨2, ![p, 1]⟩ ⟨2, ![p, m]⟩) x idx (ix2 i j) = x (ix2 b j) := by
  let D : GatherDims ⟨2, ![n, m]⟩ ⟨2, ![p, 1]⟩ ⟨2, ![p, m]⟩ := ⟨[1], [0], [], [], [0], 1, ![1, m], wf⟩
  refine congrArg x (funext fun a => Fin.ext ?_)
  show D.start (ix2 i j) idx a + D.batchCoord (ix2 i j) a + D.offCoord (ix2 i j) a = (ix2 b j a).val
  rw [D.batchCoord_eq_zero _ _ List.not_mem_nil]
  match a with
  | ⟨0, _⟩ =>
    show D.start (ix2 i j) idx 0 + 0 + D.offCoord (ix2 i j) 0 = _
    rw [D.offCoord_eq_zero _ _ (fun h => ((D.mem_sKept _).mp h).1 (List.mem_singleton.mpr rfl))]
    unfold GatherDims.start
    rw [dif_pos (show (0 : Fin 2) ∈ D.startIndexMap from List.mem_singleton.mpr rfl)]
    have e : D.siIdx (ix2 i j) ⟨List.idxOf (0 : Fin 2) D.startIndexMap, List.idxOf_lt_length_iff.2 (List.mem_singleton.mpr rfl)⟩ = ix2 i 0 := by
      funext c; refine Fin.ext ?_
      match c with
      | ⟨0, _⟩ => rfl
      | ⟨1, _⟩ => rfl
    show min (idx (D.siIdx (ix2 i j) _)).toInt.toNat (n - 1) + 0 + 0 = b.val
    erw [e]
    rw [word_toInt hb (by omega)]
    have := b.isLt
    show min b.val (n - 1) + 0 + 0 = b.val
    omega
  | ⟨1, _⟩ =>
    show D.start (ix2 i j) idx 1 + 0 + D.offCoord (ix2 i j) 1 = _
    unfold GatherDims.start
    rw [dif_neg (show (1 : Fin 2) ∉ D.startIndexMap from by intro h; simp [D] at h)]
    show 0 + 0 + j.val = j.val
    omega

/-- Rows of a one-slice array taken by number. -/
theorem gather_slice_rows (wf) (hn : n < 2 ^ 31) (x : (⟨3, ![1, n, m]⟩ : Shape).Idx → α) (idx : IVec ⟨2, ![p, 1]⟩ 32) (u : Fin 1) (i : Fin p) (j : Fin m) (b : Fin n)
    (hb : (idx (ix2 i 0)).toNat = b.val) :
    Host.gather (⟨[0, 2], [1], [], [], [1], 1, ![1, 1, m], wf⟩ : GatherDims ⟨3, ![1, n, m]⟩ ⟨2, ![p, 1]⟩ ⟨3, ![1, p, m]⟩) x idx (ix3 u i j) = x (ix3 u b j) := by
  let D : GatherDims ⟨3, ![1, n, m]⟩ ⟨2, ![p, 1]⟩ ⟨3, ![1, p, m]⟩ := ⟨[0, 2], [1], [], [], [1], 1, ![1, 1, m], wf⟩
  refine congrArg x (funext fun a => Fin.ext ?_)
  show D.start (ix3 u i j) idx a + D.batchCoord (ix3 u i j) a + D.offCoord (ix3 u i j) a = (ix3 u b j a).val
  rw [D.batchCoord_eq_zero _ _ List.not_mem_nil]
  match a with
  | ⟨0, _⟩ =>
    show D.start (ix3 u i j) idx 0 + 0 + D.offCoord (ix3 u i j) 0 = _
    unfold GatherDims.start
    rw [dif_neg (show (0 : Fin 3) ∉ D.startIndexMap from by intro h; simp [D] at h)]
    show 0 + 0 + u.val = u.val
    omega
  | ⟨1, _⟩ =>
    show D.start (ix3 u i j) idx 1 + 0 + D.offCoord (ix3 u i j) 1 = _
    rw [D.offCoord_eq_zero _ _ (fun h => ((D.mem_sKept _).mp h).1 (List.mem_singleton.mpr rfl))]
    unfold GatherDims.start
    rw [dif_pos (show (1 : Fin 3) ∈ D.startIndexMap from List.mem_singleton.mpr rfl)]
    have e : D.siIdx (ix3 u i j) ⟨List.idxOf (1 : Fin 3) D.startIndexMap, List.idxOf_lt_length_iff.2 (List.mem_singleton.mpr rfl)⟩ = ix2 i 0 := by
      funext c; refine Fin.ext ?_
      match c with
      | ⟨0, _⟩ => rfl
      | ⟨1, _⟩ => rfl
    show min (idx (D.siIdx (ix3 u i j) _)).toInt.toNat (n - 1) + 0 + 0 = b.val
    erw [e]
    rw [word_toInt hb (by omega)]
    have := b.isLt
    show min b.val (n - 1) + 0 + 0 = b.val
    omega
  | ⟨2, _⟩ =>
    show D.start (ix3 u i j) idx 2 + 0 + D.offCoord (ix3 u i j) 2 = _
    unfold GatherDims.start
    rw [dif_neg (show (2 : Fin 3) ∉ D.startIndexMap from by intro h; simp [D] at h)]
    show 0 + 0 + j.val = j.val
    omega

/-- Entries of a vector taken by number. -/
theorem gather_entries (wf) (hn : n < 2 ^ 31) (x : (⟨1, ![n]⟩ : Shape).Idx → α) (idx : IVec ⟨2, ![p, 1]⟩ 32) (i : Fin p) (b : Fin n)
    (hb : (idx (ix2 i 0)).toNat = b.val) :
    Host.gather (⟨[], [0], [], [], [0], 1, ![1], wf⟩ : GatherDims ⟨1, ![n]⟩ ⟨2, ![p, 1]⟩ ⟨1, ![p]⟩) x idx (ix1 i) = x (ix1 b) := by
  let D : GatherDims ⟨1, ![n]⟩ ⟨2, ![p, 1]⟩ ⟨1, ![p]⟩ := ⟨[], [0], [], [], [0], 1, ![1], wf⟩
  refine congrArg x (funext fun a => Fin.ext ?_)
  show D.start (ix1 i) idx a + D.batchCoord (ix1 i) a + D.offCoord (ix1 i) a = (ix1 b a).val
  rw [D.batchCoord_eq_zero _ _ List.not_mem_nil]
  obtain rfl : a = 0 := Subsingleton.elim _ _
  rw [D.offCoord_eq_zero _ _ (fun h => ((D.mem_sKept _).mp h).1 (List.mem_singleton.mpr rfl))]
  unfold GatherDims.start
  rw [dif_pos (show (0 : Fin 1) ∈ D.startIndexMap from List.mem_singleton.mpr rfl)]
  have e : D.siIdx (ix1 i) ⟨List.idxOf (0 : Fin 1) D.startIndexMap, List.idxOf_lt_length_iff.2 (List.mem_singleton.mpr rfl)⟩ = ix2 i 0 := by
    funext c; refine Fin.ext ?_
    match c with
    | ⟨0, _⟩ => rfl
    | ⟨1, _⟩ => rfl
  show min (idx (D.siIdx (ix1 i) _)).toInt.toNat (n - 1) + 0 + 0 = b.val
  erw [e]
  rw [word_toInt hb (by omega)]
  have := b.isLt
  show min b.val (n - 1) + 0 + 0 = b.val
  omega

/-! ## Sums by label -/

/-- Where an entry of a labelled vector goes. -/
theorem lands1 (wf) (hn : n < 2 ^ 31) (idx : IVec ⟨2, ![p, 1]⟩ 32) (i : Fin p) (b : Fin n) :
    (⟨[], [0], [0], 1, wf⟩ : ScatterDims ⟨1, ![n]⟩ ⟨2, ![p, 1]⟩ ⟨1, ![p]⟩).resultIdx? (ix1 i) idx = some (ix1 b) ↔ (idx (ix2 i 0)).toNat = b.val := by
  let D : ScatterDims ⟨1, ![n]⟩ ⟨2, ![p, 1]⟩ ⟨1, ![p]⟩ := ⟨[], [0], [0], 1, wf⟩
  have e : D.siIdx (ix1 i) ⟨List.idxOf (0 : Fin 1) D.scatterDimsToOperandDims, List.idxOf_lt_length_iff.2 (List.mem_singleton.mpr rfl)⟩ = ix2 i 0 := by
    funext c; refine Fin.ext ?_
    match c with
    | ⟨0, _⟩ => rfl
    | ⟨1, _⟩ => rfl
  have hs : D.start (ix1 i) idx 0 = (idx (ix2 i 0)).toInt := by
    unfold ScatterDims.start
    rw [dif_pos (show (0 : Fin 1) ∈ D.scatterDimsToOperandDims from List.mem_singleton.mpr rfl), e]
  have hw : D.window (ix1 i) 0 = 0 := rfl
  have hb := b.isLt
  rw [← word_toInt_iff _ (by omega : b.val < 2 ^ 31)]
  show D.resultIdx? (ix1 i) idx = some (ix1 b) ↔ _
  unfold ScatterDims.resultIdx?
  constructor
  · intro h
    split at h
    · rename_i hc
      have h0 := congrArg Fin.val (congrFun (Option.some.inj h) 0)
      have h1 : (D.start (ix1 i) idx 0 + (D.window (ix1 i) 0 : Int)).toNat = b.val := h0
      have h2 := (hc 0).1
      rw [hs, hw] at h1 h2
      omega
    · exact absurd h (by simp)
  · intro h
    have hc : ∀ a, 0 ≤ D.start (ix1 i) idx a + (D.window (ix1 i) a : Int) ∧ D.start (ix1 i) idx a + (D.window (ix1 i) a : Int) < ((⟨1, ![n]⟩ : Shape).size a : Nat) := by
      intro a
      obtain rfl : a = 0 := Subsingleton.elim _ _
      rw [hs, hw, h]
      show 0 ≤ (b.val : Int) + ((0 : Nat) : Int) ∧ (b.val : Int) + ((0 : Nat) : Int) < (n : Int)
      omega
    rw [dif_pos hc]
    refine congrArg some (funext fun a => Fin.ext ?_)
    obtain rfl : a = 0 := Subsingleton.elim _ _
    show (D.start (ix1 i) idx 0 + (D.window (ix1 i) 0 : Int)).toNat = b.val
    rw [hs, hw, h]; omega

/-- Where an entry of a labelled row goes. -/
theorem lands2 (wf) (hn : n < 2 ^ 31) (idx : IVec ⟨2, ![p, 1]⟩ 32) (i : Fin p) (l : Fin m) (b : Fin n) (j : Fin m) :
    (⟨[1], [0], [0], 1, wf⟩ : ScatterDims ⟨2, ![n, m]⟩ ⟨2, ![p, 1]⟩ ⟨2, ![p, m]⟩).resultIdx? (ix2 i l) idx = some (ix2 b j)
      ↔ (idx (ix2 i 0)).toNat = b.val ∧ l = j := by
  let D : ScatterDims ⟨2, ![n, m]⟩ ⟨2, ![p, 1]⟩ ⟨2, ![p, m]⟩ := ⟨[1], [0], [0], 1, wf⟩
  have e : D.siIdx (ix2 i l) ⟨List.idxOf (0 : Fin 2) D.scatterDimsToOperandDims, List.idxOf_lt_length_iff.2 (List.mem_singleton.mpr rfl)⟩ = ix2 i 0 := by
    funext c; refine Fin.ext ?_
    match c with
    | ⟨0, _⟩ => rfl
    | ⟨1, _⟩ => rfl
  have hs : D.start (ix2 i l) idx 0 = (idx (ix2 i 0)).toInt := by
    unfold ScatterDims.start
    rw [dif_pos (show (0 : Fin 2) ∈ D.scatterDimsToOperandDims from List.mem_singleton.mpr rfl), e]
  have hs1 : D.start (ix2 i l) idx 1 = 0 := by
    unfold ScatterDims.start
    rw [dif_neg (show (1 : Fin 2) ∉ D.scatterDimsToOperandDims from by intro h; simp [D] at h)]
  have hw : D.window (ix2 i l) 0 = 0 := rfl
  have hw1 : D.window (ix2 i l) 1 = l.val := rfl
  have hb := b.isLt
  have hl := l.isLt
  rw [← word_toInt_iff _ (by omega : b.val < 2 ^ 31)]
  show D.resultIdx? (ix2 i l) idx = some (ix2 b j) ↔ _
  unfold ScatterDims.resultIdx?
  constructor
  · intro h
    split at h
    · rename_i hc
      have h0 : (D.start (ix2 i l) idx 0 + (D.window (ix2 i l) 0 : Int)).toNat = b.val := congrArg Fin.val (congrFun (Option.some.inj h) 0)
      have h1 : (D.start (ix2 i l) idx 1 + (D.window (ix2 i l) 1 : Int)).toNat = j.val := congrArg Fin.val (congrFun (Option.some.inj h) 1)
      have h2 := (hc 0).1
      rw [hs, hw] at h0 h2
      rw [hs1, hw1] at h1
      exact ⟨by omega, Fin.ext (by omega)⟩
    · exact absurd h (by simp)
  · rintro ⟨h, rfl⟩
    have hc : ∀ a, 0 ≤ D.start (ix2 i l) idx a + (D.window (ix2 i l) a : Int) ∧ D.start (ix2 i l) idx a + (D.window (ix2 i l) a : Int) < ((⟨2, ![n, m]⟩ : Shape).size a : Nat) := by
      intro a
      match a with
      | ⟨0, _⟩ =>
        show 0 ≤ D.start (ix2 i l) idx 0 + (D.window (ix2 i l) 0 : Int) ∧ D.start (ix2 i l) idx 0 + (D.window (ix2 i l) 0 : Int) < (n : Int)
        rw [hs, hw, h]; omega
      | ⟨1, _⟩ =>
        show 0 ≤ D.start (ix2 i l) idx 1 + (D.window (ix2 i l) 1 : Int) ∧ D.start (ix2 i l) idx 1 + (D.window (ix2 i l) 1 : Int) < (m : Int)
        rw [hs1, hw1]; omega
    rw [dif_pos hc]
    refine congrArg some (funext fun a => Fin.ext ?_)
    match a with
    | ⟨0, _⟩ =>
      show (D.start (ix2 i l) idx 0 + (D.window (ix2 i l) 0 : Int)).toNat = b.val
      rw [hs, hw, h]; omega
    | ⟨1, _⟩ =>
      show (D.start (ix2 i l) idx 1 + (D.window (ix2 i l) 1 : Int)).toNat = l.val
      rw [hs1, hw1]; omega

/-- The sum of the entries of a vector that carry a label, over a zero start. -/
theorem scatter_entries (wf) (hn : n < 2 ^ 31) {z : FVec Ideal ⟨1, ![n]⟩ .f32} (hz : Is1 z fun _ => 0) (idx : IVec ⟨2, ![p, 1]⟩ 32) {r : Fin p → Nat}
    (hr : ∀ i, (idx (ix2 i 0)).toNat = r i) {x : FVec Ideal ⟨1, ![p]⟩ .f32} {f : Fin p → ℝ} (hx : Is1 x f) :
    Is1 (Host.scatterAdd (⟨[], [0], [0], 1, wf⟩ : ScatterDims ⟨1, ![n]⟩ ⟨2, ![p, 1]⟩ ⟨1, ![p]⟩) z idx x) (fun b => ∑ i, if r i = b.val then f i else 0) := by
  intro b
  show z (ix1 b) + ∑ j ∈ Finset.univ.filter (fun j => (⟨[], [0], [0], 1, wf⟩ : ScatterDims ⟨1, ![n]⟩ ⟨2, ![p, 1]⟩ ⟨1, ![p]⟩).resultIdx? j idx = some (ix1 b)), x j = _
  rw [hz, EReal.coe_zero, zero_add, Finset.sum_filter, ← coe_sum]
  refine Fintype.sum_equiv ⟨fun j => (j 0 : Fin p), fun i => ix1 i, fun j => (ValueIdx.eq_ix1 j).symm, fun i => rfl⟩ _ _ fun j => ?_
  obtain ⟨i, rfl⟩ : ∃ i, j = ix1 i := ⟨j 0, ValueIdx.eq_ix1 j⟩
  show (if _ then _ else _) = (((if r i = b.val then f i else 0) : ℝ) : EReal)
  by_cases h : r i = b.val
  · rw [if_pos ((lands1 wf hn idx i b).2 ((hr i).trans h)), if_pos h, hx]
  · rw [if_neg (fun h' => h ((hr i).symm.trans ((lands1 wf hn idx i b).1 h'))), if_neg h, EReal.coe_zero]

/-- The sum of the rows of a matrix that carry a label, over a zero start. -/
theorem scatter_rows (wf) (hn : n < 2 ^ 31) {z : FVec Ideal ⟨2, ![n, m]⟩ .f32} (hz : Is2 z fun _ _ => 0) (idx : IVec ⟨2, ![p, 1]⟩ 32) {r : Fin p → Nat}
    (hr : ∀ i, (idx (ix2 i 0)).toNat = r i) {x : FVec Ideal ⟨2, ![p, m]⟩ .f32} {f : Fin p → Fin m → ℝ} (hx : Is2 x f) :
    Is2 (Host.scatterAdd (⟨[1], [0], [0], 1, wf⟩ : ScatterDims ⟨2, ![n, m]⟩ ⟨2, ![p, 1]⟩ ⟨2, ![p, m]⟩) z idx x) (fun b j => ∑ i, if r i = b.val then f i j else 0) := by
  intro b j
  show z (ix2 b j) + ∑ k ∈ Finset.univ.filter (fun k => (⟨[1], [0], [0], 1, wf⟩ : ScatterDims ⟨2, ![n, m]⟩ ⟨2, ![p, 1]⟩ ⟨2, ![p, m]⟩).resultIdx? k idx = some (ix2 b j)), x k = _
  rw [hz, EReal.coe_zero, zero_add, Finset.sum_filter, ← coe_sum]
  refine Eq.trans (Fintype.sum_equiv (⟨fun k => ((k 0 : Fin p), (k 1 : Fin m)), fun s => ix2 s.1 s.2, fun k => (ValueIdx.eq_ix2 k).symm, fun s => rfl⟩ :
    (⟨2, ![p, m]⟩ : Shape).Idx ≃ Fin p × Fin m) _ (fun s => if r s.1 = b.val ∧ s.2 = j then ((f s.1 s.2 : ℝ) : EReal) else 0) fun k => ?_) ?_
  · obtain ⟨i, l, rfl⟩ : ∃ i l, k = ix2 i l := ⟨k 0, k 1, ValueIdx.eq_ix2 k⟩
    show (if _ then _ else _) = if r i = b.val ∧ l = j then ((f i l : ℝ) : EReal) else 0
    by_cases h : r i = b.val ∧ l = j
    · rw [if_pos ((lands2 wf hn idx i l b j).2 ⟨(hr i).trans h.1, h.2⟩), if_pos h, hx]
    · rw [if_neg (fun h' => h (by obtain ⟨h1, h2⟩ := (lands2 wf hn idx i l b j).1 h'; exact ⟨(hr i).symm.trans h1, h2⟩)), if_neg h]
  · rw [Fintype.sum_prod_type]
    refine Finset.sum_congr rfl fun i _ => ?_
    rw [Finset.sum_eq_single j (fun l _ hl => if_neg (fun h => hl h.2)) (fun h => absurd (Finset.mem_univ j) h)]
    by_cases h : r i = b.val
    · rw [if_pos ⟨h, rfl⟩, if_pos h]
    · rw [if_neg (fun h' => h h'.1), if_neg h, EReal.coe_zero]

end Blocks
-- ==== Proof.HostHead.lean ====
/- What a reference's slices of weight stacks, its cutting and joining of rows, and its head compute over real numbers: the
   mean of the rows, its normalisation, the logits, their probabilities and the place of the larger one. -/
module

public import proofs.«01_k».proof.Proof.HostOps

@[expose] public section

noncomputable section

open scoped BigOperators

namespace Blocks

open Idealize.ShloMosaic hiding ix0 ix1 ix2 ix3 ix4 ix5
open Idealize.ShloMosaic.ValueIdx

variable {n m k : Nat}

/-- Slice `l` of a stack of matrices, as a matrix. -/
theorem stack_slice {a : FVec Ideal ⟨3, ![3, m, n]⟩ .f32} {w : Fin 3 → Fin m → Fin n → ℝ} (ha : IsStack a w) (l : Fin 3) {o : Nat} (ho : o = l.val)
    (h1 h2) : Is2 (shapeCast ⟨2, ![m, n]⟩ (extractStridedSlice ⟨3, ![1, m, n]⟩ ![o, 0, 0] a h1) h2) (w l) := by
  intro i j
  rw [shapeCast_apply _ h2 _ (ix3 0 i j) (by
      rw [Shape.rowMajor_val_three, Shape.rowMajor_val_two]
      show (0 * m + i.val) * n + j.val = i.val * n + j.val
      rw [Nat.zero_mul, Nat.zero_add]),
    extractStridedSlice_apply _ _ h1 _ (ix3 l i j) (fun e => by
      match e with
      | ⟨0, _⟩ => show l.val = o + 0; omega
      | ⟨1, _⟩ => show i.val = 0 + i.val; omega
      | ⟨2, _⟩ => show j.val = 0 + j.val; omega)]
  exact ha l i j

/-- Row `l` of a stack of vectors that are all the constant `v`. -/
theorem const_slice {a : FVec Ideal ⟨2, ![3, n]⟩ .f32} {v : ℝ} (ha : Is2 a fun _ _ => v) (l : Fin 3) {o : Nat} (ho : o = l.val)
    (h1 h2) : Is1 (shapeCast ⟨1, ![n]⟩ (extractStridedSlice ⟨2, ![1, n]⟩ ![o, 0] a h1) h2) (fun _ => v) := by
  intro j
  rw [shapeCast_apply _ h2 _ (ix2 0 j) (by
      rw [Shape.rowMajor_val_two, Shape.rowMajor_val_one]
      show 0 * n + j.val = j.val
      rw [Nat.zero_mul, Nat.zero_add]),
    extractStridedSlice_apply _ _ h1 _ (ix2 l j) (fun e => by
      match e with
      | ⟨0, _⟩ => show l.val = o + 0; omega
      | ⟨1, _⟩ => show j.val = 0 + j.val; omega)]
  exact ha l j

/-- Two one-slice arrays joined along their rows. -/
theorem join_rows {p q : Nat} (hn : n = p + q) {x : FVec Ideal ⟨3, ![1, p, m]⟩ .f32} {y : FVec Ideal ⟨3, ![1, q, m]⟩ .f32} {f : Fin n → Fin m → ℝ}
    (hx : Is3 x fun i j => f ⟨i.val, by omega⟩ j) (hy : Is3 y fun i j => f ⟨p + i.val, by omega⟩ j)
    (h : Shape.Concatenates [⟨3, ![1, p, m]⟩, ⟨3, ![1, q, m]⟩] ⟨3, ![1, n, m]⟩ (1 : Fin 3)) :
    Is3 (concatenate ⟨3, ![1, n, m]⟩ 1 [⟨⟨3, ![1, p, m]⟩, x⟩, ⟨⟨3, ![1, q, m]⟩, y⟩] h) f := by
  intro u i j
  by_cases hi : i.val < p
  · rw [concatenate_pair_apply_left (1 : Fin 3) x y h (ix3 u i j) rfl (ix3 u ⟨i.val, hi⟩ j) (fun e => by
      match e with | ⟨0, _⟩ => rfl | ⟨1, _⟩ => rfl | ⟨2, _⟩ => rfl)]
    exact hx u ⟨i.val, hi⟩ j
  · rw [concatenate_pair_apply_right (1 : Fin 3) x y h (ix3 u i j) rfl rfl (ix3 u ⟨i.val - p, by omega⟩ j) (fun e he => by
      match e with | ⟨0, _⟩ => rfl | ⟨1, _⟩ => exact absurd rfl he | ⟨2, _⟩ => rfl)
      (by show i.val - p + p = i.val; omega)]
    rw [hy u ⟨i.val - p, by omega⟩ j]
    refine congrArg (fun t : Fin n => ((f t j : ℝ) : EReal)) (Fin.ext ?_)
    show p + (i.val - p) = i.val; omega

/-- Rows of a one-slice array, from row `o` on. -/
theorem cut_rows {p : Nat} {x : FVec Ideal ⟨3, ![1, n, m]⟩ .f32} {f : Fin n → Fin m → ℝ} (hx : Is3 x f) (o : Nat) (hb : o + p ≤ n) (h) :
    Is3 (extractStridedSlice ⟨3, ![1, p, m]⟩ ![0, o, 0] x h) fun i j => f ⟨o + i.val, by omega⟩ j := by
  intro u i j
  rw [extractStridedSlice_apply _ _ h _ (ix3 u ⟨o + i.val, by omega⟩ j) (fun e => by
      match e with
      | ⟨0, _⟩ => show u.val = 0 + u.val; omega
      | ⟨1, _⟩ => rfl
      | ⟨2, _⟩ => show j.val = 0 + j.val; omega)]
  exact hx _ _ _

/-- An array cut into its first and its last rows and joined again. -/
theorem cut_join {p q : Nat} (hn : n = p + q) {x : FVec Ideal ⟨3, ![1, n, m]⟩ .f32} {f : Fin n → Fin m → ℝ} (hx : Is3 x f) (h1 h2 h) :
    Is3 (concatenate ⟨3, ![1, n, m]⟩ 1 [⟨⟨3, ![1, p, m]⟩, extractStridedSlice ⟨3, ![1, p, m]⟩ ![0, 0, 0] x h1⟩,
      ⟨⟨3, ![1, q, m]⟩, extractStridedSlice ⟨3, ![1, q, m]⟩ ![0, p, 0] x h2⟩] h) f :=
  join_rows hn (fun u i j => (cut_rows hx 0 (by omega) h1 u i j).trans (by
      refine congrArg (fun t : Fin n => ((f t j : ℝ) : EReal)) (Fin.ext ?_)
      show 0 + i.val = i.val; omega))
    (cut_rows hx p (by omega) h2) h

/-- Rows of a matrix, from row `o` on, as a one-slice array. -/
theorem rows_slice {p : Nat} {x : FVec Ideal ⟨2, ![n, m]⟩ .f32} {f : Fin n → Fin m → ℝ} (hx : Is2 x f) (o : Nat) (hb : o + p ≤ n) (h h') :
    Is3 (broadcastInDim ⟨3, ![1, p, m]⟩ ![1, 2] h' (extractStridedSlice ⟨2, ![p, m]⟩ ![o, 0] x h)) fun i j => f ⟨o + i.val, by omega⟩ j := by
  intro u i j
  rw [bid_matrix_slice, extractStridedSlice_apply _ _ h _ (ix2 ⟨o + i.val, by omega⟩ j) (fun e => by
      match e with
      | ⟨0, _⟩ => rfl
      | ⟨1, _⟩ => show j.val = 0 + j.val; omega)]
  exact hx _ _

/-- A matrix cut into its first and its last rows and joined as a one-slice array. -/
theorem matrix_join {p q : Nat} (hn : n = p + q) {x : FVec Ideal ⟨2, ![n, m]⟩ .f32} {f : Fin n → Fin m → ℝ} (hx : Is2 x f) (h1 h1' h2 h2' h) :
    Is3 (concatenate ⟨3, ![1, n, m]⟩ 1 [⟨⟨3, ![1, p, m]⟩, broadcastInDim ⟨3, ![1, p, m]⟩ ![1, 2] h1' (extractStridedSlice ⟨2, ![p, m]⟩ ![0, 0] x h1)⟩,
      ⟨⟨3, ![1, q, m]⟩, broadcastInDim ⟨3, ![1, q, m]⟩ ![1, 2] h2' (extractStridedSlice ⟨2, ![q, m]⟩ ![p, 0] x h2)⟩] h) f :=
  join_rows hn (fun u i j => (rows_slice hx 0 (by omega) h1 h1' u i j).trans (by
      refine congrArg (fun t : Fin n => ((f t j : ℝ) : EReal)) (Fin.ext ?_)
      show 0 + i.val = i.val; omega))
    (rows_slice hx p (by omega) h2 h2') h

/-- The host's mean of the 1152 rows. -/
theorem host_rows {x : FVec Ideal ⟨3, ![1, n, 512]⟩ .f32} {f : Fin n → Fin 512 → ℝ} (hx : Is3 x f) (h1 hu h2) :
    Is2 (Host.divf (Host.reduceAdd (t := ⟨2, ![1, 512]⟩) (axes := [1]) x (constant ⟨0, ![]⟩ .f32 0x00000000#32) h1 hu)
      (broadcastInDim ⟨2, ![1, 512]⟩ ![] h2 (constant (F := Ideal) ⟨0, ![]⟩ .f32 0x44900000#32))) (rowMean f) := by
  intro i j
  rw [hostDivf_apply, broadcastInDim_scalar_apply, hostSum3mid, constant_apply, word_1152]
  simp only [hx i _ j]
  rw [coe_sum, div_real (by norm_num)]; rfl

/-- The host's row means of a matrix. -/
theorem host_mean2 {x : FVec Ideal ⟨2, ![n, 512]⟩ .f32} {f : Fin n → Fin 512 → ℝ} (hx : Is2 x f) (h1 h2 hu h3) (i : Fin n) (z : Fin 1) :
    Host.divf (broadcastInDim ⟨2, ![n, 1]⟩ ![0] h1 (Host.reduceAdd (t := ⟨1, ![n]⟩) (axes := [1]) x (constant ⟨0, ![]⟩ .f32 0x00000000#32) h2 hu))
      (broadcastInDim ⟨2, ![n, 1]⟩ ![] h3 (constant (F := Ideal) ⟨0, ![]⟩ .f32 0x44000000#32)) (ix2 i z)
      = (((∑ l, f i l) / 512 : ℝ) : EReal) := by
  rw [hostDivf_apply, bid_keep2, broadcastInDim_scalar_apply, hostSum2, constant_apply, word_512]
  simp only [hx i _]
  rw [coe_sum, div_real (by norm_num)]

/-- The squares of a matrix. -/
theorem host_sq2 {x : FVec Ideal ⟨2, ![n, m]⟩ .f32} {f : Fin n → Fin m → ℝ} (hx : Is2 x f) : Is2 (mulf x x) fun i j => f i j * f i j := by
  intro i j
  rw [mulf_apply, hx, ← EReal.coe_mul]

/-- The host's layer normalisation of a row, its gain one and its offset zero. -/
theorem host_ln2 {x : FVec Ideal ⟨2, ![1, 512]⟩ .f32} {f : Fin 1 → Fin 512 → ℝ} (hx : Is2 x f)
    {g b : FVec Ideal ⟨1, ![512]⟩ .f32} (hg : Is1 g fun _ => 1) (hb : Is1 b fun _ => 0)
    (h1 h2 hu h3 h4 h12) :
    Is2 (addf (mulf (Host.divf
        (subf x (broadcastInDim ⟨2, ![1, 512]⟩ ![0, 1] h4
          (Host.divf (broadcastInDim ⟨2, ![1, 1]⟩ ![0] h1 (Host.reduceAdd (t := ⟨1, ![1]⟩) (axes := [1]) x (constant ⟨0, ![]⟩ .f32 0x00000000#32) h2 hu))
            (broadcastInDim ⟨2, ![1, 1]⟩ ![] h3 (constant (F := Ideal) ⟨0, ![]⟩ .f32 0x44000000#32)))))
        (broadcastInDim ⟨2, ![1, 512]⟩ ![0, 1] h4 (Host.sqrt (addf
          (Host.divf (broadcastInDim ⟨2, ![1, 1]⟩ ![0] h1 (Host.reduceAdd (t := ⟨1, ![1]⟩) (axes := [1])
              (mulf
                (subf x (broadcastInDim ⟨2, ![1, 512]⟩ ![0, 1] h4
                  (Host.divf (broadcastInDim ⟨2, ![1, 1]⟩ ![0] h1 (Host.reduceAdd (t := ⟨1, ![1]⟩) (axes := [1]) x (constant ⟨0, ![]⟩ .f32 0x00000000#32) h2 hu))
                    (broadcastInDim ⟨2, ![1, 1]⟩ ![] h3 (constant (F := Ideal) ⟨0, ![]⟩ .f32 0x44000000#32)))))
                (subf x (broadcastInDim ⟨2, ![1, 512]⟩ ![0, 1] h4
                  (Host.divf (broadcastInDim ⟨2, ![1, 1]⟩ ![0] h1 (Host.reduceAdd (t := ⟨1, ![1]⟩) (axes := [1]) x (constant ⟨0, ![]⟩ .f32 0x00000000#32) h2 hu))
                    (broadcastInDim ⟨2, ![1, 1]⟩ ![] h3 (constant (F := Ideal) ⟨0, ![]⟩ .f32 0x44000000#32))))))
              (constant ⟨0, ![]⟩ .f32 0x00000000#32) h2 hu))
            (broadcastInDim ⟨2, ![1, 1]⟩ ![] h3 (constant (F := Ideal) ⟨0, ![]⟩ .f32 0x44000000#32)))
          (broadcastInDim ⟨2, ![1, 1]⟩ ![] h3 (constant (F := Ideal) ⟨0, ![]⟩ .f32 0x3727C5AC#32))))))
        (broadcastInDim ⟨2, ![1, 512]⟩ ![1] h12 g))
      (broadcastInDim ⟨2, ![1, 512]⟩ ![1] h12 b)) (ln f) := by
  have hc : Is2 (subf x (broadcastInDim ⟨2, ![1, 512]⟩ ![0, 1] h4
          (Host.divf (broadcastInDim ⟨2, ![1, 1]⟩ ![0] h1 (Host.reduceAdd (t := ⟨1, ![1]⟩) (axes := [1]) x (constant ⟨0, ![]⟩ .f32 0x00000000#32) h2 hu))
            (broadcastInDim ⟨2, ![1, 1]⟩ ![] h3 (constant (F := Ideal) ⟨0, ![]⟩ .f32 0x44000000#32)))))
      (fun i j => f i j - mean (f i)) := by
    intro i j
    rw [subf_apply, bid_row2, host_mean2 hx, hx i j, ← EReal.coe_sub]; rfl
  have hq := host_sq2 hc
  intro i j
  rw [addf_apply, mulf_apply, hostDivf_apply, bid_vec2, bid_vec2, hg, hb, bid_row2, hostUnary_sqrt, addf_apply,
    broadcastInDim_scalar_apply, constant_apply, word_eps, host_mean2 hq, ← EReal.coe_add,
    show (∑ l, (f i l - mean (f i)) * (f i l - mean (f i))) / 512 + eps = spread (f i) from rfl, sqrt_real (le_of_lt (spread_pos (f i))),
    hc i j, div_real (sqrt_spread_ne (f i)), ← EReal.coe_mul, ← EReal.coe_add, mul_one, add_zero]
  rfl

/-- The host's logits: the normalised mean row by the head's matrix, and an offset that is zero. -/
theorem host_logits {x : FVec Ideal ⟨2, ![1, 512]⟩ .f32} {f : Fin n → Fin 512 → ℝ} (hx : Is2 x (ln (rowMean f)))
    {w : FVec Ideal ⟨2, ![512, 2]⟩ .f32} {W : Fin 512 → Fin 2 → ℝ} (hw : Is2 w W) {b : FVec Ideal ⟨1, ![2]⟩ .f32} (hb : Is1 b fun _ => 0) (wf h) :
    Is2 (addf (Host.dotGeneral (⟨[1], [0], [0], [1], [], [], wf⟩ : DotDims ⟨2, ![1, 512]⟩ ⟨2, ![512, 2]⟩ ⟨2, ![1, 2]⟩) none x w)
      (broadcastInDim ⟨2, ![1, 2]⟩ ![1] h b)) (fun _ c => logit W f c) := by
  intro i c
  obtain rfl : i = 0 := Subsingleton.elim _ _
  rw [addf_apply, dot2, bid_vec2, hb]
  simp only [hx 0 _, hw _ c, ← EReal.coe_mul]
  rw [coe_sum, ← EReal.coe_add, add_zero]; rfl

/-- The host's probabilities. -/
theorem host_probs {L : FVec Ideal ⟨2, ![1, 2]⟩ .f32} {s : Fin 2 → ℝ} (hs : Is2 L fun _ c => s c) (h2 hu h3 h4 h5) :
    Is2 (Host.divf
      (Host.exp (subf L (broadcastInDim ⟨2, ![1, 2]⟩ ![0, 1] h4 (broadcastInDim ⟨2, ![1, 1]⟩ ![0] h3
        (maximumf (broadcastInDim ⟨1, ![1]⟩ ![] h5 (constant (F := Ideal) ⟨0, ![]⟩ .f32 0xFF800000#32))
          (Host.reduce (t := ⟨1, ![1]⟩) (axes := [1]) FloatOps.maximumf L (constant (F := Ideal) ⟨0, ![]⟩ .f32 0xFF800000#32) h2 hu))))))
      (broadcastInDim ⟨2, ![1, 2]⟩ ![0, 1] h4 (broadcastInDim ⟨2, ![1, 1]⟩ ![0] h3
        (Host.reduceAdd (t := ⟨1, ![1]⟩) (axes := [1])
          (Host.exp (subf L (broadcastInDim ⟨2, ![1, 2]⟩ ![0, 1] h4 (broadcastInDim ⟨2, ![1, 1]⟩ ![0] h3
            (maximumf (broadcastInDim ⟨1, ![1]⟩ ![] h5 (constant (F := Ideal) ⟨0, ![]⟩ .f32 0xFF800000#32))
              (Host.reduce (t := ⟨1, ![1]⟩) (axes := [1]) FloatOps.maximumf L (constant (F := Ideal) ⟨0, ![]⟩ .f32 0xFF800000#32) h2 hu))))))
          (constant ⟨0, ![]⟩ .f32 0x00000000#32) h2 hu)))) (fun _ c => Real.exp (s c) / ∑ e, Real.exp (s e)) := by
  obtain ⟨r, hr⟩ := hostMax2 L h2 hu (by omega) 0 s (fun k => hs 0 k)
  have hE : Is2 (Host.exp (subf L (broadcastInDim ⟨2, ![1, 2]⟩ ![0, 1] h4 (broadcastInDim ⟨2, ![1, 1]⟩ ![0] h3
        (maximumf (broadcastInDim ⟨1, ![1]⟩ ![] h5 (constant (F := Ideal) ⟨0, ![]⟩ .f32 0xFF800000#32))
          (Host.reduce (t := ⟨1, ![1]⟩) (axes := [1]) FloatOps.maximumf L (constant (F := Ideal) ⟨0, ![]⟩ .f32 0xFF800000#32) h2 hu))))))
      (fun _ c => Real.exp (s c - r)) := by
    intro i c
    obtain rfl : i = 0 := Subsingleton.elim _ _
    rw [hostUnary_exp, subf_apply, bid_row2, bid_keep2, ValueIdx.maximumf_apply, hr, hs, broadcastInDim_scalar_apply, constant_apply,
      neg_inf_word, max_eq_right bot_le, ← EReal.coe_sub, Ideal.exp_coe]
  intro i c
  obtain rfl : i = 0 := Subsingleton.elim _ _
  rw [hostDivf_apply, bid_row2, bid_keep2, hostSum2, hE 0 c]
  simp only [hE 0 _]
  rw [coe_sum, div_real (sum_exp_ne (by omega) _), shift_prob s r c]

/-- A stable sort of two positions puts the second first exactly when it sorts strictly before the first. -/
theorem sorted_two (before : Fin 2 → Fin 2 → Bool) : sortedFrom before 0 = if before 1 0 then 1 else 0 := by
  have e : sortPositions 2 before = if before 1 0 then [1, 0] else [0, 1] := rfl
  unfold sortedFrom
  by_cases hb : before 1 0 = true
  · simp only [List.get_eq_getElem, e, hb]; rfl
  · simp only [List.get_eq_getElem, e, hb]; rfl

/-- The place of the greater of two, the first on a tie. -/
theorem host_place {L : FVec Ideal ⟨2, ![1, 2]⟩ .f32} {s : Fin 2 → ℝ} (hs : Is2 L fun _ c => s c) (h) (i j : Fin 1) :
    (Host.topK ⟨2, ![1, 1]⟩ 1 (FloatOps.cmpfTotal .gt) L h).2 (ix2 i j) = if s 0 < s 1 then 1#32 else 0#32 := by
  obtain rfl : i = 0 := Subsingleton.elim _ _
  obtain rfl : j = 0 := Subsingleton.elim _ _
  unfold Host.topK
  dsimp only
  rw [extractStridedSlice_apply _ _ h _ (ix2 0 0) (fun e => by match e with | ⟨0, _⟩ => rfl | ⟨1, _⟩ => rfl)]
  unfold Host.sort2
  rw [dif_pos (show 1 < 2 by omega)]
  dsimp only
  rw [dif_pos (show 1 < 2 by omega)]
  have ha : ∀ c : Fin 2, (ix2 0 0 : (⟨2, ![1, 2]⟩ : Shape).Idx).along (1 : Fin 2) c = ix2 0 c := fun c => by
    funext e; match e with | ⟨0, _⟩ => rfl | ⟨1, _⟩ => rfl
  show BitVec.ofNat 32 (sortedFrom (n := 2) (fun k k' => FloatOps.cmpfTotal .gt
    (L ((ix2 0 0 : (⟨2, ![1, 2]⟩ : Shape).Idx).along (1 : Fin 2) k)) (L ((ix2 0 0 : (⟨2, ![1, 2]⟩ : Shape).Idx).along (1 : Fin 2) k')) == 1#1) 0).val = _
  rw [sorted_two, ha, ha, hs, hs, Ideal.cmpfTotal_def]
  have e : Ideal.cmp CmpDirection.gt.ordered ((s 1 : ℝ) : EReal) ((s 0 : ℝ) : EReal) = BitVec.ofBool (decide (s 0 < s 1)) := by
    show BitVec.ofBool (decide (((s 0 : ℝ) : EReal) < ((s 1 : ℝ) : EReal))) = _
    simp only [EReal.coe_lt_coe_iff]
  rw [e]
  by_cases hlt : s 0 < s 1
  · rw [if_pos hlt, decide_eq_true hlt]; rfl
  · rw [if_neg hlt, decide_eq_false hlt]; rfl

end Blocks
-- ==== Proof.RefEmbed.lean ====
/- What the reference's first stages hold over real numbers: tokens from the groups of patches, in the order given, and the
   region rows beside them. -/
module

public import proofs.«01_k».proof.Proof.Segments
public import proofs.«01_k».proof.Proof.HostHead
public import proofs.«01_k».proof.Proof.EmbedSpec
public import proofs.«01_k».proof.Proof.Gen.ReferenceIdeal.Read
public import Idealize.ShloMosaic.Lib.WordCmp

@[expose] public section

noncomputable section

open scoped BigOperators

namespace Blocks

open Idealize.ShloMosaic hiding ix0 ix1 ix2 ix3 ix4 ix5
open Idealize.ShloMosaic.ValueIdx

variable {n m k p : Nat}

/-- A number that is not negative is used as it is. -/
theorem host_wrap (x y : IVec ⟨1, ![p]⟩ 32) (h h0) (i : Fin p) (hx : (x (ix1 i)).toNat < 2 ^ 31) (u : Fin 1) :
    broadcastInDim ⟨2, ![p, 1]⟩ ![0] h (select (cmpi .slt x (broadcastInDim ⟨1, ![p]⟩ ![] h0 (constantI ⟨0, ![]⟩ 32 0#32))) y x) (ix2 i u) = x (ix1 i) := by
  rw [bid_keep2, select_apply]
  have hc : cmpi .slt x (broadcastInDim ⟨1, ![p]⟩ ![] h0 (constantI ⟨0, ![]⟩ 32 0#32)) (ix1 i) = 0#1 := by
    show IntOp.cmpi .slt (x (ix1 i)) 0#32 = 0#1
    rw [Idealize.ShloMosaic.WordCmp.cmpi_slt_of_lt (by simpa using hx) (by decide)]
    rfl
  rw [hc]; rfl

/-- A constant vector. -/
theorem host_const1 {w : BitVec (FTy.bits .f32)} {v : ℝ} (hw : Ideal.ofBits .f32 w = ((v : ℝ) : EReal)) (h) :
    Is1 (broadcastInDim ⟨1, ![n]⟩ ![] h (constant (F := Ideal) ⟨0, ![]⟩ .f32 w)) fun _ => v := by
  intro i
  rw [broadcastInDim_scalar_apply, constant_apply, hw]
/-- A constant matrix. -/
theorem host_const2 {w : BitVec (FTy.bits .f32)} {v : ℝ} (hw : Ideal.ofBits .f32 w = ((v : ℝ) : EReal)) (h) :
    Is2 (broadcastInDim ⟨2, ![n, m]⟩ ![] h (constant (F := Ideal) ⟨0, ![]⟩ .f32 w)) fun _ _ => v := by
  intro i j
  rw [broadcastInDim_scalar_apply, constant_apply, hw]

/-- Row sums over how many they are, at least one. -/
theorem host_shares {s : FVec Ideal ⟨2, ![n, m]⟩ .f32} {S : Fin n → Fin m → ℝ} (hs : Is2 s S) {c : FVec Ideal ⟨1, ![n]⟩ .f32} {C : Fin n → ℝ} (hc : Is1 c C) (h0 h1 h2) :
    Is2 (Host.divf s (broadcastInDim ⟨2, ![n, m]⟩ ![0, 1] h2 (broadcastInDim ⟨2, ![n, 1]⟩ ![0] h1
      (maximumf c (broadcastInDim ⟨1, ![n]⟩ ![] h0 (constant (F := Ideal) ⟨0, ![]⟩ .f32 0x3F800000#32)))))) fun b j => S b j / max (C b) 1 := by
  intro b j
  rw [hostDivf_apply, bid_row2, bid_keep2, maximumf_apply, hs, hc, broadcastInDim_scalar_apply, constant_apply, word_one,
    show max ((C b : ℝ) : EReal) ((1 : ℝ) : EReal) = ((max (C b) 1 : ℝ) : EReal) from (EReal.coe_strictMono.monotone.map_max).symm,
    div_real (lt_of_lt_of_le one_pos (le_max_right _ _)).ne']

/-- One row repeated, read at a coordinate. -/
theorem bid_rows2 {α : Type} (h : (⟨2, ![1, m]⟩ : Shape).BroadcastsInDim ⟨2, ![n, m]⟩ ![0, 1]) (x : (⟨2, ![1, m]⟩ : Shape).Idx → α) (i : Fin n) (j : Fin m) :
    broadcastInDim ⟨2, ![n, m]⟩ ![0, 1] h x (ix2 i j) = x (ix2 0 j) := by
  refine congrArg x (funext fun a => ?_)
  match a with
  | ⟨0, _⟩ => exact Fin.ext (by show (if h : (1 : Nat) = 1 then (⟨0, _⟩ : Fin 1) else _).val = 0; simp)
  | ⟨1, _⟩ =>
    apply Fin.ext
    show (if h : m = 1 then (⟨0, _⟩ : Fin m) else ⟨j.val, _⟩).val = j.val
    split
    · have := j.isLt; show 0 = j.val; omega
    · rfl

/-- A product with an offset that is zero. -/
theorem host_lin2 {x : FVec Ideal ⟨2, ![n, k]⟩ .f32} {f : Fin n → Fin k → ℝ} (hx : Is2 x f)
    {w : FVec Ideal ⟨2, ![k, m]⟩ .f32} {W : Fin k → Fin m → ℝ} (hw : Is2 w W) {b : FVec Ideal ⟨1, ![m]⟩ .f32} (hb : Is1 b fun _ => 0) (wf h1)
    (h2 : (⟨2, ![1, m]⟩ : Shape).BroadcastsInDim ⟨2, ![n, m]⟩ ![0, 1]) :
    Is2 (addf (Host.dotGeneral (⟨[1], [0], [0], [1], [], [], wf⟩ : DotDims ⟨2, ![n, k]⟩ ⟨2, ![k, m]⟩ ⟨2, ![n, m]⟩) none x w)
      (broadcastInDim ⟨2, ![n, m]⟩ ![0, 1] h2 (broadcastInDim ⟨2, ![1, m]⟩ ![1] h1 b))) (lin f W) := by
  intro i j
  have e : broadcastInDim ⟨2, ![n, m]⟩ ![0, 1] h2 (broadcastInDim ⟨2, ![1, m]⟩ ![1] h1 b) (ix2 i j) = ((0 : ℝ) : EReal) := by
    refine Eq.trans ?_ (hb j)
    rw [bid_rows2, bid_vec2]
  rw [addf_apply, dot2, e]
  simp only [hx i _, hw _ j, ← EReal.coe_mul]
  rw [coe_sum, ← EReal.coe_add, add_zero]; rfl

/-- The activation of a matrix. -/
theorem host_act2 {x : FVec Ideal ⟨2, ![n, m]⟩ .f32} {f : Fin n → Fin m → ℝ} (hx : Is2 x f) (h1 h2 h3 h4) :
    Is2 (mulf x (mulf (broadcastInDim ⟨2, ![n, m]⟩ ![] h4 (constant (F := Ideal) ⟨0, ![]⟩ .f32 0x3F000000#32))
      (addf (broadcastInDim ⟨2, ![n, m]⟩ ![] h3 (constant (F := Ideal) ⟨0, ![]⟩ .f32 0x3F800000#32))
        (Host.tanh (mulf (broadcastInDim ⟨2, ![n, m]⟩ ![] h2 (constant (F := Ideal) ⟨0, ![]⟩ .f32 0x3F4C422A#32))
          (addf x (mulf (broadcastInDim ⟨2, ![n, m]⟩ ![] h1 (constant (F := Ideal) ⟨0, ![]⟩ .f32 0x3D372713#32)) (mulf (mulf x x) x)))))))) (act f) := by
  intro i j
  rw [mulf_apply, mulf_apply, addf_apply, hostUnary_tanh, mulf_apply, addf_apply, mulf_apply, mulf_apply, mulf_apply, broadcastInDim_scalar_apply,
    broadcastInDim_scalar_apply, broadcastInDim_scalar_apply, broadcastInDim_scalar_apply, constant_apply, constant_apply, constant_apply, constant_apply,
    word_half, word_one, word_c1, word_c2, hx i j]
  simp only [← EReal.coe_mul, ← EReal.coe_add, Ideal.tanh_coe]
  refine congrArg (fun t : ℝ => (t : EReal)) ?_
  unfold act gelu; ring

/-- A matrix as one slice. -/
theorem host_lift {x : FVec Ideal ⟨2, ![n, m]⟩ .f32} {f : Fin n → Fin m → ℝ} (hx : Is2 x f) (h) :
    Is3 (broadcastInDim ⟨3, ![1, n, m]⟩ ![1, 2] h x) f := by
  intro u i j
  rw [bid_matrix_slice, hx]
/-- One slice as a matrix. -/
theorem host_drop {x : FVec Ideal ⟨3, ![1, n, m]⟩ .f32} {f : Fin n → Fin m → ℝ} (hx : Is3 x f) (h) : Is2 (shapeCast ⟨2, ![n, m]⟩ x h) f := by
  intro i j
  rw [shapeCast_1ab_ab_apply, hx]

/-- A sum over all patches of those of one group is a sum over the group's four. -/
theorem sum_of_group (f : Fin 4096 → ℝ) (b : Fin 1024) : (∑ i : Fin 4096, if i.val / 4 = b.val then f i else 0) = ∑ e : Fin 4, f ⟨4 * b.val + e.val, by omega⟩ := by
  rw [← (finProdFinEquiv (m := 1024) (n := 4)).sum_comp, Fintype.sum_prod_type]
  have hv : ∀ (a : Fin 1024) (e : Fin 4), (finProdFinEquiv (a, e) : Fin (1024 * 4)).val = e.val + 4 * a.val := fun _ _ => rfl
  rw [Finset.sum_eq_single b]
  · refine Finset.sum_congr rfl fun e _ => ?_
    rw [if_pos (by rw [hv]; omega)]
    refine congrArg f (Fin.ext ?_)
    rw [hv]; show e.val + 4 * b.val = 4 * b.val + e.val; omega
  · intro a _ ha
    refine Finset.sum_eq_zero fun e _ => ?_
    rw [if_neg]
    rw [hv]
    intro h
    exact ha (Fin.ext (by omega))
  · intro h; exact absurd (Finset.mem_univ b) h

/-- The shares of the groups of four are their means. -/
theorem share_of_group (X : Fin 4096 → Fin 768 → ℝ) (b : Fin 1024) (j : Fin 768) :
    (∑ i : Fin 4096, if i.val / 4 = b.val then X i j else 0) / max (∑ i : Fin 4096, if i.val / 4 = b.val then (1 : ℝ) else 0) 1 = group4 X b j := by
  rw [sum_of_group (fun i => X i j), sum_of_group (fun _ => 1)]
  unfold group4
  congr 1
  rw [Finset.sum_const, Finset.card_univ, Fintype.card_fin]; norm_num

end Blocks

namespace Cert.ReferenceIdeal.Stages

open Idealize.ShloMosaic hiding ix0 ix1 ix2 ix3 ix4 ix5
open Idealize.ShloMosaic.ValueIdx
open Cert.ReferenceIdeal Cert.ReferenceIdeal.Gen Cert.ReferenceIdeal.Read
open Blocks

variable {x0 : FVec Ideal ⟨3, ![1, 4096, 768]⟩ .f32} {x2 x3 : IVec ⟨1, ![4096]⟩ 32} {x4 x5 : IVec ⟨1, ![1024]⟩ 32}
  {x7 : (⟨S1x128x1024, .i1⟩ : BufTy).Contents (Elt Ideal)}
  {x8 : FVec Ideal ⟨2, ![768, 512]⟩ .f32} {x9 x10 x11 x13 x15 x17 x19 : FVec Ideal ⟨1, ![512]⟩ .f32} {x12 x14 x16 x18 : FVec Ideal ⟨2, ![512, 512]⟩ .f32}
variable {X : Fin 4096 → Fin 768 → ℝ} {wm : Fin 768 → Fin 512 → ℝ} {aq ak av ao : Fin 512 → Fin 512 → ℝ} {r : Fin 1024 → Nat} {σ : Fin 1024 → Fin 1024}

/-- Each patch is read where it lies. -/
theorem patches (h0 : Is3 x0 X) (h3 : ∀ i : Fin 4096, (x3 (ix1 i)).toNat = i.val) : Is2 (val_main_v7 (F := Ideal) x0 x3) X := by
  intro i j
  have hw : ((val_main_v6 (F := Ideal) x3) (ix2 i 0)).toNat = i.val :=
    (congrArg BitVec.toNat (host_wrap x3 _ _ _ i (by rw [h3]; omega) 0)).trans (h3 i)
  refine (gather_rows _ (by norm_num) (val_main_v0 (F := Ideal) x0) (val_main_v6 (F := Ideal) x3) i j i hw).trans ?_
  exact host_drop h0 _ i j

/-- The groups' means. -/
theorem groups (h0 : Is3 x0 X) (h3 : ∀ i : Fin 4096, (x3 (ix1 i)).toNat = i.val) (h2 : ∀ i : Fin 4096, (x2 (ix1 i)).toNat = i.val / 4) :
    Is2 (val_main_v19 (F := Ideal) x0 x2 x3) (group4 X) := by
  have hl : ∀ i : Fin 4096, ((val_main_v10 (F := Ideal) x2) (ix2 i 0)).toNat = i.val / 4 := fun i => (congrArg BitVec.toNat (bid_keep2 _ x2 i 0)).trans (h2 i)
  have hs := scatter_rows scatter_S1024x768_S4096x1_S4096x768_1_0_0_1.wf (by norm_num) (host_const2 (n := 1024) (m := 768) word_zero bcast_S_S1024x768) (val_main_v13 (F := Ideal) x2) hl (patches h0 h3)
  have hc := scatter_entries scatter_S1024_S4096x1_S4096_n_0_0_1.wf (by norm_num) (host_const1 (n := 1024) word_zero bcast_S_S1024) (val_main_v10 (F := Ideal) x2) hl (host_const1 (n := 4096) word_one bcast_S_S4096)
  intro b j
  refine (host_shares hs hc bcast_S_S1024 bcast_S1024_S1024x1_0 bcast_S1024x1_S1024x768_0_1 b j).trans ?_
  exact congrArg (fun t : ℝ => (t : EReal)) (share_of_group X b j)

/-- The tokens. -/
theorem token_rows (h0 : Is3 x0 X) (h3 : ∀ i : Fin 4096, (x3 (ix1 i)).toNat = i.val) (h2 : ∀ i : Fin 4096, (x2 (ix1 i)).toNat = i.val / 4)
    (h8 : Is2 x8 wm) (h9 : Is1 x9 fun _ => 0) : Is2 (val_main_v36 (F := Ideal) x0 x2 x3 x8 x9) (tokens X wm) :=
  host_act2 (host_lin2 (groups h0 h3 h2) h8 h9 _ _ _) _ _ _ _

section
variable (h0 : Is3 x0 X) (h3 : ∀ i : Fin 4096, (x3 (ix1 i)).toNat = i.val) (h2 : ∀ i : Fin 4096, (x2 (ix1 i)).toNat = i.val / 4)
  (h4 : ∀ i : Fin 1024, (x4 (ix1 i)).toNat = r i) (h5 : ∀ i : Fin 1024, (x5 (ix1 i)).toNat = (σ i).val) (h7 : ∀ i, x7 i = 1#1)
  (h8 : Is2 x8 wm) (h9 : Is1 x9 fun _ => 0) (h10 : Is1 x10 fun _ => 1) (h11 : Is1 x11 fun _ => 0) (h12 : Is2 x12 aq) (h13 : Is1 x13 fun _ => 0)
  (h14 : Is2 x14 ak) (h15 : Is1 x15 fun _ => 0) (h16 : Is2 x16 av) (h17 : Is1 x17 fun _ => 0) (h18 : Is2 x18 ao) (h19 : Is1 x19 fun _ => 0)
include h5

/-- A place in the given order. -/
theorem place_word (i : Fin 1024) (u : Fin 1) : ((val_main_v43 (F := Ideal) x5) (ix2 i u)).toNat = (σ i).val :=
  (congrArg BitVec.toNat (host_wrap x5 _ _ _ i (by rw [h5]; omega) u)).trans (h5 i)

include h4 in
/-- The labels in the given order. -/
theorem label_word (i : Fin 1024) : ((val_main_v61 (F := Ideal) x4 x5) (ix2 i 0)).toNat = r (σ i) := by
  refine (congrArg BitVec.toNat ((bid_keep2 _ (val_main_v58 (F := Ideal) x4 x5) i 0).trans ?_)).trans (h4 (σ i))
  exact gather_entries _ (by norm_num) x4 (val_main_v57 (F := Ideal) x5) i (σ i) (place_word h5 i 0)

include h0 h3 h2 h8 h9

/-- The tokens in the given order. -/
theorem sorted_rows : Is3 (val_main_v44 (F := Ideal) x0 x2 x3 x5 x8 x9) (fun i => tokens X wm (σ i)) := by
  intro u i j
  refine (gather_slice_rows _ (by norm_num) (val_main_v37 (F := Ideal) x0 x2 x3 x8 x9) (val_main_v43 (F := Ideal) x5) u i j (σ i) (place_word h5 i 0)).trans ?_
  exact host_lift (token_rows h0 h3 h2 h8 h9) _ u (σ i) j

include h4

/-- The regions' means. -/
theorem region_means : Is3 (val_main_v72 (F := Ideal) x0 x2 x3 x4 x5 x8 x9) (segMean (fun i => r (σ i)) fun i => tokens X wm (σ i)) :=
  host_lift (host_shares
    (scatter_rows scatter_S128x512_S1024x1_S1024x512_1_0_0_1.wf (by norm_num) (host_const2 (n := 128) (m := 512) word_zero bcast_S_S128x512) (val_main_v67 (F := Ideal) x4 x5)
      (label_word h4 h5) (host_drop (sorted_rows h0 h3 h2 h5 h8 h9) _))
    (scatter_entries scatter_S128_S1024x1_S1024_n_0_0_1.wf (by norm_num) (host_const1 (n := 128) word_zero bcast_S_S128) (val_main_v61 (F := Ideal) x4 x5)
      (label_word h4 h5) (host_const1 (n := 1024) word_one bcast_S_S1024)) _ _ _) _

include h10 h11

/-- The regions' queries. -/
theorem region_queries (h12 : Is2 x12 aq) (h13 : Is1 x13 fun _ => 0) : Is3 (val_main_v132 (F := Ideal) x0 x2 x3 x4 x5 x8 x9 x10 x11 x12 x13) (lin (ln (segMean (fun i => r (σ i)) fun i => tokens X wm (σ i))) aq) :=
  host_lin3 (host_ln3 (region_means h0 h3 h2 h4 h5 h8 h9) h10 h11 _ _ _ _ _ _ _) h12 h13 _ _ _

omit h4 in
/-- The tokens' keys. -/
theorem token_keys (h14 : Is2 x14 ak) (h15 : Is1 x15 fun _ => 0) : Is3 (val_main_v138 (F := Ideal) x0 x2 x3 x5 x8 x9 x10 x11 x14 x15) (lin (ln fun i => tokens X wm (σ i)) ak) :=
  host_lin3 (host_ln3 (sorted_rows h0 h3 h2 h5 h8 h9) h10 h11 _ _ _ _ _ _ _) h14 h15 _ _ _

omit h4 in
/-- The tokens' values. -/
theorem token_values (h16 : Is2 x16 av) (h17 : Is1 x17 fun _ => 0) : Is3 (val_main_v144 (F := Ideal) x0 x2 x3 x5 x8 x9 x10 x11 x16 x17) (lin (ln fun i => tokens X wm (σ i)) av) :=
  host_lin3 (host_ln3 (sorted_rows h0 h3 h2 h5 h8 h9) h10 h11 _ _ _ _ _ _ _) h16 h17 _ _ _

/-- The regions' scores. -/
theorem region_scores (h7 : ∀ i, x7 i = 1#1) (h12 : Is2 x12 aq) (h13 : Is1 x13 fun _ => 0) (h14 : Is2 x14 ak) (h15 : Is1 x15 fun _ => 0) :
    Is4 (val_main_v153 (F := Ideal) x0 x2 x3 x4 x5 x7 x8 x9 x10 x11 x12 x13 x14 x15)
      (score (lin (ln (segMean (fun i => r (σ i)) fun i => tokens X wm (σ i))) aq) (lin (ln fun i => tokens X wm (σ i)) ak)) :=
  host_scores (host_heads (region_queries h0 h3 h2 h4 h5 h8 h9 h10 h11 h12 h13) _ _) (host_heads (token_keys h0 h3 h2 h5 h8 h9 h10 h11 h14 h15) _ _)
    (fun _ => h7 _) _ _

/-- The region rows. -/
theorem region_rows (h7 : ∀ i, x7 i = 1#1) (h12 : Is2 x12 aq) (h13 : Is1 x13 fun _ => 0) (h14 : Is2 x14 ak) (h15 : Is1 x15 fun _ => 0)
    (h16 : Is2 x16 av) (h17 : Is1 x17 fun _ => 0) (h18 : Is2 x18 ao) (h19 : Is1 x19 fun _ => 0) :
    Is3 (val_main_v172 (F := Ideal) x0 x2 x3 x4 x5 x7 x8 x9 x10 x11 x12 x13 x14 x15 x16 x17 x18 x19)
      (regions aq ak av ao (fun i => r (σ i)) fun i => tokens X wm (σ i)) :=
  host_add3 (region_means h0 h3 h2 h4 h5 h8 h9) (host_lin3 (host_unheads (host_weighted (by norm_num)
    (host_exps (by norm_num) (region_scores h0 h3 h2 h4 h5 h8 h9 h10 h11 h7 h12 h13 h14 h15) _ _ _ _ _)
    (host_heads (token_values h0 h3 h2 h5 h8 h9 h10 h11 h16 h17) _ _) _ _ _ _ _) _ _) h18 h19 _ _ _)

/-- The state the blocks start from. -/
theorem state_rows (h7 : ∀ i, x7 i = 1#1) (h12 : Is2 x12 aq) (h13 : Is1 x13 fun _ => 0) (h14 : Is2 x14 ak) (h15 : Is1 x15 fun _ => 0)
    (h16 : Is2 x16 av) (h17 : Is1 x17 fun _ => 0) (h18 : Is2 x18 ao) (h19 : Is1 x19 fun _ => 0) :
    Is3 (val_main_v173 (F := Ideal) x0 x2 x3 x4 x5 x7 x8 x9 x10 x11 x12 x13 x14 x15 x16 x17 x18 x19) (startAt σ X wm aq ak av ao r) := by
  refine join_rows (p := 1024) (q := 128) rfl ?_ ?_ _
  · intro u i j
    refine (sorted_rows h0 h3 h2 h5 h8 h9 u i j).trans ?_
    unfold startAt stacked
    dsimp only
    rw [dif_pos i.isLt]
  · intro u i j
    refine (region_rows h0 h3 h2 h4 h5 h8 h9 h10 h11 h7 h12 h13 h14 h15 h16 h17 h18 h19 u i j).trans ?_
    unfold startAt stacked
    dsimp only
    rw [dif_neg (show ¬ (1024 + i.val < 1024) by omega)]
    exact congrArg (fun t => ((regions aq ak av ao (fun i => r (σ i)) (fun i => tokens X wm (σ i)) t j : ℝ) : EReal)) (Fin.ext (by show i.val = 1024 + i.val - 1024; omega))

end

end Cert.ReferenceIdeal.Stages
-- ==== Proof.RefValue.lean ====
/- What the reference's stages hold over real numbers, block by block, when the offsets are zero, the gains one and every
   position allowed. -/
module

public import proofs.«01_k».proof.Proof.HostHead
public import proofs.«01_k».proof.Proof.Gen.ReferenceIdeal.Read

@[expose] public section

noncomputable section

namespace Cert.ReferenceIdeal.Stages

open Idealize.ShloMosaic hiding ix0 ix1 ix2 ix3 ix4 ix5
open Idealize.ShloMosaic.ValueIdx
open Cert.ReferenceIdeal Cert.ReferenceIdeal.Gen Cert.ReferenceIdeal.Read
open Blocks

variable {x6 : (⟨S1x1152x1152, .i1⟩ : BufTy).Contents (Elt Ideal)}
variable {x20 : FVec Ideal ⟨2, ![3, 512]⟩ .f32}
variable {x21 : FVec Ideal ⟨2, ![3, 512]⟩ .f32}
variable {x22 : FVec Ideal ⟨3, ![3, 512, 512]⟩ .f32}
variable {x23 : FVec Ideal ⟨2, ![3, 512]⟩ .f32}
variable {x24 : FVec Ideal ⟨3, ![3, 512, 512]⟩ .f32}
variable {x25 : FVec Ideal ⟨2, ![3, 512]⟩ .f32}
variable {x26 : FVec Ideal ⟨3, ![3, 512, 512]⟩ .f32}
variable {x27 : FVec Ideal ⟨2, ![3, 512]⟩ .f32}
variable {x28 : FVec Ideal ⟨3, ![3, 512, 512]⟩ .f32}
variable {x29 : FVec Ideal ⟨2, ![3, 512]⟩ .f32}
variable {x30 : FVec Ideal ⟨2, ![3, 512]⟩ .f32}
variable {x31 : FVec Ideal ⟨2, ![3, 512]⟩ .f32}
variable {x32 : FVec Ideal ⟨3, ![3, 512, 2048]⟩ .f32}
variable {x33 : FVec Ideal ⟨2, ![3, 2048]⟩ .f32}
variable {x34 : FVec Ideal ⟨3, ![3, 2048, 512]⟩ .f32}
variable {x35 : FVec Ideal ⟨2, ![3, 512]⟩ .f32}
variable {x36 : FVec Ideal ⟨1, ![512]⟩ .f32}
variable {x37 : FVec Ideal ⟨1, ![512]⟩ .f32}
variable {x38 : FVec Ideal ⟨2, ![512, 2]⟩ .f32}
variable {x39 : FVec Ideal ⟨1, ![2]⟩ .f32}
variable {x0 : FVec Ideal ⟨3, ![1, 4096, 768]⟩ .f32} {x2 x3 : IVec ⟨1, ![4096]⟩ 32} {x4 x5 : IVec ⟨1, ![1024]⟩ 32}
  {x7 : (⟨S1x128x1024, .i1⟩ : BufTy).Contents (Elt Ideal)}
  {x8 : FVec Ideal ⟨2, ![768, 512]⟩ .f32} {x9 x10 x11 x13 x15 x17 x19 : FVec Ideal ⟨1, ![512]⟩ .f32} {x12 x14 x16 x18 : FVec Ideal ⟨2, ![512, 512]⟩ .f32}
variable {f : Fin 1152 → Fin 512 → ℝ} {wq wk wv wo : Fin 3 → Fin 512 → Fin 512 → ℝ} {w1 : Fin 3 → Fin 512 → Fin 2048 → ℝ}
  {w2 : Fin 3 → Fin 2048 → Fin 512 → ℝ} {wh : Fin 512 → Fin 2 → ℝ}
variable (h0 : Is3 (val_main_v173 (F := Ideal) x0 x2 x3 x4 x5 x7 x8 x9 x10 x11 x12 x13 x14 x15 x16 x17 x18 x19) f) (hm : ∀ i, x6 i = 1#1) (g1 : Is2 x20 fun _ _ => 1) (b1 : Is2 x21 fun _ _ => 0)
  (hq : IsStack x22 wq) (bq : Is2 x23 fun _ _ => 0) (hk : IsStack x24 wk) (bk : Is2 x25 fun _ _ => 0) (hv : IsStack x26 wv) (bv : Is2 x27 fun _ _ => 0)
  (ho : IsStack x28 wo) (bo : Is2 x29 fun _ _ => 0) (g2 : Is2 x30 fun _ _ => 1) (b2 : Is2 x31 fun _ _ => 0)
  (h1 : IsStack x32 w1) (bm1 : Is2 x33 fun _ _ => 0) (h2 : IsStack x34 w2) (bm2 : Is2 x35 fun _ _ => 0)
  (gf : Is1 x36 fun _ => 1) (bf : Is1 x37 fun _ => 0) (hh : Is2 x38 wh) (bh : Is1 x39 fun _ => 0)
include h0 hm g1 b1 hq bq hk bk hv bv ho bo g2 b2 h1 bm1 h2 bm2

/-- The first block reads the state itself. -/
theorem in0 : Is3 (val_main_v173 (F := Ideal) x0 x2 x3 x4 x5 x7 x8 x9 x10 x11 x12 x13 x14 x15 x16 x17 x18 x19) (f) :=
  h0

/-- The first block's state, normalised. -/
theorem norm0 : Is3 (val_main_v201 (F := Ideal) x0 x2 x3 x4 x5 x7 x8 x9 x10 x11 x12 x13 x14 x15 x16 x17 x18 x19 x20 x21) (ln (f)) :=
  host_ln3 (in0 h0 hm g1 b1 hq bq hk bk hv bv ho bo g2 b2 h1 bm1 h2 bm2) (const_slice g1 0 rfl _ _) (const_slice b1 0 rfl _ _) _ _ _ _ _ _ _

/-- The first block's queries. -/
theorem queries0 : Is3 (val_main_v221 (F := Ideal) x0 x2 x3 x4 x5 x7 x8 x9 x10 x11 x12 x13 x14 x15 x16 x17 x18 x19 x20 x21 x22 x23) (lin (ln (f)) (wq 0)) :=
  host_lin3 (norm0 h0 hm g1 b1 hq bq hk bk hv bv ho bo g2 b2 h1 bm1 h2 bm2) (stack_slice hq 0 rfl _ _) (const_slice bq 0 rfl _ _) _ _ _

/-- The first block's keys. -/
theorem keys0 : Is3 (val_main_v227 (F := Ideal) x0 x2 x3 x4 x5 x7 x8 x9 x10 x11 x12 x13 x14 x15 x16 x17 x18 x19 x20 x21 x24 x25) (lin (ln (f)) (wk 0)) :=
  host_lin3 (norm0 h0 hm g1 b1 hq bq hk bk hv bv ho bo g2 b2 h1 bm1 h2 bm2) (stack_slice hk 0 rfl _ _) (const_slice bk 0 rfl _ _) _ _ _

/-- The first block's values. -/
theorem values0 : Is3 (val_main_v233 (F := Ideal) x0 x2 x3 x4 x5 x7 x8 x9 x10 x11 x12 x13 x14 x15 x16 x17 x18 x19 x20 x21 x26 x27) (lin (ln (f)) (wv 0)) :=
  host_lin3 (norm0 h0 hm g1 b1 hq bq hk bk hv bv ho bo g2 b2 h1 bm1 h2 bm2) (stack_slice hv 0 rfl _ _) (const_slice bv 0 rfl _ _) _ _ _

/-- The first block's mask allows every position. -/
theorem allowed0 : ∀ i, (val_main_call1_v1 (F := Ideal) x6) i = 1#1 :=
  fun _ => hm _

/-- The first block's scores. -/
theorem scores0 : Is4 (val_main_v242 (F := Ideal) x0 x2 x3 x4 x5 x6 x7 x8 x9 x10 x11 x12 x13 x14 x15 x16 x17 x18 x19 x20 x21 x22 x23 x24 x25) (score (lin (ln (f)) (wq 0)) (lin (ln (f)) (wk 0))) :=
  host_scores (host_heads (queries0 h0 hm g1 b1 hq bq hk bk hv bv ho bo g2 b2 h1 bm1 h2 bm2) _ _) (host_heads (keys0 h0 hm g1 b1 hq bq hk bk hv bv ho bo g2 b2 h1 bm1 h2 bm2) _ _) (allowed0 h0 hm g1 b1 hq bq hk bk hv bv ho bo g2 b2 h1 bm1 h2 bm2) _ _

/-- The first block's exponentials, each row's maximum taken off. -/
theorem exps0 : ∃ r : Fin 8 → Fin 1152 → ℝ, Is4 (val_main_v249 (F := Ideal) x0 x2 x3 x4 x5 x6 x7 x8 x9 x10 x11 x12 x13 x14 x15 x16 x17 x18 x19 x20 x21 x22 x23 x24 x25) (fun h i l => Real.exp (score (lin (ln (f)) (wq 0)) (lin (ln (f)) (wk 0)) h i l - r h i)) :=
  host_exps (by omega) (scores0 h0 hm g1 b1 hq bq hk bk hv bv ho bo g2 b2 h1 bm1 h2 bm2) _ _ _ _ _

/-- The first block's heads. -/
theorem heads0 : Is4 (val_main_v254 (F := Ideal) x0 x2 x3 x4 x5 x6 x7 x8 x9 x10 x11 x12 x13 x14 x15 x16 x17 x18 x19 x20 x21 x22 x23 x24 x25 x26 x27) (headAtt (lin (ln (f)) (wq 0)) (lin (ln (f)) (wk 0)) (lin (ln (f)) (wv 0))) :=
  host_weighted (by omega) (exps0 h0 hm g1 b1 hq bq hk bk hv bv ho bo g2 b2 h1 bm1 h2 bm2) (host_heads (values0 h0 hm g1 b1 hq bq hk bk hv bv ho bo g2 b2 h1 bm1 h2 bm2) _ _) _ _ _ _ _

/-- The first block after its attention. -/
theorem mid0 : Is3 (val_main_v261 (F := Ideal) x0 x2 x3 x4 x5 x6 x7 x8 x9 x10 x11 x12 x13 x14 x15 x16 x17 x18 x19 x20 x21 x22 x23 x24 x25 x26 x27 x28 x29) (half1 (wq 0) (wk 0) (wv 0) (wo 0) (f)) :=
  host_add3 (in0 h0 hm g1 b1 hq bq hk bk hv bv ho bo g2 b2 h1 bm1 h2 bm2) (host_lin3 (host_unheads (heads0 h0 hm g1 b1 hq bq hk bk hv bv ho bo g2 b2 h1 bm1 h2 bm2) _ _) (stack_slice ho 0 rfl _ _) (const_slice bo 0 rfl _ _) _ _ _)

/-- The first block's inner map. -/
theorem inner0 : Is3 (val_main_v297 (F := Ideal) x0 x2 x3 x4 x5 x6 x7 x8 x9 x10 x11 x12 x13 x14 x15 x16 x17 x18 x19 x20 x21 x22 x23 x24 x25 x26 x27 x28 x29 x30 x31 x32 x33) (lin (ln (half1 (wq 0) (wk 0) (wv 0) (wo 0) (f))) (w1 0)) :=
  host_lin3 (host_ln3 (mid0 h0 hm g1 b1 hq bq hk bk hv bv ho bo g2 b2 h1 bm1 h2 bm2) (const_slice g2 0 rfl _ _) (const_slice b2 0 rfl _ _) _ _ _ _ _ _ _) (stack_slice h1 0 rfl _ _) (const_slice bm1 0 rfl _ _) _ _ _

/-- The first block's activation. -/
theorem act0 : Is3 (val_main_v310 (F := Ideal) x0 x2 x3 x4 x5 x6 x7 x8 x9 x10 x11 x12 x13 x14 x15 x16 x17 x18 x19 x20 x21 x22 x23 x24 x25 x26 x27 x28 x29 x30 x31 x32 x33) (act (lin (ln (half1 (wq 0) (wk 0) (wv 0) (wo 0) (f))) (w1 0))) :=
  host_act (inner0 h0 hm g1 b1 hq bq hk bk hv bv ho bo g2 b2 h1 bm1 h2 bm2) _ _ _ _

/-- What the first block leaves. -/
theorem out0 : Is3 (val_main_v319 (F := Ideal) x0 x2 x3 x4 x5 x6 x7 x8 x9 x10 x11 x12 x13 x14 x15 x16 x17 x18 x19 x20 x21 x22 x23 x24 x25 x26 x27 x28 x29 x30 x31 x32 x33 x34 x35) (block (wq 0) (wk 0) (wv 0) (wo 0) (w1 0) (w2 0) (f)) :=
  host_bias3 (host_add3 (mid0 h0 hm g1 b1 hq bq hk bk hv bv ho bo g2 b2 h1 bm1 h2 bm2) (host_dot3 (act0 h0 hm g1 b1 hq bq hk bk hv bv ho bo g2 b2 h1 bm1 h2 bm2) (stack_slice h2 0 rfl _ _) _)) (const_slice bm2 0 rfl _ _) _ _

/-- The second block reads what the one before left, cut and joined again. -/
theorem in1 : Is3 (val_main_v322 (F := Ideal) x0 x2 x3 x4 x5 x6 x7 x8 x9 x10 x11 x12 x13 x14 x15 x16 x17 x18 x19 x20 x21 x22 x23 x24 x25 x26 x27 x28 x29 x30 x31 x32 x33 x34 x35) (block (wq 0) (wk 0) (wv 0) (wo 0) (w1 0) (w2 0) (f)) :=
  cut_join (p := 1024) (q := 128) rfl (out0 h0 hm g1 b1 hq bq hk bk hv bv ho bo g2 b2 h1 bm1 h2 bm2) _ _ _

/-- The second block's state, normalised. -/
theorem norm1 : Is3 (val_main_v350 (F := Ideal) x0 x2 x3 x4 x5 x6 x7 x8 x9 x10 x11 x12 x13 x14 x15 x16 x17 x18 x19 x20 x21 x22 x23 x24 x25 x26 x27 x28 x29 x30 x31 x32 x33 x34 x35) (ln (block (wq 0) (wk 0) (wv 0) (wo 0) (w1 0) (w2 0) (f))) :=
  host_ln3 (in1 h0 hm g1 b1 hq bq hk bk hv bv ho bo g2 b2 h1 bm1 h2 bm2) (const_slice g1 1 rfl _ _) (const_slice b1 1 rfl _ _) _ _ _ _ _ _ _

/-- The second block's queries. -/
theorem queries1 : Is3 (val_main_v370 (F := Ideal) x0 x2 x3 x4 x5 x6 x7 x8 x9 x10 x11 x12 x13 x14 x15 x16 x17 x18 x19 x20 x21 x22 x23 x24 x25 x26 x27 x28 x29 x30 x31 x32 x33 x34 x35) (lin (ln (block (wq 0) (wk 0) (wv 0) (wo 0) (w1 0) (w2 0) (f))) (wq 1)) :=
  host_lin3 (norm1 h0 hm g1 b1 hq bq hk bk hv bv ho bo g2 b2 h1 bm1 h2 bm2) (stack_slice hq 1 rfl _ _) (const_slice bq 1 rfl _ _) _ _ _

/-- The second block's keys. -/
theorem keys1 : Is3 (val_main_v376 (F := Ideal) x0 x2 x3 x4 x5 x6 x7 x8 x9 x10 x11 x12 x13 x14 x15 x16 x17 x18 x19 x20 x21 x22 x23 x24 x25 x26 x27 x28 x29 x30 x31 x32 x33 x34 x35) (lin (ln (block (wq 0) (wk 0) (wv 0) (wo 0) (w1 0) (w2 0) (f))) (wk 1)) :=
  host_lin3 (norm1 h0 hm g1 b1 hq bq hk bk hv bv ho bo g2 b2 h1 bm1 h2 bm2) (stack_slice hk 1 rfl _ _) (const_slice bk 1 rfl _ _) _ _ _

/-- The second block's values. -/
theorem values1 : Is3 (val_main_v382 (F := Ideal) x0 x2 x3 x4 x5 x6 x7 x8 x9 x10 x11 x12 x13 x14 x15 x16 x17 x18 x19 x20 x21 x22 x23 x24 x25 x26 x27 x28 x29 x30 x31 x32 x33 x34 x35) (lin (ln (block (wq 0) (wk 0) (wv 0) (wo 0) (w1 0) (w2 0) (f))) (wv 1)) :=
  host_lin3 (norm1 h0 hm g1 b1 hq bq hk bk hv bv ho bo g2 b2 h1 bm1 h2 bm2) (stack_slice hv 1 rfl _ _) (const_slice bv 1 rfl _ _) _ _ _

/-- The second block's mask allows every position. -/
theorem allowed1 : ∀ i, (val_main_call2_v1 (F := Ideal) x6) i = 1#1 :=
  fun _ => hm _

/-- The second block's scores. -/
theorem scores1 : Is4 (val_main_v391 (F := Ideal) x0 x2 x3 x4 x5 x6 x7 x8 x9 x10 x11 x12 x13 x14 x15 x16 x17 x18 x19 x20 x21 x22 x23 x24 x25 x26 x27 x28 x29 x30 x31 x32 x33 x34 x35) (score (lin (ln (block (wq 0) (wk 0) (wv 0) (wo 0) (w1 0) (w2 0) (f))) (wq 1)) (lin (ln (block (wq 0) (wk 0) (wv 0) (wo 0) (w1 0) (w2 0) (f))) (wk 1))) :=
  host_scores (host_heads (queries1 h0 hm g1 b1 hq bq hk bk hv bv ho bo g2 b2 h1 bm1 h2 bm2) _ _) (host_heads (keys1 h0 hm g1 b1 hq bq hk bk hv bv ho bo g2 b2 h1 bm1 h2 bm2) _ _) (allowed1 h0 hm g1 b1 hq bq hk bk hv bv ho bo g2 b2 h1 bm1 h2 bm2) _ _

/-- The second block's exponentials, each row's maximum taken off. -/
theorem exps1 : ∃ r : Fin 8 → Fin 1152 → ℝ, Is4 (val_main_v398 (F := Ideal) x0 x2 x3 x4 x5 x6 x7 x8 x9 x10 x11 x12 x13 x14 x15 x16 x17 x18 x19 x20 x21 x22 x23 x24 x25 x26 x27 x28 x29 x30 x31 x32 x33 x34 x35) (fun h i l => Real.exp (score (lin (ln (block (wq 0) (wk 0) (wv 0) (wo 0) (w1 0) (w2 0) (f))) (wq 1)) (lin (ln (block (wq 0) (wk 0) (wv 0) (wo 0) (w1 0) (w2 0) (f))) (wk 1)) h i l - r h i)) :=
  host_exps (by omega) (scores1 h0 hm g1 b1 hq bq hk bk hv bv ho bo g2 b2 h1 bm1 h2 bm2) _ _ _ _ _

/-- The second block's heads. -/
theorem heads1 : Is4 (val_main_v403 (F := Ideal) x0 x2 x3 x4 x5 x6 x7 x8 x9 x10 x11 x12 x13 x14 x15 x16 x17 x18 x19 x20 x21 x22 x23 x24 x25 x26 x27 x28 x29 x30 x31 x32 x33 x34 x35) (headAtt (lin (ln (block (wq 0) (wk 0) (wv 0) (wo 0) (w1 0) (w2 0) (f))) (wq 1)) (lin (ln (block (wq 0) (wk 0) (wv 0) (wo 0) (w1 0) (w2 0) (f))) (wk 1)) (lin (ln (block (wq 0) (wk 0) (wv 0) (wo 0) (w1 0) (w2 0) (f))) (wv 1))) :=
  host_weighted (by omega) (exps1 h0 hm g1 b1 hq bq hk bk hv bv ho bo g2 b2 h1 bm1 h2 bm2) (host_heads (values1 h0 hm g1 b1 hq bq hk bk hv bv ho bo g2 b2 h1 bm1 h2 bm2) _ _) _ _ _ _ _

/-- The second block after its attention. -/
theorem mid1 : Is3 (val_main_v410 (F := Ideal) x0 x2 x3 x4 x5 x6 x7 x8 x9 x10 x11 x12 x13 x14 x15 x16 x17 x18 x19 x20 x21 x22 x23 x24 x25 x26 x27 x28 x29 x30 x31 x32 x33 x34 x35) (half1 (wq 1) (wk 1) (wv 1) (wo 1) (block (wq 0) (wk 0) (wv 0) (wo 0) (w1 0) (w2 0) (f))) :=
  host_add3 (in1 h0 hm g1 b1 hq bq hk bk hv bv ho bo g2 b2 h1 bm1 h2 bm2) (host_lin3 (host_unheads (heads1 h0 hm g1 b1 hq bq hk bk hv bv ho bo g2 b2 h1 bm1 h2 bm2) _ _) (stack_slice ho 1 rfl _ _) (const_slice bo 1 rfl _ _) _ _ _)

/-- The second block's inner map. -/
theorem inner1 : Is3 (val_main_v446 (F := Ideal) x0 x2 x3 x4 x5 x6 x7 x8 x9 x10 x11 x12 x13 x14 x15 x16 x17 x18 x19 x20 x21 x22 x23 x24 x25 x26 x27 x28 x29 x30 x31 x32 x33 x34 x35) (lin (ln (half1 (wq 1) (wk 1) (wv 1) (wo 1) (block (wq 0) (wk 0) (wv 0) (wo 0) (w1 0) (w2 0) (f)))) (w1 1)) :=
  host_lin3 (host_ln3 (mid1 h0 hm g1 b1 hq bq hk bk hv bv ho bo g2 b2 h1 bm1 h2 bm2) (const_slice g2 1 rfl _ _) (const_slice b2 1 rfl _ _) _ _ _ _ _ _ _) (stack_slice h1 1 rfl _ _) (const_slice bm1 1 rfl _ _) _ _ _

/-- The second block's activation. -/
theorem act1 : Is3 (val_main_v459 (F := Ideal) x0 x2 x3 x4 x5 x6 x7 x8 x9 x10 x11 x12 x13 x14 x15 x16 x17 x18 x19 x20 x21 x22 x23 x24 x25 x26 x27 x28 x29 x30 x31 x32 x33 x34 x35) (act (lin (ln (half1 (wq 1) (wk 1) (wv 1) (wo 1) (block (wq 0) (wk 0) (wv 0) (wo 0) (w1 0) (w2 0) (f)))) (w1 1))) :=
  host_act (inner1 h0 hm g1 b1 hq bq hk bk hv bv ho bo g2 b2 h1 bm1 h2 bm2) _ _ _ _

/-- What the second block leaves. -/
theorem out1 : Is3 (val_main_v468 (F := Ideal) x0 x2 x3 x4 x5 x6 x7 x8 x9 x10 x11 x12 x13 x14 x15 x16 x17 x18 x19 x20 x21 x22 x23 x24 x25 x26 x27 x28 x29 x30 x31 x32 x33 x34 x35) (block (wq 1) (wk 1) (wv 1) (wo 1) (w1 1) (w2 1) (block (wq 0) (wk 0) (wv 0) (wo 0) (w1 0) (w2 0) (f))) :=
  host_bias3 (host_add3 (mid1 h0 hm g1 b1 hq bq hk bk hv bv ho bo g2 b2 h1 bm1 h2 bm2) (host_dot3 (act1 h0 hm g1 b1 hq bq hk bk hv bv ho bo g2 b2 h1 bm1 h2 bm2) (stack_slice h2 1 rfl _ _) _)) (const_slice bm2 1 rfl _ _) _ _

/-- The third block reads what the one before left, cut and joined again. -/
theorem in2 : Is3 (val_main_v471 (F := Ideal) x0 x2 x3 x4 x5 x6 x7 x8 x9 x10 x11 x12 x13 x14 x15 x16 x17 x18 x19 x20 x21 x22 x23 x24 x25 x26 x27 x28 x29 x30 x31 x32 x33 x34 x35) (block (wq 1) (wk 1) (wv 1) (wo 1) (w1 1) (w2 1) (block (wq 0) (wk 0) (wv 0) (wo 0) (w1 0) (w2 0) (f))) :=
  cut_join (p := 1024) (q := 128) rfl (out1 h0 hm g1 b1 hq bq hk bk hv bv ho bo g2 b2 h1 bm1 h2 bm2) _ _ _

/-- The third block's state, normalised. -/
theorem norm2 : Is3 (val_main_v499 (F := Ideal) x0 x2 x3 x4 x5 x6 x7 x8 x9 x10 x11 x12 x13 x14 x15 x16 x17 x18 x19 x20 x21 x22 x23 x24 x25 x26 x27 x28 x29 x30 x31 x32 x33 x34 x35) (ln (block (wq 1) (wk 1) (wv 1) (wo 1) (w1 1) (w2 1) (block (wq 0) (wk 0) (wv 0) (wo 0) (w1 0) (w2 0) (f)))) :=
  host_ln3 (in2 h0 hm g1 b1 hq bq hk bk hv bv ho bo g2 b2 h1 bm1 h2 bm2) (const_slice g1 2 rfl _ _) (const_slice b1 2 rfl _ _) _ _ _ _ _ _ _

/-- The third block's queries. -/
theorem queries2 : Is3 (val_main_v519 (F := Ideal) x0 x2 x3 x4 x5 x6 x7 x8 x9 x10 x11 x12 x13 x14 x15 x16 x17 x18 x19 x20 x21 x22 x23 x24 x25 x26 x27 x28 x29 x30 x31 x32 x33 x34 x35) (lin (ln (block (wq 1) (wk 1) (wv 1) (wo 1) (w1 1) (w2 1) (block (wq 0) (wk 0) (wv 0) (wo 0) (w1 0) (w2 0) (f)))) (wq 2)) :=
  host_lin3 (norm2 h0 hm g1 b1 hq bq hk bk hv bv ho bo g2 b2 h1 bm1 h2 bm2) (stack_slice hq 2 rfl _ _) (const_slice bq 2 rfl _ _) _ _ _

/-- The third block's keys. -/
theorem keys2 : Is3 (val_main_v525 (F := Ideal) x0 x2 x3 x4 x5 x6 x7 x8 x9 x10 x11 x12 x13 x14 x15 x16 x17 x18 x19 x20 x21 x22 x23 x24 x25 x26 x27 x28 x29 x30 x31 x32 x33 x34 x35) (lin (ln (block (wq 1) (wk 1) (wv 1) (wo 1) (w1 1) (w2 1) (block (wq 0) (wk 0) (wv 0) (wo 0) (w1 0) (w2 0) (f)))) (wk 2)) :=
  host_lin3 (norm2 h0 hm g1 b1 hq bq hk bk hv bv ho bo g2 b2 h1 bm1 h2 bm2) (stack_slice hk 2 rfl _ _) (const_slice bk 2 rfl _ _) _ _ _

/-- The third block's values. -/
theorem values2 : Is3 (val_main_v531 (F := Ideal) x0 x2 x3 x4 x5 x6 x7 x8 x9 x10 x11 x12 x13 x14 x15 x16 x17 x18 x19 x20 x21 x22 x23 x24 x25 x26 x27 x28 x29 x30 x31 x32 x33 x34 x35) (lin (ln (block (wq 1) (wk 1) (wv 1) (wo 1) (w1 1) (w2 1) (block (wq 0) (wk 0) (wv 0) (wo 0) (w1 0) (w2 0) (f)))) (wv 2)) :=
  host_lin3 (norm2 h0 hm g1 b1 hq bq hk bk hv bv ho bo g2 b2 h1 bm1 h2 bm2) (stack_slice hv 2 rfl _ _) (const_slice bv 2 rfl _ _) _ _ _

/-- The third block's mask allows every position. -/
theorem allowed2 : ∀ i, (val_main_call3_v1 (F := Ideal) x6) i = 1#1 :=
  fun _ => hm _

/-- The third block's scores. -/
theorem scores2 : Is4 (val_main_v540 (F := Ideal) x0 x2 x3 x4 x5 x6 x7 x8 x9 x10 x11 x12 x13 x14 x15 x16 x17 x18 x19 x20 x21 x22 x23 x24 x25 x26 x27 x28 x29 x30 x31 x32 x33 x34 x35) (score (lin (ln (block (wq 1) (wk 1) (wv 1) (wo 1) (w1 1) (w2 1) (block (wq 0) (wk 0) (wv 0) (wo 0) (w1 0) (w2 0) (f)))) (wq 2)) (lin (ln (block (wq 1) (wk 1) (wv 1) (wo 1) (w1 1) (w2 1) (block (wq 0) (wk 0) (wv 0) (wo 0) (w1 0) (w2 0) (f)))) (wk 2))) :=
  host_scores (host_heads (queries2 h0 hm g1 b1 hq bq hk bk hv bv ho bo g2 b2 h1 bm1 h2 bm2) _ _) (host_heads (keys2 h0 hm g1 b1 hq bq hk bk hv bv ho bo g2 b2 h1 bm1 h2 bm2) _ _) (allowed2 h0 hm g1 b1 hq bq hk bk hv bv ho bo g2 b2 h1 bm1 h2 bm2) _ _

/-- The third block's exponentials, each row's maximum taken off. -/
theorem exps2 : ∃ r : Fin 8 → Fin 1152 → ℝ, Is4 (val_main_v547 (F := Ideal) x0 x2 x3 x4 x5 x6 x7 x8 x9 x10 x11 x12 x13 x14 x15 x16 x17 x18 x19 x20 x21 x22 x23 x24 x25 x26 x27 x28 x29 x30 x31 x32 x33 x34 x35) (fun h i l => Real.exp (score (lin (ln (block (wq 1) (wk 1) (wv 1) (wo 1) (w1 1) (w2 1) (block (wq 0) (wk 0) (wv 0) (wo 0) (w1 0) (w2 0) (f)))) (wq 2)) (lin (ln (block (wq 1) (wk 1) (wv 1) (wo 1) (w1 1) (w2 1) (block (wq 0) (wk 0) (wv 0) (wo 0) (w1 0) (w2 0) (f)))) (wk 2)) h i l - r h i)) :=
  host_exps (by omega) (scores2 h0 hm g1 b1 hq bq hk bk hv bv ho bo g2 b2 h1 bm1 h2 bm2) _ _ _ _ _

/-- The third block's heads. -/
theorem heads2 : Is4 (val_main_v552 (F := Ideal) x0 x2 x3 x4 x5 x6 x7 x8 x9 x10 x11 x12 x13 x14 x15 x16 x17 x18 x19 x20 x21 x22 x23 x24 x25 x26 x27 x28 x29 x30 x31 x32 x33 x34 x35) (headAtt (lin (ln (block (wq 1) (wk 1) (wv 1) (wo 1) (w1 1) (w2 1) (block (wq 0) (wk 0) (wv 0) (wo 0) (w1 0) (w2 0) (f)))) (wq 2)) (lin (ln (block (wq 1) (wk 1) (wv 1) (wo 1) (w1 1) (w2 1) (block (wq 0) (wk 0) (wv 0) (wo 0) (w1 0) (w2 0) (f)))) (wk 2)) (lin (ln (block (wq 1) (wk 1) (wv 1) (wo 1) (w1 1) (w2 1) (block (wq 0) (wk 0) (wv 0) (wo 0) (w1 0) (w2 0) (f)))) (wv 2))) :=
  host_weighted (by omega) (exps2 h0 hm g1 b1 hq bq hk bk hv bv ho bo g2 b2 h1 bm1 h2 bm2) (host_heads (values2 h0 hm g1 b1 hq bq hk bk hv bv ho bo g2 b2 h1 bm1 h2 bm2) _ _) _ _ _ _ _

/-- The third block after its attention. -/
theorem mid2 : Is3 (val_main_v559 (F := Ideal) x0 x2 x3 x4 x5 x6 x7 x8 x9 x10 x11 x12 x13 x14 x15 x16 x17 x18 x19 x20 x21 x22 x23 x24 x25 x26 x27 x28 x29 x30 x31 x32 x33 x34 x35) (half1 (wq 2) (wk 2) (wv 2) (wo 2) (block (wq 1) (wk 1) (wv 1) (wo 1) (w1 1) (w2 1) (block (wq 0) (wk 0) (wv 0) (wo 0) (w1 0) (w2 0) (f)))) :=
  host_add3 (in2 h0 hm g1 b1 hq bq hk bk hv bv ho bo g2 b2 h1 bm1 h2 bm2) (host_lin3 (host_unheads (heads2 h0 hm g1 b1 hq bq hk bk hv bv ho bo g2 b2 h1 bm1 h2 bm2) _ _) (stack_slice ho 2 rfl _ _) (const_slice bo 2 rfl _ _) _ _ _)

/-- The third block's inner map. -/
theorem inner2 : Is3 (val_main_v595 (F := Ideal) x0 x2 x3 x4 x5 x6 x7 x8 x9 x10 x11 x12 x13 x14 x15 x16 x17 x18 x19 x20 x21 x22 x23 x24 x25 x26 x27 x28 x29 x30 x31 x32 x33 x34 x35) (lin (ln (half1 (wq 2) (wk 2) (wv 2) (wo 2) (block (wq 1) (wk 1) (wv 1) (wo 1) (w1 1) (w2 1) (block (wq 0) (wk 0) (wv 0) (wo 0) (w1 0) (w2 0) (f))))) (w1 2)) :=
  host_lin3 (host_ln3 (mid2 h0 hm g1 b1 hq bq hk bk hv bv ho bo g2 b2 h1 bm1 h2 bm2) (const_slice g2 2 rfl _ _) (const_slice b2 2 rfl _ _) _ _ _ _ _ _ _) (stack_slice h1 2 rfl _ _) (const_slice bm1 2 rfl _ _) _ _ _

/-- The third block's activation. -/
theorem act2 : Is3 (val_main_v608 (F := Ideal) x0 x2 x3 x4 x5 x6 x7 x8 x9 x10 x11 x12 x13 x14 x15 x16 x17 x18 x19 x20 x21 x22 x23 x24 x25 x26 x27 x28 x29 x30 x31 x32 x33 x34 x35) (act (lin (ln (half1 (wq 2) (wk 2) (wv 2) (wo 2) (block (wq 1) (wk 1) (wv 1) (wo 1) (w1 1) (w2 1) (block (wq 0) (wk 0) (wv 0) (wo 0) (w1 0) (w2 0) (f))))) (w1 2))) :=
  host_act (inner2 h0 hm g1 b1 hq bq hk bk hv bv ho bo g2 b2 h1 bm1 h2 bm2) _ _ _ _

/-- What the third block leaves. -/
theorem out2 : Is3 (val_main_v617 (F := Ideal) x0 x2 x3 x4 x5 x6 x7 x8 x9 x10 x11 x12 x13 x14 x15 x16 x17 x18 x19 x20 x21 x22 x23 x24 x25 x26 x27 x28 x29 x30 x31 x32 x33 x34 x35) (block (wq 2) (wk 2) (wv 2) (wo 2) (w1 2) (w2 2) (block (wq 1) (wk 1) (wv 1) (wo 1) (w1 1) (w2 1) (block (wq 0) (wk 0) (wv 0) (wo 0) (w1 0) (w2 0) (f)))) :=
  host_bias3 (host_add3 (mid2 h0 hm g1 b1 hq bq hk bk hv bv ho bo g2 b2 h1 bm1 h2 bm2) (host_dot3 (act2 h0 hm g1 b1 hq bq hk bk hv bv ho bo g2 b2 h1 bm1 h2 bm2) (stack_slice h2 2 rfl _ _) _)) (const_slice bm2 2 rfl _ _) _ _

/-- The state the head reads. -/
theorem last : Is3 (val_main_v620 (F := Ideal) x0 x2 x3 x4 x5 x6 x7 x8 x9 x10 x11 x12 x13 x14 x15 x16 x17 x18 x19 x20 x21 x22 x23 x24 x25 x26 x27 x28 x29 x30 x31 x32 x33 x34 x35) (blocks3 wq wk wv wo w1 w2 f) :=
  cut_join (p := 1024) (q := 128) rfl (out2 h0 hm g1 b1 hq bq hk bk hv bv ho bo g2 b2 h1 bm1 h2 bm2) _ _ _

include gf bf hh bh

omit hh bh in
/-- The mean row, normalised. -/
theorem pooled : Is2 (val_main_v645 (F := Ideal) x0 x2 x3 x4 x5 x6 x7 x8 x9 x10 x11 x12 x13 x14 x15 x16 x17 x18 x19 x20 x21 x22 x23 x24 x25 x26 x27 x28 x29 x30 x31 x32 x33 x34 x35 x36 x37) (ln (rowMean (blocks3 wq wk wv wo w1 w2 f))) :=
  host_ln2 (host_rows (last h0 hm g1 b1 hq bq hk bk hv bv ho bo g2 b2 h1 bm1 h2 bm2) _ _ _) gf bf _ _ _ _ _ _

/-- The reference's logits. -/
theorem logits : Is2 (val_main_v648 (F := Ideal) x0 x2 x3 x4 x5 x6 x7 x8 x9 x10 x11 x12 x13 x14 x15 x16 x17 x18 x19 x20 x21 x22 x23 x24 x25 x26 x27 x28 x29 x30 x31 x32 x33 x34 x35 x36 x37 x38 x39) (fun _ c => logit wh (blocks3 wq wk wv wo w1 w2 f) c) :=
  host_logits (pooled h0 hm g1 b1 hq bq hk bk hv bv ho bo g2 b2 h1 bm1 h2 bm2 gf bf) hh bh _ _

/-- The reference's probabilities. -/
theorem probs : Is2 (val_main_v659 (F := Ideal) x0 x2 x3 x4 x5 x6 x7 x8 x9 x10 x11 x12 x13 x14 x15 x16 x17 x18 x19 x20 x21 x22 x23 x24 x25 x26 x27 x28 x29 x30 x31 x32 x33 x34 x35 x36 x37 x38 x39) (fun _ c => prob wh (blocks3 wq wk wv wo w1 w2 f) c) :=
  host_probs (logits h0 hm g1 b1 hq bq hk bk hv bv ho bo g2 b2 h1 bm1 h2 bm2 gf bf hh bh) _ _ _ _ _

end Cert.ReferenceIdeal.Stages
-- ==== Proof.Equation.lean ====
/- The kernel's three results and the reference's, equal under the precondition. -/
module

public import proofs.«01_k».proof.Proof.Precond
public import proofs.«01_k».proof.Proof.HostReads
public import proofs.«01_k».proof.Proof.EmbedLeft
public import proofs.«01_k».proof.Proof.KernelValue
public import proofs.«01_k».proof.Proof.RefEmbed
public import proofs.«01_k».proof.Proof.RefValue

@[expose] public section

noncomputable section

namespace Blocks

/-- The larger logit has the larger probability. -/
theorem prob_lt {n : Nat} {wh : Fin 512 → Fin 2 → ℝ} {f : Fin n → Fin 512 → ℝ} (i j : Fin 2) :
    prob wh f i < prob wh f j ↔ logit wh f i < logit wh f j := by
  have hp : 0 < ∑ e, Real.exp (logit wh f e) := Finset.sum_pos (fun e _ => Real.exp_pos _) Finset.univ_nonempty
  unfold prob
  rw [div_lt_div_iff_of_pos_right hp, Real.exp_lt_exp]

end Blocks

namespace Cert.KernelIdeal.Whole

open Idealize.ShloMosaic hiding ix0 ix1 ix2 ix3 ix4 ix5
open Idealize.ShloMosaic.ValueIdx
open Idealize.ShloMosaic.TcCoe
open Cert.KernelIdeal Cert.KernelIdeal.Gen Cert.KernelIdeal.Run Cert.KernelIdeal.Entry
open Blocks

variable {m : (ℓ : Loc nD τ sig) → Buf (Elt Ideal) ℓ} {c : Dev nD}

/-- The arrays on core `c` are as drawn. -/
abbrev DrawnAt (m : (ℓ : Loc nD τ sig) → Buf (Elt Ideal) ℓ) (c : Dev nD) : Prop :=
  Values (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) (m ((c : Thread nD τ).loc main_arg36)) (m ((c : Thread nD τ).loc main_arg37)) (m ((c : Thread nD τ).loc main_arg38)) (m ((c : Thread nD τ).loc main_arg39))

/-- The real matrix held by a rank-two array. -/
abbrev mat {a b : Nat} (x : FVec Ideal ⟨2, ![a, b]⟩ .f32) (i : Fin a) (j : Fin b) : ℝ := (x (ix2 i j) : EReal).toReal
/-- The real matrices held by a rank-three array. -/
abbrev stk {a b : Nat} (x : FVec Ideal ⟨3, ![3, a, b]⟩ .f32) (l : Fin 3) (i : Fin a) (j : Fin b) : ℝ := (x (ix3 l i j) : EReal).toReal
/-- The patches. -/
abbrev patches (m : (ℓ : Loc nD τ sig) → Buf (Elt Ideal) ℓ) (c : Dev nD) (i : Fin 4096) (j : Fin 768) : ℝ :=
  ((m ((c : Thread nD τ).loc main_arg0) : FVec Ideal ⟨3, ![1, 4096, 768]⟩ .f32) (ix3 0 i j) : EReal).toReal
/-- The tokens' region labels. -/
abbrev regionOf (m : (ℓ : Loc nD τ sig) → Buf (Elt Ideal) ℓ) (c : Dev nD) (i : Fin 1024) : Nat :=
  ((m ((c : Thread nD τ).loc main_arg4) : IVec ⟨1, ![1024]⟩ 32) (ix1 i)).toNat

/-- The state the second call starts from. -/
theorem second_is (v : DrawnAt m c) : Is2 (entry1 m c main_v7 : FVec Ideal ⟨2, ![1152, 512]⟩ .f32) (start (patches m c) (mat (m ((c : Thread nD τ).loc main_arg8))) (mat (m ((c : Thread nD τ).loc main_arg12))) (mat (m ((c : Thread nD τ).loc main_arg14))) (mat (m ((c : Thread nD τ).loc main_arg16))) (mat (m ((c : Thread nD τ).loc main_arg18))) (regionOf m c)) := by
  rw [second_state]
  exact Embed.state_left (V := entry0 m) (c := c)
    (fun i e j => (first_patches m c i e j).trans (v.e0 _))
    (fun i j => (congrFun (first_kept m c main_arg8 (by decide)) (ix2 i j)).trans (v.e8 _))
    (fun i => congrArg BitVec.toNat (first_labels m c i))
    (fun i j => first_query m c i j _ (v.e12 _))
    (fun i j => (congrFun (first_kept m c main_arg14 (by decide)) (ix2 i j)).trans (v.e14 _))
    (fun i j => (congrFun (first_kept m c main_arg16 (by decide)) (ix2 i j)).trans (v.e16 _))
    (fun i j => (congrFun (first_kept m c main_arg18 (by decide)) (ix2 i j)).trans (v.e18 _))

/-- The kernel's logits. -/
theorem kernel_logits (v : DrawnAt m c) (j : Fin 2) : (Blocks1.dat (entry1 m) c).arrAt 8 cfg1.N (ix2 0 j)
    = ((logit (mat (m ((c : Thread nD τ).loc main_arg38))) (blocks3 (stk (m ((c : Thread nD τ).loc main_arg22))) (stk (m ((c : Thread nD τ).loc main_arg24))) (stk (m ((c : Thread nD τ).loc main_arg26))) (stk (m ((c : Thread nD τ).loc main_arg28))) (stk (m ((c : Thread nD τ).loc main_arg32))) (stk (m ((c : Thread nD τ).loc main_arg34))) (start (patches m c) (mat (m ((c : Thread nD τ).loc main_arg8))) (mat (m ((c : Thread nD τ).loc main_arg12))) (mat (m ((c : Thread nD τ).loc main_arg14))) (mat (m ((c : Thread nD τ).loc main_arg16))) (mat (m ((c : Thread nD τ).loc main_arg18))) (regionOf m c))) j : ℝ) : EReal) :=
  Block.logits_left (V := entry1 m) (c := c) (second_is v) (fun l i j => second_query m c l i j _ (v.e22 _)) (fun l i j => (congrFun (second_kept m c main_arg24 (by decide) (by decide) (by decide)) (ix3 l i j)).trans (v.e24 _)) (fun l i j => (congrFun (second_kept m c main_arg26 (by decide) (by decide) (by decide)) (ix3 l i j)).trans (v.e26 _)) (fun l i j => (congrFun (second_kept m c main_arg28 (by decide) (by decide) (by decide)) (ix3 l i j)).trans (v.e28 _)) (fun l i j => (congrFun (second_kept m c main_arg32 (by decide) (by decide) (by decide)) (ix3 l i j)).trans (v.e32 _)) (fun l i j => (congrFun (second_kept m c main_arg34 (by decide) (by decide) (by decide)) (ix3 l i j)).trans (v.e34 _)) (fun i j => (second_head m c i j).trans (v.e38 _)) j

/-- The kernel's probabilities. -/
theorem kernel_probs (v : DrawnAt m c) (j : Fin 2) : (Blocks1.dat (entry1 m) c).arrAt 9 cfg1.N (ix2 0 j)
    = ((prob (mat (m ((c : Thread nD τ).loc main_arg38))) (blocks3 (stk (m ((c : Thread nD τ).loc main_arg22))) (stk (m ((c : Thread nD τ).loc main_arg24))) (stk (m ((c : Thread nD τ).loc main_arg26))) (stk (m ((c : Thread nD τ).loc main_arg28))) (stk (m ((c : Thread nD τ).loc main_arg32))) (stk (m ((c : Thread nD τ).loc main_arg34))) (start (patches m c) (mat (m ((c : Thread nD τ).loc main_arg8))) (mat (m ((c : Thread nD τ).loc main_arg12))) (mat (m ((c : Thread nD τ).loc main_arg14))) (mat (m ((c : Thread nD τ).loc main_arg16))) (mat (m ((c : Thread nD τ).loc main_arg18))) (regionOf m c))) j : ℝ) : EReal) :=
  Block.probs_left (V := entry1 m) (c := c) (second_is v) (fun l i j => second_query m c l i j _ (v.e22 _)) (fun l i j => (congrFun (second_kept m c main_arg24 (by decide) (by decide) (by decide)) (ix3 l i j)).trans (v.e24 _)) (fun l i j => (congrFun (second_kept m c main_arg26 (by decide) (by decide) (by decide)) (ix3 l i j)).trans (v.e26 _)) (fun l i j => (congrFun (second_kept m c main_arg28 (by decide) (by decide) (by decide)) (ix3 l i j)).trans (v.e28 _)) (fun l i j => (congrFun (second_kept m c main_arg32 (by decide) (by decide) (by decide)) (ix3 l i j)).trans (v.e32 _)) (fun l i j => (congrFun (second_kept m c main_arg34 (by decide) (by decide) (by decide)) (ix3 l i j)).trans (v.e34 _)) (fun i j => (second_head m c i j).trans (v.e38 _)) j

/-- The class the kernel names. -/
theorem kernel_place (v : DrawnAt m c) : (Blocks1.dat (entry1 m) c).arrAt 10 cfg1.N (ix2 0 0)
    = if logit (mat (m ((c : Thread nD τ).loc main_arg38))) (blocks3 (stk (m ((c : Thread nD τ).loc main_arg22))) (stk (m ((c : Thread nD τ).loc main_arg24))) (stk (m ((c : Thread nD τ).loc main_arg26))) (stk (m ((c : Thread nD τ).loc main_arg28))) (stk (m ((c : Thread nD τ).loc main_arg32))) (stk (m ((c : Thread nD τ).loc main_arg34))) (start (patches m c) (mat (m ((c : Thread nD τ).loc main_arg8))) (mat (m ((c : Thread nD τ).loc main_arg12))) (mat (m ((c : Thread nD τ).loc main_arg14))) (mat (m ((c : Thread nD τ).loc main_arg16))) (mat (m ((c : Thread nD τ).loc main_arg18))) (regionOf m c))) 0 < logit (mat (m ((c : Thread nD τ).loc main_arg38))) (blocks3 (stk (m ((c : Thread nD τ).loc main_arg22))) (stk (m ((c : Thread nD τ).loc main_arg24))) (stk (m ((c : Thread nD τ).loc main_arg26))) (stk (m ((c : Thread nD τ).loc main_arg28))) (stk (m ((c : Thread nD τ).loc main_arg32))) (stk (m ((c : Thread nD τ).loc main_arg34))) (start (patches m c) (mat (m ((c : Thread nD τ).loc main_arg8))) (mat (m ((c : Thread nD τ).loc main_arg12))) (mat (m ((c : Thread nD τ).loc main_arg14))) (mat (m ((c : Thread nD τ).loc main_arg16))) (mat (m ((c : Thread nD τ).loc main_arg18))) (regionOf m c))) 1 then 1#32 else 0#32 :=
  Block.place_left (V := entry1 m) (c := c) (second_is v) (fun l i j => second_query m c l i j _ (v.e22 _)) (fun l i j => (congrFun (second_kept m c main_arg24 (by decide) (by decide) (by decide)) (ix3 l i j)).trans (v.e24 _)) (fun l i j => (congrFun (second_kept m c main_arg26 (by decide) (by decide) (by decide)) (ix3 l i j)).trans (v.e26 _)) (fun l i j => (congrFun (second_kept m c main_arg28 (by decide) (by decide) (by decide)) (ix3 l i j)).trans (v.e28 _)) (fun l i j => (congrFun (second_kept m c main_arg32 (by decide) (by decide) (by decide)) (ix3 l i j)).trans (v.e32 _)) (fun l i j => (congrFun (second_kept m c main_arg34 (by decide) (by decide) (by decide)) (ix3 l i j)).trans (v.e34 _)) (fun i j => (second_head m c i j).trans (v.e38 _))

section
variable {σ : Equiv.Perm (Fin 1024)} (h5 : ∀ i : Fin 1024, ((m ((c : Thread nD τ).loc main_arg5) : IVec ⟨1, ![1024]⟩ 32) (ix1 i)).toNat = (σ i).val)
include h5

/-- The state the reference's blocks start from. -/
theorem reference_state (v : DrawnAt m c) : Is3 (Cert.ReferenceIdeal.Read.val_main_v173 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) (startAt σ (patches m c) (mat (m ((c : Thread nD τ).loc main_arg8))) (mat (m ((c : Thread nD τ).loc main_arg12))) (mat (m ((c : Thread nD τ).loc main_arg14))) (mat (m ((c : Thread nD τ).loc main_arg16))) (mat (m ((c : Thread nD τ).loc main_arg18))) (regionOf m c)) :=
  Cert.ReferenceIdeal.Stages.state_rows (Block.one_slice fun i j => v.e0 (ix3 0 i j)) v.e3 v.e2 (fun _ => rfl) h5 (fun i j => v.e8 (ix2 i j)) (fun i => v.e9 (ix1 i)) (fun i => v.e10 (ix1 i)) (fun i => v.e11 (ix1 i)) v.e7 (fun i j => v.e12 (ix2 i j)) (fun i => v.e13 (ix1 i)) (fun i j => v.e14 (ix2 i j)) (fun i => v.e15 (ix1 i)) (fun i j => v.e16 (ix2 i j)) (fun i => v.e17 (ix1 i)) (fun i j => v.e18 (ix2 i j)) (fun i => v.e19 (ix1 i))

set_option maxHeartbeats 1600000 in
/-- The reference's logits. -/
theorem reference_logits (v : DrawnAt m c) : Is2 (Cert.ReferenceIdeal.Read.val_main_v648 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) (m ((c : Thread nD τ).loc main_arg36)) (m ((c : Thread nD τ).loc main_arg37)) (m ((c : Thread nD τ).loc main_arg38)) (m ((c : Thread nD τ).loc main_arg39))) (fun _ j => logit (mat (m ((c : Thread nD τ).loc main_arg38))) (blocks3 (stk (m ((c : Thread nD τ).loc main_arg22))) (stk (m ((c : Thread nD τ).loc main_arg24))) (stk (m ((c : Thread nD τ).loc main_arg26))) (stk (m ((c : Thread nD τ).loc main_arg28))) (stk (m ((c : Thread nD τ).loc main_arg32))) (stk (m ((c : Thread nD τ).loc main_arg34))) (start (patches m c) (mat (m ((c : Thread nD τ).loc main_arg8))) (mat (m ((c : Thread nD τ).loc main_arg12))) (mat (m ((c : Thread nD τ).loc main_arg14))) (mat (m ((c : Thread nD τ).loc main_arg16))) (mat (m ((c : Thread nD τ).loc main_arg18))) (regionOf m c))) j) := by
  rw [← logit_start σ]
  exact Cert.ReferenceIdeal.Stages.logits (reference_state h5 v) v.e6 (fun i j => v.e20 (ix2 i j)) (fun i j => v.e21 (ix2 i j)) (fun l i j => v.e22 (ix3 l i j)) (fun i j => v.e23 (ix2 i j)) (fun l i j => v.e24 (ix3 l i j)) (fun i j => v.e25 (ix2 i j)) (fun l i j => v.e26 (ix3 l i j)) (fun i j => v.e27 (ix2 i j)) (fun l i j => v.e28 (ix3 l i j)) (fun i j => v.e29 (ix2 i j)) (fun i j => v.e30 (ix2 i j)) (fun i j => v.e31 (ix2 i j)) (fun l i j => v.e32 (ix3 l i j)) (fun i j => v.e33 (ix2 i j)) (fun l i j => v.e34 (ix3 l i j)) (fun i j => v.e35 (ix2 i j)) (fun i => v.e36 (ix1 i)) (fun i => v.e37 (ix1 i)) (fun i j => v.e38 (ix2 i j)) (fun i => v.e39 (ix1 i))

set_option maxHeartbeats 1600000 in
/-- The reference's probabilities. -/
theorem reference_probs (v : DrawnAt m c) : Is2 (Cert.ReferenceIdeal.Read.val_main_v659 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) (m ((c : Thread nD τ).loc main_arg36)) (m ((c : Thread nD τ).loc main_arg37)) (m ((c : Thread nD τ).loc main_arg38)) (m ((c : Thread nD τ).loc main_arg39))) (fun _ j => prob (mat (m ((c : Thread nD τ).loc main_arg38))) (blocks3 (stk (m ((c : Thread nD τ).loc main_arg22))) (stk (m ((c : Thread nD τ).loc main_arg24))) (stk (m ((c : Thread nD τ).loc main_arg26))) (stk (m ((c : Thread nD τ).loc main_arg28))) (stk (m ((c : Thread nD τ).loc main_arg32))) (stk (m ((c : Thread nD τ).loc main_arg34))) (start (patches m c) (mat (m ((c : Thread nD τ).loc main_arg8))) (mat (m ((c : Thread nD τ).loc main_arg12))) (mat (m ((c : Thread nD τ).loc main_arg14))) (mat (m ((c : Thread nD τ).loc main_arg16))) (mat (m ((c : Thread nD τ).loc main_arg18))) (regionOf m c))) j) := by
  rw [← prob_start σ]
  exact Cert.ReferenceIdeal.Stages.probs (reference_state h5 v) v.e6 (fun i j => v.e20 (ix2 i j)) (fun i j => v.e21 (ix2 i j)) (fun l i j => v.e22 (ix3 l i j)) (fun i j => v.e23 (ix2 i j)) (fun l i j => v.e24 (ix3 l i j)) (fun i j => v.e25 (ix2 i j)) (fun l i j => v.e26 (ix3 l i j)) (fun i j => v.e27 (ix2 i j)) (fun l i j => v.e28 (ix3 l i j)) (fun i j => v.e29 (ix2 i j)) (fun i j => v.e30 (ix2 i j)) (fun i j => v.e31 (ix2 i j)) (fun l i j => v.e32 (ix3 l i j)) (fun i j => v.e33 (ix2 i j)) (fun l i j => v.e34 (ix3 l i j)) (fun i j => v.e35 (ix2 i j)) (fun i => v.e36 (ix1 i)) (fun i => v.e37 (ix1 i)) (fun i j => v.e38 (ix2 i j)) (fun i => v.e39 (ix1 i))

end

/-- The logits are the reference's. -/
theorem logits_eq (v : DrawnAt m c) : (Blocks1.dat (entry1 m) c).arrAt 8 cfg1.N = (Cert.ReferenceIdeal.Read.val_main_v648 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) (m ((c : Thread nD τ).loc main_arg36)) (m ((c : Thread nD τ).loc main_arg37)) (m ((c : Thread nD τ).loc main_arg38)) (m ((c : Thread nD τ).loc main_arg39))) := by
  obtain ⟨σ, h5⟩ := v.e5
  funext i_
  obtain ⟨i, j, rfl⟩ : ∃ (i : Fin 1) (j : Fin 2), i_ = ix2 i j := ⟨_, _, ValueIdx.eq_ix2 _⟩
  obtain rfl : i = 0 := Subsingleton.elim _ _
  exact (kernel_logits v j).trans (reference_logits h5 v 0 j).symm

/-- The probabilities are the reference's. -/
theorem probs_eq (v : DrawnAt m c) : (Blocks1.dat (entry1 m) c).arrAt 9 cfg1.N = (Cert.ReferenceIdeal.Read.val_main_v659 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) (m ((c : Thread nD τ).loc main_arg36)) (m ((c : Thread nD τ).loc main_arg37)) (m ((c : Thread nD τ).loc main_arg38)) (m ((c : Thread nD τ).loc main_arg39))) := by
  obtain ⟨σ, h5⟩ := v.e5
  funext i_
  obtain ⟨i, j, rfl⟩ : ∃ (i : Fin 1) (j : Fin 2), i_ = ix2 i j := ⟨_, _, ValueIdx.eq_ix2 _⟩
  obtain rfl : i = 0 := Subsingleton.elim _ _
  exact (kernel_probs v j).trans (reference_probs h5 v 0 j).symm

/-- The class named is the reference's. -/
theorem place_eq (v : DrawnAt m c) : (Blocks1.dat (entry1 m) c).arrAt 10 cfg1.N = (Cert.ReferenceIdeal.Read.val_main_indices (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) (m ((c : Thread nD τ).loc main_arg36)) (m ((c : Thread nD τ).loc main_arg37)) (m ((c : Thread nD τ).loc main_arg38)) (m ((c : Thread nD τ).loc main_arg39))) := by
  obtain ⟨σ, h5⟩ := v.e5
  funext i_
  obtain ⟨i, j, rfl⟩ : ∃ (i : Fin 1) (j : Fin 1), i_ = ix2 i j := ⟨_, _, ValueIdx.eq_ix2 _⟩
  obtain rfl : i = 0 := Subsingleton.elim _ _
  obtain rfl : j = 0 := Subsingleton.elim _ _
  refine (kernel_place v).trans ?_
  refine Eq.trans ?_ (host_place (reference_probs h5 v) _ 0 0).symm
  simp only [prob_lt]

end Cert.KernelIdeal.Whole
-- ==== Proof.KernelIdealValue.lean ====
/- The kernel's run with its results: the three arrays the second call's pipeline wrote back, every argument kept. -/
module

public import proofs.«01_k».proof.Proof.KernelIdealRun

@[expose] public section

noncomputable section

namespace Cert.KernelIdeal.Run

open Cert.KernelIdeal Cert.KernelIdeal.Gen
open Idealize.ShloMosaic Idealize.ShloMosaic.TcCoe Idealize.SL.Sem

variable {F : FTy → Type} [FloatOps F] (m : (ℓ : Loc nD τ sig) → Buf (Elt F) ℓ)

/-- The kernel runs; its results are what the second call wrote back, its arguments are kept. -/
theorem results (ρ : Dev nD → PrngReg) : θ_run defs (onTc (τ := τ) (main (F := F))) ⟨m, fun _ => 0, ρ⟩ (fun r => ∀ c : Dev nD,
      r.2.mem ((c.tc : Thread nD τ).loc main_v11_0) = (Blocks1.dat (entry1 m) c).arrAt 8 cfg1.N
      ∧ r.2.mem ((c.tc : Thread nD τ).loc main_v11_1) = (Blocks1.dat (entry1 m) c).arrAt 9 cfg1.N
      ∧ r.2.mem ((c.tc : Thread nD τ).loc main_v11_2) = (Blocks1.dat (entry1 m) c).arrAt 10 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)) :=
  (θ_run defs _ _).mono (fun r h c => ⟨
    (h.1 c _ (mem_uc main_v11_0 (by decide))).trans (after_second_logits m c),
    (h.1 c _ (mem_uc main_v11_1 (by decide))).trans (after_second_probs m c),
    (h.1 c _ (mem_uc main_v11_2 (by decide))).trans (after_second_indices m c),
    (h.1 c _ (mem_uc main_arg0 (by decide))).trans (V4_main_arg0 m (outs m) c),
    (h.1 c _ (mem_uc main_arg1 (by decide))).trans (V4_main_arg1 m (outs m) c),
    (h.1 c _ (mem_uc main_arg2 (by decide))).trans (V4_main_arg2 m (outs m) c),
    (h.1 c _ (mem_uc main_arg3 (by decide))).trans (V4_main_arg3 m (outs m) c),
    (h.1 c _ (mem_uc main_arg4 (by decide))).trans (V4_main_arg4 m (outs m) c),
    (h.1 c _ (mem_uc main_arg5 (by decide))).trans (V4_main_arg5 m (outs m) c),
    (h.1 c _ (mem_uc main_arg6 (by decide))).trans (V4_main_arg6 m (outs m) c),
    (h.1 c _ (mem_uc main_arg7 (by decide))).trans (V4_main_arg7 m (outs m) c),
    (h.1 c _ (mem_uc main_arg8 (by decide))).trans (V4_main_arg8 m (outs m) c),
    (h.1 c _ (mem_uc main_arg9 (by decide))).trans (V4_main_arg9 m (outs m) c),
    (h.1 c _ (mem_uc main_arg10 (by decide))).trans (V4_main_arg10 m (outs m) c),
    (h.1 c _ (mem_uc main_arg11 (by decide))).trans (V4_main_arg11 m (outs m) c),
    (h.1 c _ (mem_uc main_arg12 (by decide))).trans (V4_main_arg12 m (outs m) c),
    (h.1 c _ (mem_uc main_arg13 (by decide))).trans (V4_main_arg13 m (outs m) c),
    (h.1 c _ (mem_uc main_arg14 (by decide))).trans (V4_main_arg14 m (outs m) c),
    (h.1 c _ (mem_uc main_arg15 (by decide))).trans (V4_main_arg15 m (outs m) c),
    (h.1 c _ (mem_uc main_arg16 (by decide))).trans (V4_main_arg16 m (outs m) c),
    (h.1 c _ (mem_uc main_arg17 (by decide))).trans (V4_main_arg17 m (outs m) c),
    (h.1 c _ (mem_uc main_arg18 (by decide))).trans (V4_main_arg18 m (outs m) c),
    (h.1 c _ (mem_uc main_arg19 (by decide))).trans (V4_main_arg19 m (outs m) c),
    (h.1 c _ (mem_uc main_arg20 (by decide))).trans (V4_main_arg20 m (outs m) c),
    (h.1 c _ (mem_uc main_arg21 (by decide))).trans (V4_main_arg21 m (outs m) c),
    (h.1 c _ (mem_uc main_arg22 (by decide))).trans (V4_main_arg22 m (outs m) c),
    (h.1 c _ (mem_uc main_arg23 (by decide))).trans (V4_main_arg23 m (outs m) c),
    (h.1 c _ (mem_uc main_arg24 (by decide))).trans (V4_main_arg24 m (outs m) c),
    (h.1 c _ (mem_uc main_arg25 (by decide))).trans (V4_main_arg25 m (outs m) c),
    (h.1 c _ (mem_uc main_arg26 (by decide))).trans (V4_main_arg26 m (outs m) c),
    (h.1 c _ (mem_uc main_arg27 (by decide))).trans (V4_main_arg27 m (outs m) c),
    (h.1 c _ (mem_uc main_arg28 (by decide))).trans (V4_main_arg28 m (outs m) c),
    (h.1 c _ (mem_uc main_arg29 (by decide))).trans (V4_main_arg29 m (outs m) c),
    (h.1 c _ (mem_uc main_arg30 (by decide))).trans (V4_main_arg30 m (outs m) c),
    (h.1 c _ (mem_uc main_arg31 (by decide))).trans (V4_main_arg31 m (outs m) c),
    (h.1 c _ (mem_uc main_arg32 (by decide))).trans (V4_main_arg32 m (outs m) c),
    (h.1 c _ (mem_uc main_arg33 (by decide))).trans (V4_main_arg33 m (outs m) c),
    (h.1 c _ (mem_uc main_arg34 (by decide))).trans (V4_main_arg34 m (outs m) c),
    (h.1 c _ (mem_uc main_arg35 (by decide))).trans (V4_main_arg35 m (outs m) c),
    (h.1 c _ (mem_uc main_arg36 (by decide))).trans (V4_main_arg36 m (outs m) c),
    (h.1 c _ (mem_uc main_arg37 (by decide))).trans (V4_main_arg37 m (outs m) c),
    (h.1 c _ (mem_uc main_arg38 (by decide))).trans (V4_main_arg38 m (outs m) c),
    (h.1 c _ (mem_uc main_arg39 (by decide))).trans (V4_main_arg39 m (outs m) c)⟩) (run m ρ)

end Cert.KernelIdeal.Run
-- ==== Proof.lean ====
module

public import proofs.«01_k».proof.Defs
public import proofs.«01_k».proof.Proof.Equation
public import proofs.«01_k».proof.Proof.KernelRun
public import proofs.«01_k».proof.Proof.KernelIdealValue
public import Idealize.ShloMosaic.Lib.Claim
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_inputs_as_drawn

@[expose] public section

noncomputable section

namespace Cert.Proof

open Idealize.ShloMosaic Idealize.ShloMosaic.StableHlo Idealize.SL.Sem

/-- The reference runs and keeps its arguments. -/
theorem reference_frame : Cert.quiescent_ReferenceIdeal := fun m g _ =>
  (θ_run Cert.ReferenceIdeal.defs _ _).mono
    (fun r h => ⟨fun c => (h c).2.2.2, sem_eq_zero_of_no_sems (by decide) r.2⟩)
    (Cert.ReferenceIdeal.Value.run m g)

/-- The kernel's results are the reference's. -/
theorem algebraic : Cert.algebraic_KernelIdeal_ReferenceIdeal_pre_inputs_as_drawn := by
  pair_intro
  · run_from Cert.KernelIdeal.Run.results m g
  · run_from Cert.ReferenceIdeal.Value.run m' g'
    all_goals
      have v := Blocks.values_of (hpre c)
      obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39⟩ := hagree c
    · refine Eq.trans ?_ (Cert.KernelIdeal.Whole.logits_eq v).symm
      refine (Cert.ReferenceIdeal.Read.val_main_v648_eq _).trans ?_
      simp only [launchContents_devRef, a0, a1, a2, a3, a4, a5, a6, a7, a8, a9, a10, a11, a12, a13, a14, a15, a16, a17, a18, a19, a20, a21, a22, a23, a24, a25, a26, a27, a28, a29, a30, a31, a32, a33, a34, a35, a36, a37, a38, a39]
    · refine Eq.trans ?_ (Cert.KernelIdeal.Whole.probs_eq v).symm
      refine (Cert.ReferenceIdeal.Read.val_main_v659_eq _).trans ?_
      simp only [launchContents_devRef, a0, a1, a2, a3, a4, a5, a6, a7, a8, a9, a10, a11, a12, a13, a14, a15, a16, a17, a18, a19, a20, a21, a22, a23, a24, a25, a26, a27, a28, a29, a30, a31, a32, a33, a34, a35, a36, a37, a38, a39]
    · refine Eq.trans ?_ (Cert.KernelIdeal.Whole.place_eq v).symm
      refine (Cert.ReferenceIdeal.Read.val_main_indices_eq (launchContents m' c)).trans ?_
      simp only [launchContents_devRef, a0, a1, a2, a3, a4, a5, a6, a7, a8, a9, a10, a11, a12, a13, a14, a15, a16, a17, a18, a19, a20, a21, a22, a23, a24, a25, a26, a27, a28, a29, a30, a31, a32, a33, a34, a35, a36, a37, a38, a39]

/-- Everything the certificate claims. -/
theorem claim : Cert.Claim := ⟨Cert.Kernel.Gen.facts, Cert.KernelIdeal.Gen.facts, Cert.ReferenceIdeal.Gen.facts, Cert.Pre_inputs_as_drawn.Gen.facts,
  fun m ρ _ => Cert.Kernel.Run.kept m ρ, fun m ρ _ => Cert.KernelIdeal.Run.kept m ρ, fun m ρ _ => Cert.KernelIdeal.Run.kept m ρ,
  reference_frame, fun m ρ _ => reference_frame m ρ trivial, trivial, algebraic⟩

end Cert.Proof

end
